-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v138) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v86) = v3 c
          ∧ r.2.mem ((c.tc : Thread Cert.Reference4Ideal.nD Cert.Reference4Ideal.τ).loc Cert.Reference4Ideal.main_v89) = v4 c
          ∧ r.2.mem ((c.tc : Thread Cert.Reference4Ideal.nD Cert.Reference4Ideal.τ).loc Cert.Reference4Ideal.main_v92) = v5 c
          ∧ r.2.mem ((c.tc : Thread Cert.Reference4Ideal.nD Cert.Reference4Ideal.τ).loc Cert.Reference4Ideal.main_v95) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_3)) (v3 : (c : Dev Cert.Kernel5Ideal.nD) → Buf (Elt Ideal) ((c.tc : Thread Cert.Kernel5Ideal.nD Cert.Kernel5Ideal.τ).loc Cert.Kernel5Ideal.main_v0_4)) (v4 : (c : Dev Cert.Kernel5Ideal.nD) → Buf (Elt Ideal) ((c.tc : Thread Cert.Kernel5Ideal.nD Cert.Kernel5Ideal.τ).loc Cert.Kernel5Ideal.main_v0_5)) (v5 : (c : Dev Cert.Kernel5Ideal.nD) → Buf (Elt Ideal) ((c.tc : Thread Cert.Kernel5Ideal.nD Cert.Kernel5Ideal.τ).loc Cert.Kernel5Ideal.main_v0_6)) (v6 : (c : Dev Cert.Kernel5Ideal.nD) → Buf (Elt Ideal) ((c.tc : Thread Cert.Kernel5Ideal.nD Cert.Kernel5Ideal.τ).loc Cert.Kernel5Ideal.main_v0_7)) (v7 : (c : Dev Cert.Kernel5Ideal.nD) → Buf (Elt Ideal) ((c.tc : Thread Cert.Kernel5Ideal.nD Cert.Kernel5Ideal.τ).loc Cert.Kernel5Ideal.main_v0_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_3) = v2 c
          ∧ r.2.mem ((c.tc : Thread Cert.Kernel5Ideal.nD Cert.Kernel5Ideal.τ).loc Cert.Kernel5Ideal.main_v0_4) = v3 c
          ∧ r.2.mem ((c.tc : Thread Cert.Kernel5Ideal.nD Cert.Kernel5Ideal.τ).loc Cert.Kernel5Ideal.main_v0_5) = v4 c
          ∧ r.2.mem ((c.tc : Thread Cert.Kernel5Ideal.nD Cert.Kernel5Ideal.τ).loc Cert.Kernel5Ideal.main_v0_6) = v5 c
          ∧ r.2.mem ((c.tc : Thread Cert.Kernel5Ideal.nD Cert.Kernel5Ideal.τ).loc Cert.Kernel5Ideal.main_v0_7) = v6 c
          ∧ r.2.mem ((c.tc : Thread Cert.Kernel5Ideal.nD Cert.Kernel5Ideal.τ).loc Cert.Kernel5Ideal.main_v0_8) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v54) = v4 c
          ∧ r.2.mem ((c.tc : Thread Cert.Reference5Ideal.nD Cert.Reference5Ideal.τ).loc Cert.Reference5Ideal.main_v60) = v5 c
          ∧ r.2.mem ((c.tc : Thread Cert.Reference5Ideal.nD Cert.Reference5Ideal.τ).loc Cert.Reference5Ideal.main_v66) = v6 c
          ∧ r.2.mem ((c.tc : Thread Cert.Reference5Ideal.nD Cert.Reference5Ideal.τ).loc Cert.Reference5Ideal.main_v72) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v210) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel2.lean ====
abbrev S16384x1024 : Shape := ⟨2, ![16384, 1024]⟩
abbrev S256x1024 : Shape := ⟨2, ![256, 1024]⟩
abbrev S8x16384x128 : Shape := ⟨3, ![8, 16384, 128]⟩
abbrev S8x256x128 : Shape := ⟨3, ![8, 256, 128]⟩
abbrev S2x3x1x1024 : Shape := ⟨4, ![2, 3, 1, 1024]⟩
abbrev S1x1024x1024 : Shape := ⟨3, ![1, 1024, 1024]⟩
abbrev S1x1x1024 : Shape := ⟨3, ![1, 1, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S8x512x128 : Shape := ⟨3, ![8, 512, 128]⟩
abbrev S1x1x1x1024 : Shape := ⟨4, ![1, 1, 1, 1024]⟩
abbrev S1x512x128 : Shape := ⟨3, ![1, 512, 128]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1536 : Shape := ⟨2, ![256, 1536]⟩
abbrev S256x1280 : Shape := ⟨2, ![256, 1280]⟩

abbrev nBuf : Space → Nat
  | .hbm => 14
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S8x16384x128, .f32⟩
  | .hbm, ⟨3, _⟩ => ⟨S8x256x128, .f32⟩
  | .hbm, ⟨4, _⟩ => ⟨S2x3x1x1024, .f32⟩
  | .hbm, ⟨5, _⟩ => ⟨S1x1024x1024, .bf16⟩
  | .hbm, ⟨6, _⟩ => ⟨S1x1x1024, .f32⟩
  | .hbm, ⟨7, _⟩ => ⟨S1x1024x1024, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .hbm, ⟨13, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S8x512x128, .f32⟩
  | .local _ .vmem, ⟨4, _⟩ => ⟨S8x512x128, .f32⟩
  | .local _ .vmem, ⟨5, _⟩ => ⟨S8x256x128, .f32⟩
  | .local _ .vmem, ⟨6, _⟩ => ⟨S1x1024x1024, .bf16⟩
  | .local _ .vmem, ⟨7, _⟩ => ⟨S1x1x1024, .f32⟩
  | .local _ .vmem, ⟨8, _⟩ => ⟨S1x1024x1024, .bf16⟩
  | .local _ .vmem, ⟨9, _⟩ => ⟨S1x1x1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let v100 : BitVec 32 := Scalar.extui v99
  let c0_i32_64 : BitVec 32 := 0#32
  let v101 : BitVec 1 := Scalar.cmpi .ne v100 c0_i32_64
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S16384x1024 : Shape := ⟨2, ![16384, 1024]⟩
abbrev S256x1024 : Shape := ⟨2, ![256, 1024]⟩
abbrev S8x16384x128 : Shape := ⟨3, ![8, 16384, 128]⟩
abbrev S8x256x128 : Shape := ⟨3, ![8, 256, 128]⟩
abbrev S2x3x1x1024 : Shape := ⟨4, ![2, 3, 1, 1024]⟩
abbrev S1x1024x1024 : Shape := ⟨3, ![1, 1024, 1024]⟩
abbrev S1x1x1024 : Shape := ⟨3, ![1, 1, 1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S16384x8x128 : Shape := ⟨3, ![16384, 8, 128]⟩
abbrev S_ : Shape := ⟨0, ![]⟩
abbrev S1024 : Shape := ⟨1, ![1024]⟩
abbrev S1x1x1x1024 : Shape := ⟨4, ![1, 1, 1, 1024]⟩
abbrev S16384 : Shape := ⟨1, ![16384]⟩
abbrev S16384x1 : Shape := ⟨2, ![16384, 1]⟩
abbrev S16384x2816 : Shape := ⟨2, ![16384, 2816]⟩
abbrev S256x8x128 : Shape := ⟨3, ![256, 8, 128]⟩
abbrev S256 : Shape := ⟨1, ![256]⟩
abbrev S256x1 : Shape := ⟨2, ![256, 1]⟩
abbrev S256x2816 : Shape := ⟨2, ![256, 2816]⟩

abbrev nBuf : Space → Nat
  | .hbm => 193
  | .vmem => 0
  | .smem => 0
  | _ => 0

abbrev hbmTy0_0 (i : Nat) : BufTy := match i % 128 with
  | 0 => ⟨S16384x1024, .f32⟩
  | 1 => ⟨S256x1024, .f32⟩
  | 2 => ⟨S8x16384x128, .f32⟩
  | 3 => ⟨S8x256x128, .f32⟩
  | 4 => ⟨S2x3x1x1024, .f32⟩
  | 5 => ⟨S1x1024x1024, .bf16⟩
  | 6 => ⟨S1x1x1024, .f32⟩
  | 7 => ⟨S1x1024x1024, .bf16⟩
  | 8 => ⟨S1024x2816, .bf16⟩
  | 9 => ⟨S1024x2816, .bf16⟩
  | 10 => ⟨S2816x1024, .bf16⟩
  | 11 => ⟨S1x1024, .f32⟩
  | 12 => ⟨S1024x1024, .bf16⟩
  | 13 => ⟨S1024x1024, .f32⟩
  | 14 => ⟨S1024x1024, .bf16⟩
  | 15 => ⟨S1024x1024, .f32⟩
  | 16 => ⟨S1024x2816, .f32⟩
  | 17 => ⟨S1024x2816, .f32⟩
  | 18 => ⟨S2816x1024, .f32⟩
  | 19 => ⟨S16384x8x128, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S16384x1024, .f32⟩
  | 38 => ⟨S16384x1024, .f32⟩
  | 39 => ⟨S1024, .f32⟩
  | 40 => ⟨S1x1024, .f32⟩
  | 41 => ⟨S16384x1024, .f32⟩
  | 42 => ⟨S16384x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S16384x1024, .f32⟩
  | 52 => ⟨S16384x1024, .f32⟩
  | 53 => ⟨S16384x1024, .f32⟩
  | 54 => ⟨S1x1x1x1024, .f32⟩
  | 55 => ⟨S1024, .f32⟩
  | 56 => ⟨S16384x1024, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x1024, .f32⟩
  | 68 => ⟨S16384x1024, .f32⟩
  | 69 => ⟨S1x1024, .f32⟩
  | 70 => ⟨S16384x1024, .f32⟩
  | 71 => ⟨S16384x1024, .f32⟩
  | 72 => ⟨S16384x2816, .f32⟩
  | 73 => ⟨S16384x2816, .f32⟩
  | 74 => ⟨S16384x2816, .f32⟩
  | 75 => ⟨S_, .f32⟩
  | 76 => ⟨S16384x2816, .f32⟩
  | 77 => ⟨S16384x2816, .f32⟩
  | 78 => ⟨S_, .f32⟩
  | 79 => ⟨S16384x2816, .f32⟩
  | 80 => ⟨S16384x2816, .f32⟩
  | 81 => ⟨S16384x2816, .f32⟩
  | 82 => ⟨S16384x2816, .f32⟩
  | 83 => ⟨S16384x2816, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S1024, .f32⟩
  | 90 => ⟨S16384x1024, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384x1, .f32⟩
  | 99 => ⟨S16384x1, .f32⟩
  | 100 => ⟨S16384x1, .f32⟩
  | 101 => ⟨S16384x1024, .f32⟩
  | 102 => ⟨S16384x1024, .f32⟩
  | 103 => ⟨S1x1024, .f32⟩
  | 104 => ⟨S16384x1024, .f32⟩
  | 105 => ⟨S16384x1024, .f32⟩
  | 106 => ⟨S256x8x128, .f32⟩
  | 107 => ⟨S256x1024, .f32⟩
  | 108 => ⟨S256x1024, .f32⟩
  | 109 => ⟨S256x1024, .f32⟩
  | 110 => ⟨S_, .f32⟩
  | 111 => ⟨S256x1024, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S256x1024, .f32⟩
  | 125 => ⟨S256x1024, .f32⟩
  | 126 => ⟨S1024, .f32⟩
  | 127 => ⟨S1x1024, .f32⟩
  | _ => ⟨S16384x1024, .f32⟩

abbrev hbmTy0_1 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S_, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S1x1x1x1024, .f32⟩
  | 14 => ⟨S1024, .f32⟩
  | 15 => ⟨S256x1024, .f32⟩
  | 16 => ⟨S_, .f32⟩
  | 17 => ⟨S256, .f32⟩
  | 18 => ⟨S256x1, .f32⟩
  | 19 => ⟨S_, .f32⟩
  | 20 => ⟨S256x1, .f32⟩
  | 21 => ⟨S256x1, .f32⟩
  | 22 => ⟨S_, .f32⟩
  | 23 => ⟨S256x1, .f32⟩
  | 24 => ⟨S256x1, .f32⟩
  | 25 => ⟨S256x1, .f32⟩
  | 26 => ⟨S256x1024, .f32⟩
  | 27 => ⟨S256x1024, .f32⟩
  | 28 => ⟨S1x1024, .f32⟩
  | 29 => ⟨S256x1024, .f32⟩
  | 30 => ⟨S256x1024, .f32⟩
  | 31 => ⟨S256x2816, .f32⟩
  | 32 => ⟨S256x2816, .f32⟩
  | 33 => ⟨S256x2816, .f32⟩
  | 34 => ⟨S_, .f32⟩
  | 35 => ⟨S256x2816, .f32⟩
  | 36 => ⟨S256x2816, .f32⟩
  | 37 => ⟨S_, .f32⟩
  | 38 => ⟨S256x2816, .f32⟩
  | 39 => ⟨S256x2816, .f32⟩
  | 40 => ⟨S256x2816, .f32⟩
  | 41 => ⟨S256x2816, .f32⟩
  | 42 => ⟨S256x2816, .f32⟩
  | 43 => ⟨S256x1024, .f32⟩
  | 44 => ⟨S_, .f32⟩
  | 45 => ⟨S256x1024, .f32⟩
  | 46 => ⟨S256x1024, .f32⟩
  | 47 => ⟨S256x1024, .f32⟩
  | 48 => ⟨S1024, .f32⟩
  | 49 => ⟨S256x1024, .f32⟩
  | 50 => ⟨S_, .f32⟩
  | 51 => ⟨S256, .f32⟩
  | 52 => ⟨S256x1, .f32⟩
  | 53 => ⟨S_, .f32⟩
  | 54 => ⟨S256x1, .f32⟩
  | 55 => ⟨S256x1, .f32⟩
  | 56 => ⟨S_, .f32⟩
  | 57 => ⟨S256x1, .f32⟩
  | 58 => ⟨S256x1, .f32⟩
  | 59 => ⟨S256x1, .f32⟩
  | 60 => ⟨S256x1024, .f32⟩
  | 61 => ⟨S256x1024, .f32⟩
  | 62 => ⟨S1x1024, .f32⟩
  | 63 => ⟨S256x1024, .f32⟩
  | 64 => ⟨S256x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_16 : Ref sig .tc := ⟨.hbm, 132, rfl⟩
abbrev main_v95 : Ref sig .tc := ⟨.hbm, 133, rfl⟩
abbrev main_v96 : Ref sig .tc := ⟨.hbm, 134, rfl⟩
abbrev main_cst_17 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_18 : Ref sig .tc := ⟨.hbm, 144, rfl⟩
abbrev main_v105 : Ref sig .tc := ⟨.hbm, 145, rfl⟩
abbrev main_v106 : Ref sig .tc := ⟨.hbm, 146, rfl⟩
abbrev main_cst_19 : Ref sig .tc := ⟨.hbm, 147, rfl⟩
abbrev main_v107 : Ref sig .tc := ⟨.hbm, 148, rfl⟩
abbrev main_v108 : Ref sig .tc := ⟨.hbm, 149, rfl⟩
abbrev main_cst_20 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_call1_v0 : Ref sig .tc := ⟨.hbm, 160, rfl⟩
abbrev main_call1_v1 : Ref sig .tc := ⟨.hbm, 161, rfl⟩
abbrev main_call1_cst : Ref sig .tc := ⟨.hbm, 162, rfl⟩
abbrev main_call1_v2 : Ref sig .tc := ⟨.hbm, 163, rfl⟩
abbrev main_call1_v3 : Ref sig .tc := ⟨.hbm, 164, rfl⟩
abbrev main_call1_cst_0 : Ref sig .tc := ⟨.hbm, 165, rfl⟩
abbrev main_call1_v4 : Ref sig .tc := ⟨.hbm, 166, rfl⟩
abbrev main_call1_v5 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_21 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_22 : Ref sig .tc := ⟨.hbm, 178, rfl⟩
abbrev main_v127 : Ref sig .tc := ⟨.hbm, 179, rfl⟩
abbrev main_v128 : Ref sig .tc := ⟨.hbm, 180, rfl⟩
abbrev main_cst_23 : Ref sig .tc := ⟨.hbm, 181, rfl⟩
abbrev main_v129 : Ref sig .tc := ⟨.hbm, 182, rfl⟩
abbrev main_v130 : Ref sig .tc := ⟨.hbm, 183, rfl⟩
abbrev main_cst_24 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]
-- ==== Kernel3.lean ====
abbrev S16384x1024 : Shape := ⟨2, ![16384, 1024]⟩
abbrev S256x1024 : Shape := ⟨2, ![256, 1024]⟩
abbrev S2x3x1x1024 : Shape := ⟨4, ![2, 3, 1, 1024]⟩
abbrev S16384x768 : Shape := ⟨2, ![16384, 768]⟩
abbrev S256x768 : Shape := ⟨2, ![256, 768]⟩
abbrev S1x768x1024 : Shape := ⟨3, ![1, 768, 1024]⟩
abbrev S1024x2816 : Shape := ⟨2, ![1024, 2816]⟩
abbrev S2816x1024 : Shape := ⟨2, ![2816, 1024]⟩
abbrev S2x2x1024x2816 : Shape := ⟨4, ![2, 2, 1024, 2816]⟩
abbrev S2x2x2816x1024 : Shape := ⟨4, ![2, 2, 2816, 1024]⟩
abbrev S512x1024 : Shape := ⟨2, ![512, 1024]⟩
abbrev S512x768 : Shape := ⟨2, ![512, 768]⟩
abbrev S1x1x1x1024 : Shape := ⟨4, ![1, 1, 1, 1024]⟩
abbrev S1x1x32x2816 : Shape := ⟨4, ![1, 1, 32, 2816]⟩
abbrev S1x1x2816x128 : Shape := ⟨4, ![1, 1, 2816, 128]⟩
abbrev S32x2816 : Shape := ⟨2, ![32, 2816]⟩
abbrev S2816x128 : Shape := ⟨2, ![2816, 128]⟩
abbrev S768x1024 : Shape := ⟨2, ![768, 1024]⟩
abbrev S1x1024 : Shape := ⟨2, ![1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S256 : Shape := ⟨1, ![256]⟩
abbrev S256x1 : Shape := ⟨2, ![256, 1]⟩
abbrev S256x1536 : Shape := ⟨2, ![256, 1536]⟩
abbrev S256x1280 : Shape := ⟨2, ![256, 1280]⟩

abbrev nBuf : Space → Nat
  | .hbm => 17
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x3x1x1024, .f32⟩
  | .hbm, ⟨3, _⟩ => ⟨S16384x768, .bf16⟩
  | .hbm, ⟨4, _⟩ => ⟨S256x768, .f32⟩
  | .hbm, ⟨5, _⟩ => ⟨S1x768x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2x2x1024x2816, .f32⟩
  | .hbm, ⟨10, _⟩ => ⟨S2x2x1024x2816, .f32⟩
  | .hbm, ⟨11, _⟩ => ⟨S2x2x2816x1024, .f32⟩
  | .hbm, ⟨12, _⟩ => ⟨S16384x1024, .f32⟩
  | .hbm, ⟨13, _⟩ => ⟨S256x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S512x768, .bf16⟩
  | .local _ .vmem, ⟨4, _⟩ => ⟨S512x768, .bf16⟩
  | .local _ .vmem, ⟨5, _⟩ => ⟨S256x768, .f32⟩
  | .local _ .vmem, ⟨6, _⟩ => ⟨S1x768x1024, .bf16⟩
  | .local _ .vmem, ⟨7, _⟩ => ⟨S1x1x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1x32x2816, .f32⟩
  | .local _ .vmem, ⟨12, _⟩ => ⟨S1x1x32x2816, .f32⟩
  | .local _ .vmem, ⟨13, _⟩ => ⟨S1x1x32x2816, .f32⟩
  | .local _ .vmem, ⟨14, _⟩ => ⟨S1x1x32x2816, .f32⟩
  | .local _ .vmem, ⟨15, _⟩ => ⟨S1x1x2816x128, .f32⟩
  | .local _ .vmem, ⟨16, _⟩ => ⟨S1x1x2816x128, .f32⟩
  | .local _ .vmem, ⟨17, _⟩ => ⟨S512x1024, .f32⟩
  | .local _ .vmem, ⟨18, _⟩ => ⟨S512x1024, .f32⟩
  | .local _ .vmem, ⟨19, _⟩ => ⟨S256x1024, .f32⟩
  | .local _ .vmem, ⟨20, _⟩ => ⟨S32x2816, .bf16⟩
  | .local _ .vmem, ⟨21, _⟩ => ⟨S32x2816, .bf16⟩
  | .local _ .vmem, ⟨22, _⟩ => ⟨S32x2816, .bf16⟩
  | .local _ .vmem, ⟨23, _⟩ => ⟨S32x2816, .bf16⟩
  | .local _ .vmem, ⟨24, _⟩ => ⟨S2816x128, .bf16⟩
  | .local _ .vmem, ⟨25, _⟩ => ⟨S2816x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_51 : BitVec 32 := 0#32
  let v60 : BitVec 1 := Scalar.cmpi .ne v59 c0_i32_51
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, c0_i32_5.toNat, c0_i32_6.toNat, v16.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x32x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x32x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2816x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2816x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S256x1024 : Shape := ⟨2, ![256, 1024]⟩
abbrev S2x3x1x1024 : Shape := ⟨4, ![2, 3, 1, 1024]⟩
abbrev S16384x768 : Shape := ⟨2, ![16384, 768]⟩
abbrev S256x768 : Shape := ⟨2, ![256, 768]⟩
abbrev S1x768x1024 : Shape := ⟨3, ![1, 768, 1024]⟩
abbrev S1024x2816 : Shape := ⟨2, ![1024, 2816]⟩
abbrev S2816x1024 : Shape := ⟨2, ![2816, 1024]⟩
abbrev S2x2x1024x2816 : Shape := ⟨4, ![2, 2, 1024, 2816]⟩
abbrev S2x2x2816x1024 : Shape := ⟨4, ![2, 2, 2816, 1024]⟩
abbrev S768x1024 : Shape := ⟨2, ![768, 1024]⟩
abbrev S1x1x1x1024 : Shape := ⟨4, ![1, 1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S256 : Shape := ⟨1, ![256]⟩
abbrev S256x1 : Shape := ⟨2, ![256, 1]⟩
abbrev S256x2816 : Shape := ⟨2, ![256, 2816]⟩
abbrev S1x1x1024x2816 : Shape := ⟨4, ![1, 1, 1024, 2816]⟩
abbrev S1x1x2816x1024 : Shape := ⟨4, ![1, 1, 2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x3x1x1024, .f32⟩
  | .hbm, ⟨3, _⟩ => ⟨S16384x768, .bf16⟩
  | .hbm, ⟨4, _⟩ => ⟨S256x768, .f32⟩
  | .hbm, ⟨5, _⟩ => ⟨S1x768x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2x2x1024x2816, .f32⟩
  | .hbm, ⟨10, _⟩ => ⟨S2x2x1024x2816, .f32⟩
  | .hbm, ⟨11, _⟩ => ⟨S2x2x2816x1024, .f32⟩
  | .hbm, ⟨12, _⟩ => ⟨S768x1024, .bf16⟩
  | .hbm, ⟨13, _⟩ => ⟨S768x1024, .f32⟩
  | .hbm, ⟨14, _⟩ => ⟨S1024x2816, .f32⟩
  | .hbm, ⟨15, _⟩ => ⟨S1024x2816, .f32⟩
  | .hbm, ⟨16, _⟩ => ⟨S2816x1024, .f32⟩
  | .hbm, ⟨17, _⟩ => ⟨S16384x768, .f32⟩
  | .hbm, ⟨18, _⟩ => ⟨S16384x1024, .f32⟩
  | .hbm, ⟨19, _⟩ => ⟨S16384x1024, .f32⟩
  | .hbm, ⟨20, _⟩ => ⟨S1x1x1x1024, .f32⟩
  | .hbm, ⟨21, _⟩ => ⟨S1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S256x1024, .f32⟩
  | .hbm, ⟨56, _⟩ => ⟨S256x1024, .f32⟩
  | .hbm, ⟨57, _⟩ => ⟨S1x1x1x1024, .f32⟩
  | .hbm, ⟨58, _⟩ => ⟨S1024, .f32⟩
  | .hbm, ⟨59, _⟩ => ⟨S256x1024, .f32⟩
  | .hbm, ⟨60, _⟩ => ⟨S_, .f32⟩
  | .hbm, ⟨61, _⟩ => ⟨S256, .f32⟩
  | .hbm, ⟨62, _⟩ => ⟨S256x1, .f32⟩
  | .hbm, ⟨63, _⟩ => ⟨S_, .f32⟩
  | .hbm, ⟨64, _⟩ => ⟨S256x1, .f32⟩
  | .hbm, ⟨65, _⟩ => ⟨S256x1, .f32⟩
  | .hbm, ⟨66, _⟩ => ⟨S_, .f32⟩
  | .hbm, ⟨67, _⟩ => ⟨S256x1, .f32⟩
  | .hbm, ⟨68, _⟩ => ⟨S256x1, .f32⟩
  | .hbm, ⟨69, _⟩ => ⟨S256x1, .f32⟩
  | .hbm, ⟨70, _⟩ => ⟨S256x1024, .f32⟩
  | .hbm, ⟨71, _⟩ => ⟨S256x1024, .f32⟩
  | .hbm, ⟨72, _⟩ => ⟨S1x1024, .f32⟩
  | .hbm, ⟨73, _⟩ => ⟨S256x1024, .f32⟩
  | .hbm, ⟨74, _⟩ => ⟨S256x1024, .f32⟩
  | .hbm, ⟨75, _⟩ => ⟨S256x2816, .f32⟩
  | .hbm, ⟨76, _⟩ => ⟨S256x2816, .f32⟩
  | .hbm, ⟨77, _⟩ => ⟨S256x2816, .f32⟩
  | .hbm, ⟨78, _⟩ => ⟨S_, .f32⟩
  | .hbm, ⟨79, _⟩ => ⟨S256x2816, .f32⟩
  | .hbm, ⟨80, _⟩ => ⟨S256x2816, .f32⟩
  | .hbm, ⟨81, _⟩ => ⟨S_, .f32⟩
  | .hbm, ⟨82, _⟩ => ⟨S256x2816, .f32⟩
  | .hbm, ⟨83, _⟩ => ⟨S256x2816, .f32⟩
  | .hbm, ⟨84, _⟩ => ⟨S256x2816, .f32⟩
  | .hbm, ⟨85, _⟩ => ⟨S256x2816, .f32⟩
  | .hbm, ⟨86, _⟩ => ⟨S256x2816, .f32⟩
  | .hbm, ⟨87, _⟩ => ⟨S256x1024, .f32⟩
  | .hbm, ⟨88, _⟩ => ⟨S_, .f32⟩
  | .hbm, ⟨89, _⟩ => ⟨S256x1024, .f32⟩
  | .hbm, ⟨90, _⟩ => ⟨S256x1024, .f32⟩
  | .hbm, ⟨91, _⟩ => ⟨S256x1024, .f32⟩
  | .hbm, ⟨92, _⟩ => ⟨S1x1x1024x2816, .f32⟩
  | .hbm, ⟨93, _⟩ => ⟨S1024x2816, .f32⟩
  | .hbm, ⟨94, _⟩ => ⟨S1024x2816, .bf16⟩
  | .hbm, ⟨95, _⟩ => ⟨S1x1x1024x2816, .f32⟩
  | .hbm, ⟨96, _⟩ => ⟨S1024x2816, .f32⟩
  | .hbm, ⟨97, _⟩ => ⟨S1024x2816, .bf16⟩
  | .hbm, ⟨98, _⟩ => ⟨S1x1x2816x1024, .f32⟩
  | .hbm, ⟨99, _⟩ => ⟨S2816x1024, .f32⟩
  | .hbm, ⟨100, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_6 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]
-- ==== Kernel4.lean ====
abbrev S16384x1024 : Shape := ⟨2, ![16384, 1024]⟩
abbrev S256x1024 : Shape := ⟨2, ![256, 1024]⟩
abbrev S2x3x1x1024 : Shape := ⟨4, ![2, 3, 1, 1024]⟩
abbrev S1x1024x1024 : Shape := ⟨3, ![1, 1024, 1024]⟩
abbrev S1024x2816 : Shape := ⟨2, ![1024, 2816]⟩
abbrev S2816x1024 : Shape := ⟨2, ![2816, 1024]⟩
abbrev S2x2x1024x2816 : Shape := ⟨4, ![2, 2, 1024, 2816]⟩
abbrev S2x2x2816x1024 : Shape := ⟨4, ![2, 2, 2816, 1024]⟩
abbrev S8x16384x128 : Shape := ⟨3, ![8, 16384, 128]⟩
abbrev S8x256x128 : Shape := ⟨3, ![8, 256, 128]⟩
abbrev S512x1024 : Shape := ⟨2, ![512, 1024]⟩
abbrev S1x1x1x1024 : Shape := ⟨4, ![1, 1, 1, 1024]⟩
abbrev S1x1x32x2816 : Shape := ⟨4, ![1, 1, 32, 2816]⟩
abbrev S1x1x2816x128 : Shape := ⟨4, ![1, 1, 2816, 128]⟩
abbrev S8x512x128 : Shape := ⟨3, ![8, 512, 128]⟩
abbrev S32x2816 : Shape := ⟨2, ![32, 2816]⟩
abbrev S2816x128 : Shape := ⟨2, ![2816, 128]⟩
abbrev S1x1024 : Shape := ⟨2, ![1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S1024x1024 : Shape := ⟨2, ![1024, 1024]⟩
abbrev S512x128 : Shape := ⟨2, ![512, 128]⟩
abbrev S1x512x128 : Shape := ⟨3, ![1, 512, 128]⟩
abbrev S256 : Shape := ⟨1, ![256]⟩
abbrev S256x1 : Shape := ⟨2, ![256, 1]⟩
abbrev S256x1536 : Shape := ⟨2, ![256, 1536]⟩
abbrev S256x1280 : Shape := ⟨2, ![256, 1280]⟩
abbrev S256x128 : Shape := ⟨2, ![256, 128]⟩
abbrev S1x256x128 : Shape := ⟨3, ![1, 256, 128]⟩

abbrev nBuf : Space → Nat
  | .hbm => 17
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x3x1x1024, .f32⟩
  | .hbm, ⟨3, _⟩ => ⟨S1x1024x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S16384x1024, .f32⟩
  | .hbm, ⟨11, _⟩ => ⟨S256x1024, .f32⟩
  | .hbm, ⟨12, _⟩ => ⟨S8x16384x128, .f32⟩
  | .hbm, ⟨13, _⟩ => ⟨S8x256x128, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S1x1x1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1x1x1024, .f32⟩
  | .local _ .vmem, ⟨8, _⟩ => ⟨S1x1024x1024, .bf16⟩
  | .local _ .vmem, ⟨9, _⟩ => ⟨S1x1x32x2816, .f32⟩
  | .local _ .vmem, ⟨10, _⟩ => ⟨S1x1x32x2816, .f32⟩
  | .local _ .vmem, ⟨11, _⟩ => ⟨S1x1x32x2816, .f32⟩
  | .local _ .vmem, ⟨12, _⟩ => ⟨S1x1x32x2816, .f32⟩
  | .local _ .vmem, ⟨13, _⟩ => ⟨S1x1x2816x128, .f32⟩
  | .local _ .vmem, ⟨14, _⟩ => ⟨S1x1x2816x128, .f32⟩
  | .local _ .vmem, ⟨15, _⟩ => ⟨S512x1024, .f32⟩
  | .local _ .vmem, ⟨16, _⟩ => ⟨S512x1024, .f32⟩
  | .local _ .vmem, ⟨17, _⟩ => ⟨S256x1024, .f32⟩
  | .local _ .vmem, ⟨18, _⟩ => ⟨S8x512x128, .f32⟩
  | .local _ .vmem, ⟨19, _⟩ => ⟨S8x512x128, .f32⟩
  | .local _ .vmem, ⟨20, _⟩ => ⟨S8x256x128, .f32⟩
  | .local _ .vmem, ⟨21, _⟩ => ⟨S32x2816, .bf16⟩
  | .local _ .vmem, ⟨22, _⟩ => ⟨S32x2816, .bf16⟩
  | .local _ .vmem, ⟨23, _⟩ => ⟨S32x2816, .bf16⟩
  | .local _ .vmem, ⟨24, _⟩ => ⟨S32x2816, .bf16⟩
  | .local _ .vmem, ⟨25, _⟩ => ⟨S2816x128, .bf16⟩
  | .local _ .vmem, ⟨26, _⟩ => ⟨S2816x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v103 : BitVec 1 := Scalar.cmpi .eq arg0 c0_i32
  let v104 : BitVec 32 := Scalar.extui v103
  let c0_i32_73 : BitVec 32 := 0#32
  let v105 : BitVec 1 := Scalar.cmpi .ne v104 c0_i32_73
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, arg0.toNat, c0_i32.toNat]

def cc0_transform_9 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  ![c1_i32_4.toNat, c1_i32_5.toNat, c0_i32_6.toNat, v16.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x32x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2816x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2816x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16384x1024 : Shape := ⟨2, ![16384, 1024]⟩
abbrev S256x1024 : Shape := ⟨2, ![256, 1024]⟩
abbrev S2x3x1x1024 : Shape := ⟨4, ![2, 3, 1, 1024]⟩
abbrev S1x1024x1024 : Shape := ⟨3, ![1, 1024, 1024]⟩
abbrev S1024x2816 : Shape := ⟨2, ![1024, 2816]⟩
abbrev S2816x1024 : Shape := ⟨2, ![2816, 1024]⟩
abbrev S2x2x1024x2816 : Shape := ⟨4, ![2, 2, 1024, 2816]⟩
abbrev S2x2x2816x1024 : Shape := ⟨4, ![2, 2, 2816, 1024]⟩
abbrev S1024x1024 : Shape := ⟨2, ![1024, 1024]⟩
abbrev S1x1x1x1024 : Shape := ⟨4, ![1, 1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x128 : Shape := ⟨3, ![16384, 8, 128]⟩
abbrev S8x16384x128 : Shape := ⟨3, ![8, 16384, 128]⟩
abbrev S256 : Shape := ⟨1, ![256]⟩
abbrev S256x1 : Shape := ⟨2, ![256, 1]⟩
abbrev S256x2816 : Shape := ⟨2, ![256, 2816]⟩
abbrev S256x8x128 : Shape := ⟨3, ![256, 8, 128]⟩
abbrev S8x256x128 : Shape := ⟨3, ![8, 256, 128]⟩
abbrev S1x1x1024x2816 : Shape := ⟨4, ![1, 1, 1024, 2816]⟩
abbrev S1x1x2816x1024 : Shape := ⟨4, ![1, 1, 2816, 1024]⟩

abbrev nBuf : Space → Nat
  | .hbm => 136
  | .vmem => 0
  | .smem => 0
  | _ => 0

abbrev hbmTy0_0 (i : Nat) : BufTy := match i % 128 with
  | 0 => ⟨S16384x1024, .f32⟩
  | 1 => ⟨S256x1024, .f32⟩
  | 2 => ⟨S2x3x1x1024, .f32⟩
  | 3 => ⟨S1x1024x1024, .bf16⟩
  | 4 => ⟨S1024x2816, .bf16⟩
  | 5 => ⟨S1024x2816, .bf16⟩
  | 6 => ⟨S2816x1024, .bf16⟩
  | 7 => ⟨S2x2x1024x2816, .f32⟩
  | 8 => ⟨S2x2x1024x2816, .f32⟩
  | 9 => ⟨S2x2x2816x1024, .f32⟩
  | 10 => ⟨S1024x1024, .bf16⟩
  | 11 => ⟨S1024x1024, .f32⟩
  | 12 => ⟨S1024x2816, .f32⟩
  | 13 => ⟨S1024x2816, .f32⟩
  | 14 => ⟨S2816x1024, .f32⟩
  | 15 => ⟨S1x1x1x1024, .f32⟩
  | 16 => ⟨S1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S16384x2816, .f32⟩
  | 34 => ⟨S16384x2816, .f32⟩
  | 35 => ⟨S16384x2816, .f32⟩
  | 36 => ⟨S_, .f32⟩
  | 37 => ⟨S16384x2816, .f32⟩
  | 38 => ⟨S16384x2816, .f32⟩
  | 39 => ⟨S_, .f32⟩
  | 40 => ⟨S16384x2816, .f32⟩
  | 41 => ⟨S16384x2816, .f32⟩
  | 42 => ⟨S16384x2816, .f32⟩
  | 43 => ⟨S16384x2816, .f32⟩
  | 44 => ⟨S16384x2816, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S1x1x1x1024, .f32⟩
  | 51 => ⟨S1024, .f32⟩
  | 52 => ⟨S16384x1024, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S16384x8x128, .f32⟩
  | 70 => ⟨S8x16384x128, .f32⟩
  | 71 => ⟨S1x1x1x1024, .f32⟩
  | 72 => ⟨S1024, .f32⟩
  | 73 => ⟨S256x1024, .f32⟩
  | 74 => ⟨S_, .f32⟩
  | 75 => ⟨S256, .f32⟩
  | 76 => ⟨S256x1, .f32⟩
  | 77 => ⟨S_, .f32⟩
  | 78 => ⟨S256x1, .f32⟩
  | 79 => ⟨S256x1, .f32⟩
  | 80 => ⟨S_, .f32⟩
  | 81 => ⟨S256x1, .f32⟩
  | 82 => ⟨S256x1, .f32⟩
  | 83 => ⟨S256x1, .f32⟩
  | 84 => ⟨S256x1024, .f32⟩
  | 85 => ⟨S256x1024, .f32⟩
  | 86 => ⟨S1x1024, .f32⟩
  | 87 => ⟨S256x1024, .f32⟩
  | 88 => ⟨S256x1024, .f32⟩
  | 89 => ⟨S256x2816, .f32⟩
  | 90 => ⟨S256x2816, .f32⟩
  | 91 => ⟨S256x2816, .f32⟩
  | 92 => ⟨S_, .f32⟩
  | 93 => ⟨S256x2816, .f32⟩
  | 94 => ⟨S256x2816, .f32⟩
  | 95 => ⟨S_, .f32⟩
  | 96 => ⟨S256x2816, .f32⟩
  | 97 => ⟨S256x2816, .f32⟩
  | 98 => ⟨S256x2816, .f32⟩
  | 99 => ⟨S256x2816, .f32⟩
  | 100 => ⟨S256x2816, .f32⟩
  | 101 => ⟨S256x1024, .f32⟩
  | 102 => ⟨S_, .f32⟩
  | 103 => ⟨S256x1024, .f32⟩
  | 104 => ⟨S256x1024, .f32⟩
  | 105 => ⟨S256x1024, .f32⟩
  | 106 => ⟨S1x1x1x1024, .f32⟩
  | 107 => ⟨S1024, .f32⟩
  | 108 => ⟨S256x1024, .f32⟩
  | 109 => ⟨S_, .f32⟩
  | 110 => ⟨S256, .f32⟩
  | 111 => ⟨S256x1, .f32⟩
  | 112 => ⟨S_, .f32⟩
  | 113 => ⟨S256x1, .f32⟩
  | 114 => ⟨S256x1, .f32⟩
  | 115 => ⟨S_, .f32⟩
  | 116 => ⟨S256x1, .f32⟩
  | 117 => ⟨S256x1, .f32⟩
  | 118 => ⟨S256x1, .f32⟩
  | 119 => ⟨S256x1024, .f32⟩
  | 120 => ⟨S256x1024, .f32⟩
  | 121 => ⟨S1x1024, .f32⟩
  | 122 => ⟨S256x1024, .f32⟩
  | 123 => ⟨S256x1024, .f32⟩
  | 124 => ⟨S256x1024, .f32⟩
  | 125 => ⟨S256x8x128, .f32⟩
  | 126 => ⟨S8x256x128, .f32⟩
  | 127 => ⟨S1x1x1024x2816, .f32⟩
  | _ => ⟨S16384x1024, .f32⟩

abbrev hbmTy0_1 (i : Nat) : BufTy := match i % 128 with
  | 0 => ⟨S1024x2816, .f32⟩
  | 1 => ⟨S1024x2816, .bf16⟩
  | 2 => ⟨S1x1x1024x2816, .f32⟩
  | 3 => ⟨S1024x2816, .f32⟩
  | 4 => ⟨S1024x2816, .bf16⟩
  | 5 => ⟨S1x1x2816x1024, .f32⟩
  | 6 => ⟨S2816x1024, .f32⟩
  | 7 => ⟨S2816x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_9 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_10 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== Kernel5.lean ====
abbrev S16384x1024 : Shape := ⟨2, ![16384, 1024]⟩
abbrev S256x1024 : Shape := ⟨2, ![256, 1024]⟩
abbrev S2x3x1x1024 : Shape := ⟨4, ![2, 3, 1, 1024]⟩
abbrev S1x1024x2304 : Shape := ⟨3, ![1, 1024, 2304]⟩
abbrev S32x512x128 : Shape := ⟨3, ![32, 512, 128]⟩
abbrev S32x512x512 : Shape := ⟨3, ![32, 512, 512]⟩
abbrev S32x512x2048 : Shape := ⟨3, ![32, 512, 2048]⟩
abbrev S16384x2304 : Shape := ⟨2, ![16384, 2304]⟩
abbrev S256x2304 : Shape := ⟨2, ![256, 2304]⟩
abbrev S256x768 : Shape := ⟨2, ![256, 768]⟩
abbrev S2x512x128 : Shape := ⟨3, ![2, 512, 128]⟩
abbrev S2x512x512 : Shape := ⟨3, ![2, 512, 512]⟩
abbrev S2x512x2048 : Shape := ⟨3, ![2, 512, 2048]⟩
abbrev S512x1024 : Shape := ⟨2, ![512, 1024]⟩
abbrev S1x1x1x1024 : Shape := ⟨4, ![1, 1, 1, 1024]⟩
abbrev S1x512x128 : Shape := ⟨3, ![1, 512, 128]⟩
abbrev S1x512x512 : Shape := ⟨3, ![1, 512, 512]⟩
abbrev S1x512x2048 : Shape := ⟨3, ![1, 512, 2048]⟩
abbrev S512x2304 : Shape := ⟨2, ![512, 2304]⟩
abbrev S8x768 : Shape := ⟨2, ![8, 768]⟩
abbrev S1x1024 : Shape := ⟨2, ![1, 1024]⟩
abbrev S512 : Shape := ⟨1, ![512]⟩
abbrev S512x1 : Shape := ⟨2, ![512, 1]⟩
abbrev S1024x2304 : Shape := ⟨2, ![1024, 2304]⟩
abbrev S128x256 : Shape := ⟨2, ![128, 256]⟩
abbrev S256x128 : Shape := ⟨2, ![256, 128]⟩
abbrev S1x256x128 : Shape := ⟨3, ![1, 256, 128]⟩
abbrev S512x256 : Shape := ⟨2, ![512, 256]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S32x256 : Shape := ⟨2, ![32, 256]⟩
abbrev S8x256 : Shape := ⟨2, ![8, 256]⟩
abbrev S8x2304 : Shape := ⟨2, ![8, 2304]⟩
abbrev S8x512 : Shape := ⟨2, ![8, 512]⟩
abbrev S120x512 : Shape := ⟨2, ![120, 512]⟩
abbrev S128x512 : Shape := ⟨2, ![128, 512]⟩
abbrev S512x128 : Shape := ⟨2, ![512, 128]⟩
abbrev S32x128 : Shape := ⟨2, ![32, 128]⟩
abbrev S32 : Shape := ⟨1, ![32]⟩
abbrev S32x1 : Shape := ⟨2, ![32, 1]⟩
abbrev S32x512 : Shape := ⟨2, ![32, 512]⟩
abbrev S512x512 : Shape := ⟨2, ![512, 512]⟩
abbrev S512x640 : Shape := ⟨2, ![512, 640]⟩
abbrev S1x256x2048 : Shape := ⟨3, ![1, 256, 2048]⟩
abbrev S256x2048 : Shape := ⟨2, ![256, 2048]⟩
abbrev S32x2048 : Shape := ⟨2, ![32, 2048]⟩
abbrev S512x2048 : Shape := ⟨2, ![512, 2048]⟩
abbrev S512x2176 : Shape := ⟨2, ![512, 2176]⟩
abbrev S8x128 : Shape := ⟨2, ![8, 128]⟩

abbrev nBuf : Space → Nat
  | .hbm => 16
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x3x1x1024, .f32⟩
  | .hbm, ⟨3, _⟩ => ⟨S1x1024x2304, .bf16⟩
  | .hbm, ⟨4, _⟩ => ⟨S32x512x128, .f32⟩
  | .hbm, ⟨5, _⟩ => ⟨S32x512x512, .f32⟩
  | .hbm, ⟨6, _⟩ => ⟨S32x512x2048, .f32⟩
  | .hbm, ⟨7, _⟩ => ⟨S16384x2304, .f32⟩
  | .hbm, ⟨8, _⟩ => ⟨S256x2304, .f32⟩
  | .hbm, ⟨9, _⟩ => ⟨S256x768, .f32⟩
  | .hbm, ⟨10, _⟩ => ⟨S32x512x128, .f32⟩
  | .hbm, ⟨11, _⟩ => ⟨S32x512x512, .f32⟩
  | .hbm, ⟨12, _⟩ => ⟨S32x512x2048, .f32⟩
  | .hbm, ⟨13, _⟩ => ⟨S2x512x128, .f32⟩
  | .hbm, ⟨14, _⟩ => ⟨S2x512x512, .f32⟩
  | .hbm, ⟨15, _⟩ => ⟨S2x512x2048, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S1x1x1x1024, .f32⟩
  | .local _ .vmem, ⟨4, _⟩ => ⟨S1x1024x2304, .bf16⟩
  | .local _ .vmem, ⟨5, _⟩ => ⟨S1x512x128, .f32⟩
  | .local _ .vmem, ⟨6, _⟩ => ⟨S1x512x128, .f32⟩
  | .local _ .vmem, ⟨7, _⟩ => ⟨S1x512x512, .f32⟩
  | .local _ .vmem, ⟨8, _⟩ => ⟨S1x512x512, .f32⟩
  | .local _ .vmem, ⟨9, _⟩ => ⟨S1x512x2048, .f32⟩
  | .local _ .vmem, ⟨10, _⟩ => ⟨S1x512x2048, .f32⟩
  | .local _ .vmem, ⟨11, _⟩ => ⟨S512x2304, .f32⟩
  | .local _ .vmem, ⟨12, _⟩ => ⟨S512x2304, .f32⟩
  | .local _ .vmem, ⟨13, _⟩ => ⟨S256x2304, .f32⟩
  | .local _ .vmem, ⟨14, _⟩ => ⟨S8x768, .f32⟩
  | .local _ .vmem, ⟨15, _⟩ => ⟨S8x768, .f32⟩
  | .local _ .vmem, ⟨16, _⟩ => ⟨S1x512x128, .f32⟩
  | .local _ .vmem, ⟨17, _⟩ => ⟨S1x512x128, .f32⟩
  | .local _ .vmem, ⟨18, _⟩ => ⟨S1x512x512, .f32⟩
  | .local _ .vmem, ⟨19, _⟩ => ⟨S1x512x512, .f32⟩
  | .local _ .vmem, ⟨20, _⟩ => ⟨S1x512x2048, .f32⟩
  | .local _ .vmem, ⟨21, _⟩ => ⟨S1x512x2048, .f32⟩
  | .local _ .vmem, ⟨22, _⟩ => ⟨S1x512x128, .f32⟩
  | .local _ .vmem, ⟨23, _⟩ => ⟨S1x512x128, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32 : BitVec 32 := 8#32
  let v62 : BitVec 32 := Scalar.muli arg0 c8_i32
  v62
def k0_off1 (i : grid0.Coords) : Fin 2 → Nat :=
  let arg0 : BitVec 32 := BitVec.ofNat 32 (i 0).val
  let c8_i32 : BitVec 32 := 8#32
  let v62 : BitVec 32 := Scalar.muli arg0 c8_i32
  let v63 : BitVec 32 := v62
  let c0_i32_54 : BitVec 32 := 0#32
  ![v63.toNat, 0]
def k0_cond4 (i : grid0.Coords) : BitVec 1 :=
  let arg0 : BitVec 32 := BitVec.ofNat 32 (i 0).val
  let c0_i32_32 : BitVec 32 := 0#32
  let v59 : BitVec 1 := Scalar.cmpi .eq arg0 c0_i32_32
  let v60 : BitVec 32 := Scalar.extui v59
  let c0_i32_33 : BitVec 32 := 0#32
  let v61 : BitVec 1 := Scalar.cmpi .ne v60 c0_i32_33
  v61

def k0_cond1 (i : grid0.Coords) : BitVec 1 :=
  let arg0 : BitVec 32 := BitVec.ofNat 32 (i 0).val
  let c16_i32 : BitVec 32 := 16#32
  let c0_i32 : BitVec 32 := 0#32
  let v20 : BitVec 1 := Scalar.cmpi .eq c16_i32 c0_i32
  let c1_i32 : BitVec 32 := 1#32
  let v21 : BitVec 32 := Scalar.select v20 c1_i32 c16_i32
  let v22 : BitVec 32 := Scalar.remsi arg0 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c15_i32 : BitVec 32 := 15#32
  let v30 : BitVec 1 := Scalar.cmpi .sge v29 c15_i32
  let v31 : BitVec 32 := Scalar.extui v30
  let c0_i32_16 : BitVec 32 := 0#32
  let v32 : BitVec 1 := Scalar.cmpi .ne v31 c0_i32_16
  v32

def k0_cond2 (i : grid0.Coords) : BitVec 1 :=
  let arg0 : BitVec 32 := BitVec.ofNat 32 (i 0).val
  let c16_i32_17 : BitVec 32 := 16#32
  let c0_i32_18 : BitVec 32 := 0#32
  let v33 : BitVec 1 := Scalar.cmpi .eq c16_i32_17 c0_i32_18
  let c1_i32_19 : BitVec 32 := 1#32
  let v34 : BitVec 32 := Scalar.select v33 c1_i32_19 c16_i32_17
  let v35 : BitVec 32 := Scalar.remsi arg0 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c15_i32_23 : BitVec 32 := 15#32
  let v43 : BitVec 1 := Scalar.cmpi .sge v42 c15_i32_23
  let v44 : BitVec 32 := Scalar.extui v43
  let c0_i32_24 : BitVec 32 := 0#32
  let v45 : BitVec 1 := Scalar.cmpi .ne v44 c0_i32_24
  v45

def k0_cond3 (i : grid0.Coords) : BitVec 1 :=
  let arg0 : BitVec 32 := BitVec.ofNat 32 (i 0).val
  let c16_i32_25 : BitVec 32 := 16#32
  let c0_i32_26 : BitVec 32 := 0#32
  let v46 : BitVec 1 := Scalar.cmpi .eq c16_i32_25 c0_i32_26
  let c1_i32_27 : BitVec 32 := 1#32
  let v47 : BitVec 32 := Scalar.select v46 c1_i32_27 c16_i32_25
  let v48 : BitVec 32 := Scalar.remsi arg0 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c12_i32 : BitVec 32 := 12#32
  let v56 : BitVec 1 := Scalar.cmpi .sge v55 c12_i32
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.subi v26 c12_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x1024 : Shape := ⟨2, ![16384, 1024]⟩
abbrev S256x1024 : Shape := ⟨2, ![256, 1024]⟩
abbrev S2x3x1x1024 : Shape := ⟨4, ![2, 3, 1, 1024]⟩
abbrev S1x1024x2304 : Shape := ⟨3, ![1, 1024, 2304]⟩
abbrev S32x512x128 : Shape := ⟨3, ![32, 512, 128]⟩
abbrev S32x512x512 : Shape := ⟨3, ![32, 512, 512]⟩
abbrev S32x512x2048 : Shape := ⟨3, ![32, 512, 2048]⟩
abbrev S1024x2304 : Shape := ⟨2, ![1024, 2304]⟩
abbrev S1x1x1x1024 : Shape := ⟨4, ![1, 1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2304 : Shape := ⟨2, ![16384, 2304]⟩
abbrev S256 : Shape := ⟨1, ![256]⟩
abbrev S256x1 : Shape := ⟨2, ![256, 1]⟩
abbrev S256x2304 : Shape := ⟨2, ![256, 2304]⟩
abbrev S32x8x2304 : Shape := ⟨3, ![32, 8, 2304]⟩
abbrev S32x8x256 : Shape := ⟨3, ![32, 8, 256]⟩
abbrev S32x8x512 : Shape := ⟨3, ![32, 8, 512]⟩
abbrev S32x512x8 : Shape := ⟨3, ![32, 512, 8]⟩
abbrev S32x512x136 : Shape := ⟨3, ![32, 512, 136]⟩
abbrev S32x512x520 : Shape := ⟨3, ![32, 512, 520]⟩
abbrev S32x512x2056 : Shape := ⟨3, ![32, 512, 2056]⟩
abbrev S2x8192x2304 : Shape := ⟨3, ![2, 8192, 2304]⟩
abbrev S2x8192x256 : Shape := ⟨3, ![2, 8192, 256]⟩
abbrev S2x8192x512 : Shape := ⟨3, ![2, 8192, 512]⟩
abbrev S2x512x8192 : Shape := ⟨3, ![2, 512, 8192]⟩
abbrev S2x512x128 : Shape := ⟨3, ![2, 512, 128]⟩
abbrev S2x512x512 : Shape := ⟨3, ![2, 512, 512]⟩
abbrev S2x512x2048 : Shape := ⟨3, ![2, 512, 2048]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x3x1x1024, .f32⟩
  | .hbm, ⟨3, _⟩ => ⟨S1x1024x2304, .bf16⟩
  | .hbm, ⟨4, _⟩ => ⟨S32x512x128, .f32⟩
  | .hbm, ⟨5, _⟩ => ⟨S32x512x512, .f32⟩
  | .hbm, ⟨6, _⟩ => ⟨S32x512x2048, .f32⟩
  | .hbm, ⟨7, _⟩ => ⟨S1024x2304, .bf16⟩
  | .hbm, ⟨8, _⟩ => ⟨S1024x2304, .f32⟩
  | .hbm, ⟨9, _⟩ => ⟨S1x1x1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2304, .f32⟩
  | .hbm, ⟨28, _⟩ => ⟨S1x1x1x1024, .f32⟩
  | .hbm, ⟨29, _⟩ => ⟨S1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S256x1, .f32⟩
  | .hbm, ⟨41, _⟩ => ⟨S256x1024, .f32⟩
  | .hbm, ⟨42, _⟩ => ⟨S256x1024, .f32⟩
  | .hbm, ⟨43, _⟩ => ⟨S1x1024, .f32⟩
  | .hbm, ⟨44, _⟩ => ⟨S256x1024, .f32⟩
  | .hbm, ⟨45, _⟩ => ⟨S256x1024, .f32⟩
  | .hbm, ⟨46, _⟩ => ⟨S256x2304, .f32⟩
  | .hbm, ⟨47, _⟩ => ⟨S32x8x2304, .f32⟩
  | .hbm, ⟨48, _⟩ => ⟨S32x8x256, .f32⟩
  | .hbm, ⟨49, _⟩ => ⟨S32x8x256, .f32⟩
  | .hbm, ⟨50, _⟩ => ⟨S32x8x512, .f32⟩
  | .hbm, ⟨51, _⟩ => ⟨S32x512x8, .f32⟩
  | .hbm, ⟨52, _⟩ => ⟨S32x512x136, .f32⟩
  | .hbm, ⟨53, _⟩ => ⟨S32x512x128, .f32⟩
  | .hbm, ⟨54, _⟩ => ⟨S32x8x2304, .f32⟩
  | .hbm, ⟨55, _⟩ => ⟨S32x8x256, .f32⟩
  | .hbm, ⟨56, _⟩ => ⟨S32x8x256, .f32⟩
  | .hbm, ⟨57, _⟩ => ⟨S32x8x512, .f32⟩
  | .hbm, ⟨58, _⟩ => ⟨S32x512x8, .f32⟩
  | .hbm, ⟨59, _⟩ => ⟨S32x512x520, .f32⟩
  | .hbm, ⟨60, _⟩ => ⟨S32x512x512, .f32⟩
  | .hbm, ⟨61, _⟩ => ⟨S32x8x2304, .f32⟩
  | .hbm, ⟨62, _⟩ => ⟨S32x8x256, .f32⟩
  | .hbm, ⟨63, _⟩ => ⟨S32x8x256, .f32⟩
  | .hbm, ⟨64, _⟩ => ⟨S32x8x512, .f32⟩
  | .hbm, ⟨65, _⟩ => ⟨S32x512x8, .f32⟩
  | .hbm, ⟨66, _⟩ => ⟨S32x512x2056, .f32⟩
  | .hbm, ⟨67, _⟩ => ⟨S32x512x2048, .f32⟩
  | .hbm, ⟨68, _⟩ => ⟨S2x8192x2304, .f32⟩
  | .hbm, ⟨69, _⟩ => ⟨S2x8192x256, .f32⟩
  | .hbm, ⟨70, _⟩ => ⟨S2x8192x256, .f32⟩
  | .hbm, ⟨71, _⟩ => ⟨S2x8192x512, .f32⟩
  | .hbm, ⟨72, _⟩ => ⟨S2x512x8192, .f32⟩
  | .hbm, ⟨73, _⟩ => ⟨S2x512x128, .f32⟩
  | .hbm, ⟨74, _⟩ => ⟨S2x8192x2304, .f32⟩
  | .hbm, ⟨75, _⟩ => ⟨S2x8192x256, .f32⟩
  | .hbm, ⟨76, _⟩ => ⟨S2x8192x256, .f32⟩
  | .hbm, ⟨77, _⟩ => ⟨S2x8192x512, .f32⟩
  | .hbm, ⟨78, _⟩ => ⟨S2x512x8192, .f32⟩
  | .hbm, ⟨79, _⟩ => ⟨S2x512x512, .f32⟩
  | .hbm, ⟨80, _⟩ => ⟨S2x8192x2304, .f32⟩
  | .hbm, ⟨81, _⟩ => ⟨S2x8192x256, .f32⟩
  | .hbm, ⟨82, _⟩ => ⟨S2x8192x256, .f32⟩
  | .hbm, ⟨83, _⟩ => ⟨S2x8192x512, .f32⟩
  | .hbm, ⟨84, _⟩ => ⟨S2x512x8192, .f32⟩
  | .hbm, ⟨85, _⟩ => ⟨S2x512x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Kernel6.lean ====
abbrev S8x256x128 : Shape := ⟨3, ![8, 256, 128]⟩
abbrev S8x16x1024 : Shape := ⟨3, ![8, 16, 1024]⟩
abbrev S8x34x512 : Shape := ⟨3, ![8, 34, 512]⟩
abbrev S8x1x128 : Shape := ⟨3, ![8, 1, 128]⟩
abbrev S8x32x1024 : Shape := ⟨3, ![8, 32, 1024]⟩
abbrev S4x256x128 : Shape := ⟨3, ![4, 256, 128]⟩
abbrev S4x16x1024 : Shape := ⟨3, ![4, 16, 1024]⟩
abbrev S4x34x512 : Shape := ⟨3, ![4, 34, 512]⟩
abbrev S4x1x128 : Shape := ⟨3, ![4, 1, 128]⟩
abbrev S4x32x1024 : Shape := ⟨3, ![4, 32, 1024]⟩
abbrev S4x256x1024 : Shape := ⟨3, ![4, 256, 1024]⟩
abbrev S4x256x512 : Shape := ⟨3, ![4, 256, 512]⟩
abbrev S1x256x128 : Shape := ⟨3, ![1, 256, 128]⟩
abbrev S256x128 : Shape := ⟨2, ![256, 128]⟩
abbrev S32x128 : Shape := ⟨2, ![32, 128]⟩
abbrev S1x32x128 : Shape := ⟨3, ![1, 32, 128]⟩
abbrev S1x16x1024 : Shape := ⟨3, ![1, 16, 1024]⟩
abbrev S16x1024 : Shape := ⟨2, ![16, 1024]⟩
abbrev S16x512 : Shape := ⟨2, ![16, 512]⟩
abbrev S128x512 : Shape := ⟨2, ![128, 512]⟩
abbrev S128x1024 : Shape := ⟨2, ![128, 1024]⟩
abbrev S256x1024 : Shape := ⟨2, ![256, 1024]⟩
abbrev S1x256x1024 : Shape := ⟨3, ![1, 256, 1024]⟩
abbrev S1x34x512 : Shape := ⟨3, ![1, 34, 512]⟩
abbrev S34x512 : Shape := ⟨2, ![34, 512]⟩
abbrev S1x512 : Shape := ⟨2, ![1, 512]⟩
abbrev S32x512 : Shape := ⟨2, ![32, 512]⟩
abbrev S1x32x1024 : Shape := ⟨3, ![1, 32, 1024]⟩
abbrev S32x1024 : Shape := ⟨2, ![32, 1024]⟩
abbrev S1x256x512 : Shape := ⟨3, ![1, 256, 512]⟩
abbrev S256x512 : Shape := ⟨2, ![256, 512]⟩
abbrev S1x32x512 : Shape := ⟨3, ![1, 32, 512]⟩
abbrev S1x1x128 : Shape := ⟨3, ![1, 1, 128]⟩
abbrev S1x128 : Shape := ⟨2, ![1, 128]⟩

abbrev nBuf : Space → Nat
  | .hbm => 8
  | .vmem => 20
  | .smem => 0
  | _ => 0

abbrev bufTy : (tb : Table) → Fin (tcTables nBuf tb) → BufTy
  | .hbm, ⟨0, _⟩ => ⟨S8x256x128, .f32⟩
  | .hbm, ⟨1, _⟩ => ⟨S8x16x1024, .f32⟩
  | .hbm, ⟨2, _⟩ => ⟨S8x16x1024, .f32⟩
  | .hbm, ⟨3, _⟩ => ⟨S8x34x512, .f32⟩
  | .hbm, ⟨4, _⟩ => ⟨S8x1x128, .f32⟩
  | .hbm, ⟨5, _⟩ => ⟨S8x32x1024, .f32⟩
  | .hbm, ⟨6, _⟩ => ⟨S8x256x128, .f32⟩
  | .hbm, ⟨7, _⟩ => ⟨S8x32x1024, .f32⟩
  | .local _ .vmem, ⟨0, _⟩ => ⟨S4x256x128, .f32⟩
  | .local _ .vmem, ⟨1, _⟩ => ⟨S4x256x128, .f32⟩
  | .local _ .vmem, ⟨2, _⟩ => ⟨S4x16x1024, .f32⟩
  | .local _ .vmem, ⟨3, _⟩ => ⟨S4x16x1024, .f32⟩
  | .local _ .vmem, ⟨4, _⟩ => ⟨S4x16x1024, .f32⟩
  | .local _ .vmem, ⟨5, _⟩ => ⟨S4x16x1024, .f32⟩
  | .local _ .vmem, ⟨6, _⟩ => ⟨S4x34x512, .f32⟩
  | .local _ .vmem, ⟨7, _⟩ => ⟨S4x34x512, .f32⟩
  | .local _ .vmem, ⟨8, _⟩ => ⟨S4x1x128, .f32⟩
  | .local _ .vmem, ⟨9, _⟩ => ⟨S4x1x128, .f32⟩
  | .local _ .vmem, ⟨10, _⟩ => ⟨S4x32x1024, .f32⟩
  | .local _ .vmem, ⟨11, _⟩ => ⟨S4x32x1024, .f32⟩
  | .local _ .vmem, ⟨12, _⟩ => ⟨S4x256x128, .f32⟩
  | .local _ .vmem, ⟨13, _⟩ => ⟨S4x256x128, .f32⟩
  | .local _ .vmem, ⟨14, _⟩ => ⟨S4x32x1024, .f32⟩
  | .local _ .vmem, ⟨15, _⟩ => ⟨S4x32x1024, .f32⟩
  | .local _ .vmem, ⟨16, _⟩ => ⟨S4x256x1024, .f32⟩
  | .local _ .vmem, ⟨17, _⟩ => ⟨S4x256x512, .bf16⟩
  | .local _ .vmem, ⟨18, _⟩ => ⟨S4x256x512, .bf16⟩
  | .local _ .vmem, ⟨19, _⟩ => ⟨S4x256x128, .bf16⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x34x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8x256x128 : Shape := ⟨3, ![8, 256, 128]⟩
abbrev S8x16x1024 : Shape := ⟨3, ![8, 16, 1024]⟩
abbrev S8x34x512 : Shape := ⟨3, ![8, 34, 512]⟩
abbrev S8x1x128 : Shape := ⟨3, ![8, 1, 128]⟩
abbrev S8x32x1024 : Shape := ⟨3, ![8, 32, 1024]⟩
abbrev S8x16x2x8x64 : Shape := ⟨5, ![8, 16, 2, 8, 64]⟩
abbrev S8x1x512 : Shape := ⟨3, ![8, 1, 512]⟩
abbrev S8x512 : Shape := ⟨2, ![8, 512]⟩
abbrev S8x1x8x64 : Shape := ⟨4, ![8, 1, 8, 64]⟩
abbrev S8x32x8x8x16 : Shape := ⟨5, ![8, 32, 8, 8, 16]⟩
abbrev S8x32x2x8x64 : Shape := ⟨5, ![8, 32, 2, 8, 64]⟩
abbrev S8x32x1x8x64 : Shape := ⟨5, ![8, 32, 1, 8, 64]⟩
abbrev S8x32x8x64 : Shape := ⟨4, ![8, 32, 8, 64]⟩
abbrev S8x32x1x8x16 : Shape := ⟨5, ![8, 32, 1, 8, 16]⟩
abbrev S8x32x8x16 : Shape := ⟨4, ![8, 32, 8, 16]⟩
abbrev S8x16x1x8x64 : Shape := ⟨5, ![8, 16, 1, 8, 64]⟩
abbrev S8x16x8x64 : Shape := ⟨4, ![8, 16, 8, 64]⟩
abbrev S8x8x64x32 : Shape := ⟨4, ![8, 8, 64, 32]⟩

abbrev nBuf : Space → Nat
  | .hbm => 217
  | .vmem => 0
  | .smem => 0
  | _ => 0

abbrev hbmTy0_0 (i : Nat) : BufTy := match i % 128 with
  | 0 => ⟨S8x256x128, .f32⟩
  | 1 => ⟨S8x16x1024, .f32⟩
  | 2 => ⟨S8x16x1024, .f32⟩
  | 3 => ⟨S8x34x512, .f32⟩
  | 4 => ⟨S8x1x128, .f32⟩
  | 5 => ⟨S8x32x1024, .f32⟩
  | 6 => ⟨S8x16x2x8x64, .f32⟩
  | 7 => ⟨S8x1x512, .f32⟩
  | 8 => ⟨S8x512, .f32⟩
  | 9 => ⟨S8x1x512, .f32⟩
  | 10 => ⟨S8x1x8x64, .f32⟩
  | 11 => ⟨S8x1x512, .f32⟩
  | 12 => ⟨S8x512, .f32⟩
  | 13 => ⟨S8x1x512, .f32⟩
  | 14 => ⟨S8x1x8x64, .f32⟩
  | 15 => ⟨S8x32x8x8x16, .f32⟩
  | 16 => ⟨S8x32x2x8x64, .f32⟩
  | 17 => ⟨S8x32x1x8x64, .f32⟩
  | 18 => ⟨S8x32x8x64, .f32⟩
  | 19 => ⟨S8x32x1x8x64, .f32⟩
  | 20 => ⟨S8x32x8x64, .f32⟩
  | 21 => ⟨S8x32x1x8x16, .f32⟩
  | 22 => ⟨S8x32x8x16, .f32⟩
  | 23 => ⟨S8x16x1x8x64, .f32⟩
  | 24 => ⟨S8x16x8x64, .f32⟩
  | 25 => ⟨S8x8x64x32, .f32⟩
  | 26 => ⟨S8x32x8x64, .f32⟩
  | 27 => ⟨S8x32x1x8x16, .f32⟩
  | 28 => ⟨S8x32x8x16, .f32⟩
  | 29 => ⟨S8x16x1x8x64, .f32⟩
  | 30 => ⟨S8x16x8x64, .f32⟩
  | 31 => ⟨S8x8x64x32, .f32⟩
  | 32 => ⟨S8x32x8x64, .f32⟩
  | 33 => ⟨S8x32x8x64, .f32⟩
  | 34 => ⟨S8x32x8x64, .f32⟩
  | 35 => ⟨S8x32x8x64, .f32⟩
  | 36 => ⟨S8x32x8x64, .f32⟩
  | 37 => ⟨S8x32x8x64, .f32⟩
  | 38 => ⟨S8x32x8x64, .f32⟩
  | 39 => ⟨S8x32x8x64, .f32⟩
  | 40 => ⟨S8x32x8x64, .f32⟩
  | 41 => ⟨S8x32x8x64, .f32⟩
  | 42 => ⟨S8x32x8x64, .f32⟩
  | 43 => ⟨S8x32x8x64, .f32⟩
  | 44 => ⟨S8x32x8x64, .f32⟩
  | 45 => ⟨S8x32x1x8x16, .f32⟩
  | 46 => ⟨S8x32x8x16, .f32⟩
  | 47 => ⟨S8x16x1x8x64, .f32⟩
  | 48 => ⟨S8x16x8x64, .f32⟩
  | 49 => ⟨S8x8x64x32, .f32⟩
  | 50 => ⟨S8x32x8x64, .f32⟩
  | 51 => ⟨S8x32x1x8x16, .f32⟩
  | 52 => ⟨S8x32x8x16, .f32⟩
  | 53 => ⟨S8x16x1x8x64, .f32⟩
  | 54 => ⟨S8x16x8x64, .f32⟩
  | 55 => ⟨S8x8x64x32, .f32⟩
  | 56 => ⟨S8x32x8x64, .f32⟩
  | 57 => ⟨S8x32x8x64, .f32⟩
  | 58 => ⟨S8x32x8x64, .f32⟩
  | 59 => ⟨S8x32x8x64, .f32⟩
  | 60 => ⟨S8x32x8x64, .f32⟩
  | 61 => ⟨S8x32x8x64, .f32⟩
  | 62 => ⟨S8x32x8x64, .f32⟩
  | 63 => ⟨S8x32x8x64, .f32⟩
  | 64 => ⟨S8x32x8x64, .f32⟩
  | 65 => ⟨S8x32x8x64, .f32⟩
  | 66 => ⟨S8x32x8x64, .f32⟩
  | 67 => ⟨S8x32x8x64, .f32⟩
  | 68 => ⟨S8x32x8x64, .f32⟩
  | 69 => ⟨S8x32x1x8x16, .f32⟩
  | 70 => ⟨S8x32x8x16, .f32⟩
  | 71 => ⟨S8x16x1x8x64, .f32⟩
  | 72 => ⟨S8x16x8x64, .f32⟩
  | 73 => ⟨S8x8x64x32, .f32⟩
  | 74 => ⟨S8x32x8x64, .f32⟩
  | 75 => ⟨S8x32x1x8x16, .f32⟩
  | 76 => ⟨S8x32x8x16, .f32⟩
  | 77 => ⟨S8x16x1x8x64, .f32⟩
  | 78 => ⟨S8x16x8x64, .f32⟩
  | 79 => ⟨S8x8x64x32, .f32⟩
  | 80 => ⟨S8x32x8x64, .f32⟩
  | 81 => ⟨S8x32x8x64, .f32⟩
  | 82 => ⟨S8x32x8x64, .f32⟩
  | 83 => ⟨S8x32x8x64, .f32⟩
  | 84 => ⟨S8x32x8x64, .f32⟩
  | 85 => ⟨S8x32x8x64, .f32⟩
  | 86 => ⟨S8x32x8x64, .f32⟩
  | 87 => ⟨S8x32x8x64, .f32⟩
  | 88 => ⟨S8x32x8x64, .f32⟩
  | 89 => ⟨S8x32x8x64, .f32⟩
  | 90 => ⟨S8x32x8x64, .f32⟩
  | 91 => ⟨S8x32x8x64, .f32⟩
  | 92 => ⟨S8x32x8x64, .f32⟩
  | 93 => ⟨S8x32x1x8x16, .f32⟩
  | 94 => ⟨S8x32x8x16, .f32⟩
  | 95 => ⟨S8x16x1x8x64, .f32⟩
  | 96 => ⟨S8x16x8x64, .f32⟩
  | 97 => ⟨S8x8x64x32, .f32⟩
  | 98 => ⟨S8x32x8x64, .f32⟩
  | 99 => ⟨S8x32x1x8x16, .f32⟩
  | 100 => ⟨S8x32x8x16, .f32⟩
  | 101 => ⟨S8x16x1x8x64, .f32⟩
  | 102 => ⟨S8x16x8x64, .f32⟩
  | 103 => ⟨S8x8x64x32, .f32⟩
  | 104 => ⟨S8x32x8x64, .f32⟩
  | 105 => ⟨S8x32x8x64, .f32⟩
  | 106 => ⟨S8x32x8x64, .f32⟩
  | 107 => ⟨S8x32x8x64, .f32⟩
  | 108 => ⟨S8x32x8x64, .f32⟩
  | 109 => ⟨S8x32x8x64, .f32⟩
  | 110 => ⟨S8x32x8x64, .f32⟩
  | 111 => ⟨S8x32x8x64, .f32⟩
  | 112 => ⟨S8x32x8x64, .f32⟩
  | 113 => ⟨S8x32x8x64, .f32⟩
  | 114 => ⟨S8x32x8x64, .f32⟩
  | 115 => ⟨S8x32x8x64, .f32⟩
  | 116 => ⟨S8x32x8x64, .f32⟩
  | 117 => ⟨S8x32x1x8x16, .f32⟩
  | 118 => ⟨S8x32x8x16, .f32⟩
  | 119 => ⟨S8x16x1x8x64, .f32⟩
  | 120 => ⟨S8x16x8x64, .f32⟩
  | 121 => ⟨S8x8x64x32, .f32⟩
  | 122 => ⟨S8x32x8x64, .f32⟩
  | 123 => ⟨S8x32x1x8x16, .f32⟩
  | 124 => ⟨S8x32x8x16, .f32⟩
  | 125 => ⟨S8x16x1x8x64, .f32⟩
  | 126 => ⟨S8x16x8x64, .f32⟩
  | 127 => ⟨S8x8x64x32, .f32⟩
  | _ => ⟨S8x256x128, .f32⟩

abbrev hbmTy0_1 (i : Nat) : BufTy := match i % 128 with
  | 0 => ⟨S8x32x8x64, .f32⟩
  | 1 => ⟨S8x32x8x64, .f32⟩
  | 2 => ⟨S8x32x8x64, .f32⟩
  | 3 => ⟨S8x32x8x64, .f32⟩
  | 4 => ⟨S8x32x8x64, .f32⟩
  | 5 => ⟨S8x32x8x64, .f32⟩
  | 6 => ⟨S8x32x8x64, .f32⟩
  | 7 => ⟨S8x32x8x64, .f32⟩
  | 8 => ⟨S8x32x8x64, .f32⟩
  | 9 => ⟨S8x32x8x64, .f32⟩
  | 10 => ⟨S8x32x8x64, .f32⟩
  | 11 => ⟨S8x32x8x64, .f32⟩
  | 12 => ⟨S8x32x8x64, .f32⟩
  | 13 => ⟨S8x32x1x8x16, .f32⟩
  | 14 => ⟨S8x32x8x16, .f32⟩
  | 15 => ⟨S8x16x1x8x64, .f32⟩
  | 16 => ⟨S8x16x8x64, .f32⟩
  | 17 => ⟨S8x8x64x32, .f32⟩
  | 18 => ⟨S8x32x8x64, .f32⟩
  | 19 => ⟨S8x32x1x8x16, .f32⟩
  | 20 => ⟨S8x32x8x16, .f32⟩
  | 21 => ⟨S8x16x1x8x64, .f32⟩
  | 22 => ⟨S8x16x8x64, .f32⟩
  | 23 => ⟨S8x8x64x32, .f32⟩
  | 24 => ⟨S8x32x8x64, .f32⟩
  | 25 => ⟨S8x32x8x64, .f32⟩
  | 26 => ⟨S8x32x8x64, .f32⟩
  | 27 => ⟨S8x32x8x64, .f32⟩
  | 28 => ⟨S8x32x8x64, .f32⟩
  | 29 => ⟨S8x32x8x64, .f32⟩
  | 30 => ⟨S8x32x8x64, .f32⟩
  | 31 => ⟨S8x32x8x64, .f32⟩
  | 32 => ⟨S8x32x8x64, .f32⟩
  | 33 => ⟨S8x32x8x64, .f32⟩
  | 34 => ⟨S8x32x8x64, .f32⟩
  | 35 => ⟨S8x32x8x64, .f32⟩
  | 36 => ⟨S8x32x8x64, .f32⟩
  | 37 => ⟨S8x32x1x8x16, .f32⟩
  | 38 => ⟨S8x32x8x16, .f32⟩
  | 39 => ⟨S8x16x1x8x64, .f32⟩
  | 40 => ⟨S8x16x8x64, .f32⟩
  | 41 => ⟨S8x8x64x32, .f32⟩
  | 42 => ⟨S8x32x8x64, .f32⟩
  | 43 => ⟨S8x32x1x8x16, .f32⟩
  | 44 => ⟨S8x32x8x16, .f32⟩
  | 45 => ⟨S8x16x1x8x64, .f32⟩
  | 46 => ⟨S8x16x8x64, .f32⟩
  | 47 => ⟨S8x8x64x32, .f32⟩
  | 48 => ⟨S8x32x8x64, .f32⟩
  | 49 => ⟨S8x32x8x64, .f32⟩
  | 50 => ⟨S8x32x8x64, .f32⟩
  | 51 => ⟨S8x32x8x64, .f32⟩
  | 52 => ⟨S8x32x8x64, .f32⟩
  | 53 => ⟨S8x32x8x64, .f32⟩
  | 54 => ⟨S8x32x8x64, .f32⟩
  | 55 => ⟨S8x32x8x64, .f32⟩
  | 56 => ⟨S8x32x8x64, .f32⟩
  | 57 => ⟨S8x32x8x64, .f32⟩
  | 58 => ⟨S8x32x8x64, .f32⟩
  | 59 => ⟨S8x32x8x64, .f32⟩
  | 60 => ⟨S8x32x8x64, .f32⟩
  | 61 => ⟨S8x32x1x8x16, .f32⟩
  | 62 => ⟨S8x32x8x16, .f32⟩
  | 63 => ⟨S8x16x1x8x64, .f32⟩
  | 64 => ⟨S8x16x8x64, .f32⟩
  | 65 => ⟨S8x8x64x32, .f32⟩
  | 66 => ⟨S8x32x8x64, .f32⟩
  | 67 => ⟨S8x32x1x8x16, .f32⟩
  | 68 => ⟨S8x32x8x16, .f32⟩
  | 69 => ⟨S8x16x1x8x64, .f32⟩
  | 70 => ⟨S8x16x8x64, .f32⟩
  | 71 => ⟨S8x8x64x32, .f32⟩
  | 72 => ⟨S8x32x8x64, .f32⟩
  | 73 => ⟨S8x32x8x64, .f32⟩
  | 74 => ⟨S8x32x8x64, .f32⟩
  | 75 => ⟨S8x32x8x64, .f32⟩
  | 76 => ⟨S8x32x8x64, .f32⟩
  | 77 => ⟨S8x32x8x64, .f32⟩
  | 78 => ⟨S8x32x8x64, .f32⟩
  | 79 => ⟨S8x32x8x64, .f32⟩
  | 80 => ⟨S8x32x8x64, .f32⟩
  | 81 => ⟨S8x32x8x64, .f32⟩
  | 82 => ⟨S8x32x8x64, .f32⟩
  | 83 => ⟨S8x32x8x64, .f32⟩
  | 84 => ⟨S8x32x8x64, .f32⟩
  | 85 => ⟨S8x32x1x8x64, .f32⟩
  | 86 => ⟨S8x32x1x8x64, .f32⟩
  | 87 => ⟨S8x32x2x8x64, .f32⟩
  | 88 => ⟨S8x32x1024, .f32⟩
  | _ => ⟨S8x256x128, .f32⟩

abbrev hbmTy (i : Nat) : BufTy := match i / 128 with
  | 0 => hbmTy0_0 i
  | 1 => hbmTy0_1 i
  | _ => ⟨S8x256x128, .f32⟩

abbrev bufTy : (tb : Table) → Fin (tcTables nBuf tb) → BufTy
  | .hbm, ⟨i, _⟩ => hbmTy i
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩

abbrev nD : Nat := 1
abbrev τ : Topo := Topo.v7x

variable {F : FTy → Type} [FloatOps F]
-- ==== Proof.FinalRun.lean ====
/- The run of Kernel2Ideal's one pipelined call with every result named: what each staging buffer holds after the
   body as a function of the input blocks, the body's triple in its two cases (the grid's first point, which also
   stores the sample stream, and the other points), the proof data, the launch, and the frame. -/
module

public import proofs.«01_k».proof.Proof.Gen.Kernel2Ideal.Skeleton
public import proofs.«01_k».proof.Proof.Gen.Kernel2Ideal.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores -/

abbrev r0 : Rect S512x1024 := Rect.unit (s := S512x1024) ![0, 0] S512x1024.size inb_S512x1024_S512x1024_0_0
abbrev r1 : Rect S8x512x128 := Rect.unit (s := S8x512x128) ![0, 0, 0] S1x512x128.size inb_S8x512x128_S1x512x128_0_0_0
abbrev r2 : Rect S8x512x128 := Rect.unit (s := S8x512x128) ![1, 0, 0] S1x512x128.size inb_S8x512x128_S1x512x128_1_0_0
abbrev r3 : Rect S8x512x128 := Rect.unit (s := S8x512x128) ![2, 0, 0] S1x512x128.size inb_S8x512x128_S1x512x128_2_0_0
abbrev r4 : Rect S8x512x128 := Rect.unit (s := S8x512x128) ![3, 0, 0] S1x512x128.size inb_S8x512x128_S1x512x128_3_0_0
abbrev r5 : Rect S8x512x128 := Rect.unit (s := S8x512x128) ![4, 0, 0] S1x512x128.size inb_S8x512x128_S1x512x128_4_0_0
abbrev r6 : Rect S8x512x128 := Rect.unit (s := S8x512x128) ![5, 0, 0] S1x512x128.size inb_S8x512x128_S1x512x128_5_0_0
abbrev r7 : Rect S8x512x128 := Rect.unit (s := S8x512x128) ![6, 0, 0] S1x512x128.size inb_S8x512x128_S1x512x128_6_0_0
abbrev r8 : Rect S8x512x128 := Rect.unit (s := S8x512x128) ![7, 0, 0] S1x512x128.size inb_S8x512x128_S1x512x128_7_0_0
abbrev r9 : Rect S1x1024x1024 := Rect.unit (s := S1x1024x1024) ![0, 0, 0] S1x1024x1024.size inb_S1x1024x1024_S1x1024x1024_0_0_0
abbrev r10 : Rect S1x1x1024 := Rect.unit (s := S1x1x1024) ![0, 0, 0] S1x1x1024.size inb_S1x1x1024_S1x1x1024_0_0_0
abbrev r11 : Rect S1x1x1x1024 := Rect.unit (s := S1x1x1x1024) ![0, 0, 0, 0] S1x1x1x1024.size inb_S1x1x1x1024_S1x1x1x1024_0_0_0_0
abbrev r12 : Rect S1024x2816 := Rect.unit (s := S1024x2816) ![0, 0] S1024x1536.size inb_S1024x2816_S1024x1536_0_0
abbrev r13 : Rect S2816x1024 := Rect.unit (s := S2816x1024) ![0, 0] S1536x1024.size inb_S2816x1024_S1536x1024_0_0
abbrev r14 : Rect S1024x2816 := Rect.unit (s := S1024x2816) ![0, 1536] S1024x1280.size inb_S1024x2816_S1024x1280_0_1536
abbrev r15 : Rect S2816x1024 := Rect.unit (s := S2816x1024) ![1536, 0] S1280x1024.size inb_S2816x1024_S1280x1024_1536_0
abbrev r16 : Rect S1x1024 := Rect.unit (s := S1x1024) ![0, 0] S1x1024.size inb_S1x1024_S1x1024_0_0
abbrev r17 : Rect S256x1024 := Rect.unit (s := S256x1024) ![0, 0] S256x1024.size inb_S256x1024_S256x1024_0_0
abbrev r18 : Rect S8x256x128 := Rect.unit (s := S8x256x128) ![0, 0, 0] S1x256x128.size inb_S8x256x128_S1x256x128_0_0_0
abbrev r19 : Rect S8x256x128 := Rect.unit (s := S8x256x128) ![1, 0, 0] S1x256x128.size inb_S8x256x128_S1x256x128_1_0_0
abbrev r20 : Rect S8x256x128 := Rect.unit (s := S8x256x128) ![2, 0, 0] S1x256x128.size inb_S8x256x128_S1x256x128_2_0_0
abbrev r21 : Rect S8x256x128 := Rect.unit (s := S8x256x128) ![3, 0, 0] S1x256x128.size inb_S8x256x128_S1x256x128_3_0_0
abbrev r22 : Rect S8x256x128 := Rect.unit (s := S8x256x128) ![4, 0, 0] S1x256x128.size inb_S8x256x128_S1x256x128_4_0_0
abbrev r23 : Rect S8x256x128 := Rect.unit (s := S8x256x128) ![5, 0, 0] S1x256x128.size inb_S8x256x128_S1x256x128_5_0_0
abbrev r24 : Rect S8x256x128 := Rect.unit (s := S8x256x128) ![6, 0, 0] S1x256x128.size inb_S8x256x128_S1x256x128_6_0_0
abbrev r25 : Rect S8x256x128 := Rect.unit (s := S8x256x128) ![7, 0, 0] S1x256x128.size inb_S8x256x128_S1x256x128_7_0_0

/-! ## The values the body binds, from the input blocks -/

def v17 (x2 : Vec F S8x512x128 .f32) : FVec F S512x1024 .f32 :=
  k0_pay9 (View.ld x2 r1) (View.ld x2 r2) (View.ld x2 r3) (View.ld x2 r4) (View.ld x2 r5) (View.ld x2 r6) (View.ld x2 r7) (View.ld x2 r8)
def v27 (x2 : Vec F S8x512x128 .f32) : FVec F S512x1024 .f32 :=
  k0_pay10 (View.ld x2 r1) (View.ld x2 r2) (View.ld x2 r3) (View.ld x2 r4) (View.ld x2 r5) (View.ld x2 r6) (View.ld x2 r7) (View.ld x2 r8)
def v28  : FVec F S512x1024 .f32 :=
  k0_pay11 (F := F)
def v45 (x0 : Vec F S512x1024 .f32) (x2 : Vec F S8x512x128 .f32) (x4 : Vec F S1x1024x1024 .bf16) (x5 : Vec F S1x1x1024 .f32) (x6 : Vec F S1x1024x1024 .bf16) : FVec F S512x1024 .f32 :=
  k0_pay12 (View.ld x0 r0) (v17 x2) (v27 x2) v28 (View.ld x4 r9) (View.ld x5 r10) (View.ld x6 r9)
def v60 (x0 : Vec F S512x1024 .f32) (x2 : Vec F S8x512x128 .f32) (x4 : Vec F S1x1024x1024 .bf16) (x5 : Vec F S1x1x1024 .f32) (x6 : Vec F S1x1024x1024 .bf16) (x7 : Vec F S1x1x1x1024 .f32) : FVec F S512x1024 .bf16 :=
  k0_pay13 (View.ld x0 r0) (v17 x2) (v27 x2) v28 (View.ld x4 r9) (View.ld x5 r10) (View.ld x6 r9) (View.ld x7 r11)
def v62 (x0 : Vec F S512x1024 .f32) (x2 : Vec F S8x512x128 .f32) (x4 : Vec F S1x1024x1024 .bf16) (x5 : Vec F S1x1x1024 .f32) (x6 : Vec F S1x1024x1024 .bf16) (x7 : Vec F S1x1x1x1024 .f32) (x8 : Vec F S1024x2816 .bf16) : FVec F S512x1536 .f32 :=
  k0_pay14 (View.ld x0 r0) (v17 x2) (v27 x2) v28 (View.ld x4 r9) (View.ld x5 r10) (View.ld x6 r9) (View.ld x7 r11) (View.ld x8 r12)
def v64 (x0 : Vec F S512x1024 .f32) (x2 : Vec F S8x512x128 .f32) (x4 : Vec F S1x1024x1024 .bf16) (x5 : Vec F S1x1x1024 .f32) (x6 : Vec F S1x1024x1024 .bf16) (x7 : Vec F S1x1x1x1024 .f32) (x9 : Vec F S1024x2816 .bf16) : FVec F S512x1536 .f32 :=
  k0_pay15 (View.ld x0 r0) (v17 x2) (v27 x2) v28 (View.ld x4 r9) (View.ld x5 r10) (View.ld x6 r9) (View.ld x7 r11) (View.ld x9 r12)
def v119 (x3 : Vec F S8x256x128 .f32) : FVec F S256x1024 .f32 :=
  k0_pay2 (View.ld x3 r18) (View.ld x3 r19) (View.ld x3 r20) (View.ld x3 r21) (View.ld x3 r22) (View.ld x3 r23) (View.ld x3 r24) (View.ld x3 r25)
def v131 (x3 : Vec F S8x256x128 .f32) : FVec F S256x1024 .f32 :=
  k0_pay3 (View.ld x3 r18) (View.ld x3 r19) (View.ld x3 r20) (View.ld x3 r21) (View.ld x3 r22) (View.ld x3 r23) (View.ld x3 r24) (View.ld x3 r25)
def v147 (x1 : Vec F S256x1024 .f32) (x3 : Vec F S8x256x128 .f32) (x4 : Vec F S1x1024x1024 .bf16) (x5 : Vec F S1x1x1024 .f32) (x6 : Vec F S1x1024x1024 .bf16) : FVec F S256x1024 .f32 :=
  k0_pay4 (View.ld x1 r17) (v119 x3) (v131 x3) (View.ld x4 r9) (View.ld x5 r10) (View.ld x6 r9)
def v162 (x1 : Vec F S256x1024 .f32) (x3 : Vec F S8x256x128 .f32) (x4 : Vec F S1x1024x1024 .bf16) (x5 : Vec F S1x1x1024 .f32) (x6 : Vec F S1x1024x1024 .bf16) (x7 : Vec F S1x1x1x1024 .f32) : FVec F S256x1024 .bf16 :=
  k0_pay5 (View.ld x1 r17) (v119 x3) (v131 x3) (View.ld x4 r9) (View.ld x5 r10) (View.ld x6 r9) (View.ld x7 r11)
def v164 (x1 : Vec F S256x1024 .f32) (x3 : Vec F S8x256x128 .f32) (x4 : Vec F S1x1024x1024 .bf16) (x5 : Vec F S1x1x1024 .f32) (x6 : Vec F S1x1024x1024 .bf16) (x7 : Vec F S1x1x1x1024 .f32) (x8 : Vec F S1024x2816 .bf16) : FVec F S256x1536 .f32 :=
  k0_pay6 (View.ld x1 r17) (v119 x3) (v131 x3) (View.ld x4 r9) (View.ld x5 r10) (View.ld x6 r9) (View.ld x7 r11) (View.ld x8 r12)
def v166 (x1 : Vec F S256x1024 .f32) (x3 : Vec F S8x256x128 .f32) (x4 : Vec F S1x1024x1024 .bf16) (x5 : Vec F S1x1x1024 .f32) (x6 : Vec F S1x1024x1024 .bf16) (x7 : Vec F S1x1x1x1024 .f32) (x9 : Vec F S1024x2816 .bf16) : FVec F S256x1536 .f32 :=
  k0_pay7 (View.ld x1 r17) (v119 x3) (v131 x3) (View.ld x4 r9) (View.ld x5 r10) (View.ld x6 r9) (View.ld x7 r11) (View.ld x9 r12)
def v167 (x1 : Vec F S256x1024 .f32) (x3 : Vec F S8x256x128 .f32) (x4 : Vec F S1x1024x1024 .bf16) (x5 : Vec F S1x1x1024 .f32) (x6 : Vec F S1x1024x1024 .bf16) (x7 : Vec F S1x1x1x1024 .f32) (x8 : Vec F S1024x2816 .bf16) : FVec F S256x1536 .f32 :=
  k0_pay8 (View.ld x1 r17) (v119 x3) (v131 x3) (View.ld x4 r9) (View.ld x5 r10) (View.ld x6 r9) (View.ld x7 r11) (View.ld x8 r12)

/-- What output window 12's buffer holds after the body: its stores over the input blocks, last first. -/
def out12 (x0 : Vec F S512x1024 .f32) (x2 : Vec F S8x512x128 .f32) (x4 : Vec F S1x1024x1024 .bf16) (x5 : Vec F S1x1x1024 .f32) (x6 : Vec F S1x1024x1024 .bf16) (x7 : Vec F S1x1x1x1024 .f32) (x8 : Vec F S1024x2816 .bf16) (x9 : Vec F S1024x2816 .bf16) (x10 : Vec F S2816x1024 .bf16) (x11 : Vec F S1x1024 .f32) : Vec F S512x1024 .f32 :=
  View.canon [⟨r0, k0_pay16 (v45 x0 x2 x4 x5 x6) (v60 x0 x2 x4 x5 x6 x7) (v62 x0 x2 x4 x5 x6 x7 x8) (v64 x0 x2 x4 x5 x6 x7 x9) (View.ld x10 r13) (View.ld x8 r14) (View.ld x9 r14) (View.ld x10 r15) (View.ld x11 r16)⟩]

/-- Those stores cover the buffer. -/
theorem cover12 (p0 : Vec F S512x1024 .f32) (y : S512x1024.Idx) :
    ∃ pc ∈ ([⟨r0, p0⟩] : List (View.Piece (Elt F) S512x1024 .f32)), y ∈ pc.1.set :=
  View.cover_of_tiled [⟨r0, p0⟩] S512x1024.size (by rfl) y

/-- What output window 13's buffer holds after the body: its stores over the input blocks, last first. -/
def out13 (x1 : Vec F S256x1024 .f32) (x3 : Vec F S8x256x128 .f32) (x4 : Vec F S1x1024x1024 .bf16) (x5 : Vec F S1x1x1024 .f32) (x6 : Vec F S1x1024x1024 .bf16) (x7 : Vec F S1x1x1x1024 .f32) (x8 : Vec F S1024x2816 .bf16) (x9 : Vec F S1024x2816 .bf16) (x10 : Vec F S2816x1024 .bf16) (x11 : Vec F S1x1024 .f32) : Vec F S256x1024 .f32 :=
  View.canon [⟨r17, k0_pay1 (v147 x1 x3 x4 x5 x6) (v162 x1 x3 x4 x5 x6 x7) (v164 x1 x3 x4 x5 x6 x7 x8) (v166 x1 x3 x4 x5 x6 x7 x9) (v167 x1 x3 x4 x5 x6 x7 x8) (View.ld x10 r13) (View.ld x8 r14) (View.ld x9 r14) (View.ld x10 r15) (View.ld x11 r16)⟩]

/-- Those stores cover the buffer. -/
theorem cover13 (p0 : Vec F S256x1024 .f32) (y : S256x1024.Idx) :
    ∃ pc ∈ ([⟨r17, p0⟩] : List (View.Piece (Elt F) S256x1024 .f32)), y ∈ pc.1.set :=
  View.cover_of_tiled [⟨r17, p0⟩] S256x1024.size (by rfl) y

/-! ## The one condition of the body -/

/-- The body's condition on the grid point: it is the first point. -/
abbrev cond (i : grid0.Coords) : Prop := k0_cond1 i = 1#1

theorem hcond (t : Fin cfg0.N) : cond (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond, k0_cond1, e0]
    word_cmp
   : ∀ t : Fin grid0.N, cond (grid0.coords t) ↔ t.val % 32 = 0) t

/-! ## The body's triples -/

set_option maxHeartbeats 1000000 in
/-- The body's triple at the first grid point: the inputs' buffers are kept, each output's buffer it stores ends at `outK` of the
    input blocks. -/
theorem sound_A (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S8x512x128 .f32) (harg3 : arg3.IsWhole) (arg4 : Memref sig .tc .vmem S8x256x128 .f32) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1x1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S256x1024 .f32) (harg14 : arg14.IsWhole) (hc : cond i)
    (x0 : Vec F S512x1024 .f32) (x1 : Vec F S256x1024 .f32) (x2 : Vec F S8x512x128 .f32) (x3 : Vec F S8x256x128 .f32) (x4 : Vec F S1x1024x1024 .bf16) (x5 : Vec F S1x1x1024 .f32) (x6 : Vec F S1x1024x1024 .bf16) (x7 : Vec F S1x1x1x1024 .f32) (x8 : Vec F S1024x2816 .bf16) (x9 : Vec F S1024x2816 .bf16) (x10 : Vec F S2816x1024 .bf16) (x11 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x2 x4 x5 x6 x7 x8 x9 x10 x11) ∗ owns (c : Thread nD τ) arg14 fullShare (out13 x1 x3 x4 x5 x6 x7 x8 x9 x10 x11)) -∗ K ⟨⟩))
      ⊢ wp frame (wpE (defs₀ (F := F)) Variants.none c none) E (cc0_stage_ssm_ffn_final i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_stage_ssm_ffn_final_eq_skeleton]; unfold cc0_stage_ssm_ffn_final_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover12 _)).trans ?_
    rfl
  iexists _; isplitr
  swap; · iexact H13
  ipureintro
  refine (View.read_writes_eq_canon _ _ _ (cover13 _)).trans ?_
  rfl

set_option maxHeartbeats 1000000 in
/-- The body's triple at a later grid point: the inputs' buffers are kept, each output's buffer it stores ends at `outK` of the
    input blocks. -/
theorem sound_B (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S8x512x128 .f32) (harg3 : arg3.IsWhole) (arg4 : Memref sig .tc .vmem S8x256x128 .f32) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x1x1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S256x1024 .f32) (harg14 : arg14.IsWhole) (hc : ¬cond i)
    (x0 : Vec F S512x1024 .f32) (x1 : Vec F S256x1024 .f32) (x2 : Vec F S8x512x128 .f32) (x3 : Vec F S8x256x128 .f32) (x4 : Vec F S1x1024x1024 .bf16) (x5 : Vec F S1x1x1024 .f32) (x6 : Vec F S1x1024x1024 .bf16) (x7 : Vec F S1x1x1x1024 .f32) (x8 : Vec F S1024x2816 .bf16) (x9 : Vec F S1024x2816 .bf16) (x10 : Vec F S2816x1024 .bf16) (x11 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x2 x4 x5 x6 x7 x8 x9 x10 x11)) -∗ K ⟨⟩))
      ⊢ wp frame (wpE (defs₀ (F := F)) Variants.none c none) E (cc0_stage_ssm_ffn_final i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_stage_ssm_ffn_final_eq_skeleton]; unfold cc0_stage_ssm_ffn_final_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (cover12 _)).trans ?_
  rfl

/-! ## The proof data -/

/-- The first grid point. -/
def t0 : Fin cfg0.N := ⟨0, by rw [show cfg0.N = 32 from N_0]; decide⟩

/-- The proof data on core `c`: each input's buffer keeps its block, each output's holds `outK` of the blocks of the
    point (of the first point, for an output stored at the first point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 2 t) (iblk m c 4 t) (iblk m c 5 t) (iblk m c 6 t) (iblk m c 7 t) (iblk m c 8 t) (iblk m c 9 t) (iblk m c 10 t) (iblk m c 11 t)
    | ⟨13, _⟩ => out13 (iblk m c 1 t0) (iblk m c 3 t0) (iblk m c 4 t0) (iblk m c 5 t0) (iblk m c 6 t0) (iblk m c 7 t0) (iblk m c 8 t0) (iblk m c 9 t0) (iblk m c 10 t0) (iblk m c 11 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out12 (iblk m c 0 t) (iblk m c 2 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = out13 (iblk m c 1 t0) (iblk m c 3 t0) (iblk m c 4 t0) (iblk m c 5 t0) (iblk m c 6 t0) (iblk m c 7 t0) (iblk m c 8 t0) (iblk m c 9 t0) (iblk m c 10 t0) (iblk m c 11 t0) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-- Output window 13 is idle exactly at the points after the first. -/
theorem idle13 (t : Fin cfg0.N) (h : ¬ t.val % 32 = 0) : cfg0.idle 13 (grid0.coords t) = true := by
  show (!(k0_cond1 (grid0.coords t) == 1#1)) = true
  rw [beq_false_of_ne (fun h' => h ((hcond t).mp h'))]; rfl
theorem live13 (t : Fin cfg0.N) (h : t.val % 32 = 0) : cfg0.idle 13 (grid0.coords t) = false := by
  show (!(k0_cond1 (grid0.coords t) == 1#1)) = false
  rw [show k0_cond1 (grid0.coords t) = 1#1 from (hcond t).mpr h]; rfl

/-- After the first point its buffer is never fresh: the first point stored it and no point before the last
    writes it back. -/
theorem fresh13 : ∀ n : ℕ, 0 < n → n < 32 → cfg0.fresh 13 n = false
  | 0, h, _ => absurd h (lt_irrefl 0)
  | n + 1, _, h => by
    have hN : n < cfg0.N := by rw [show cfg0.N = 32 from N_0]; omega
    have hf : (cfg0.win 13).flush ⟨n, hN⟩ = false := by
      have := flush0_13 ⟨n, hN⟩
      have h2 : ¬ (n % 32 = 31) := by omega
      cases hb : (cfg0.win 13).flush ⟨n, hN⟩ with
      | false => rfl
      | true => exact absurd (this.mp hb) h2
    rw [cfg0.fresh_succ 13 n hN, hf]
    by_cases h0 : n = 0
    · subst h0
      have := live13 ⟨0, hN⟩ rfl
      rw [show cfg0.idle 13 (cfg0.grid.coords ⟨0, hN⟩) = false from this]; rfl
    · rw [fresh13 n (by omega) (by omega), Bool.and_false, Bool.or_false]

/-- So at a later point its buffer holds what the first point stored. -/
theorem before13 (c : Dev nD) (t : Fin cfg0.N) (h : ¬ t.val % 32 = 0) (d) : (dats m 0 c).before 13 t d = out13 (iblk m c 1 t0) (iblk m c 3 t0) (iblk m c 4 t0) (iblk m c 5 t0) (iblk m c 6 t0) (iblk m c 7 t0) (iblk m c 8 t0) (iblk m c 9 t0) (iblk m c 10 t0) (iblk m c 11 t0) := by
  have hN : t.val < 32 := lt_of_lt_of_eq t.isLt (show cfg0.N = 32 from N_0)
  rw [(dats m 0 c).before_out_traj 13 rfl (fun _ _ => rfl) (fun t _ _ _ => by rw [after13, after13]) t.val t rfl d,
    fresh13 t.val (by omega) hN, if_neg Bool.false_ne_true, after13]

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl

/-! ## The body obligation -/

abbrev ms0 (t : Fin cfg0.N) : Memref sig .tc .vmem S512x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S8x512x128 .f32 := win0_2.stage (cfg0.slots t 2)
abbrev ms3 (t : Fin cfg0.N) : Memref sig .tc .vmem S8x256x128 .f32 := win0_3.stage (cfg0.slots t 3)
abbrev ms4 (t : Fin cfg0.N) : Memref sig .tc .vmem S1x1024x1024 .bf16 := win0_4.stage (cfg0.slots t 4)
abbrev ms5 (t : Fin cfg0.N) : Memref sig .tc .vmem S1x1x1024 .f32 := win0_5.stage (cfg0.slots t 5)
abbrev ms6 (t : Fin cfg0.N) : Memref sig .tc .vmem S1x1024x1024 .bf16 := win0_6.stage (cfg0.slots t 6)
abbrev ms7 (t : Fin cfg0.N) : Memref sig .tc .vmem S1x1x1x1024 .f32 := win0_7.stage (cfg0.slots t 7)
abbrev ms8 (t : Fin cfg0.N) : Memref sig .tc .vmem S1024x2816 .bf16 := win0_8.stage (cfg0.slots t 8)
abbrev ms9 (t : Fin cfg0.N) : Memref sig .tc .vmem S1024x2816 .bf16 := win0_9.stage (cfg0.slots t 9)
abbrev ms10 (t : Fin cfg0.N) : Memref sig .tc .vmem S2816x1024 .bf16 := win0_10.stage (cfg0.slots t 10)
abbrev ms11 (t : Fin cfg0.N) : Memref sig .tc .vmem S1x1024 .f32 := win0_11.stage (cfg0.slots t 11)
abbrev ms12 (t : Fin cfg0.N) : Memref sig .tc .vmem S512x1024 .f32 := win0_12.stage (cfg0.slots t 12)
abbrev ms13 (t : Fin cfg0.N) : Memref sig .tc .vmem S256x1024 .f32 := win0_13.stage (cfg0.slots t 13)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2000000 in
/-- The body at any point: at the first the run of case A, at a later one that of case B, where a buffer stored at the
    first point only is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  by_cases h0 : t.val % 32 = 0
  · have ht : t = t0 := Fin.ext (by show t.val = 0; omega)
    rw [show (dats m 0 c).leavesExact 13 t = owns (c : Thread nD τ) (ms13 t) fullShare ((dats m 0 c).after 13 t) from by
      unfold Dat.leavesExact; rw [live13 t h0], after13, ← ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_A c Set.univ (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have hl13 : ∀ d, owns (c : Thread nD τ) (ms13 t) fullShare ((dats m 0 c).before 13 t d) ⊢ (dats m 0 c).leavesExact 13 t := fun d => by
      cases hf : (cfg0.win 13).flush t with
      | false =>
        rw [(dats m 0 c).leavesExact_idle 13 t (idle13 t h0) hf]
        iintro H
        iexists d; iexact H
      | true =>
        rw [show (dats m 0 c).leavesExact 13 t = owns (c : Thread nD τ) (ms13 t) fullShare ((dats m 0 c).after 13 t) from by
          unfold Dat.leavesExact; rw [idle13 t h0, hf], after13, before13 m c t h0 d]

    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_B c Set.univ (grid0.coords t) _ _ _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iapply hl13 d13; iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The launch: every array at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: every argument unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

/-! ## The results after the run -/

/-- The run with each result named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 12 cfg0.N
      ∧ r.2.mem ((c.tc : Thread nD τ).loc main_v0_1) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1 12,
      (h c).1 13,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 7).trans (((dats m 0 c).arrAt_in 7 rfl _).trans ((A_eq m c 7).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩) (run_main m ρ)

end Cert.Kernel2Ideal.Run

end
-- ==== Proof.Layer.lean ====
/- The mathematics of one row of the layer, over the extended reals: root-mean-square normalisation, the gated
   feed-forward step, and the gated output projection that follows the state-space scan. Every row of the kernels'
   results and of the references' results is one of these functions of the same row of the arguments. -/
module

public import Idealize.ShloMosaic.Lib.Pointwise

@[expose] public section

noncomputable section

namespace Cert.Layer

open Idealize.ShloMosaic

/-- A row of the model's width. -/
abbrev Row := Fin 1024 → EReal

/-- A weight matrix as a function of its two positions. -/
abbrev mat {n d : Nat} (x : Vec Ideal (⟨2, ![n, d]⟩ : Shape) .bf16) (k : Fin n) (l : Fin d) : EReal := x (ix2 k l)

/-- Root-mean-square normalisation of a row `x` with gains `g`. -/
def rms (x g : Row) (j : Fin 1024) : EReal :=
  x j * Ideal.rsqrt (Ideal.div (∑ k, x k * x k) (Ideal.ofBits FTy.f32 1149239296#32) + Ideal.ofBits FTy.f32 897988541#32) * g j

/-- A row times a matrix. -/
def rowMul {n d : Nat} (x : Fin n → EReal) (w : Fin n → Fin d → EReal) (j : Fin d) : EReal := ∑ k, x k * w k j

/-- The feed-forward step's hidden row: `silu` of the gate times the other projection. -/
def hidden (x : Row) (wg wu : Fin 1024 → Fin 2816 → EReal) (k : Fin 2816) : EReal :=
  rowMul x wg k * Ideal.logistic (rowMul x wg k) * rowMul x wu k

/-- The row `h` plus half of its feed-forward step. -/
def ffn (h g : Row) (wg wu : Fin 1024 → Fin 2816 → EReal) (wd : Fin 2816 → Fin 1024 → EReal) (j : Fin 1024) : EReal :=
  h j + Ideal.ofBits FTy.f32 1056964608#32 * rowMul (hidden (rms h g) wg wu) wd j

/-- The tanh form of the Gaussian error linear unit. -/
def gelu (y : EReal) : EReal :=
  y * (Ideal.ofBits FTy.f32 1056964608#32 *
    (1 + Ideal.tanh (Ideal.ofBits FTy.f32 1061962282#32 * (y + Ideal.ofBits FTy.f32 1027024659#32 * (y * (y * y))))))

/-- The row `x` plus the output projection of the gated row `gelu y`. -/
def mixOut (x y b : Row) (wg wo : Fin 1024 → Fin 1024 → EReal) (j : Fin 1024) : EReal :=
  x j + rowMul (fun k => gelu (y k) * Ideal.logistic (rowMul (fun l => gelu (y l)) wg k + b k)) wo j

/-- A sum over the feed-forward width is the sum over its first 1536 positions plus the sum over the other 1280. -/
theorem sum_chunks (f : Fin 2816 → EReal) :
    ∑ k, f k = (∑ x : Fin 1536, f ⟨x.val, by omega⟩) + ∑ x : Fin 1280, f ⟨1536 + x.val, by omega⟩ :=
  Fin.sum_univ_add (a := 1536) (b := 1280) f

/-- A row of keys followed by values: 256 positions of the projected row `q` from `a`, then 256 from `b`. -/
def joined (a b : Nat) (ha : a + 256 ≤ 2304) (hb : b + 256 ≤ 2304) (q : Fin 2304 → EReal) (d : Fin 512) : EReal :=
  if h : d.val < 256 then q ⟨a + d.val, by omega⟩ else q ⟨b + (d.val - 256), by omega⟩

/-- A window moved on by eight positions: what it held from position eight on, then the eight new elements. -/
def shifted {n : Nat} (old : Fin n → EReal) (new : Fin 8 → EReal) (j : Fin n) : EReal :=
  if h : 8 + j.val < n then old ⟨8 + j.val, h⟩ else new ⟨8 + j.val - n, by omega⟩

end Cert.Layer

end
-- ==== Proof.FinalRows.lean ====
/- One row of each result of the final stage's body, read off its operations: it is the layer's row function of the same
   row of the blocks it loads. -/
module

public import proofs.«01_k».proof.Proof.FinalRun
public import proofs.«01_k».proof.Proof.Layer

@[expose] public section

set_option maxRecDepth 16384

noncomputable section

namespace Cert.Kernel2Ideal.Rows

open Cert.Kernel2Ideal Cert.Kernel2Ideal.Gen Cert.Layer Idealize.ShloMosaic

/-! ## Blocks of 512 rows -/

/-- Element `j` of row `r` of eight column slabs side by side. -/
def slab512 (x : Vec Ideal S8x512x128 .f32) (r : Fin 512) (j : Fin 1024) : EReal :=
  x (ix3 ⟨j.val / 128, by omega⟩ r ⟨j.val % 128, by omega⟩)

/-- The joined slabs, at an index. -/
theorem joined512 (x : Vec Ideal S8x512x128 .f32) (r : Fin 512) (j : Fin 1024) : Run.v17 x (ix2 r j) = slab512 x r j := by
  unfold Run.v17
  pointwise [k0_pay9]
  unfold slab512
  have hj := j.isLt
  split_ifs <;> (refine congrArg x ?_; refine congrArg₂ (fun a b => ix3 a r b) (Fin.ext ?_) (Fin.ext ?_) <;> simp <;> omega)

/-- The activation of the joined slabs, at an index. -/
theorem act512 (x : Vec Ideal S8x512x128 .f32) (r : Fin 512) (j : Fin 1024) :
    Run.v17 x (ix2 r j) * (Run.v28 (ix2 r j) * Run.v27 x (ix2 r j)) = gelu (slab512 x r j) := by
  have h := joined512 x r j
  unfold Run.v17 at h
  unfold Run.v17 Run.v27 Run.v28
  pointwise [k0_pay10, k0_pay11]
  rw [h]
  rfl

/-- The row after the gated output projection. -/
theorem mixed512 (x0 : Vec Ideal S512x1024 .f32) (x2 : Vec Ideal S8x512x128 .f32) (x4 : Vec Ideal S1x1024x1024 .bf16) (x5 : Vec Ideal S1x1x1024 .f32) (x6 : Vec Ideal S1x1024x1024 .bf16) (r : Fin 512) (j : Fin 1024) :
    Run.v45 x0 x2 x4 x5 x6 (ix2 r j) = mixOut (fun k => x0 (ix2 r k)) (slab512 x2 r) (fun k => x5 (ix3 0 0 k)) (fun k l => x4 (ix3 0 k l)) (fun k l => x6 (ix3 0 k l)) j := by
  unfold Run.v45
  pointwise [k0_pay12]
  simp only [act512]
  rfl

/-- The normalised row the feed-forward step multiplies. -/
theorem normed512 (x0 : Vec Ideal S512x1024 .f32) (x2 : Vec Ideal S8x512x128 .f32) (x4 : Vec Ideal S1x1024x1024 .bf16) (x5 : Vec Ideal S1x1x1024 .f32) (x6 : Vec Ideal S1x1024x1024 .bf16) (x7 : Vec Ideal S1x1x1x1024 .f32) (r : Fin 512) (j : Fin 1024) :
    Run.v60 x0 x2 x4 x5 x6 x7 (ix2 r j) = rms (fun k => Run.v45 x0 x2 x4 x5 x6 (ix2 r k)) (fun k => x7 (ix4 0 0 0 k)) j := by
  unfold Run.v60 Run.v45
  pointwise [k0_pay13]
  rfl

/-- The first 1536 positions of the gate. -/
theorem gate512 (x0 : Vec Ideal S512x1024 .f32) (x2 : Vec Ideal S8x512x128 .f32) (x4 : Vec Ideal S1x1024x1024 .bf16) (x5 : Vec Ideal S1x1x1024 .f32) (x6 : Vec Ideal S1x1024x1024 .bf16) (x7 : Vec Ideal S1x1x1x1024 .f32) (x8 : Vec Ideal S1024x2816 .bf16) (r : Fin 512) (k : Fin 1536) :
    Run.v62 x0 x2 x4 x5 x6 x7 x8 (ix2 r k) = rowMul (fun l => Run.v60 x0 x2 x4 x5 x6 x7 (ix2 r l)) (mat x8) ⟨k.val, by omega⟩ := by
  unfold Run.v62 Run.v60
  pointwise [k0_pay14]
  rfl

/-- The first 1536 positions of the other projection. -/
theorem up512 (x0 : Vec Ideal S512x1024 .f32) (x2 : Vec Ideal S8x512x128 .f32) (x4 : Vec Ideal S1x1024x1024 .bf16) (x5 : Vec Ideal S1x1x1024 .f32) (x6 : Vec Ideal S1x1024x1024 .bf16) (x7 : Vec Ideal S1x1x1x1024 .f32) (x9 : Vec Ideal S1024x2816 .bf16) (r : Fin 512) (k : Fin 1536) :
    Run.v64 x0 x2 x4 x5 x6 x7 x9 (ix2 r k) = rowMul (fun l => Run.v60 x0 x2 x4 x5 x6 x7 (ix2 r l)) (mat x9) ⟨k.val, by omega⟩ := by
  unfold Run.v64 Run.v60
  pointwise [k0_pay15]
  rfl

/-- The stored row, from the rows of the values it is built from. -/
theorem last512 (h : FVec Ideal S512x1024 .f32) (u : FVec Ideal S512x1024 .bf16) (p q : FVec Ideal S512x1536 .f32)
    (x8 x9 : Vec Ideal S1024x2816 .bf16) (x10 : Vec Ideal S2816x1024 .bf16) (x11 : Vec Ideal S1x1024 .f32) (a g : Row) (r : Fin 512)
    (hh : ∀ j, h (ix2 r j) = a j) (hu : ∀ j, u (ix2 r j) = rms a g j)
    (hp : ∀ k : Fin 1536, p (ix2 r k) = rowMul (rms a g) (mat x8) ⟨k.val, by omega⟩)
    (hq : ∀ k : Fin 1536, q (ix2 r k) = rowMul (rms a g) (mat x9) ⟨k.val, by omega⟩) (j : Fin 1024) :
    k0_pay16 h u p q (View.ld x10 Run.r13) (View.ld x8 Run.r14) (View.ld x9 Run.r14) (View.ld x10 Run.r15) (View.ld x11 Run.r16) (ix2 r j)
      = rms (ffn a g (mat x8) (mat x9) (mat x10)) (fun k => x11 (ix2 0 k)) j := by
  pointwise [k0_pay16]
  simp only [hh, hu, hp, hq]
  have key : ∀ j, ffn a g (mat x8) (mat x9) (mat x10) j = _ := fun j =>
    congrArg (fun s => a j + Ideal.ofBits FTy.f32 1056964608#32 * s)
      (sum_chunks fun k => hidden (rms a g) (mat x8) (mat x9) k * mat x10 k j)
  unfold rms
  simp only [key]
  rfl

/-- A row of the stored block is the layer's row function of the same row of the loaded blocks. -/
theorem row512 (x0 : Vec Ideal S512x1024 .f32) (x2 : Vec Ideal S8x512x128 .f32) (x4 : Vec Ideal S1x1024x1024 .bf16) (x5 : Vec Ideal S1x1x1024 .f32) (x6 : Vec Ideal S1x1024x1024 .bf16) (x7 : Vec Ideal S1x1x1x1024 .f32) (x8 x9 : Vec Ideal S1024x2816 .bf16) (x10 : Vec Ideal S2816x1024 .bf16)
    (x11 : Vec Ideal S1x1024 .f32) (r : Fin 512) (j : Fin 1024) :
    Run.out12 x0 x2 x4 x5 x6 x7 x8 x9 x10 x11 (ix2 r j)
      = rms (ffn (mixOut (fun k => x0 (ix2 r k)) (slab512 x2 r) (fun k => x5 (ix3 0 0 k)) (fun k l => x4 (ix3 0 k l)) (fun k l => x6 (ix3 0 k l)))
          (fun k => x7 (ix4 0 0 0 k)) (mat x8) (mat x9) (mat x10)) (fun k => x11 (ix2 0 k)) j := by
  have hm : (fun k => Run.v45 x0 x2 x4 x5 x6 (ix2 r k)) = mixOut (fun k => x0 (ix2 r k)) (slab512 x2 r) (fun k => x5 (ix3 0 0 k)) (fun k l => x4 (ix3 0 k l)) (fun k l => x6 (ix3 0 k l)) := funext (mixed512 x0 x2 x4 x5 x6 r)
  have hn : (fun l => Run.v60 x0 x2 x4 x5 x6 x7 (ix2 r l)) = rms (mixOut (fun k => x0 (ix2 r k)) (slab512 x2 r) (fun k => x5 (ix3 0 0 k)) (fun k l => x4 (ix3 0 k l)) (fun k l => x6 (ix3 0 k l))) (fun k => x7 (ix4 0 0 0 k)) := by
    rw [← hm]; exact funext (normed512 x0 x2 x4 x5 x6 x7 r)
  unfold Run.out12
  rw [View.canon_unit_zero (by funext a; fin_cases a <;> rfl)]
  refine last512 _ _ _ _ x8 x9 x10 x11 _ _ r (mixed512 x0 x2 x4 x5 x6 r) (fun l => congrFun hn l) (fun k => ?_) (fun k => ?_) j
  · rw [gate512, hn]
  · rw [up512, hn]

/-! ## Blocks of 256 rows -/

/-- Element `j` of row `r` of eight column slabs side by side. -/
def slab256 (x : Vec Ideal S8x256x128 .f32) (r : Fin 256) (j : Fin 1024) : EReal :=
  x (ix3 ⟨j.val / 128, by omega⟩ r ⟨j.val % 128, by omega⟩)

/-- The joined slabs, at an index. -/
theorem joined256 (x : Vec Ideal S8x256x128 .f32) (r : Fin 256) (j : Fin 1024) : Run.v119 x (ix2 r j) = slab256 x r j := by
  unfold Run.v119
  pointwise [k0_pay2]
  unfold slab256
  have hj := j.isLt
  split_ifs <;> (refine congrArg x ?_; refine congrArg₂ (fun a b => ix3 a r b) (Fin.ext ?_) (Fin.ext ?_) <;> simp <;> omega)

/-- The activation of the joined slabs, at an index. -/
theorem act256 (x : Vec Ideal S8x256x128 .f32) (r : Fin 256) (j : Fin 1024) :
    Run.v119 x (ix2 r j) * Run.v131 x (ix2 r j) = gelu (slab256 x r j) := by
  have h := joined256 x r j
  unfold Run.v119 at h
  unfold Run.v119 Run.v131
  pointwise [k0_pay3]
  rw [h]
  rfl

/-- The row after the gated output projection. -/
theorem mixed256 (x0 : Vec Ideal S256x1024 .f32) (x2 : Vec Ideal S8x256x128 .f32) (x4 : Vec Ideal S1x1024x1024 .bf16) (x5 : Vec Ideal S1x1x1024 .f32) (x6 : Vec Ideal S1x1024x1024 .bf16) (r : Fin 256) (j : Fin 1024) :
    Run.v147 x0 x2 x4 x5 x6 (ix2 r j) = mixOut (fun k => x0 (ix2 r k)) (slab256 x2 r) (fun k => x5 (ix3 0 0 k)) (fun k l => x4 (ix3 0 k l)) (fun k l => x6 (ix3 0 k l)) j := by
  unfold Run.v147
  pointwise [k0_pay4]
  simp only [act256]
  rfl

/-- The normalised row the feed-forward step multiplies. -/
theorem normed256 (x0 : Vec Ideal S256x1024 .f32) (x2 : Vec Ideal S8x256x128 .f32) (x4 : Vec Ideal S1x1024x1024 .bf16) (x5 : Vec Ideal S1x1x1024 .f32) (x6 : Vec Ideal S1x1024x1024 .bf16) (x7 : Vec Ideal S1x1x1x1024 .f32) (r : Fin 256) (j : Fin 1024) :
    Run.v162 x0 x2 x4 x5 x6 x7 (ix2 r j) = rms (fun k => Run.v147 x0 x2 x4 x5 x6 (ix2 r k)) (fun k => x7 (ix4 0 0 0 k)) j := by
  unfold Run.v162 Run.v147
  pointwise [k0_pay5]
  rfl

/-- The first 1536 positions of the gate. -/
theorem gate256 (x0 : Vec Ideal S256x1024 .f32) (x2 : Vec Ideal S8x256x128 .f32) (x4 : Vec Ideal S1x1024x1024 .bf16) (x5 : Vec Ideal S1x1x1024 .f32) (x6 : Vec Ideal S1x1024x1024 .bf16) (x7 : Vec Ideal S1x1x1x1024 .f32) (x8 : Vec Ideal S1024x2816 .bf16) (r : Fin 256) (k : Fin 1536) :
    Run.v164 x0 x2 x4 x5 x6 x7 x8 (ix2 r k) = rowMul (fun l => Run.v162 x0 x2 x4 x5 x6 x7 (ix2 r l)) (mat x8) ⟨k.val, by omega⟩ := by
  unfold Run.v164 Run.v162
  pointwise [k0_pay6]
  rfl

/-- The first 1536 positions of the other projection. -/
theorem up256 (x0 : Vec Ideal S256x1024 .f32) (x2 : Vec Ideal S8x256x128 .f32) (x4 : Vec Ideal S1x1024x1024 .bf16) (x5 : Vec Ideal S1x1x1024 .f32) (x6 : Vec Ideal S1x1024x1024 .bf16) (x7 : Vec Ideal S1x1x1x1024 .f32) (x9 : Vec Ideal S1024x2816 .bf16) (r : Fin 256) (k : Fin 1536) :
    Run.v166 x0 x2 x4 x5 x6 x7 x9 (ix2 r k) = rowMul (fun l => Run.v162 x0 x2 x4 x5 x6 x7 (ix2 r l)) (mat x9) ⟨k.val, by omega⟩ := by
  unfold Run.v166 Run.v162
  pointwise [k0_pay7]
  rfl

/-- The logistic of the first 1536 positions of the gate. -/
theorem sig256 (x0 : Vec Ideal S256x1024 .f32) (x2 : Vec Ideal S8x256x128 .f32) (x4 : Vec Ideal S1x1024x1024 .bf16) (x5 : Vec Ideal S1x1x1024 .f32) (x6 : Vec Ideal S1x1024x1024 .bf16) (x7 : Vec Ideal S1x1x1x1024 .f32) (x8 : Vec Ideal S1024x2816 .bf16) (r : Fin 256) (k : Fin 1536) :
    Run.v167 x0 x2 x4 x5 x6 x7 x8 (ix2 r k) = Ideal.logistic (rowMul (fun l => Run.v162 x0 x2 x4 x5 x6 x7 (ix2 r l)) (mat x8) ⟨k.val, by omega⟩) := by
  rw [← gate256]
  unfold Run.v167 Run.v164
  pointwise [k0_pay8]

/-- The stored row, from the rows of the values it is built from. -/
theorem last256 (h : FVec Ideal S256x1024 .f32) (u : FVec Ideal S256x1024 .bf16) (p q : FVec Ideal S256x1536 .f32) (sg : FVec Ideal S256x1536 .f32)
    (x8 x9 : Vec Ideal S1024x2816 .bf16) (x10 : Vec Ideal S2816x1024 .bf16) (x11 : Vec Ideal S1x1024 .f32) (a g : Row) (r : Fin 256)
    (hh : ∀ j, h (ix2 r j) = a j) (hu : ∀ j, u (ix2 r j) = rms a g j)
    (hp : ∀ k : Fin 1536, p (ix2 r k) = rowMul (rms a g) (mat x8) ⟨k.val, by omega⟩)
    (hq : ∀ k : Fin 1536, q (ix2 r k) = rowMul (rms a g) (mat x9) ⟨k.val, by omega⟩)
    (hs : ∀ k : Fin 1536, sg (ix2 r k) = Ideal.logistic (rowMul (rms a g) (mat x8) ⟨k.val, by omega⟩)) (j : Fin 1024) :
    k0_pay1 h u p q sg (View.ld x10 Run.r13) (View.ld x8 Run.r14) (View.ld x9 Run.r14) (View.ld x10 Run.r15) (View.ld x11 Run.r16) (ix2 r j)
      = rms (ffn a g (mat x8) (mat x9) (mat x10)) (fun k => x11 (ix2 0 k)) j := by
  pointwise [k0_pay1]
  simp only [hh, hu, hp, hq, hs]
  have key : ∀ j, ffn a g (mat x8) (mat x9) (mat x10) j = _ := fun j =>
    congrArg (fun s => a j + Ideal.ofBits FTy.f32 1056964608#32 * s)
      (sum_chunks fun k => hidden (rms a g) (mat x8) (mat x9) k * mat x10 k j)
  unfold rms
  simp only [key]
  rfl

/-- A row of the stored block is the layer's row function of the same row of the loaded blocks. -/
theorem row256 (x0 : Vec Ideal S256x1024 .f32) (x2 : Vec Ideal S8x256x128 .f32) (x4 : Vec Ideal S1x1024x1024 .bf16) (x5 : Vec Ideal S1x1x1024 .f32) (x6 : Vec Ideal S1x1024x1024 .bf16) (x7 : Vec Ideal S1x1x1x1024 .f32) (x8 x9 : Vec Ideal S1024x2816 .bf16) (x10 : Vec Ideal S2816x1024 .bf16)
    (x11 : Vec Ideal S1x1024 .f32) (r : Fin 256) (j : Fin 1024) :
    Run.out13 x0 x2 x4 x5 x6 x7 x8 x9 x10 x11 (ix2 r j)
      = rms (ffn (mixOut (fun k => x0 (ix2 r k)) (slab256 x2 r) (fun k => x5 (ix3 0 0 k)) (fun k l => x4 (ix3 0 k l)) (fun k l => x6 (ix3 0 k l)))
          (fun k => x7 (ix4 0 0 0 k)) (mat x8) (mat x9) (mat x10)) (fun k => x11 (ix2 0 k)) j := by
  have hm : (fun k => Run.v147 x0 x2 x4 x5 x6 (ix2 r k)) = mixOut (fun k => x0 (ix2 r k)) (slab256 x2 r) (fun k => x5 (ix3 0 0 k)) (fun k l => x4 (ix3 0 k l)) (fun k l => x6 (ix3 0 k l)) := funext (mixed256 x0 x2 x4 x5 x6 r)
  have hn : (fun l => Run.v162 x0 x2 x4 x5 x6 x7 (ix2 r l)) = rms (mixOut (fun k => x0 (ix2 r k)) (slab256 x2 r) (fun k => x5 (ix3 0 0 k)) (fun k l => x4 (ix3 0 k l)) (fun k l => x6 (ix3 0 k l))) (fun k => x7 (ix4 0 0 0 k)) := by
    rw [← hm]; exact funext (normed256 x0 x2 x4 x5 x6 x7 r)
  unfold Run.out13
  rw [View.canon_unit_zero (by funext a; fin_cases a <;> rfl)]
  refine last256 _ _ _ _ _ x8 x9 x10 x11 _ _ r (mixed256 x0 x2 x4 x5 x6 r) (fun l => congrFun hn l) (fun k => ?_) (fun k => ?_) (fun k => ?_) j
  · rw [gate256, hn]
  · rw [up256, hn]
  · rw [sig256, hn]

end Cert.Kernel2Ideal.Rows

end
-- ==== Proof.FinalReference.lean ====
/- One row of each result of the final stage's reference, read off its operations: it is the layer's row function of the
   same row of the arguments. -/
module

public import proofs.«01_k».proof.Proof.Gen.Reference2Ideal.Read
public import proofs.«01_k».proof.Proof.Layer

@[expose] public section

set_option maxRecDepth 16384

noncomputable section

namespace Cert.Reference2Ideal.Rows

open Cert.Reference2Ideal Cert.Reference2Ideal.Gen Cert.Reference2Ideal.Read Cert.Layer Idealize.ShloMosaic

/-! ## 16384 rows -/

/-- Element `j` of row `r` of eight column slabs side by side. -/
def slab16384 (x : Vec Ideal S8x16384x128 .f32) (r : Fin 16384) (j : Fin 1024) : EReal :=
  x (ix3 ⟨j.val / 128, by omega⟩ r ⟨j.val % 128, by omega⟩)

/-- The joined slabs, at an index. -/
theorem joined16384 (x2 : Vec Ideal S8x16384x128 .f32) (r : Fin 16384) (j : Fin 1024) :
    val_main_v8 (F := Ideal) x2 (ix2 r j) = slab16384 x2 r j := by
  pointwise [val_main_v8, val_main_v7]
  rfl

/-- Their activation. -/
theorem act16384 (x2 : Vec Ideal S8x16384x128 .f32) (r : Fin 16384) (j : Fin 1024) :
    val_main_v21 (F := Ideal) x2 (ix2 r j) = gelu (slab16384 x2 r j) := by
  pointwise [val_main_v21, val_main_v20, val_main_v18, val_main_v16, val_main_v15, val_main_v13, val_main_v12, val_main_v10, val_main_v9, val_main_v11, val_main_cst, val_main_v14, val_main_cst_0, val_main_v17, val_main_cst_1, val_main_v19, val_main_cst_2]
  rw [joined16384, mul_comm (slab16384 x2 r j * slab16384 x2 r j)]
  rfl

/-- The row after the gated output projection. -/
theorem mixed16384 (x0 : Vec Ideal S16384x1024 .f32) (x2 : Vec Ideal S8x16384x128 .f32) (x5 : Vec Ideal S1x1024x1024 .bf16) (x6 : Vec Ideal S1x1x1024 .f32) (x7 : Vec Ideal S1x1024x1024 .bf16) (r : Fin 16384) (j : Fin 1024) :
    val_main_v35 (F := Ideal) x0 x2 x5 x6 x7 (ix2 r j) = mixOut (fun k => x0 (ix2 r k)) (slab16384 x2 r) (fun k => x6 (ix3 0 0 k)) (fun k l => x5 (ix3 0 k l)) (fun k l => x7 (ix3 0 k l)) j := by
  pointwise [val_main_v35, val_main_v34, val_main_v3, val_main_v2, val_main_v33, val_main_v32, val_main_v30, val_main_v28, val_main_v27, val_main_v26, val_main_v25, val_main_v24, val_main_v23, val_main_v22, val_main_v1, val_main_v0, val_main_v29, val_main_cst_3, val_main_v31, val_main_cst_4]
  simp only [act16384]
  rfl

/-- The normalised row the feed-forward step multiplies. -/
theorem normed16384 (x0 : Vec Ideal S16384x1024 .f32) (x2 : Vec Ideal S8x16384x128 .f32) (x4 : Vec Ideal S2x3x1x1024 .f32) (x5 : Vec Ideal S1x1024x1024 .bf16) (x6 : Vec Ideal S1x1x1024 .f32) (x7 : Vec Ideal S1x1024x1024 .bf16) (r : Fin 16384) (j : Fin 1024) :
    val_main_v50 (F := Ideal) x0 x2 x4 x5 x6 x7 (ix2 r j) = rms (fun k => val_main_v35 (F := Ideal) x0 x2 x5 x6 x7 (ix2 r k)) (fun k => x4 (ix4 1 2 0 k)) j := by
  pointwise [val_main_v50, val_main_v49, val_main_v48, val_main_v37, val_main_v36, val_main_v47, val_main_v46, val_main_v45, val_main_v44, val_main_v43, val_main_cst_7, val_main_v42, val_main_v41, val_main_cst_6, val_main_v40, val_main_v39, val_main_cst_5, val_main_v38]
  rfl

/-- The hidden row of the feed-forward step. -/
theorem hid16384 (x0 : Vec Ideal S16384x1024 .f32) (x2 : Vec Ideal S8x16384x128 .f32) (x4 : Vec Ideal S2x3x1x1024 .f32) (x5 : Vec Ideal S1x1024x1024 .bf16) (x6 : Vec Ideal S1x1x1024 .f32) (x7 : Vec Ideal S1x1024x1024 .bf16) (x8 : Vec Ideal S1024x2816 .bf16) (x9 : Vec Ideal S1024x2816 .bf16) (r : Fin 16384) (j : Fin 2816) :
    val_main_v54 (F := Ideal) x0 x2 x4 x5 x6 x7 x8 x9 (ix2 r j) = hidden (fun k => val_main_v50 (F := Ideal) x0 x2 x4 x5 x6 x7 (ix2 r k)) (mat x8) (mat x9) j := by
  pointwise [val_main_v54, val_main_v53, val_main_v5, val_main_v52, val_main_call0_v5, val_main_call0_v3, val_main_call0_v1, val_main_call0_v0, val_main_v51, val_main_v4, val_main_call0_v2, val_main_call0_cst, val_main_call0_v4, val_main_call0_cst_0]
  rfl

/-- The row after the feed-forward step. -/
theorem stepped16384 (x0 : Vec Ideal S16384x1024 .f32) (x2 : Vec Ideal S8x16384x128 .f32) (x4 : Vec Ideal S2x3x1x1024 .f32) (x5 : Vec Ideal S1x1024x1024 .bf16) (x6 : Vec Ideal S1x1x1024 .f32) (x7 : Vec Ideal S1x1024x1024 .bf16) (x8 : Vec Ideal S1024x2816 .bf16) (x9 : Vec Ideal S1024x2816 .bf16) (x10 : Vec Ideal S2816x1024 .bf16) (r : Fin 16384) (j : Fin 1024) :
    val_main_v58 (F := Ideal) x0 x2 x4 x5 x6 x7 x8 x9 x10 (ix2 r j) = ffn (mixOut (fun k => x0 (ix2 r k)) (slab16384 x2 r) (fun k => x6 (ix3 0 0 k)) (fun k l => x5 (ix3 0 k l)) (fun k l => x7 (ix3 0 k l))) (fun k => x4 (ix4 1 2 0 k)) (mat x8) (mat x9) (mat x10) j := by
  have hm : (fun k => val_main_v35 (F := Ideal) x0 x2 x5 x6 x7 (ix2 r k)) = mixOut (fun k => x0 (ix2 r k)) (slab16384 x2 r) (fun k => x6 (ix3 0 0 k)) (fun k l => x5 (ix3 0 k l)) (fun k l => x7 (ix3 0 k l)) := funext (mixed16384 _ _ _ _ _ r)
  have hn : (fun k => val_main_v50 (F := Ideal) x0 x2 x4 x5 x6 x7 (ix2 r k)) = rms (mixOut (fun k => x0 (ix2 r k)) (slab16384 x2 r) (fun k => x6 (ix3 0 0 k)) (fun k l => x5 (ix3 0 k l)) (fun k l => x7 (ix3 0 k l))) (fun k => x4 (ix4 1 2 0 k)) := by
    rw [← hm]; exact funext (normed16384 _ _ _ _ _ _ r)
  pointwise [val_main_v58, val_main_v57, val_main_v55, val_main_v6, val_main_v56, val_main_cst_8]
  simp only [hid16384, hn, mixed16384]
  rfl

/-- A row of the result is the layer's row function of the same row of the arguments. -/
theorem row16384 (x0 : Vec Ideal S16384x1024 .f32) (x2 : Vec Ideal S8x16384x128 .f32) (x4 : Vec Ideal S2x3x1x1024 .f32) (x5 : Vec Ideal S1x1024x1024 .bf16) (x6 : Vec Ideal S1x1x1024 .f32) (x7 : Vec Ideal S1x1024x1024 .bf16) (x8 : Vec Ideal S1024x2816 .bf16) (x9 : Vec Ideal S1024x2816 .bf16) (x10 : Vec Ideal S2816x1024 .bf16) (x11 : Vec Ideal S1x1024 .f32) (r : Fin 16384) (j : Fin 1024) :
    val_main_v72 (F := Ideal) x0 x2 x4 x5 x6 x7 x8 x9 x10 x11 (ix2 r j) =
      rms (ffn (mixOut (fun k => x0 (ix2 r k)) (slab16384 x2 r) (fun k => x6 (ix3 0 0 k)) (fun k l => x5 (ix3 0 k l)) (fun k l => x7 (ix3 0 k l))) (fun k => x4 (ix4 1 2 0 k)) (mat x8) (mat x9) (mat x10)) (fun k => x11 (ix2 0 k)) j := by
  pointwise [val_main_v72, val_main_v71, val_main_v70, val_main_v59, val_main_v69, val_main_v68, val_main_v67, val_main_v66, val_main_v65, val_main_cst_11, val_main_v64, val_main_v63, val_main_cst_10, val_main_v62, val_main_v61, val_main_cst_9, val_main_v60]
  simp only [stepped16384]
  rfl

/-! ## 256 rows -/

/-- Element `j` of row `r` of eight column slabs side by side. -/
def slab256 (x : Vec Ideal S8x256x128 .f32) (r : Fin 256) (j : Fin 1024) : EReal :=
  x (ix3 ⟨j.val / 128, by omega⟩ r ⟨j.val % 128, by omega⟩)

/-- The joined slabs, at an index. -/
theorem joined256 (x3 : Vec Ideal S8x256x128 .f32) (r : Fin 256) (j : Fin 1024) :
    val_main_v74 (F := Ideal) x3 (ix2 r j) = slab256 x3 r j := by
  pointwise [val_main_v74, val_main_v73]
  rfl

/-- Their activation. -/
theorem act256 (x3 : Vec Ideal S8x256x128 .f32) (r : Fin 256) (j : Fin 1024) :
    val_main_v87 (F := Ideal) x3 (ix2 r j) = gelu (slab256 x3 r j) := by
  pointwise [val_main_v87, val_main_v86, val_main_v84, val_main_v82, val_main_v81, val_main_v79, val_main_v78, val_main_v76, val_main_v75, val_main_v77, val_main_cst_12, val_main_v80, val_main_cst_13, val_main_v83, val_main_cst_14, val_main_v85, val_main_cst_15]
  rw [joined256, mul_comm (slab256 x3 r j * slab256 x3 r j)]
  rfl

/-- The row after the gated output projection. -/
theorem mixed256 (x1 : Vec Ideal S256x1024 .f32) (x3 : Vec Ideal S8x256x128 .f32) (x5 : Vec Ideal S1x1024x1024 .bf16) (x6 : Vec Ideal S1x1x1024 .f32) (x7 : Vec Ideal S1x1024x1024 .bf16) (r : Fin 256) (j : Fin 1024) :
    val_main_v101 (F := Ideal) x1 x3 x5 x6 x7 (ix2 r j) = mixOut (fun k => x1 (ix2 r k)) (slab256 x3 r) (fun k => x6 (ix3 0 0 k)) (fun k l => x5 (ix3 0 k l)) (fun k l => x7 (ix3 0 k l)) j := by
  pointwise [val_main_v101, val_main_v100, val_main_v3, val_main_v2, val_main_v99, val_main_v98, val_main_v96, val_main_v94, val_main_v93, val_main_v92, val_main_v91, val_main_v90, val_main_v89, val_main_v88, val_main_v1, val_main_v0, val_main_v95, val_main_cst_16, val_main_v97, val_main_cst_17]
  simp only [act256]
  rfl

/-- The normalised row the feed-forward step multiplies. -/
theorem normed256 (x1 : Vec Ideal S256x1024 .f32) (x3 : Vec Ideal S8x256x128 .f32) (x4 : Vec Ideal S2x3x1x1024 .f32) (x5 : Vec Ideal S1x1024x1024 .bf16) (x6 : Vec Ideal S1x1x1024 .f32) (x7 : Vec Ideal S1x1024x1024 .bf16) (r : Fin 256) (j : Fin 1024) :
    val_main_v116 (F := Ideal) x1 x3 x4 x5 x6 x7 (ix2 r j) = rms (fun k => val_main_v101 (F := Ideal) x1 x3 x5 x6 x7 (ix2 r k)) (fun k => x4 (ix4 1 2 0 k)) j := by
  pointwise [val_main_v116, val_main_v115, val_main_v114, val_main_v103, val_main_v102, val_main_v113, val_main_v112, val_main_v111, val_main_v110, val_main_v109, val_main_cst_20, val_main_v108, val_main_v107, val_main_cst_19, val_main_v106, val_main_v105, val_main_cst_18, val_main_v104]
  rfl

/-- The hidden row of the feed-forward step. -/
theorem hid256 (x1 : Vec Ideal S256x1024 .f32) (x3 : Vec Ideal S8x256x128 .f32) (x4 : Vec Ideal S2x3x1x1024 .f32) (x5 : Vec Ideal S1x1024x1024 .bf16) (x6 : Vec Ideal S1x1x1024 .f32) (x7 : Vec Ideal S1x1024x1024 .bf16) (x8 : Vec Ideal S1024x2816 .bf16) (x9 : Vec Ideal S1024x2816 .bf16) (r : Fin 256) (j : Fin 2816) :
    val_main_v120 (F := Ideal) x1 x3 x4 x5 x6 x7 x8 x9 (ix2 r j) = hidden (fun k => val_main_v116 (F := Ideal) x1 x3 x4 x5 x6 x7 (ix2 r k)) (mat x8) (mat x9) j := by
  pointwise [val_main_v120, val_main_v119, val_main_v5, val_main_v118, val_main_call1_v5, val_main_call1_v3, val_main_call1_v1, val_main_call1_v0, val_main_v117, val_main_v4, val_main_call1_v2, val_main_call1_cst, val_main_call1_v4, val_main_call1_cst_0]
  rfl

/-- The row after the feed-forward step. -/
theorem stepped256 (x1 : Vec Ideal S256x1024 .f32) (x3 : Vec Ideal S8x256x128 .f32) (x4 : Vec Ideal S2x3x1x1024 .f32) (x5 : Vec Ideal S1x1024x1024 .bf16) (x6 : Vec Ideal S1x1x1024 .f32) (x7 : Vec Ideal S1x1024x1024 .bf16) (x8 : Vec Ideal S1024x2816 .bf16) (x9 : Vec Ideal S1024x2816 .bf16) (x10 : Vec Ideal S2816x1024 .bf16) (r : Fin 256) (j : Fin 1024) :
    val_main_v124 (F := Ideal) x1 x3 x4 x5 x6 x7 x8 x9 x10 (ix2 r j) = ffn (mixOut (fun k => x1 (ix2 r k)) (slab256 x3 r) (fun k => x6 (ix3 0 0 k)) (fun k l => x5 (ix3 0 k l)) (fun k l => x7 (ix3 0 k l))) (fun k => x4 (ix4 1 2 0 k)) (mat x8) (mat x9) (mat x10) j := by
  have hm : (fun k => val_main_v101 (F := Ideal) x1 x3 x5 x6 x7 (ix2 r k)) = mixOut (fun k => x1 (ix2 r k)) (slab256 x3 r) (fun k => x6 (ix3 0 0 k)) (fun k l => x5 (ix3 0 k l)) (fun k l => x7 (ix3 0 k l)) := funext (mixed256 _ _ _ _ _ r)
  have hn : (fun k => val_main_v116 (F := Ideal) x1 x3 x4 x5 x6 x7 (ix2 r k)) = rms (mixOut (fun k => x1 (ix2 r k)) (slab256 x3 r) (fun k => x6 (ix3 0 0 k)) (fun k l => x5 (ix3 0 k l)) (fun k l => x7 (ix3 0 k l))) (fun k => x4 (ix4 1 2 0 k)) := by
    rw [← hm]; exact funext (normed256 _ _ _ _ _ _ r)
  pointwise [val_main_v124, val_main_v123, val_main_v121, val_main_v6, val_main_v122, val_main_cst_21]
  simp only [hid256, hn, mixed256]
  rfl

/-- A row of the result is the layer's row function of the same row of the arguments. -/
theorem row256 (x1 : Vec Ideal S256x1024 .f32) (x3 : Vec Ideal S8x256x128 .f32) (x4 : Vec Ideal S2x3x1x1024 .f32) (x5 : Vec Ideal S1x1024x1024 .bf16) (x6 : Vec Ideal S1x1x1024 .f32) (x7 : Vec Ideal S1x1024x1024 .bf16) (x8 : Vec Ideal S1024x2816 .bf16) (x9 : Vec Ideal S1024x2816 .bf16) (x10 : Vec Ideal S2816x1024 .bf16) (x11 : Vec Ideal S1x1024 .f32) (r : Fin 256) (j : Fin 1024) :
    val_main_v138 (F := Ideal) x1 x3 x4 x5 x6 x7 x8 x9 x10 x11 (ix2 r j) =
      rms (ffn (mixOut (fun k => x1 (ix2 r k)) (slab256 x3 r) (fun k => x6 (ix3 0 0 k)) (fun k l => x5 (ix3 0 k l)) (fun k l => x7 (ix3 0 k l))) (fun k => x4 (ix4 1 2 0 k)) (mat x8) (mat x9) (mat x10)) (fun k => x11 (ix2 0 k)) j := by
  pointwise [val_main_v138, val_main_v137, val_main_v136, val_main_v125, val_main_v135, val_main_v134, val_main_v133, val_main_v132, val_main_v131, val_main_cst_24, val_main_v130, val_main_v129, val_main_cst_23, val_main_v128, val_main_v127, val_main_cst_22, val_main_v126]
  simp only [stepped256]
  rfl

end Cert.Reference2Ideal.Rows

end
-- ==== Proof.FinalStage.lean ====
/- The final stage: its results are the reference's. Every block a point writes back is read at an index, where the
   body's row and the reference's row are one row function of the same rows of the arguments. -/
module

public import proofs.«01_k».proof.Proof.FinalRows
public import proofs.«01_k».proof.Proof.FinalReference
public import Idealize.ShloMosaic.Lib.Pipeline.ValueKit
public import Idealize.ShloMosaic.Lib.Claim

@[expose] public section

set_option maxRecDepth 16384

noncomputable section

namespace Cert.Kernel2Ideal.Stage

open Cert.Kernel2Ideal Cert.Kernel2Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block sits in its array at point `t`. -/
theorem idx (t : Fin cfg0.N) : win0_0.index t = ![t.val, 0] ∧ win0_1.index t = ![0, 0] ∧ win0_2.index t = ![0, t.val, 0] ∧ win0_3.index t = ![0, 0, 0]
    ∧ win0_4.index t = ![0, 0, 0] ∧ win0_5.index t = ![0, 0, 0] ∧ win0_6.index t = ![0, 0, 0] ∧ win0_7.index t = ![1, 2, 0, 0]
    ∧ win0_8.index t = ![0, 0] ∧ win0_9.index t = ![0, 0] ∧ win0_10.index t = ![0, 0] ∧ win0_11.index t = ![0, 0]
    ∧ win0_12.index t = ![t.val, 0] ∧ win0_13.index t = ![0, 0] :=
  (by decide +kernel : ∀ t : Fin grid0.N, win0_0.index t = ![t.val, 0] ∧ win0_1.index t = ![0, 0] ∧ win0_2.index t = ![0, t.val, 0] ∧ win0_3.index t = ![0, 0, 0]
    ∧ win0_4.index t = ![0, 0, 0] ∧ win0_5.index t = ![0, 0, 0] ∧ win0_6.index t = ![0, 0, 0] ∧ win0_7.index t = ![1, 2, 0, 0]
    ∧ win0_8.index t = ![0, 0] ∧ win0_9.index t = ![0, 0] ∧ win0_10.index t = ![0, 0] ∧ win0_11.index t = ![0, 0]
    ∧ win0_12.index t = ![t.val, 0] ∧ win0_13.index t = ![0, 0]) t

/-- The bias row, as loaded. -/
theorem bias (c : Dev nD) (t : Fin cfg0.N) : (fun k : Fin 1024 => iblk m c 5 t (ix3 0 0 k)) = fun k => m ((c.tc : Thread nD τ).loc main_arg6) (ix3 0 0 k) := by
  funext k
  blk_ext [iblk, V, idx t]

/-- The gate projection of the scan, as loaded. -/
theorem wGlu (c : Dev nD) (t : Fin cfg0.N) : (fun k l : Fin 1024 => iblk m c 4 t (ix3 0 k l)) = fun k l => m ((c.tc : Thread nD τ).loc main_arg5) (ix3 0 k l) := by
  funext k l
  blk_ext [iblk, V, idx t]

/-- The output projection, as loaded. -/
theorem wOut (c : Dev nD) (t : Fin cfg0.N) : (fun k l : Fin 1024 => iblk m c 6 t (ix3 0 k l)) = fun k l => m ((c.tc : Thread nD τ).loc main_arg7) (ix3 0 k l) := by
  funext k l
  blk_ext [iblk, V, idx t]

/-- The gains of the feed-forward step, as loaded. -/
theorem gains (c : Dev nD) (t : Fin cfg0.N) : (fun k : Fin 1024 => iblk m c 7 t (ix4 0 0 0 k)) = fun k => m ((c.tc : Thread nD τ).loc main_arg4) (ix4 1 2 0 k) := by
  funext k
  blk_ext [iblk, V, idx t]

/-- The gate weights, as loaded. -/
theorem wGate (c : Dev nD) (t : Fin cfg0.N) : (mat (iblk m c 8 t) : Fin 1024 → Fin 2816 → EReal) = mat (m ((c.tc : Thread nD τ).loc main_arg8)) := by
  funext k l
  show iblk m c 8 t (ix2 k l) = m ((c.tc : Thread nD τ).loc main_arg8) (ix2 k l)
  blk_ext [iblk, V, idx t]

/-- The weights beside the gate, as loaded. -/
theorem wUp (c : Dev nD) (t : Fin cfg0.N) : (mat (iblk m c 9 t) : Fin 1024 → Fin 2816 → EReal) = mat (m ((c.tc : Thread nD τ).loc main_arg9)) := by
  funext k l
  show iblk m c 9 t (ix2 k l) = m ((c.tc : Thread nD τ).loc main_arg9) (ix2 k l)
  blk_ext [iblk, V, idx t]

/-- The down weights, as loaded. -/
theorem wDown (c : Dev nD) (t : Fin cfg0.N) : (mat (iblk m c 10 t) : Fin 2816 → Fin 1024 → EReal) = mat (m ((c.tc : Thread nD τ).loc main_arg10)) := by
  funext k l
  show iblk m c 10 t (ix2 k l) = m ((c.tc : Thread nD τ).loc main_arg10) (ix2 k l)
  blk_ext [iblk, V, idx t]

/-- The final gains, as loaded. -/
theorem gainsLast (c : Dev nD) (t : Fin cfg0.N) : (fun k : Fin 1024 => iblk m c 11 t (ix2 0 k)) = fun k => m ((c.tc : Thread nD τ).loc main_arg11) (ix2 0 k) := by
  funext k
  blk_ext [iblk, V, idx t]

/-- Row `r` of the prompt stream's block at point `t`. -/
theorem xprompt (c : Dev nD) (t : Fin cfg0.N) (r : Fin 512) :
    (fun k : Fin 1024 => iblk m c 0 t (ix2 r k)) = fun k => m ((c.tc : Thread nD τ).loc main_arg0) (ix2 ⟨t.val * 512 + r.val, by have h := t.isLt; change t.val < 32 at h; omega⟩ k) := by
  funext k
  blk_ext [iblk, V, idx t]

/-- Row `r` of the prompt stream's slabs at point `t`. -/
theorem yprompt (c : Dev nD) (t : Fin cfg0.N) (r : Fin 512) :
    Rows.slab512 (iblk m c 2 t) r = Cert.Reference2Ideal.Rows.slab16384 (m ((c.tc : Thread nD τ).loc main_arg2)) ⟨t.val * 512 + r.val, by have h := t.isLt; change t.val < 32 at h; omega⟩ := by
  funext k
  unfold Rows.slab512 Cert.Reference2Ideal.Rows.slab16384
  blk_ext [iblk, V, idx t]

/-- The prompt stream's result is the reference's. -/
theorem prompt (c : Dev nD) : (Run.dats m 0 c).arrAt 12 cfg0.N
    = Cert.Reference2Ideal.Read.val_main_v72 (F := Ideal) (m ((c.tc : Thread nD τ).loc main_arg0)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) := by
  refine (Run.dats m 0 c).arrAt_eq_of_covers 12 _ (by decide +kernel) fun t hf y => ?_
  blk_simp
  rw [Run.after12]
  idx_vars y
  have he : ((View.whole main_v0_0).slice (win0_12.rect t)).emb (ix2 y0 y1) = ix2 ⟨t.val * 512 + y0.val, by have h := t.isLt; change t.val < 32 at h; omega⟩ y1 := by
    blk_ext [iblk, V, idx t]
  rw [he, Rows.row512, Cert.Reference2Ideal.Rows.row16384, xprompt m c t y0, yprompt m c t y0, bias m c t, wGlu m c t, wOut m c t, gains m c t, wGate m c t, wUp m c t,
    wDown m c t, gainsLast m c t]

/-- Row `r` of the sample stream's block at point `t`. -/
theorem xsample (c : Dev nD) (t : Fin cfg0.N) (r : Fin 256) :
    (fun k : Fin 1024 => iblk m c 1 t (ix2 r k)) = fun k => m ((c.tc : Thread nD τ).loc main_arg1) (ix2 r k) := by
  funext k
  blk_ext [iblk, V, idx t]

/-- Row `r` of the sample stream's slabs at point `t`. -/
theorem ysample (c : Dev nD) (t : Fin cfg0.N) (r : Fin 256) :
    Rows.slab256 (iblk m c 3 t) r = Cert.Reference2Ideal.Rows.slab256 (m ((c.tc : Thread nD τ).loc main_arg3)) r := by
  funext k
  unfold Rows.slab256 Cert.Reference2Ideal.Rows.slab256
  blk_ext [iblk, V, idx t]

/-- The sample stream's result is the reference's. -/
theorem sample (c : Dev nD) : (Run.dats m 0 c).arrAt 13 cfg0.N
    = Cert.Reference2Ideal.Read.val_main_v138 (F := Ideal) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) := by
  refine (Run.dats m 0 c).arrAt_eq_of_covers 13 _ (by decide +kernel) fun t hf y => ?_
  blk_simp
  rw [Run.after13]
  idx_vars y
  have he : ((View.whole main_v0_1).slice (win0_13.rect t)).emb (ix2 y0 y1) = ix2 y0 y1 := by
    blk_ext [iblk, V, idx t]
  rw [he, Rows.row256, Cert.Reference2Ideal.Rows.row256, xsample m c Run.t0 y0, ysample m c Run.t0 y0, bias m c Run.t0, wGlu m c Run.t0, wOut m c Run.t0, gains m c Run.t0, wGate m c Run.t0, wUp m c Run.t0,
    wDown m c Run.t0, gainsLast m c Run.t0]

end Cert.Kernel2Ideal.Stage

end
-- ==== Proof.FinalClaims.lean ====
module

public import proofs.«01_k».proof.Proof.FinalStage
public import proofs.«01_k».proof.Proof.Gen.Reference2Ideal.Run
public import proofs.«01_k».proof.Proof.Gen.Reference2Ideal.Read
public import proofs.«01_k».proof.Defs
public import Idealize.ShloMosaic.Lib.Claim

@[expose] public section

set_option maxRecDepth 16384

noncomputable section

/-! The last stage: the statements about the reference and about the pair. -/

namespace Cert.FinalClaims

open Idealize.ShloMosaic Idealize.SL.Sem

instance : Cert.Kernel2Ideal.Facts := Cert.Kernel2Ideal.Gen.facts
instance : Cert.Reference2Ideal.Facts := Cert.Reference2Ideal.Gen.facts

section
open Cert.Reference2Ideal

/-- The reference ends with each result at its composed term of the arguments, which are unchanged. -/
theorem reference_run (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v72) = Cert.Reference2Ideal.Read.val_main_v72 (F := Ideal) (m' ((c.tc : Thread nD τ).loc main_arg0)) (m' ((c.tc : Thread nD τ).loc main_arg2)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_v138) = Cert.Reference2Ideal.Read.val_main_v138 (F := Ideal) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono (fun r h c => ⟨(h c).1.trans (Cert.Reference2Ideal.Read.val_main_v72_eq (StableHlo.launchContents m' c)),
      (h c).2.1.trans (Cert.Reference2Ideal.Read.val_main_v138_eq (StableHlo.launchContents m' c)),
      (h c).2.2⟩)
    (Cert.Reference2Ideal.Value.run (F := Ideal) m' g')

end

/-- The reference ends, with its arguments unchanged and every counter at zero. -/
theorem reference_frame : quiescent_Reference2Ideal := fun m g _ =>
  (θ_run Cert.Reference2Ideal.defs _ _).mono (fun r h => ⟨fun c => (h c).2.2, sem_eq_zero_of_no_sems (by decide) r.2⟩)
    (reference_run m g)

/-- Every result of the stage is, over the extended reals, the reference's. -/
theorem pair : algebraic_Kernel2Ideal_Reference2Ideal := by
  pair_intro
  · run_from Cert.Kernel2Ideal.Run.run_blocks m g
  · run_from reference_run m' g'
    · rw [Cert.Kernel2Ideal.Stage.prompt m c]
    · rw [Cert.Kernel2Ideal.Stage.sample m c]

end Cert.FinalClaims

end
-- ==== Proof.FinalPrinted.lean ====
/- Kernel2 and Kernel2Ideal are one text, which is generic in its elements, printed under two names. So the two body
   tables agree at any elements, and the frame of the printed call at the machine's elements is the generic frame of
   FinalRun. -/
module

public import proofs.«01_k».proof.Proof.FinalRun
public import proofs.«01_k».proof.Proof.Gen.Kernel2.Skeleton
public import proofs.«01_k».proof.Defs

@[expose] public section

set_option maxRecDepth 16384

noncomputable section

namespace Cert.Kernel2.Run

open Idealize.ShloMosaic Idealize.SL.Sem

instance : Cert.Kernel2.Facts := Cert.Kernel2.Gen.facts

/-- The two bodies are the same program. -/
theorem body_eq : @Cert.Kernel2.cc0_stage_ssm_ffn_final Bits _ _ = @Cert.Kernel2Ideal.cc0_stage_ssm_ffn_final Bits _ _ := rfl

set_option maxHeartbeats 4000000 in
/-- The two tables of bodies agree, at the one label they have. -/
theorem defs₀_eq : Cert.Kernel2.defs₀ (F := Bits) = Cert.Kernel2Ideal.defs₀ (F := Bits) := by
  refine congrArg _ (funext fun l => funext fun a => ?_)
  match l, a with
  | 0, (_, _) =>
    dsimp only
    rw [body_eq]
    exact rfl
  | ⟨_ + 1, h⟩, _ => exact absurd h (Nat.not_lt.2 (Nat.le_add_left _ _))

/-- And so do the tables with the pipeline's labels added. -/
theorem defs_eq : Cert.Kernel2.defs (F := Bits) = Cert.Kernel2Ideal.defs (F := Bits) :=
  congrArg (Pipeline.defs Cert.Kernel2.pcfgs) defs₀_eq

/-- The printed call ends with its arguments unchanged and every counter at zero. -/
theorem frame : quiescent_Kernel2 := by
  intro m ρ _
  rw [defs_eq]
  exact Cert.Kernel2Ideal.Run.frame (F := Bits) m ρ

end Cert.Kernel2.Run

end
-- ==== Proof.MiddleRun.lean ====
/- The run of Kernel3Ideal's one pipelined call with every result named: what each staging buffer holds after the
   body as a function of the input blocks, the body's triple in its two cases (the grid's first point, which also
   stores the sample stream, and the other points), the proof data, the launch, and the frame. -/
module

public import proofs.«01_k».proof.Proof.Gen.Kernel3Ideal.Skeleton
public import proofs.«01_k».proof.Proof.Gen.Kernel3Ideal.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores -/

abbrev r0 : Rect S1x1x32x2816 := Rect.unit (s := S1x1x32x2816) ![0, 0, 0, 0] S1x1x32x2816.size inb_S1x1x32x2816_S1x1x32x2816_0_0_0_0
abbrev r1 : Rect S32x2816 := Rect.unit (s := S32x2816) ![0, 0] S32x2816.size inb_S32x2816_S32x2816_0_0
abbrev r2 : Rect S1x1x2816x128 := Rect.unit (s := S1x1x2816x128) ![0, 0, 0, 0] S1x1x2816x128.size inb_S1x1x2816x128_S1x1x2816x128_0_0_0_0
abbrev r3 : Rect S2816x128 := Rect.unit (s := S2816x128) ![0, 0] S2816x128.size inb_S2816x128_S2816x128_0_0
abbrev r4 : Rect S512x1024 := Rect.unit (s := S512x1024) ![0, 0] S512x1024.size inb_S512x1024_S512x1024_0_0
abbrev r5 : Rect S512x768 := Rect.unit (s := S512x768) ![0, 0] S512x768.size inb_S512x768_S512x768_0_0
abbrev r6 : Rect S1x768x1024 := Rect.unit (s := S1x768x1024) ![0, 0, 0] S1x768x1024.size inb_S1x768x1024_S1x768x1024_0_0_0
abbrev r7 : Rect S1x1x1x1024 := Rect.unit (s := S1x1x1x1024) ![0, 0, 0, 0] S1x1x1x1024.size inb_S1x1x1x1024_S1x1x1x1024_0_0_0_0
abbrev r8 : Rect S1024x2816 := Rect.unit (s := S1024x2816) ![0, 0] S1024x1536.size inb_S1024x2816_S1024x1536_0_0
abbrev r9 : Rect S2816x1024 := Rect.unit (s := S2816x1024) ![0, 0] S1536x1024.size inb_S2816x1024_S1536x1024_0_0
abbrev r10 : Rect S1024x2816 := Rect.unit (s := S1024x2816) ![0, 1536] S1024x1280.size inb_S1024x2816_S1024x1280_0_1536
abbrev r11 : Rect S2816x1024 := Rect.unit (s := S2816x1024) ![1536, 0] S1280x1024.size inb_S2816x1024_S1280x1024_1536_0
abbrev r12 : Rect S256x1024 := Rect.unit (s := S256x1024) ![0, 0] S256x1024.size inb_S256x1024_S256x1024_0_0
abbrev r13 : Rect S256x768 := Rect.unit (s := S256x768) ![0, 0] S256x768.size inb_S256x768_S256x768_0_0

/-! ## The values the body binds, from the input blocks -/

def v17 (x0 : Vec F S512x1024 .f32) (x2 : Vec F S512x768 .bf16) (x4 : Vec F S1x768x1024 .bf16) : FVec F S512x1024 .f32 :=
  k0_pay8 (View.ld x0 r4) (View.ld x2 r5) (View.ld x4 r6)
def v19 (x5 : Vec F S1x1x1x1024 .f32) : FVec F S1x1024 .f32 :=
  k0_pay9 (View.ld x5 r7)
def v22 (x0 : Vec F S512x1024 .f32) (x2 : Vec F S512x768 .bf16) (x4 : Vec F S1x768x1024 .bf16) : FVec F S512x1 .f32 :=
  k0_pay10 (View.ld x0 r4) (View.ld x2 r5) (View.ld x4 r6)
def v23  : FVec F S512x1 .f32 :=
  k0_pay11 (F := F)
def v67 (x1 : Vec F S256x1024 .f32) (x3 : Vec F S256x768 .f32) (x4 : Vec F S1x768x1024 .bf16) : FVec F S256x1024 .f32 :=
  k0_pay2 (View.ld x1 r12) (View.ld x3 r13) (View.ld x4 r6)
def v82 (x1 : Vec F S256x1024 .f32) (x3 : Vec F S256x768 .f32) (x4 : Vec F S1x768x1024 .bf16) (x5 : Vec F S1x1x1x1024 .f32) : FVec F S256x1024 .bf16 :=
  k0_pay3 (View.ld x1 r12) (View.ld x3 r13) (View.ld x4 r6) (View.ld x5 r7)
def v92 (x1 : Vec F S256x1024 .f32) (x3 : Vec F S256x768 .f32) (x4 : Vec F S1x768x1024 .bf16) (x5 : Vec F S1x1x1x1024 .f32) (x6 : Vec F S1024x2816 .bf16) (x7 : Vec F S1024x2816 .bf16) (x8 : Vec F S2816x1024 .bf16) : FVec F S256x1024 .f32 :=
  k0_pay4 (View.ld x1 r12) (View.ld x3 r13) (View.ld x4 r6) (View.ld x5 r7) (View.ld x6 r8) (View.ld x7 r8) (View.ld x8 r9)

/-- What output window 12's buffer holds after the body: its stores over the input blocks, last first. -/
def out12 (x0 : Vec F S512x1024 .f32) (x2 : Vec F S512x768 .bf16) (x4 : Vec F S1x768x1024 .bf16) (x5 : Vec F S1x1x1x1024 .f32) (x6 : Vec F S1024x2816 .bf16) (x7 : Vec F S1024x2816 .bf16) (x8 : Vec F S2816x1024 .bf16) : Vec F S512x1024 .f32 :=
  View.canon [⟨r4, k0_pay12 (v17 x0 x2 x4) (v19 x5) (v22 x0 x2 x4) v23 (View.ld x6 r8) (View.ld x7 r8) (View.ld x8 r9) (View.ld x6 r10) (View.ld x7 r10) (View.ld x8 r11)⟩]

/-- Those stores cover the buffer. -/
theorem cover12 (p0 : Vec F S512x1024 .f32) (y : S512x1024.Idx) :
    ∃ pc ∈ ([⟨r4, p0⟩] : List (View.Piece (Elt F) S512x1024 .f32)), y ∈ pc.1.set :=
  View.cover_of_tiled [⟨r4, p0⟩] S512x1024.size (by rfl) y

/-- What output window 13's buffer holds after the body: its stores over the input blocks, last first. -/
def out13 (x1 : Vec F S256x1024 .f32) (x3 : Vec F S256x768 .f32) (x4 : Vec F S1x768x1024 .bf16) (x5 : Vec F S1x1x1x1024 .f32) (x6 : Vec F S1024x2816 .bf16) (x7 : Vec F S1024x2816 .bf16) (x8 : Vec F S2816x1024 .bf16) : Vec F S256x1024 .f32 :=
  View.canon [⟨r12, k0_pay1 (v67 x1 x3 x4) (v82 x1 x3 x4 x5) (v92 x1 x3 x4 x5 x6 x7 x8) (View.ld x6 r10) (constant S256x1280 .f32 0x00000000#32) (View.ld x7 r10) (View.ld x8 r11)⟩]

/-- Those stores cover the buffer. -/
theorem cover13 (p0 : Vec F S256x1024 .f32) (y : S256x1024.Idx) :
    ∃ pc ∈ ([⟨r12, p0⟩] : List (View.Piece (Elt F) S256x1024 .f32)), y ∈ pc.1.set :=
  View.cover_of_tiled [⟨r12, p0⟩] S256x1024.size (by rfl) y

/-- What output window 14's buffer holds after the body: its stores over the input blocks, last first. -/
def out14 (x9 : Vec F S1x1x32x2816 .f32) : Vec F S32x2816 .bf16 :=
  View.canon [⟨r1, k0_pay5 (View.ld x9 r0)⟩]

/-- Those stores cover the buffer. -/
theorem cover14 (p0 : Vec F S32x2816 .bf16) (y : S32x2816.Idx) :
    ∃ pc ∈ ([⟨r1, p0⟩] : List (View.Piece (Elt F) S32x2816 .bf16)), y ∈ pc.1.set :=
  View.cover_of_tiled [⟨r1, p0⟩] S32x2816.size (by rfl) y

/-- What output window 15's buffer holds after the body: its stores over the input blocks, last first. -/
def out15 (x10 : Vec F S1x1x32x2816 .f32) : Vec F S32x2816 .bf16 :=
  View.canon [⟨r1, k0_pay6 (View.ld x10 r0)⟩]

/-- Those stores cover the buffer. -/
theorem cover15 (p0 : Vec F S32x2816 .bf16) (y : S32x2816.Idx) :
    ∃ pc ∈ ([⟨r1, p0⟩] : List (View.Piece (Elt F) S32x2816 .bf16)), y ∈ pc.1.set :=
  View.cover_of_tiled [⟨r1, p0⟩] S32x2816.size (by rfl) y

/-- What output window 16's buffer holds after the body: its stores over the input blocks, last first. -/
def out16 (x11 : Vec F S1x1x2816x128 .f32) : Vec F S2816x128 .bf16 :=
  View.canon [⟨r3, k0_pay7 (View.ld x11 r2)⟩]

/-- Those stores cover the buffer. -/
theorem cover16 (p0 : Vec F S2816x128 .bf16) (y : S2816x128.Idx) :
    ∃ pc ∈ ([⟨r3, p0⟩] : List (View.Piece (Elt F) S2816x128 .bf16)), y ∈ pc.1.set :=
  View.cover_of_tiled [⟨r3, p0⟩] S2816x128.size (by rfl) y

/-! ## The one condition of the body -/

/-- The body's condition on the grid point: it is the first point. -/
abbrev cond (i : grid0.Coords) : Prop := k0_cond1 i = 1#1

theorem hcond (t : Fin cfg0.N) : cond (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond, k0_cond1, e0]
    word_cmp
   : ∀ t : Fin grid0.N, cond (grid0.coords t) ↔ t.val % 32 = 0) t

/-! ## The body's triples -/

set_option maxHeartbeats 1000000 in
/-- The body's triple at the first grid point: the inputs' buffers are kept, each output's buffer it stores ends at `outK` of the
    input blocks. -/
theorem sound_A (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S512x768 .bf16) (harg3 : arg3.IsWhole) (arg4 : Memref sig .tc .vmem S256x768 .f32) (harg4 : arg4.IsWhole) (arg5 : Memref sig .tc .vmem S1x768x1024 .bf16) (harg5 : arg5.IsWhole) (arg6 : Memref sig .tc .vmem S1x1x1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S1x1x32x2816 .f32) (harg10 : arg10.IsWhole) (arg11 : Memref sig .tc .vmem S1x1x32x2816 .f32) (harg11 : arg11.IsWhole) (arg12 : Memref sig .tc .vmem S1x1x2816x128 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S32x2816 .bf16) (harg15 : arg15.IsWhole) (arg16 : Memref sig .tc .vmem S32x2816 .bf16) (harg16 : arg16.IsWhole) (arg17 : Memref sig .tc .vmem S2816x128 .bf16) (harg17 : arg17.IsWhole) (hc : cond i)
    (x0 : Vec F S512x1024 .f32) (x1 : Vec F S256x1024 .f32) (x2 : Vec F S512x768 .bf16) (x3 : Vec F S256x768 .f32) (x4 : Vec F S1x768x1024 .bf16) (x5 : Vec F S1x1x1x1024 .f32) (x6 : Vec F S1024x2816 .bf16) (x7 : Vec F S1024x2816 .bf16) (x8 : Vec F S2816x1024 .bf16) (x9 : Vec F S1x1x32x2816 .f32) (x10 : Vec F S1x1x32x2816 .f32) (x11 : Vec F S1x1x2816x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x2 x4 x5 x6 x7 x8) ∗ owns (c : Thread nD τ) arg14 fullShare (out13 x1 x3 x4 x5 x6 x7 x8) ∗ owns (c : Thread nD τ) arg15 fullShare (out14 x9) ∗ owns (c : Thread nD τ) arg16 fullShare (out15 x10) ∗ owns (c : Thread nD τ) arg17 fullShare (out16 x11)) -∗ K ⟨⟩))
      ⊢ wp frame (wpE (defs₀ (F := F)) Variants.none c none) E (cc0_stage_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_stage_attn_ffn_eq_skeleton]; unfold cc0_stage_attn_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf11
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover12 _)).trans ?_
    rfl
  isplitl [H13]
  · iexists _; isplitr
    swap; · iexact H13
    ipureintro
    refine (View.read_writes_eq_canon _ _ _ (cover13 _)).trans ?_
    rfl
  isplitl [H14]
  · iexists _; isplitr
    swap; · iexact H14
    ipureintro
    refine (View.read_writes_eq_canon _ _ _ (cover14 _)).trans ?_
    rfl
  isplitl [H15]
  · iexists _; isplitr
    swap; · iexact H15
    ipureintro
    refine (View.read_writes_eq_canon _ _ _ (cover15 _)).trans ?_
    rfl
  iexists _; isplitr
  swap; · iexact H16
  ipureintro
  refine (View.read_writes_eq_canon _ _ _ (cover16 _)).trans ?_
  rfl

set_option maxHeartbeats 1000000 in
/-- The body's triple at a later grid point: the inputs' buffers are kept, each output's buffer it stores ends at `outK` of the
    input blocks. -/
theorem sound_B (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S512x768 .bf16) (harg3 : arg3.IsWhole) (arg4 : Memref sig .tc .vmem S256x768 .f32) (harg4 : arg4.IsWhole) (arg5 : Memref sig .tc .vmem S1x768x1024 .bf16) (harg5 : arg5.IsWhole) (arg6 : Memref sig .tc .vmem S1x1x1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S1x1x32x2816 .f32) (harg10 : arg10.IsWhole) (arg11 : Memref sig .tc .vmem S1x1x32x2816 .f32) (harg11 : arg11.IsWhole) (arg12 : Memref sig .tc .vmem S1x1x2816x128 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S32x2816 .bf16) (harg15 : arg15.IsWhole) (arg16 : Memref sig .tc .vmem S32x2816 .bf16) (harg16 : arg16.IsWhole) (arg17 : Memref sig .tc .vmem S2816x128 .bf16) (harg17 : arg17.IsWhole) (hc : ¬cond i)
    (x0 : Vec F S512x1024 .f32) (x1 : Vec F S256x1024 .f32) (x2 : Vec F S512x768 .bf16) (x3 : Vec F S256x768 .f32) (x4 : Vec F S1x768x1024 .bf16) (x5 : Vec F S1x1x1x1024 .f32) (x6 : Vec F S1024x2816 .bf16) (x7 : Vec F S1024x2816 .bf16) (x8 : Vec F S2816x1024 .bf16) (x9 : Vec F S1x1x32x2816 .f32) (x10 : Vec F S1x1x32x2816 .f32) (x11 : Vec F S1x1x2816x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x2 x4 x5 x6 x7 x8) ∗ owns (c : Thread nD τ) arg15 fullShare (out14 x9) ∗ owns (c : Thread nD τ) arg16 fullShare (out15 x10) ∗ owns (c : Thread nD τ) arg17 fullShare (out16 x11)) -∗ K ⟨⟩))
      ⊢ wp frame (wpE (defs₀ (F := F)) Variants.none c none) E (cc0_stage_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_stage_attn_ffn_eq_skeleton]; unfold cc0_stage_attn_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d14, %f14, -, H14⟩, ⟨%d15, %f15, -, H15⟩, ⟨%d16, %f16, -, H16⟩, Hk⟩
  subst hf0 hf1 hf2 hf3 hf4 hf5 hf6 hf7 hf8 hf9 hf10 hf11
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover12 _)).trans ?_
    rfl
  isplitl [H14]
  · iexists _; isplitr
    swap; · iexact H14
    ipureintro
    refine (View.read_writes_eq_canon _ _ _ (cover14 _)).trans ?_
    rfl
  isplitl [H15]
  · iexists _; isplitr
    swap; · iexact H15
    ipureintro
    refine (View.read_writes_eq_canon _ _ _ (cover15 _)).trans ?_
    rfl
  iexists _; isplitr
  swap; · iexact H16
  ipureintro
  refine (View.read_writes_eq_canon _ _ _ (cover16 _)).trans ?_
  rfl

/-! ## The proof data -/

/-- The first grid point. -/
def t0 : Fin cfg0.N := ⟨0, by rw [show cfg0.N = 32 from N_0]; decide⟩

/-- The proof data on core `c`: each input's buffer keeps its block, each output's holds `outK` of the blocks of the
    point (of the first point, for an output stored at the first point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 2 t) (iblk m c 4 t) (iblk m c 5 t) (iblk m c 6 t) (iblk m c 7 t) (iblk m c 8 t)
    | ⟨13, _⟩ => out13 (iblk m c 1 t0) (iblk m c 3 t0) (iblk m c 4 t0) (iblk m c 5 t0) (iblk m c 6 t0) (iblk m c 7 t0) (iblk m c 8 t0)
    | ⟨14, _⟩ => out14 (iblk m c 9 t)
    | ⟨15, _⟩ => out15 (iblk m c 10 t)
    | ⟨16, _⟩ => out16 (iblk m c 11 t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out12 (iblk m c 0 t) (iblk m c 2 t) (iblk m c 4 t) (iblk m c 5 t) (iblk m c 6 t) (iblk m c 7 t) (iblk m c 8 t) := by dsimp only [dats]
theorem after13 (c : Dev nD) (t : Fin cfg0.N) : (dats m 0 c).after 13 t = out13 (iblk m c 1 t0) (iblk m c 3 t0) (iblk m c 4 t0) (iblk m c 5 t0) (iblk m c 6 t0) (iblk m c 7 t0) (iblk m c 8 t0) := by dsimp only [dats]
theorem after14 (c : Dev nD) (t : Fin cfg0.N) : (dats m 0 c).after 14 t = out14 (iblk m c 9 t) := by dsimp only [dats]
theorem after15 (c : Dev nD) (t : Fin cfg0.N) : (dats m 0 c).after 15 t = out15 (iblk m c 10 t) := by dsimp only [dats]
theorem after16 (c : Dev nD) (t : Fin cfg0.N) : (dats m 0 c).after 16 t = out16 (iblk m c 11 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-- Output window 13 is idle exactly at the points after the first. -/
theorem idle13 (t : Fin cfg0.N) (h : ¬ t.val % 32 = 0) : cfg0.idle 13 (grid0.coords t) = true := by
  show (!(k0_cond1 (grid0.coords t) == 1#1)) = true
  rw [beq_false_of_ne (fun h' => h ((hcond t).mp h'))]; rfl
theorem live13 (t : Fin cfg0.N) (h : t.val % 32 = 0) : cfg0.idle 13 (grid0.coords t) = false := by
  show (!(k0_cond1 (grid0.coords t) == 1#1)) = false
  rw [show k0_cond1 (grid0.coords t) = 1#1 from (hcond t).mpr h]; rfl

/-- After the first point its buffer is never fresh: the first point stored it and no point before the last
    writes it back. -/
theorem fresh13 : ∀ n : ℕ, 0 < n → n < 32 → cfg0.fresh 13 n = false
  | 0, h, _ => absurd h (lt_irrefl 0)
  | n + 1, _, h => by
    have hN : n < cfg0.N := by rw [show cfg0.N = 32 from N_0]; omega
    have hf : (cfg0.win 13).flush ⟨n, hN⟩ = false := by
      have := flush0_13 ⟨n, hN⟩
      have h2 : ¬ (n % 32 = 31) := by omega
      cases hb : (cfg0.win 13).flush ⟨n, hN⟩ with
      | false => rfl
      | true => exact absurd (this.mp hb) h2
    rw [cfg0.fresh_succ 13 n hN, hf]
    by_cases h0 : n = 0
    · subst h0
      have := live13 ⟨0, hN⟩ rfl
      rw [show cfg0.idle 13 (cfg0.grid.coords ⟨0, hN⟩) = false from this]; rfl
    · rw [fresh13 n (by omega) (by omega), Bool.and_false, Bool.or_false]

/-- So at a later point its buffer holds what the first point stored. -/
theorem before13 (c : Dev nD) (t : Fin cfg0.N) (h : ¬ t.val % 32 = 0) (d) : (dats m 0 c).before 13 t d = out13 (iblk m c 1 t0) (iblk m c 3 t0) (iblk m c 4 t0) (iblk m c 5 t0) (iblk m c 6 t0) (iblk m c 7 t0) (iblk m c 8 t0) := by
  have hN : t.val < 32 := lt_of_lt_of_eq t.isLt (show cfg0.N = 32 from N_0)
  rw [(dats m 0 c).before_out_traj 13 rfl (fun _ _ => rfl) (fun t _ _ _ => by rw [after13, after13]) t.val t rfl d,
    fresh13 t.val (by omega) hN, if_neg Bool.false_ne_true, after13]

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl
theorem live14 : ∀ t : Fin cfg0.N, cfg0.idle 14 (grid0.coords t) = false := fun _ => rfl
theorem live15 : ∀ t : Fin cfg0.N, cfg0.idle 15 (grid0.coords t) = false := fun _ => rfl
theorem live16 : ∀ t : Fin cfg0.N, cfg0.idle 16 (grid0.coords t) = false := fun _ => rfl

/-! ## The body obligation -/

abbrev ms0 (t : Fin cfg0.N) : Memref sig .tc .vmem S512x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S512x768 .bf16 := win0_2.stage (cfg0.slots t 2)
abbrev ms3 (t : Fin cfg0.N) : Memref sig .tc .vmem S256x768 .f32 := win0_3.stage (cfg0.slots t 3)
abbrev ms4 (t : Fin cfg0.N) : Memref sig .tc .vmem S1x768x1024 .bf16 := win0_4.stage (cfg0.slots t 4)
abbrev ms5 (t : Fin cfg0.N) : Memref sig .tc .vmem S1x1x1x1024 .f32 := win0_5.stage (cfg0.slots t 5)
abbrev ms6 (t : Fin cfg0.N) : Memref sig .tc .vmem S1024x2816 .bf16 := win0_6.stage (cfg0.slots t 6)
abbrev ms7 (t : Fin cfg0.N) : Memref sig .tc .vmem S1024x2816 .bf16 := win0_7.stage (cfg0.slots t 7)
abbrev ms8 (t : Fin cfg0.N) : Memref sig .tc .vmem S2816x1024 .bf16 := win0_8.stage (cfg0.slots t 8)
abbrev ms9 (t : Fin cfg0.N) : Memref sig .tc .vmem S1x1x32x2816 .f32 := win0_9.stage (cfg0.slots t 9)
abbrev ms10 (t : Fin cfg0.N) : Memref sig .tc .vmem S1x1x32x2816 .f32 := win0_10.stage (cfg0.slots t 10)
abbrev ms11 (t : Fin cfg0.N) : Memref sig .tc .vmem S1x1x2816x128 .f32 := win0_11.stage (cfg0.slots t 11)
abbrev ms12 (t : Fin cfg0.N) : Memref sig .tc .vmem S512x1024 .f32 := win0_12.stage (cfg0.slots t 12)
abbrev ms13 (t : Fin cfg0.N) : Memref sig .tc .vmem S256x1024 .f32 := win0_13.stage (cfg0.slots t 13)
abbrev ms14 (t : Fin cfg0.N) : Memref sig .tc .vmem S32x2816 .bf16 := win0_14.stage (cfg0.slots t 14)
abbrev ms15 (t : Fin cfg0.N) : Memref sig .tc .vmem S32x2816 .bf16 := win0_15.stage (cfg0.slots t 15)
abbrev ms16 (t : Fin cfg0.N) : Memref sig .tc .vmem S2816x128 .bf16 := win0_16.stage (cfg0.slots t 16)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 2000000 in
/-- The body at any point: at the first the run of case A, at a later one that of case B, where a buffer stored at the
    first point only is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 14 t = owns (c : Thread nD τ) (ms14 t) fullShare ((dats m 0 c).after 14 t) from by
    unfold Dat.leavesExact; rw [live14 t], after14]
  rw [show (dats m 0 c).leavesExact 15 t = owns (c : Thread nD τ) (ms15 t) fullShare ((dats m 0 c).after 15 t) from by
    unfold Dat.leavesExact; rw [live15 t], after15]
  rw [show (dats m 0 c).leavesExact 16 t = owns (c : Thread nD τ) (ms16 t) fullShare ((dats m 0 c).after 16 t) from by
    unfold Dat.leavesExact; rw [live16 t], after16]
  by_cases h0 : t.val % 32 = 0
  · have ht : t = t0 := Fin.ext (by show t.val = 0; omega)
    rw [show (dats m 0 c).leavesExact 13 t = owns (c : Thread nD τ) (ms13 t) fullShare ((dats m 0 c).after 13 t) from by
      unfold Dat.leavesExact; rw [live13 t h0], after13, ← ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_A c Set.univ (grid0.coords t) _ _ _ _ _ _ _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · have hl13 : ∀ d, owns (c : Thread nD τ) (ms13 t) fullShare ((dats m 0 c).before 13 t d) ⊢ (dats m 0 c).leavesExact 13 t := fun d => by
      cases hf : (cfg0.win 13).flush t with
      | false =>
        rw [(dats m 0 c).leavesExact_idle 13 t (idle13 t h0) hf]
        iintro H
        iexists d; iexact H
      | true =>
        rw [show (dats m 0 c).leavesExact 13 t = owns (c : Thread nD τ) (ms13 t) fullShare ((dats m 0 c).after 13 t) from by
          unfold Dat.leavesExact; rw [idle13 t h0, hf], after13, before13 m c t h0 d]

    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_B c Set.univ (grid0.coords t) _ _ _ _ _ _ _ _ _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H14]; · iexists _; iexact H14
    isplitl [H15]; · iexists _; iexact H15
    isplitl [H16]; · iexists _; iexact H16
    iintro ⟨H0, H1, H2, H3, H4, H5, H6, H7, H8, H9, H10, H11, H12, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply hl13 d13; iexact H13
    isplitl [H14]; · iexact H14
    isplitl [H15]; · iexact H15
    iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The launch: every array at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: every argument unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

/-! ## The results after the run -/

/-- The run with each result named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 12 cfg0.N
      ∧ r.2.mem ((c.tc : Thread nD τ).loc main_v0_1) = (dats m 0 c).arrAt 13 cfg0.N
      ∧ r.2.mem ((c.tc : Thread nD τ).loc main_v0_2) = (dats m 0 c).arrAt 14 cfg0.N
      ∧ r.2.mem ((c.tc : Thread nD τ).loc main_v0_3) = (dats m 0 c).arrAt 15 cfg0.N
      ∧ r.2.mem ((c.tc : Thread nD τ).loc main_v0_4) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1 12,
      (h c).1 13,
      (h c).1 14,
      (h c).1 15,
      (h c).1 16,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 5).trans (((dats m 0 c).arrAt_in 5 rfl _).trans ((A_eq m c 5).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩) (run_main m ρ)

end Cert.Kernel3Ideal.Run

end
-- ==== Proof.MiddleRows.lean ====
/- One row of each result of the middle stage's body, read off its operations: it is the layer's row function of the same
   row of the blocks it loads. -/
module

public import proofs.«01_k».proof.Proof.MiddleRun
public import proofs.«01_k».proof.Proof.Layer

@[expose] public section

set_option maxRecDepth 16384

noncomputable section

namespace Cert.Kernel3Ideal.Rows

open Cert.Kernel3Ideal Cert.Kernel3Ideal.Gen Cert.Layer Idealize.ShloMosaic

/-- A row plus its mixer's output projection. -/
abbrev mixed (x : Row) (a : Fin 768 → EReal) (w : Fin 768 → Fin 1024 → EReal) (j : Fin 1024) : EReal := x j + rowMul a w j

/-! ## Blocks of 512 rows -/

/-- The row after the output projection. -/
theorem mixed512 (x0 : Vec Ideal S512x1024 .f32) (x2 : Vec Ideal S512x768 .bf16) (x4 : Vec Ideal S1x768x1024 .bf16) (r : Fin 512) (j : Fin 1024) :
    Run.v17 x0 x2 x4 (ix2 r j) = mixed (fun k => x0 (ix2 r k)) (fun k => x2 (ix2 r k)) (fun k l => x4 (ix3 0 k l)) j := by
  unfold Run.v17
  pointwise [k0_pay8]
  rfl

/-- The sum of its squares. -/
theorem squares512 (x0 : Vec Ideal S512x1024 .f32) (x2 : Vec Ideal S512x768 .bf16) (x4 : Vec Ideal S1x768x1024 .bf16) (r : Fin 512) (j : Fin 1) :
    Run.v22 x0 x2 x4 (ix2 r j) = ∑ k, Run.v17 x0 x2 x4 (ix2 r k) * Run.v17 x0 x2 x4 (ix2 r k) := by
  unfold Run.v22 Run.v17
  pointwise [k0_pay10]

/-- The stored row, from the rows of the values it is built from. -/
theorem last512 (h : FVec Ideal S512x1024 .f32) (q : FVec Ideal S512x1 .f32) (x5 : Vec Ideal S1x1x1x1024 .f32)
    (x6 x7 : Vec Ideal S1024x2816 .bf16) (x8 : Vec Ideal S2816x1024 .bf16) (a : Row) (r : Fin 512)
    (hh : ∀ j, h (ix2 r j) = a j) (hq : ∀ j, q (ix2 r j) = ∑ k, a k * a k) (j : Fin 1024) :
    k0_pay12 h (Run.v19 x5) q Run.v23 (View.ld x6 Run.r8) (View.ld x7 Run.r8) (View.ld x8 Run.r9) (View.ld x6 Run.r10) (View.ld x7 Run.r10) (View.ld x8 Run.r11) (ix2 r j)
      = ffn a (fun k => x5 (ix4 0 0 0 k)) (mat x6) (mat x7) (mat x8) j := by
  unfold Run.v19 Run.v23
  pointwise [k0_pay12, k0_pay9, k0_pay11]
  simp only [hh, hq]
  exact (congrArg (fun s => a j + Ideal.ofBits FTy.f32 1056964608#32 * s)
    (sum_chunks fun k => hidden (rms a fun k => x5 (ix4 0 0 0 k)) (mat x6) (mat x7) k * mat x8 k j)).symm

/-- A row of the stored block is the layer's row function of the same row of the loaded blocks. -/
theorem row512 (x0 : Vec Ideal S512x1024 .f32) (x2 : Vec Ideal S512x768 .bf16) (x4 : Vec Ideal S1x768x1024 .bf16) (x5 : Vec Ideal S1x1x1x1024 .f32)
    (x6 x7 : Vec Ideal S1024x2816 .bf16) (x8 : Vec Ideal S2816x1024 .bf16) (r : Fin 512) (j : Fin 1024) :
    Run.out12 x0 x2 x4 x5 x6 x7 x8 (ix2 r j)
      = ffn (mixed (fun k => x0 (ix2 r k)) (fun k => x2 (ix2 r k)) (fun k l => x4 (ix3 0 k l))) (fun k => x5 (ix4 0 0 0 k)) (mat x6) (mat x7) (mat x8) j := by
  unfold Run.out12
  rw [View.canon_unit_zero (by funext a; fin_cases a <;> rfl)]
  refine last512 _ _ x5 x6 x7 x8 _ r (mixed512 x0 x2 x4 r) (fun l => ?_) j
  simp only [squares512, mixed512]

/-! ## Blocks of 256 rows -/

/-- The row after the output projection. -/
theorem mixed256 (x1 : Vec Ideal S256x1024 .f32) (x3 : Vec Ideal S256x768 .f32) (x4 : Vec Ideal S1x768x1024 .bf16) (r : Fin 256) (j : Fin 1024) :
    Run.v67 x1 x3 x4 (ix2 r j) = mixed (fun k => x1 (ix2 r k)) (fun k => x3 (ix2 r k)) (fun k l => x4 (ix3 0 k l)) j := by
  unfold Run.v67
  pointwise [k0_pay2]
  rfl

/-- The normalised row the feed-forward step multiplies. -/
theorem normed256 (x1 : Vec Ideal S256x1024 .f32) (x3 : Vec Ideal S256x768 .f32) (x4 : Vec Ideal S1x768x1024 .bf16) (x5 : Vec Ideal S1x1x1x1024 .f32) (r : Fin 256) (j : Fin 1024) :
    Run.v82 x1 x3 x4 x5 (ix2 r j) = rms (fun k => Run.v67 x1 x3 x4 (ix2 r k)) (fun k => x5 (ix4 0 0 0 k)) j := by
  unfold Run.v82 Run.v67
  pointwise [k0_pay3]
  rfl

/-- The part of the feed-forward step from the first 1536 positions of its hidden row. -/
theorem first256 (x1 : Vec Ideal S256x1024 .f32) (x3 : Vec Ideal S256x768 .f32) (x4 : Vec Ideal S1x768x1024 .bf16) (x5 : Vec Ideal S1x1x1x1024 .f32)
    (x6 x7 : Vec Ideal S1024x2816 .bf16) (x8 : Vec Ideal S2816x1024 .bf16) (r : Fin 256) (j : Fin 1024) :
    Run.v92 x1 x3 x4 x5 x6 x7 x8 (ix2 r j)
      = ∑ k : Fin 1536, hidden (fun l => Run.v82 x1 x3 x4 x5 (ix2 r l)) (mat x6) (mat x7) ⟨k.val, by omega⟩ * mat x8 ⟨k.val, by omega⟩ j := by
  unfold Run.v92 Run.v82
  pointwise [k0_pay4]
  rfl

/-- The stored row, from the rows of the values it is built from. -/
theorem last256 (h : FVec Ideal S256x1024 .f32) (u : FVec Ideal S256x1024 .bf16) (f : FVec Ideal S256x1024 .f32)
    (x6 x7 : Vec Ideal S1024x2816 .bf16) (x8 : Vec Ideal S2816x1024 .bf16) (a g : Row) (r : Fin 256)
    (hh : ∀ j, h (ix2 r j) = a j) (hu : ∀ j, u (ix2 r j) = rms a g j)
    (hf : ∀ j, f (ix2 r j) = ∑ k : Fin 1536, hidden (rms a g) (mat x6) (mat x7) ⟨k.val, by omega⟩ * mat x8 ⟨k.val, by omega⟩ j) (j : Fin 1024) :
    k0_pay1 h u f (View.ld x6 Run.r10) (constant S256x1280 .f32 0x00000000#32) (View.ld x7 Run.r10) (View.ld x8 Run.r11) (ix2 r j)
      = ffn a g (mat x6) (mat x7) (mat x8) j := by
  pointwise [k0_pay1]
  simp only [hh, hu, hf]
  exact (congrArg (fun s => a j + Ideal.ofBits FTy.f32 1056964608#32 * s)
    (sum_chunks fun k => hidden (rms a g) (mat x6) (mat x7) k * mat x8 k j)).symm

/-- A row of the stored block is the layer's row function of the same row of the loaded blocks. -/
theorem row256 (x1 : Vec Ideal S256x1024 .f32) (x3 : Vec Ideal S256x768 .f32) (x4 : Vec Ideal S1x768x1024 .bf16) (x5 : Vec Ideal S1x1x1x1024 .f32)
    (x6 x7 : Vec Ideal S1024x2816 .bf16) (x8 : Vec Ideal S2816x1024 .bf16) (r : Fin 256) (j : Fin 1024) :
    Run.out13 x1 x3 x4 x5 x6 x7 x8 (ix2 r j)
      = ffn (mixed (fun k => x1 (ix2 r k)) (fun k => x3 (ix2 r k)) (fun k l => x4 (ix3 0 k l))) (fun k => x5 (ix4 0 0 0 k)) (mat x6) (mat x7) (mat x8) j := by
  have hn : (fun l => Run.v82 x1 x3 x4 x5 (ix2 r l)) = rms (mixed (fun k => x1 (ix2 r k)) (fun k => x3 (ix2 r k)) (fun k l => x4 (ix3 0 k l))) (fun k => x5 (ix4 0 0 0 k)) := by
    funext l
    rw [normed256, funext (mixed256 x1 x3 x4 r)]
  unfold Run.out13
  rw [View.canon_unit_zero (by funext a; fin_cases a <;> rfl)]
  refine last256 _ _ _ x6 x7 x8 _ _ r (mixed256 x1 x3 x4 r) (fun l => congrFun hn l) (fun l => ?_) j
  rw [first256, hn]

/-! ## The next step's weights -/

/-- The gate weights handed on. -/
theorem gate (x : Vec Ideal S1x1x32x2816 .f32) (r : Fin 32) (j : Fin 2816) : Run.out14 x (ix2 r j) = x (ix4 0 0 r j) := by
  unfold Run.out14
  rw [View.canon_unit_zero (by funext a; fin_cases a <;> rfl)]
  pointwise [k0_pay5]

/-- The weights beside the gate handed on. -/
theorem up (x : Vec Ideal S1x1x32x2816 .f32) (r : Fin 32) (j : Fin 2816) : Run.out15 x (ix2 r j) = x (ix4 0 0 r j) := by
  unfold Run.out15
  rw [View.canon_unit_zero (by funext a; fin_cases a <;> rfl)]
  pointwise [k0_pay6]

/-- The down weights handed on. -/
theorem down (x : Vec Ideal S1x1x2816x128 .f32) (r : Fin 2816) (j : Fin 128) : Run.out16 x (ix2 r j) = x (ix4 0 0 r j) := by
  unfold Run.out16
  rw [View.canon_unit_zero (by funext a; fin_cases a <;> rfl)]
  pointwise [k0_pay7]

end Cert.Kernel3Ideal.Rows

end
-- ==== Proof.MiddleReference.lean ====
/- One row of each result of the middle stage's reference, read off its operations: it is the layer's row function of the
   same row of the arguments. -/
module

public import proofs.«01_k».proof.Proof.Gen.Reference3Ideal.Read
public import proofs.«01_k».proof.Proof.Layer

@[expose] public section

set_option maxRecDepth 16384

noncomputable section

namespace Cert.Reference3Ideal.Rows

open Cert.Reference3Ideal Cert.Reference3Ideal.Gen Cert.Reference3Ideal.Read Cert.Layer Idealize.ShloMosaic

/-! ## 16384 rows -/

/-- The row after the output projection. -/
theorem mixed16384 (x0 : Vec Ideal S16384x1024 .f32) (x3 : Vec Ideal S16384x768 .bf16) (x5 : Vec Ideal S1x768x1024 .bf16) (r : Fin 16384) (j : Fin 1024) :
    val_main_v7 (F := Ideal) x0 x3 x5 (ix2 r j) = x0 (ix2 r j) + rowMul (fun k => x3 (ix2 r k)) (fun k l => x5 (ix3 0 k l)) j := by
  pointwise [val_main_v7, val_main_v6, val_main_v1, val_main_v0, val_main_v5]
  rfl

/-- The normalised row the feed-forward step multiplies. -/
theorem normed16384 (x0 : Vec Ideal S16384x1024 .f32) (x2 : Vec Ideal S2x3x1x1024 .f32) (x3 : Vec Ideal S16384x768 .bf16) (x5 : Vec Ideal S1x768x1024 .bf16) (r : Fin 16384) (j : Fin 1024) :
    val_main_v22 (F := Ideal) x0 x2 x3 x5 (ix2 r j) = rms (fun k => val_main_v7 (F := Ideal) x0 x3 x5 (ix2 r k)) (fun k => x2 (ix4 0 2 0 k)) j := by
  pointwise [val_main_v22, val_main_v21, val_main_v20, val_main_v9, val_main_v8, val_main_v19, val_main_v18, val_main_v17, val_main_v16, val_main_v15, val_main_cst_1, val_main_v14, val_main_v13, val_main_cst_0, val_main_v12, val_main_v11, val_main_cst, val_main_v10]
  rfl

/-- The hidden row of the feed-forward step. -/
theorem hid16384 (x0 : Vec Ideal S16384x1024 .f32) (x2 : Vec Ideal S2x3x1x1024 .f32) (x3 : Vec Ideal S16384x768 .bf16) (x5 : Vec Ideal S1x768x1024 .bf16) (x6 : Vec Ideal S1024x2816 .bf16) (x7 : Vec Ideal S1024x2816 .bf16) (r : Fin 16384) (j : Fin 2816) :
    val_main_v26 (F := Ideal) x0 x2 x3 x5 x6 x7 (ix2 r j) = hidden (fun k => val_main_v22 (F := Ideal) x0 x2 x3 x5 (ix2 r k)) (mat x6) (mat x7) j := by
  pointwise [val_main_v26, val_main_v25, val_main_v3, val_main_v24, val_main_call0_v5, val_main_call0_v3, val_main_call0_v1, val_main_call0_v0, val_main_v23, val_main_v2, val_main_call0_v2, val_main_call0_cst, val_main_call0_v4, val_main_call0_cst_0]
  rfl

/-- A row of the result is the layer's row function of the same row of the arguments. -/
theorem row16384 (x0 : Vec Ideal S16384x1024 .f32) (x2 : Vec Ideal S2x3x1x1024 .f32) (x3 : Vec Ideal S16384x768 .bf16) (x5 : Vec Ideal S1x768x1024 .bf16) (x6 : Vec Ideal S1024x2816 .bf16) (x7 : Vec Ideal S1024x2816 .bf16) (x8 : Vec Ideal S2816x1024 .bf16) (r : Fin 16384) (j : Fin 1024) :
    val_main_v30 (F := Ideal) x0 x2 x3 x5 x6 x7 x8 (ix2 r j) =
      ffn (fun j => x0 (ix2 r j) + rowMul (fun k => x3 (ix2 r k)) (fun k l => x5 (ix3 0 k l)) j) (fun k => x2 (ix4 0 2 0 k)) (mat x6) (mat x7) (mat x8) j := by
  have hm : (fun k => val_main_v7 (F := Ideal) x0 x3 x5 (ix2 r k)) = (fun j => x0 (ix2 r j) + rowMul (fun k => x3 (ix2 r k)) (fun k l => x5 (ix3 0 k l)) j) := funext (mixed16384 _ _ _ r)
  have hn : (fun k => val_main_v22 (F := Ideal) x0 x2 x3 x5 (ix2 r k)) = rms (fun j => x0 (ix2 r j) + rowMul (fun k => x3 (ix2 r k)) (fun k l => x5 (ix3 0 k l)) j) (fun k => x2 (ix4 0 2 0 k)) := by
    rw [← hm]; exact funext (normed16384 _ _ _ _ r)
  pointwise [val_main_v30, val_main_v29, val_main_v27, val_main_v4, val_main_v28, val_main_cst_2]
  simp only [hid16384, hn, mixed16384]
  rfl

/-! ## 256 rows -/

/-- The row after the output projection. -/
theorem mixed256 (x1 : Vec Ideal S256x1024 .f32) (x4 : Vec Ideal S256x768 .f32) (x5 : Vec Ideal S1x768x1024 .bf16) (r : Fin 256) (j : Fin 1024) :
    val_main_v32 (F := Ideal) x1 x4 x5 (ix2 r j) = x1 (ix2 r j) + rowMul (fun k => x4 (ix2 r k)) (fun k l => x5 (ix3 0 k l)) j := by
  pointwise [val_main_v32, val_main_v31, val_main_v1, val_main_v0]
  rfl

/-- The normalised row the feed-forward step multiplies. -/
theorem normed256 (x1 : Vec Ideal S256x1024 .f32) (x2 : Vec Ideal S2x3x1x1024 .f32) (x4 : Vec Ideal S256x768 .f32) (x5 : Vec Ideal S1x768x1024 .bf16) (r : Fin 256) (j : Fin 1024) :
    val_main_v47 (F := Ideal) x1 x2 x4 x5 (ix2 r j) = rms (fun k => val_main_v32 (F := Ideal) x1 x4 x5 (ix2 r k)) (fun k => x2 (ix4 0 2 0 k)) j := by
  pointwise [val_main_v47, val_main_v46, val_main_v45, val_main_v34, val_main_v33, val_main_v44, val_main_v43, val_main_v42, val_main_v41, val_main_v40, val_main_cst_5, val_main_v39, val_main_v38, val_main_cst_4, val_main_v37, val_main_v36, val_main_cst_3, val_main_v35]
  rfl

/-- The hidden row of the feed-forward step. -/
theorem hid256 (x1 : Vec Ideal S256x1024 .f32) (x2 : Vec Ideal S2x3x1x1024 .f32) (x4 : Vec Ideal S256x768 .f32) (x5 : Vec Ideal S1x768x1024 .bf16) (x6 : Vec Ideal S1024x2816 .bf16) (x7 : Vec Ideal S1024x2816 .bf16) (r : Fin 256) (j : Fin 2816) :
    val_main_v51 (F := Ideal) x1 x2 x4 x5 x6 x7 (ix2 r j) = hidden (fun k => val_main_v47 (F := Ideal) x1 x2 x4 x5 (ix2 r k)) (mat x6) (mat x7) j := by
  pointwise [val_main_v51, val_main_v50, val_main_v3, val_main_v49, val_main_call1_v5, val_main_call1_v3, val_main_call1_v1, val_main_call1_v0, val_main_v48, val_main_v2, val_main_call1_v2, val_main_call1_cst, val_main_call1_v4, val_main_call1_cst_0]
  rfl

/-- A row of the result is the layer's row function of the same row of the arguments. -/
theorem row256 (x1 : Vec Ideal S256x1024 .f32) (x2 : Vec Ideal S2x3x1x1024 .f32) (x4 : Vec Ideal S256x768 .f32) (x5 : Vec Ideal S1x768x1024 .bf16) (x6 : Vec Ideal S1024x2816 .bf16) (x7 : Vec Ideal S1024x2816 .bf16) (x8 : Vec Ideal S2816x1024 .bf16) (r : Fin 256) (j : Fin 1024) :
    val_main_v55 (F := Ideal) x1 x2 x4 x5 x6 x7 x8 (ix2 r j) =
      ffn (fun j => x1 (ix2 r j) + rowMul (fun k => x4 (ix2 r k)) (fun k l => x5 (ix3 0 k l)) j) (fun k => x2 (ix4 0 2 0 k)) (mat x6) (mat x7) (mat x8) j := by
  have hm : (fun k => val_main_v32 (F := Ideal) x1 x4 x5 (ix2 r k)) = (fun j => x1 (ix2 r j) + rowMul (fun k => x4 (ix2 r k)) (fun k l => x5 (ix3 0 k l)) j) := funext (mixed256 _ _ _ r)
  have hn : (fun k => val_main_v47 (F := Ideal) x1 x2 x4 x5 (ix2 r k)) = rms (fun j => x1 (ix2 r j) + rowMul (fun k => x4 (ix2 r k)) (fun k l => x5 (ix3 0 k l)) j) (fun k => x2 (ix4 0 2 0 k)) := by
    rw [← hm]; exact funext (normed256 _ _ _ _ r)
  pointwise [val_main_v55, val_main_v54, val_main_v52, val_main_v4, val_main_v53, val_main_cst_6]
  simp only [hid256, hn, mixed256]
  rfl

/-! ## The next step's weights -/

/-- The gate weights handed on. -/
theorem gate (x9 : Vec Ideal S2x2x1024x2816 .f32) (r : Fin 1024) (j : Fin 2816) : val_main_v58 (F := Ideal) x9 (ix2 r j) = x9 (ix4 1 0 r j) := by
  pointwise [val_main_v58, val_main_v57, val_main_v56]

/-- The up weights handed on. -/
theorem up (x10 : Vec Ideal S2x2x1024x2816 .f32) (r : Fin 1024) (j : Fin 2816) : val_main_v61 (F := Ideal) x10 (ix2 r j) = x10 (ix4 1 0 r j) := by
  pointwise [val_main_v61, val_main_v60, val_main_v59]

/-- The down weights handed on. -/
theorem down (x11 : Vec Ideal S2x2x2816x1024 .f32) (r : Fin 2816) (j : Fin 1024) : val_main_v64 (F := Ideal) x11 (ix2 r j) = x11 (ix4 1 0 r j) := by
  pointwise [val_main_v64, val_main_v63, val_main_v62]

end Cert.Reference3Ideal.Rows

end
-- ==== Proof.MiddleStage.lean ====
/- The middle stage: its results are the reference's. Every block a point writes back is read at an index, where the
   body's value and the reference's are one function of the same arguments. -/
module

public import proofs.«01_k».proof.Proof.MiddleRows
public import proofs.«01_k».proof.Proof.MiddleReference
public import Idealize.ShloMosaic.Lib.Pipeline.ValueKit
public import Idealize.ShloMosaic.Lib.Claim

@[expose] public section

set_option maxRecDepth 16384

noncomputable section

namespace Cert.Kernel3Ideal.Stage

open Cert.Kernel3Ideal Cert.Kernel3Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block sits in its array at point `t`. -/
theorem idx (t : Fin cfg0.N) : win0_0.index t = ![t.val, 0]
    ∧ win0_1.index t = ![0, 0]
    ∧ win0_2.index t = ![t.val, 0]
    ∧ win0_3.index t = ![0, 0]
    ∧ win0_4.index t = ![0, 0, 0]
    ∧ win0_5.index t = ![0, 2, 0, 0]
    ∧ win0_6.index t = ![0, 0]
    ∧ win0_7.index t = ![0, 0]
    ∧ win0_8.index t = ![0, 0]
    ∧ win0_9.index t = ![1, 0, t.val, 0]
    ∧ win0_10.index t = ![1, 0, t.val, 0]
    ∧ win0_11.index t = ![1, 0, 0, t.val / 4]
    ∧ win0_12.index t = ![t.val, 0]
    ∧ win0_13.index t = ![0, 0]
    ∧ win0_14.index t = ![t.val, 0]
    ∧ win0_15.index t = ![t.val, 0]
    ∧ win0_16.index t = ![0, t.val / 4] :=
  (by decide +kernel : ∀ t : Fin grid0.N, win0_0.index t = ![t.val, 0]
    ∧ win0_1.index t = ![0, 0]
    ∧ win0_2.index t = ![t.val, 0]
    ∧ win0_3.index t = ![0, 0]
    ∧ win0_4.index t = ![0, 0, 0]
    ∧ win0_5.index t = ![0, 2, 0, 0]
    ∧ win0_6.index t = ![0, 0]
    ∧ win0_7.index t = ![0, 0]
    ∧ win0_8.index t = ![0, 0]
    ∧ win0_9.index t = ![1, 0, t.val, 0]
    ∧ win0_10.index t = ![1, 0, t.val, 0]
    ∧ win0_11.index t = ![1, 0, 0, t.val / 4]
    ∧ win0_12.index t = ![t.val, 0]
    ∧ win0_13.index t = ![0, 0]
    ∧ win0_14.index t = ![t.val, 0]
    ∧ win0_15.index t = ![t.val, 0]
    ∧ win0_16.index t = ![0, t.val / 4]) t

/-- The output projection, as loaded. -/
theorem wOut (c : Dev nD) (t : Fin cfg0.N) :
    (fun (k : Fin 768) (l : Fin 1024) => iblk m c 4 t (ix3 0 k l)) = fun k l => m ((c.tc : Thread nD τ).loc main_arg5) (ix3 0 k l) := by
  funext k l
  blk_ext [iblk, V, idx t]

/-- The gains of the feed-forward step, as loaded. -/
theorem gains (c : Dev nD) (t : Fin cfg0.N) :
    (fun (k : Fin 1024) => iblk m c 5 t (ix4 0 0 0 k)) = fun k => m ((c.tc : Thread nD τ).loc main_arg2) (ix4 0 2 0 k) := by
  funext k
  blk_ext [iblk, V, idx t]

/-- The gate weights, as loaded. -/
theorem wGate (c : Dev nD) (t : Fin cfg0.N) : (mat (iblk m c 6 t) : Fin 1024 → Fin 2816 → EReal) = mat (m ((c.tc : Thread nD τ).loc main_arg6)) := by
  funext k l
  show iblk m c 6 t (ix2 k l) = m ((c.tc : Thread nD τ).loc main_arg6) (ix2 k l)
  blk_ext [iblk, V, idx t]

/-- The weights beside the gate, as loaded. -/
theorem wUp (c : Dev nD) (t : Fin cfg0.N) : (mat (iblk m c 7 t) : Fin 1024 → Fin 2816 → EReal) = mat (m ((c.tc : Thread nD τ).loc main_arg7)) := by
  funext k l
  show iblk m c 7 t (ix2 k l) = m ((c.tc : Thread nD τ).loc main_arg7) (ix2 k l)
  blk_ext [iblk, V, idx t]

/-- The down weights, as loaded. -/
theorem wDown (c : Dev nD) (t : Fin cfg0.N) : (mat (iblk m c 8 t) : Fin 2816 → Fin 1024 → EReal) = mat (m ((c.tc : Thread nD τ).loc main_arg8)) := by
  funext k l
  show iblk m c 8 t (ix2 k l) = m ((c.tc : Thread nD τ).loc main_arg8) (ix2 k l)
  blk_ext [iblk, V, idx t]

/-- Row `r` of the prompt stream's block at point `t`. -/
theorem xprompt (c : Dev nD) (t : Fin cfg0.N) (r : Fin 512) :
    (fun (k : Fin 1024) => iblk m c 0 t (ix2 r k)) = fun k => m ((c.tc : Thread nD τ).loc main_arg0) (ix2 ⟨t.val * 512 + r.val, by have h := t.isLt; change t.val < 32 at h; omega⟩ k) := by
  funext k
  blk_ext [iblk, V, idx t]

/-- Row `r` of the sample stream's block at point `t`. -/
theorem xsample (c : Dev nD) (t : Fin cfg0.N) (r : Fin 256) :
    (fun (k : Fin 1024) => iblk m c 1 t (ix2 r k)) = fun k => m ((c.tc : Thread nD τ).loc main_arg1) (ix2 r k) := by
  funext k
  blk_ext [iblk, V, idx t]

/-- Row `r` of the prompt stream's mixed block at point `t`. -/
theorem aprompt (c : Dev nD) (t : Fin cfg0.N) (r : Fin 512) :
    (fun (k : Fin 768) => iblk m c 2 t (ix2 r k)) = fun k => m ((c.tc : Thread nD τ).loc main_arg3) (ix2 ⟨t.val * 512 + r.val, by have h := t.isLt; change t.val < 32 at h; omega⟩ k) := by
  funext k
  blk_ext [iblk, V, idx t]

/-- Row `r` of the sample stream's mixed block at point `t`. -/
theorem asample (c : Dev nD) (t : Fin cfg0.N) (r : Fin 256) :
    (fun (k : Fin 768) => iblk m c 3 t (ix2 r k)) = fun k => m ((c.tc : Thread nD τ).loc main_arg4) (ix2 r k) := by
  funext k
  blk_ext [iblk, V, idx t]

/-- A row of the next gate weights, as loaded. -/
theorem nextGate (c : Dev nD) (t : Fin cfg0.N) (r : Fin 32) :
    (fun (k : Fin 2816) => iblk m c 9 t (ix4 0 0 r k)) = fun k => m ((c.tc : Thread nD τ).loc main_arg9) (ix4 1 0 ⟨t.val * 32 + r.val, by have h := t.isLt; change t.val < 32 at h; omega⟩ k) := by
  funext k
  blk_ext [iblk, V, idx t]

/-- A row of the next weights beside the gate, as loaded. -/
theorem nextUp (c : Dev nD) (t : Fin cfg0.N) (r : Fin 32) :
    (fun (k : Fin 2816) => iblk m c 10 t (ix4 0 0 r k)) = fun k => m ((c.tc : Thread nD τ).loc main_arg10) (ix4 1 0 ⟨t.val * 32 + r.val, by have h := t.isLt; change t.val < 32 at h; omega⟩ k) := by
  funext k
  blk_ext [iblk, V, idx t]

/-- A row of the next down weights, as loaded. -/
theorem nextDown (c : Dev nD) (t : Fin cfg0.N) (r : Fin 2816) :
    (fun (k : Fin 128) => iblk m c 11 t (ix4 0 0 r k)) = fun k => m ((c.tc : Thread nD τ).loc main_arg11) (ix4 1 0 r ⟨t.val / 4 * 128 + k.val, by have h := t.isLt; change t.val < 32 at h; omega⟩) := by
  funext k
  blk_ext [iblk, V, idx t]

/-- The prompt stream's result is the reference's. -/
theorem prompt (c : Dev nD) : (Run.dats m 0 c).arrAt 12 cfg0.N
    = Cert.Reference3Ideal.Read.val_main_v30 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  refine (Run.dats m 0 c).arrAt_eq_of_covers 12 _ (by decide +kernel) fun t hf y => ?_
  blk_simp
  rw [Run.after12]
  idx_vars y
  have he : ((View.whole main_v0_0).slice (win0_12.rect t)).emb (ix2 y0 y1) = ix2 ⟨t.val * 512 + y0.val, by have h := t.isLt; change t.val < 32 at h; omega⟩ y1 := by
    blk_ext [iblk, V, idx t]
  rw [he, Rows.row512, Cert.Reference3Ideal.Rows.row16384, xprompt m c t y0, aprompt m c t y0, wOut m c t, gains m c t, wGate m c t, wUp m c t, wDown m c t]

/-- The sample stream's result is the reference's. -/
theorem sample (c : Dev nD) : (Run.dats m 0 c).arrAt 13 cfg0.N
    = Cert.Reference3Ideal.Read.val_main_v55 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (Run.dats m 0 c).arrAt_eq_of_covers 13 _ (by decide +kernel) fun t hf y => ?_
  blk_simp
  rw [Run.after13]
  idx_vars y
  have he : ((View.whole main_v0_1).slice (win0_13.rect t)).emb (ix2 y0 y1) = ix2 y0 y1 := by
    blk_ext [iblk, V, idx t]
  rw [he, Rows.row256, Cert.Reference3Ideal.Rows.row256, xsample m c Run.t0 y0, asample m c Run.t0 y0, wOut m c Run.t0, gains m c Run.t0, wGate m c Run.t0, wUp m c Run.t0, wDown m c Run.t0]

/-- The gate weights handed on are the reference's. -/
theorem keptGate (c : Dev nD) : (Run.dats m 0 c).arrAt 14 cfg0.N
    = Cert.Reference3Ideal.Read.val_main_v58 (F := Ideal) (m ((c.tc : Thread nD τ).loc main_arg9)) := by
  refine (Run.dats m 0 c).arrAt_eq_of_covers 14 _ (by decide +kernel) fun t hf y => ?_
  blk_simp
  rw [Run.after14]
  idx_vars y
  have he : ((View.whole main_v0_2).slice (win0_14.rect t)).emb (ix2 y0 y1) = ix2 ⟨t.val * 32 + y0.val, by have h := t.isLt; change t.val < 32 at h; omega⟩ y1 := by
    blk_ext [iblk, V, idx t]
  rw [he, Rows.gate, Cert.Reference3Ideal.Rows.gate, congrFun (nextGate m c t y0) y1]

/-- The weights handed on beside the gate are the reference's. -/
theorem keptUp (c : Dev nD) : (Run.dats m 0 c).arrAt 15 cfg0.N
    = Cert.Reference3Ideal.Read.val_main_v61 (F := Ideal) (m ((c.tc : Thread nD τ).loc main_arg10)) := by
  refine (Run.dats m 0 c).arrAt_eq_of_covers 15 _ (by decide +kernel) fun t hf y => ?_
  blk_simp
  rw [Run.after15]
  idx_vars y
  have he : ((View.whole main_v0_3).slice (win0_15.rect t)).emb (ix2 y0 y1) = ix2 ⟨t.val * 32 + y0.val, by have h := t.isLt; change t.val < 32 at h; omega⟩ y1 := by
    blk_ext [iblk, V, idx t]
  rw [he, Rows.up, Cert.Reference3Ideal.Rows.up, congrFun (nextUp m c t y0) y1]

/-- The down weights handed on are the reference's. -/
theorem keptDown (c : Dev nD) : (Run.dats m 0 c).arrAt 16 cfg0.N
    = Cert.Reference3Ideal.Read.val_main_v64 (F := Ideal) (m ((c.tc : Thread nD τ).loc main_arg11)) := by
  refine (Run.dats m 0 c).arrAt_eq_of_covers 16 _ (by decide +kernel) fun t hf y => ?_
  blk_simp
  rw [Run.after16]
  idx_vars y
  have he : ((View.whole main_v0_4).slice (win0_16.rect t)).emb (ix2 y0 y1) = ix2 y0 ⟨t.val / 4 * 128 + y1.val, by have h := t.isLt; change t.val < 32 at h; omega⟩ := by
    blk_ext [iblk, V, idx t]
  rw [he, Rows.down, Cert.Reference3Ideal.Rows.down, congrFun (nextDown m c t y0) y1]

end Cert.Kernel3Ideal.Stage

end
-- ==== Proof.MiddleClaims.lean ====
module

public import proofs.«01_k».proof.Proof.MiddleStage
public import proofs.«01_k».proof.Proof.Gen.Reference3Ideal.Run
public import proofs.«01_k».proof.Proof.Gen.Reference3Ideal.Read
public import proofs.«01_k».proof.Defs
public import Idealize.ShloMosaic.Lib.Claim

@[expose] public section

set_option maxRecDepth 16384

noncomputable section

/-! The middle stage: the statements about the reference and about the pair. -/

namespace Cert.MiddleClaims

open Idealize.ShloMosaic Idealize.SL.Sem

instance : Cert.Kernel3Ideal.Facts := Cert.Kernel3Ideal.Gen.facts
instance : Cert.Reference3Ideal.Facts := Cert.Reference3Ideal.Gen.facts

section
open Cert.Reference3Ideal

/-- The reference ends with each result at its composed term of the arguments, which are unchanged. -/
theorem reference_run (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v30) = Cert.Reference3Ideal.Read.val_main_v30 (F := Ideal) (m' ((c.tc : Thread nD τ).loc main_arg0)) (m' ((c.tc : Thread nD τ).loc main_arg2)) (m' ((c.tc : Thread nD τ).loc main_arg3)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_v55) = Cert.Reference3Ideal.Read.val_main_v55 (F := Ideal) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_v58) = Cert.Reference3Ideal.Read.val_main_v58 (F := Ideal) (m' ((c.tc : Thread nD τ).loc main_arg9))
      ∧ r.2.mem ((c.tc : Thread nD τ).loc main_v61) = Cert.Reference3Ideal.Read.val_main_v61 (F := Ideal) (m' ((c.tc : Thread nD τ).loc main_arg10))
      ∧ r.2.mem ((c.tc : Thread nD τ).loc main_v64) = Cert.Reference3Ideal.Read.val_main_v64 (F := Ideal) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono (fun r h c => ⟨(h c).1.trans (Cert.Reference3Ideal.Read.val_main_v30_eq m' c),
      (h c).2.1.trans (Cert.Reference3Ideal.Read.val_main_v55_eq m' c),
      (h c).2.2.1.trans (Cert.Reference3Ideal.Read.val_main_v58_eq (m' ((c.tc : Thread nD τ).loc main_arg9))),
      (h c).2.2.2.1.trans (Cert.Reference3Ideal.Read.val_main_v61_eq (m' ((c.tc : Thread nD τ).loc main_arg10))),
      (h c).2.2.2.2.1.trans (Cert.Reference3Ideal.Read.val_main_v64_eq (m' ((c.tc : Thread nD τ).loc main_arg11))),
      (h c).2.2.2.2.2⟩)
    (Cert.Reference3Ideal.Value.run (F := Ideal) m' g')

end

/-- The reference ends, with its arguments unchanged and every counter at zero. -/
theorem reference_frame : quiescent_Reference3Ideal := fun m g _ =>
  (θ_run Cert.Reference3Ideal.defs _ _).mono (fun r h => ⟨fun c => (h c).2.2.2.2.2, sem_eq_zero_of_no_sems (by decide) r.2⟩)
    (reference_run m g)

/-- Every result of the stage is, over the extended reals, the reference's. -/
theorem pair : algebraic_Kernel3Ideal_Reference3Ideal := by
  pair_intro
  · run_from Cert.Kernel3Ideal.Run.run_blocks m g
  · run_from reference_run m' g'
    · rw [Cert.Kernel3Ideal.Stage.prompt m c]
    · rw [Cert.Kernel3Ideal.Stage.sample m c]
    · rw [Cert.Kernel3Ideal.Stage.keptGate m c]
    · rw [Cert.Kernel3Ideal.Stage.keptUp m c]
    · rw [Cert.Kernel3Ideal.Stage.keptDown m c]

end Cert.MiddleClaims

end
-- ==== Proof.MiddlePrinted.lean ====
/- Kernel3 and Kernel3Ideal are one text, which is generic in its elements, printed under two names. So the two body
   tables agree at any elements, and the frame of the printed call at the machine's elements is the generic frame of
   MiddleRun. -/
module

public import proofs.«01_k».proof.Proof.MiddleRun
public import proofs.«01_k».proof.Proof.Gen.Kernel3.Skeleton
public import proofs.«01_k».proof.Defs

@[expose] public section

set_option maxRecDepth 16384

noncomputable section

namespace Cert.Kernel3.Run

open Idealize.ShloMosaic Idealize.SL.Sem

instance : Cert.Kernel3.Facts := Cert.Kernel3.Gen.facts

/-- The two bodies are the same program. -/
theorem body_eq : @Cert.Kernel3.cc0_stage_attn_ffn Bits _ _ = @Cert.Kernel3Ideal.cc0_stage_attn_ffn Bits _ _ := rfl

set_option maxHeartbeats 4000000 in
/-- The two tables of bodies agree, at the one label they have. -/
theorem defs₀_eq : Cert.Kernel3.defs₀ (F := Bits) = Cert.Kernel3Ideal.defs₀ (F := Bits) := by
  refine congrArg _ (funext fun l => funext fun a => ?_)
  match l, a with
  | 0, (_, _) =>
    dsimp only
    rw [body_eq]
    exact rfl
  | ⟨_ + 1, h⟩, _ => exact absurd h (Nat.not_lt.2 (Nat.le_add_left _ _))

/-- And so do the tables with the pipeline's labels added. -/
theorem defs_eq : Cert.Kernel3.defs (F := Bits) = Cert.Kernel3Ideal.defs (F := Bits) :=
  congrArg (Pipeline.defs Cert.Kernel3.pcfgs) defs₀_eq

/-- The printed call ends with its arguments unchanged and every counter at zero. -/
theorem frame : quiescent_Kernel3 := by
  intro m ρ _
  rw [defs_eq]
  exact Cert.Kernel3Ideal.Run.frame (F := Bits) m ρ

end Cert.Kernel3.Run

end
-- ==== Proof.SlabsRun.lean ====
/- The run of Kernel4Ideal's one pipelined call with every result named: what each staging buffer holds after the
   body as a function of the input blocks, the body's triple in its two cases (the grid's first point, which also
   stores the sample stream, and the other points), the proof data, the launch, and the frame. -/
module

public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores -/

abbrev r0 : Rect S1x1x32x2816 := Rect.unit (s := S1x1x32x2816) ![0, 0, 0, 0] S1x1x32x2816.size inb_S1x1x32x2816_S1x1x32x2816_0_0_0_0
abbrev r1 : Rect S32x2816 := Rect.unit (s := S32x2816) ![0, 0] S32x2816.size inb_S32x2816_S32x2816_0_0
abbrev r2 : Rect S1x1x2816x128 := Rect.unit (s := S1x1x2816x128) ![0, 0, 0, 0] S1x1x2816x128.size inb_S1x1x2816x128_S1x1x2816x128_0_0_0_0
abbrev r3 : Rect S2816x128 := Rect.unit (s := S2816x128) ![0, 0] S2816x128.size inb_S2816x128_S2816x128_0_0
abbrev r4 : Rect S512x1024 := Rect.unit (s := S512x1024) ![0, 0] S512x1024.size inb_S512x1024_S512x1024_0_0
abbrev r5 : Rect S1x1x1x1024 := Rect.unit (s := S1x1x1x1024) ![0, 0, 0, 0] S1x1x1x1024.size inb_S1x1x1x1024_S1x1x1x1024_0_0_0_0
abbrev r6 : Rect S1024x2816 := Rect.unit (s := S1024x2816) ![0, 0] S1024x1536.size inb_S1024x2816_S1024x1536_0_0
abbrev r7 : Rect S2816x1024 := Rect.unit (s := S2816x1024) ![0, 0] S1536x1024.size inb_S2816x1024_S1536x1024_0_0
abbrev r8 : Rect S1024x2816 := Rect.unit (s := S1024x2816) ![0, 1536] S1024x1280.size inb_S1024x2816_S1024x1280_0_1536
abbrev r9 : Rect S2816x1024 := Rect.unit (s := S2816x1024) ![1536, 0] S1280x1024.size inb_S2816x1024_S1280x1024_1536_0
abbrev r10 : Rect S1x1024x1024 := Rect.unit (s := S1x1024x1024) ![0, 0, 0] S1x1024x1024.size inb_S1x1024x1024_S1x1024x1024_0_0_0
abbrev r11 : Rect S8x512x128 := Rect.unit (s := S8x512x128) ![0, 0, 0] S1x512x128.size inb_S8x512x128_S1x512x128_0_0_0
abbrev r12 : Rect S8x512x128 := Rect.unit (s := S8x512x128) ![1, 0, 0] S1x512x128.size inb_S8x512x128_S1x512x128_1_0_0
abbrev r13 : Rect S8x512x128 := Rect.unit (s := S8x512x128) ![2, 0, 0] S1x512x128.size inb_S8x512x128_S1x512x128_2_0_0
abbrev r14 : Rect S8x512x128 := Rect.unit (s := S8x512x128) ![3, 0, 0] S1x512x128.size inb_S8x512x128_S1x512x128_3_0_0
abbrev r15 : Rect S8x512x128 := Rect.unit (s := S8x512x128) ![4, 0, 0] S1x512x128.size inb_S8x512x128_S1x512x128_4_0_0
abbrev r16 : Rect S8x512x128 := Rect.unit (s := S8x512x128) ![5, 0, 0] S1x512x128.size inb_S8x512x128_S1x512x128_5_0_0
abbrev r17 : Rect S8x512x128 := Rect.unit (s := S8x512x128) ![6, 0, 0] S1x512x128.size inb_S8x512x128_S1x512x128_6_0_0
abbrev r18 : Rect S8x512x128 := Rect.unit (s := S8x512x128) ![7, 0, 0] S1x512x128.size inb_S8x512x128_S1x512x128_7_0_0
abbrev r19 : Rect S256x1024 := Rect.unit (s := S256x1024) ![0, 0] S256x1024.size inb_S256x1024_S256x1024_0_0
abbrev r20 : Rect S8x256x128 := Rect.unit (s := S8x256x128) ![0, 0, 0] S1x256x128.size inb_S8x256x128_S1x256x128_0_0_0
abbrev r21 : Rect S8x256x128 := Rect.unit (s := S8x256x128) ![1, 0, 0] S1x256x128.size inb_S8x256x128_S1x256x128_1_0_0
abbrev r22 : Rect S8x256x128 := Rect.unit (s := S8x256x128) ![2, 0, 0] S1x256x128.size inb_S8x256x128_S1x256x128_2_0_0
abbrev r23 : Rect S8x256x128 := Rect.unit (s := S8x256x128) ![3, 0, 0] S1x256x128.size inb_S8x256x128_S1x256x128_3_0_0
abbrev r24 : Rect S8x256x128 := Rect.unit (s := S8x256x128) ![4, 0, 0] S1x256x128.size inb_S8x256x128_S1x256x128_4_0_0
abbrev r25 : Rect S8x256x128 := Rect.unit (s := S8x256x128) ![5, 0, 0] S1x256x128.size inb_S8x256x128_S1x256x128_5_0_0
abbrev r26 : Rect S8x256x128 := Rect.unit (s := S8x256x128) ![6, 0, 0] S1x256x128.size inb_S8x256x128_S1x256x128_6_0_0
abbrev r27 : Rect S8x256x128 := Rect.unit (s := S8x256x128) ![7, 0, 0] S1x256x128.size inb_S8x256x128_S1x256x128_7_0_0

/-! ## The values the body binds, from the input blocks -/

def v27 (x0 : Vec F S512x1024 .f32) (x2 : Vec F S1x1x1x1024 .f32) : FVec F S512x1024 .bf16 :=
  k0_pay21 (View.ld x0 r4) (View.ld x2 r5)
def v51 (x0 : Vec F S512x1024 .f32) (x2 : Vec F S1x1x1x1024 .f32) (x3 : Vec F S1024x2816 .bf16) (x4 : Vec F S1024x2816 .bf16) (x5 : Vec F S2816x1024 .bf16) : FVec F S512x1024 .f32 :=
  k0_pay22 (View.ld x0 r4) (v27 x0 x2) (View.ld x3 r6) (View.ld x4 r6) (View.ld x5 r7) (View.ld x3 r8) (View.ld x4 r8) (View.ld x5 r9)
def v54 (x6 : Vec F S1x1x1x1024 .f32) : FVec F S1x1024 .f32 :=
  k0_pay23 (View.ld x6 r5)
def v59 (x0 : Vec F S512x1024 .f32) (x2 : Vec F S1x1x1x1024 .f32) (x3 : Vec F S1024x2816 .bf16) (x4 : Vec F S1024x2816 .bf16) (x5 : Vec F S2816x1024 .bf16) : FVec F S512x1 .f32 :=
  k0_pay24 (View.ld x0 r4) (v27 x0 x2) (View.ld x3 r6) (View.ld x4 r6) (View.ld x5 r7) (View.ld x3 r8) (View.ld x4 r8) (View.ld x5 r9)
def v70 (x0 : Vec F S512x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) : FVec F S512x1024 .f32 :=
  k0_pay25 (v51 x0 x2 x3 x4 x5) (v54 x6) (v59 x0 x2 x3 x4 x5) ((Scalar.ofBits .f32 0x358637BD#32) : F .f32) (View.ld x7 r10)
def v91 (x0 : Vec F S512x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) : FVec F S512x128 .f32 :=
  k0_pay31 (v51 x0 x2 x3 x4 x5) (v54 x6) (v59 x0 x2 x3 x4 x5) ((Scalar.ofBits .f32 0x358637BD#32) : F .f32) (View.ld x7 r10)
def v131 (x1 : Vec F S256x1024 .f32) (x2 : Vec F S1x1x1x1024 .f32) (x3 : Vec F S1024x2816 .bf16) (x4 : Vec F S1024x2816 .bf16) (x5 : Vec F S2816x1024 .bf16) : FVec F S256x1024 .f32 :=
  k0_pay11 (View.ld x1 r19) (View.ld x2 r5) (View.ld x3 r6) (View.ld x4 r6) (View.ld x5 r7)
def v139 (x1 : Vec F S256x1024 .f32) (x2 : Vec F S1x1x1x1024 .f32) (x3 : Vec F S1024x2816 .bf16) (x4 : Vec F S1024x2816 .bf16) : FVec F S256x1280 .bf16 :=
  k0_pay12 (View.ld x1 r19) (View.ld x2 r5) (View.ld x3 r8) (View.ld x4 r8)
def v164 (x1 : Vec F S256x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) : FVec F S256x1024 .f32 :=
  k0_pay14 (View.ld x1 r19) (v131 x1 x2 x3 x4 x5) (v139 x1 x2 x3 x4) (View.ld x5 r9) (View.ld x6 r5) (View.ld x7 r10)
def v173 (x1 : Vec F S256x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) : FVec F S256x128 .f32 :=
  k0_pay17 (View.ld x1 r19) (v131 x1 x2 x3 x4 x5) (v139 x1 x2 x3 x4) (View.ld x5 r9) (View.ld x6 r5) (View.ld x7 r10)

/-- What output window 11's buffer holds after the body: its stores over the input blocks, last first. -/
def out11 (x0 : Vec F S512x1024 .f32) (x2 : Vec F S1x1x1x1024 .f32) (x3 : Vec F S1024x2816 .bf16) (x4 : Vec F S1024x2816 .bf16) (x5 : Vec F S2816x1024 .bf16) : Vec F S512x1024 .f32 :=
  View.canon [⟨r4, k0_pay22 (View.ld x0 r4) (v27 x0 x2) (View.ld x3 r6) (View.ld x4 r6) (View.ld x5 r7) (View.ld x3 r8) (View.ld x4 r8) (View.ld x5 r9)⟩]

/-- Those stores cover the buffer. -/
theorem cover11 (p0 : Vec F S512x1024 .f32) (y : S512x1024.Idx) :
    ∃ pc ∈ ([⟨r4, p0⟩] : List (View.Piece (Elt F) S512x1024 .f32)), y ∈ pc.1.set :=
  View.cover_of_tiled [⟨r4, p0⟩] S512x1024.size (by rfl) y

/-- What output window 12's buffer holds after the body: its stores over the input blocks, last first. -/
def out12 (x1 : Vec F S256x1024 .f32) (x2 : Vec F S1x1x1x1024 .f32) (x3 : Vec F S1024x2816 .bf16) (x4 : Vec F S1024x2816 .bf16) (x5 : Vec F S2816x1024 .bf16) : Vec F S256x1024 .f32 :=
  View.canon [⟨r19, k0_pay13 (View.ld x1 r19) (v131 x1 x2 x3 x4 x5) (v139 x1 x2 x3 x4) (View.ld x5 r9)⟩]

/-- Those stores cover the buffer. -/
theorem cover12 (p0 : Vec F S256x1024 .f32) (y : S256x1024.Idx) :
    ∃ pc ∈ ([⟨r19, p0⟩] : List (View.Piece (Elt F) S256x1024 .f32)), y ∈ pc.1.set :=
  View.cover_of_tiled [⟨r19, p0⟩] S256x1024.size (by rfl) y

/-- What output window 13's buffer holds after the body: its stores over the input blocks, last first. -/
def out13 (x0 : Vec F S512x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) : Vec F S8x512x128 .f32 :=
  View.canon [⟨r18, k0_pay3 (v70 x0 x2 x3 x4 x5 x6 x7)⟩, ⟨r17, k0_pay2 (v70 x0 x2 x3 x4 x5 x6 x7)⟩, ⟨r16, k0_pay1 (v91 x0 x2 x3 x4 x5 x6 x7)⟩, ⟨r15, k0_pay30 (v51 x0 x2 x3 x4 x5) (v54 x6) (v59 x0 x2 x3 x4 x5) ((Scalar.ofBits .f32 0x358637BD#32) : F .f32) (View.ld x7 r10)⟩, ⟨r14, k0_pay29 (v51 x0 x2 x3 x4 x5) (v54 x6) (v59 x0 x2 x3 x4 x5) ((Scalar.ofBits .f32 0x358637BD#32) : F .f32) (View.ld x7 r10)⟩, ⟨r13, k0_pay28 (v51 x0 x2 x3 x4 x5) (v54 x6) (v59 x0 x2 x3 x4 x5) ((Scalar.ofBits .f32 0x358637BD#32) : F .f32) (View.ld x7 r10)⟩, ⟨r12, k0_pay27 (v51 x0 x2 x3 x4 x5) (v54 x6) (v59 x0 x2 x3 x4 x5) ((Scalar.ofBits .f32 0x358637BD#32) : F .f32) (View.ld x7 r10)⟩, ⟨r11, k0_pay26 (v51 x0 x2 x3 x4 x5) (v54 x6) (v59 x0 x2 x3 x4 x5) ((Scalar.ofBits .f32 0x358637BD#32) : F .f32) (View.ld x7 r10)⟩]

/-- Those stores cover the buffer. -/
theorem cover13 (p0 : Vec F S1x512x128 .f32) (p1 : Vec F S1x512x128 .f32) (p2 : Vec F S1x512x128 .f32) (p3 : Vec F S1x512x128 .f32) (p4 : Vec F S1x512x128 .f32) (p5 : Vec F S1x512x128 .f32) (p6 : Vec F S1x512x128 .f32) (p7 : Vec F S1x512x128 .f32) (y : S8x512x128.Idx) :
    ∃ pc ∈ ([⟨r18, p0⟩, ⟨r17, p1⟩, ⟨r16, p2⟩, ⟨r15, p3⟩, ⟨r14, p4⟩, ⟨r13, p5⟩, ⟨r12, p6⟩, ⟨r11, p7⟩] : List (View.Piece (Elt F) S8x512x128 .f32)), y ∈ pc.1.set :=
  View.cover_of_tiled [⟨r18, p0⟩, ⟨r17, p1⟩, ⟨r16, p2⟩, ⟨r15, p3⟩, ⟨r14, p4⟩, ⟨r13, p5⟩, ⟨r12, p6⟩, ⟨r11, p7⟩] S1x512x128.size (by rfl) y

/-- What output window 14's buffer holds after the body: its stores over the input blocks, last first. -/
def out14 (x1 : Vec F S256x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) : Vec F S8x256x128 .f32 :=
  View.canon [⟨r27, k0_pay9 (v164 x1 x2 x3 x4 x5 x6 x7)⟩, ⟨r26, k0_pay8 (v164 x1 x2 x3 x4 x5 x6 x7)⟩, ⟨r25, k0_pay7 (v164 x1 x2 x3 x4 x5 x6 x7)⟩, ⟨r24, k0_pay6 (v164 x1 x2 x3 x4 x5 x6 x7)⟩, ⟨r23, k0_pay5 (v164 x1 x2 x3 x4 x5 x6 x7)⟩, ⟨r22, k0_pay4 (v173 x1 x2 x3 x4 x5 x6 x7)⟩, ⟨r21, k0_pay16 (View.ld x1 r19) (v131 x1 x2 x3 x4 x5) (v139 x1 x2 x3 x4) (View.ld x5 r9) (View.ld x6 r5) (View.ld x7 r10)⟩, ⟨r20, k0_pay15 (View.ld x1 r19) (v131 x1 x2 x3 x4 x5) (v139 x1 x2 x3 x4) (View.ld x5 r9) (View.ld x6 r5) (View.ld x7 r10)⟩]

/-- Those stores cover the buffer. -/
theorem cover14 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (y : S8x256x128.Idx) :
    ∃ pc ∈ ([⟨r27, p0⟩, ⟨r26, p1⟩, ⟨r25, p2⟩, ⟨r24, p3⟩, ⟨r23, p4⟩, ⟨r22, p5⟩, ⟨r21, p6⟩, ⟨r20, p7⟩] : List (View.Piece (Elt F) S8x256x128 .f32)), y ∈ pc.1.set :=
  View.cover_of_tiled [⟨r27, p0⟩, ⟨r26, p1⟩, ⟨r25, p2⟩, ⟨r24, p3⟩, ⟨r23, p4⟩, ⟨r22, p5⟩, ⟨r21, p6⟩, ⟨r20, p7⟩] S1x256x128.size (by rfl) y

/-- What output window 15's buffer holds after the body: its stores over the input blocks, last first. -/
def out15 (x8 : Vec F S1x1x32x2816 .f32) : Vec F S32x2816 .bf16 :=
  View.canon [⟨r1, k0_pay18 (View.ld x8 r0)⟩]

/-- Those stores cover the buffer. -/
theorem cover15 (p0 : Vec F S32x2816 .bf16) (y : S32x2816.Idx) :
    ∃ pc ∈ ([⟨r1, p0⟩] : List (View.Piece (Elt F) S32x2816 .bf16)), y ∈ pc.1.set :=
  View.cover_of_tiled [⟨r1, p0⟩] S32x2816.size (by rfl) y

/-- What output window 16's buffer holds after the body: its stores over the input blocks, last first. -/
def out16 (x9 : Vec F S1x1x32x2816 .f32) : Vec F S32x2816 .bf16 :=
  View.canon [⟨r1, k0_pay19 (View.ld x9 r0)⟩]

/-- Those stores cover the buffer. -/
theorem cover16 (p0 : Vec F S32x2816 .bf16) (y : S32x2816.Idx) :
    ∃ pc ∈ ([⟨r1, p0⟩] : List (View.Piece (Elt F) S32x2816 .bf16)), y ∈ pc.1.set :=
  View.cover_of_tiled [⟨r1, p0⟩] S32x2816.size (by rfl) y

/-- What output window 17's buffer holds after the body: its stores over the input blocks, last first. -/
def out17 (x10 : Vec F S1x1x2816x128 .f32) : Vec F S2816x128 .bf16 :=
  View.canon [⟨r3, k0_pay20 (View.ld x10 r2)⟩]

/-- Those stores cover the buffer. -/
theorem cover17 (p0 : Vec F S2816x128 .bf16) (y : S2816x128.Idx) :
    ∃ pc ∈ ([⟨r3, p0⟩] : List (View.Piece (Elt F) S2816x128 .bf16)), y ∈ pc.1.set :=
  View.cover_of_tiled [⟨r3, p0⟩] S2816x128.size (by rfl) y

/-! ## The one condition of the body -/

/-- The body's condition on the grid point: it is the first point. -/
abbrev cond (i : grid0.Coords) : Prop := k0_cond1 i = 1#1

theorem hcond (t : Fin cfg0.N) : cond (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond, k0_cond1, e0]
    word_cmp
   : ∀ t : Fin grid0.N, cond (grid0.coords t) ↔ t.val % 32 = 0) t

/-! ## The body's triples -/

set_option maxHeartbeats 1000000 in
/-- The body's triple at the first grid point: the inputs' buffers are kept, each output's buffer it stores ends at `outK` of the
    input blocks. -/
theorem sound_A (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S1x1x1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1x1x1024 .f32) (harg7 : arg7.IsWhole) (arg8 : Memref sig .tc .vmem S1x1024x1024 .bf16) (harg8 : arg8.IsWhole) (arg9 : Memref sig .tc .vmem S1x1x32x2816 .f32) (harg9 : arg9.IsWhole) (arg10 : Memref sig .tc .vmem S1x1x32x2816 .f32) (harg10 : arg10.IsWhole) (arg11 : Memref sig .tc .vmem S1x1x2816x128 .f32) (harg11 : arg11.IsWhole) (arg12 : Memref sig .tc .vmem S512x1024 .f32) (harg12 : arg12.IsWhole) (arg13 : Memref sig .tc .vmem S256x1024 .f32) (harg13 : arg13.IsWhole) (arg14 : Memref sig .tc .vmem S8x512x128 .f32) (harg14 : arg14.IsWhole) (arg15 : Memref sig .tc .vmem S8x256x128 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S2816x128 .bf16) (harg18 : arg18.IsWhole) (hc : cond i)
    (x0 : Vec F S512x1024 .f32) (x1 : Vec F S256x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) (x8 : Vec F S1x1x32x2816 .f32) (x9 : Vec F S1x1x32x2816 .f32) (x10 : Vec F S1x1x2816x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out11 x0 x2 x3 x4 x5) ∗ owns (c : Thread nD τ) arg13 fullShare (out12 x1 x2 x3 x4 x5) ∗ owns (c : Thread nD τ) arg14 fullShare (out13 x0 x2 x3 x4 x5 x6 x7) ∗ owns (c : Thread nD τ) arg15 fullShare (out14 x1 x2 x3 x4 x5 x6 x7) ∗ owns (c : Thread nD τ) arg16 fullShare (out15 x8) ∗ owns (c : Thread nD τ) arg17 fullShare (out16 x9) ∗ owns (c : Thread nD τ) arg18 fullShare (out17 x10)) -∗ K ⟨⟩))
      ⊢ wp frame (wpE (defs₀ (F := F)) Variants.none c none) E (cc0_stage_ffn_proj_slabs i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_stage_ffn_proj_slabs_eq_skeleton]; unfold cc0_stage_ffn_proj_slabs_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover11 _)).trans ?_
    rfl
  isplitl [H12]
  · iexists _; isplitr
    swap; · iexact H12
    ipureintro
    refine (View.read_writes_eq_canon _ _ _ (cover12 _)).trans ?_
    rfl
  isplitl [H13]
  · iexists _; isplitr
    swap; · iexact H13
    ipureintro
    refine (View.read_writes_eq_canon _ _ _ (cover13 _ _ _ _ _ _ _ _)).trans ?_
    rfl
  isplitl [H14]
  · iexists _; isplitr
    swap; · iexact H14
    ipureintro
    refine (View.read_writes_eq_canon _ _ _ (cover14 _ _ _ _ _ _ _ _)).trans ?_
    rfl
  isplitl [H15]
  · iexists _; isplitr
    swap; · iexact H15
    ipureintro
    refine (View.read_writes_eq_canon _ _ _ (cover15 _)).trans ?_
    rfl
  isplitl [H16]
  · iexists _; isplitr
    swap; · iexact H16
    ipureintro
    refine (View.read_writes_eq_canon _ _ _ (cover16 _)).trans ?_
    rfl
  iexists _; isplitr
  swap; · iexact H17
  ipureintro
  refine (View.read_writes_eq_canon _ _ _ (cover17 _)).trans ?_
  rfl

set_option maxHeartbeats 1000000 in
/-- The body's triple at a later grid point: the inputs' buffers are kept, each output's buffer it stores ends at `outK` of the
    input blocks. -/
theorem sound_B (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S1x1x1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1x1x1024 .f32) (harg7 : arg7.IsWhole) (arg8 : Memref sig .tc .vmem S1x1024x1024 .bf16) (harg8 : arg8.IsWhole) (arg9 : Memref sig .tc .vmem S1x1x32x2816 .f32) (harg9 : arg9.IsWhole) (arg10 : Memref sig .tc .vmem S1x1x32x2816 .f32) (harg10 : arg10.IsWhole) (arg11 : Memref sig .tc .vmem S1x1x2816x128 .f32) (harg11 : arg11.IsWhole) (arg12 : Memref sig .tc .vmem S512x1024 .f32) (harg12 : arg12.IsWhole) (arg13 : Memref sig .tc .vmem S256x1024 .f32) (harg13 : arg13.IsWhole) (arg14 : Memref sig .tc .vmem S8x512x128 .f32) (harg14 : arg14.IsWhole) (arg15 : Memref sig .tc .vmem S8x256x128 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S2816x128 .bf16) (harg18 : arg18.IsWhole) (hc : ¬cond i)
    (x0 : Vec F S512x1024 .f32) (x1 : Vec F S256x1024 .f32) (x2 : Vec F S1x1x1x1024 .f32) (x3 : Vec F S1024x2816 .bf16) (x4 : Vec F S1024x2816 .bf16) (x5 : Vec F S2816x1024 .bf16) (x6 : Vec F S1x1x1x1024 .f32) (x7 : Vec F S1x1024x1024 .bf16) (x8 : Vec F S1x1x32x2816 .f32) (x9 : Vec F S1x1x32x2816 .f32) (x10 : Vec F S1x1x2816x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg14 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out11 x0 x2 x3 x4 x5) ∗ owns (c : Thread nD τ) arg14 fullShare (out13 x0 x2 x3 x4 x5 x6 x7) ∗ owns (c : Thread nD τ) arg16 fullShare (out15 x8) ∗ owns (c : Thread nD τ) arg17 fullShare (out16 x9) ∗ owns (c : Thread nD τ) arg18 fullShare (out17 x10)) -∗ K ⟨⟩))
      ⊢ wp frame (wpE (defs₀ (F := F)) Variants.none c none) E (cc0_stage_ffn_proj_slabs i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_stage_ffn_proj_slabs_eq_skeleton]; unfold cc0_stage_ffn_proj_slabs_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d13, %f13, -, H13⟩, ⟨%d15, %f15, -, H15⟩, ⟨%d16, %f16, -, H16⟩, ⟨%d17, %f17, -, H17⟩, Hk⟩
  subst hf0 hf1 hf2 hf3 hf4 hf5 hf6 hf7 hf8 hf9 hf10
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover11 _)).trans ?_
    rfl
  isplitl [H13]
  · iexists _; isplitr
    swap; · iexact H13
    ipureintro
    refine (View.read_writes_eq_canon _ _ _ (cover13 _ _ _ _ _ _ _ _)).trans ?_
    rfl
  isplitl [H15]
  · iexists _; isplitr
    swap; · iexact H15
    ipureintro
    refine (View.read_writes_eq_canon _ _ _ (cover15 _)).trans ?_
    rfl
  isplitl [H16]
  · iexists _; isplitr
    swap; · iexact H16
    ipureintro
    refine (View.read_writes_eq_canon _ _ _ (cover16 _)).trans ?_
    rfl
  iexists _; isplitr
  swap; · iexact H17
  ipureintro
  refine (View.read_writes_eq_canon _ _ _ (cover17 _)).trans ?_
  rfl

/-! ## The proof data -/

/-- The first grid point. -/
def t0 : Fin cfg0.N := ⟨0, by rw [show cfg0.N = 32 from N_0]; decide⟩

/-- The proof data on core `c`: each input's buffer keeps its block, each output's holds `outK` of the blocks of the
    point (of the first point, for an output stored at the first point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 (iblk m c 0 t) (iblk m c 2 t) (iblk m c 3 t) (iblk m c 4 t) (iblk m c 5 t)
    | ⟨12, _⟩ => out12 (iblk m c 1 t0) (iblk m c 2 t0) (iblk m c 3 t0) (iblk m c 4 t0) (iblk m c 5 t0)
    | ⟨13, _⟩ => out13 (iblk m c 0 t) (iblk m c 2 t) (iblk m c 3 t) (iblk m c 4 t) (iblk m c 5 t) (iblk m c 6 t) (iblk m c 7 t)
    | ⟨14, _⟩ => out14 (iblk m c 1 t0) (iblk m c 2 t0) (iblk m c 3 t0) (iblk m c 4 t0) (iblk m c 5 t0) (iblk m c 6 t0) (iblk m c 7 t0)
    | ⟨15, _⟩ => out15 (iblk m c 8 t)
    | ⟨16, _⟩ => out16 (iblk m c 9 t)
    | ⟨17, _⟩ => out17 (iblk m c 10 t)
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = out11 (iblk m c 0 t) (iblk m c 2 t) (iblk m c 3 t) (iblk m c 4 t) (iblk m c 5 t) := by dsimp only [dats]
theorem after12 (c : Dev nD) (t : Fin cfg0.N) : (dats m 0 c).after 12 t = out12 (iblk m c 1 t0) (iblk m c 2 t0) (iblk m c 3 t0) (iblk m c 4 t0) (iblk m c 5 t0) := by dsimp only [dats]
theorem after13 (c : Dev nD) (t : Fin cfg0.N) : (dats m 0 c).after 13 t = out13 (iblk m c 0 t) (iblk m c 2 t) (iblk m c 3 t) (iblk m c 4 t) (iblk m c 5 t) (iblk m c 6 t) (iblk m c 7 t) := by dsimp only [dats]
theorem after14 (c : Dev nD) (t : Fin cfg0.N) : (dats m 0 c).after 14 t = out14 (iblk m c 1 t0) (iblk m c 2 t0) (iblk m c 3 t0) (iblk m c 4 t0) (iblk m c 5 t0) (iblk m c 6 t0) (iblk m c 7 t0) := by dsimp only [dats]
theorem after15 (c : Dev nD) (t : Fin cfg0.N) : (dats m 0 c).after 15 t = out15 (iblk m c 8 t) := by dsimp only [dats]
theorem after16 (c : Dev nD) (t : Fin cfg0.N) : (dats m 0 c).after 16 t = out16 (iblk m c 9 t) := by dsimp only [dats]
theorem after17 (c : Dev nD) (t : Fin cfg0.N) : (dats m 0 c).after 17 t = out17 (iblk m c 10 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- Output window 12 is idle exactly at the points after the first. -/
theorem idle12 (t : Fin cfg0.N) (h : ¬ t.val % 32 = 0) : cfg0.idle 12 (grid0.coords t) = true := by
  show (!(k0_cond1 (grid0.coords t) == 1#1)) = true
  rw [beq_false_of_ne (fun h' => h ((hcond t).mp h'))]; rfl
theorem live12 (t : Fin cfg0.N) (h : t.val % 32 = 0) : cfg0.idle 12 (grid0.coords t) = false := by
  show (!(k0_cond1 (grid0.coords t) == 1#1)) = false
  rw [show k0_cond1 (grid0.coords t) = 1#1 from (hcond t).mpr h]; rfl

/-- After the first point its buffer is never fresh: the first point stored it and no point before the last
    writes it back. -/
theorem fresh12 : ∀ n : ℕ, 0 < n → n < 32 → cfg0.fresh 12 n = false
  | 0, h, _ => absurd h (lt_irrefl 0)
  | n + 1, _, h => by
    have hN : n < cfg0.N := by rw [show cfg0.N = 32 from N_0]; omega
    have hf : (cfg0.win 12).flush ⟨n, hN⟩ = false := by
      have := flush0_12 ⟨n, hN⟩
      have h2 : ¬ (n % 32 = 31) := by omega
      cases hb : (cfg0.win 12).flush ⟨n, hN⟩ with
      | false => rfl
      | true => exact absurd (this.mp hb) h2
    rw [cfg0.fresh_succ 12 n hN, hf]
    by_cases h0 : n = 0
    · subst h0
      have := live12 ⟨0, hN⟩ rfl
      rw [show cfg0.idle 12 (cfg0.grid.coords ⟨0, hN⟩) = false from this]; rfl
    · rw [fresh12 n (by omega) (by omega), Bool.and_false, Bool.or_false]

/-- So at a later point its buffer holds what the first point stored. -/
theorem before12 (c : Dev nD) (t : Fin cfg0.N) (h : ¬ t.val % 32 = 0) (d) : (dats m 0 c).before 12 t d = out12 (iblk m c 1 t0) (iblk m c 2 t0) (iblk m c 3 t0) (iblk m c 4 t0) (iblk m c 5 t0) := by
  have hN : t.val < 32 := lt_of_lt_of_eq t.isLt (show cfg0.N = 32 from N_0)
  rw [(dats m 0 c).before_out_traj 12 rfl (fun _ _ => rfl) (fun t _ _ _ => by rw [after12, after12]) t.val t rfl d,
    fresh12 t.val (by omega) hN, if_neg Bool.false_ne_true, after12]

/-- Output window 14 is idle exactly at the points after the first. -/
theorem idle14 (t : Fin cfg0.N) (h : ¬ t.val % 32 = 0) : cfg0.idle 14 (grid0.coords t) = true := by
  show (!(k0_cond1 (grid0.coords t) == 1#1)) = true
  rw [beq_false_of_ne (fun h' => h ((hcond t).mp h'))]; rfl
theorem live14 (t : Fin cfg0.N) (h : t.val % 32 = 0) : cfg0.idle 14 (grid0.coords t) = false := by
  show (!(k0_cond1 (grid0.coords t) == 1#1)) = false
  rw [show k0_cond1 (grid0.coords t) = 1#1 from (hcond t).mpr h]; rfl

/-- After the first point its buffer is never fresh: the first point stored it and no point before the last
    writes it back. -/
theorem fresh14 : ∀ n : ℕ, 0 < n → n < 32 → cfg0.fresh 14 n = false
  | 0, h, _ => absurd h (lt_irrefl 0)
  | n + 1, _, h => by
    have hN : n < cfg0.N := by rw [show cfg0.N = 32 from N_0]; omega
    have hf : (cfg0.win 14).flush ⟨n, hN⟩ = false := by
      have := flush0_14 ⟨n, hN⟩
      have h2 : ¬ (n % 32 = 31) := by omega
      cases hb : (cfg0.win 14).flush ⟨n, hN⟩ with
      | false => rfl
      | true => exact absurd (this.mp hb) h2
    rw [cfg0.fresh_succ 14 n hN, hf]
    by_cases h0 : n = 0
    · subst h0
      have := live14 ⟨0, hN⟩ rfl
      rw [show cfg0.idle 14 (cfg0.grid.coords ⟨0, hN⟩) = false from this]; rfl
    · rw [fresh14 n (by omega) (by omega), Bool.and_false, Bool.or_false]

/-- So at a later point its buffer holds what the first point stored. -/
theorem before14 (c : Dev nD) (t : Fin cfg0.N) (h : ¬ t.val % 32 = 0) (d) : (dats m 0 c).before 14 t d = out14 (iblk m c 1 t0) (iblk m c 2 t0) (iblk m c 3 t0) (iblk m c 4 t0) (iblk m c 5 t0) (iblk m c 6 t0) (iblk m c 7 t0) := by
  have hN : t.val < 32 := lt_of_lt_of_eq t.isLt (show cfg0.N = 32 from N_0)
  rw [(dats m 0 c).before_out_traj 14 rfl (fun _ _ => rfl) (fun t _ _ _ => by rw [after14, after14]) t.val t rfl d,
    fresh14 t.val (by omega) hN, if_neg Bool.false_ne_true, after14]

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live13 : ∀ t : Fin cfg0.N, cfg0.idle 13 (grid0.coords t) = false := fun _ => rfl
theorem live15 : ∀ t : Fin cfg0.N, cfg0.idle 15 (grid0.coords t) = false := fun _ => rfl
theorem live16 : ∀ t : Fin cfg0.N, cfg0.idle 16 (grid0.coords t) = false := fun _ => rfl
theorem live17 : ∀ t : Fin cfg0.N, cfg0.idle 17 (grid0.coords t) = false := fun _ => rfl

/-! ## The body obligation -/

abbrev ms0 (t : Fin cfg0.N) : Memref sig .tc .vmem S512x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S1x1x1x1024 .f32 := win0_2.stage (cfg0.slots t 2)
abbrev ms3 (t : Fin cfg0.N) : Memref sig .tc .vmem S1024x2816 .bf16 := win0_3.stage (cfg0.slots t 3)
abbrev ms4 (t : Fin cfg0.N) : Memref sig .tc .vmem S1024x2816 .bf16 := win0_4.stage (cfg0.slots t 4)
abbrev ms5 (t : Fin cfg0.N) : Memref sig .tc .vmem S2816x1024 .bf16 := win0_5.stage (cfg0.slots t 5)
abbrev ms6 (t : Fin cfg0.N) : Memref sig .tc .vmem S1x1x1x1024 .f32 := win0_6.stage (cfg0.slots t 6)
abbrev ms7 (t : Fin cfg0.N) : Memref sig .tc .vmem S1x1024x1024 .bf16 := win0_7.stage (cfg0.slots t 7)
abbrev ms8 (t : Fin cfg0.N) : Memref sig .tc .vmem S1x1x32x2816 .f32 := win0_8.stage (cfg0.slots t 8)
abbrev ms9 (t : Fin cfg0.N) : Memref sig .tc .vmem S1x1x32x2816 .f32 := win0_9.stage (cfg0.slots t 9)
abbrev ms10 (t : Fin cfg0.N) : Memref sig .tc .vmem S1x1x2816x128 .f32 := win0_10.stage (cfg0.slots t 10)
abbrev ms11 (t : Fin cfg0.N) : Memref sig .tc .vmem S512x1024 .f32 := win0_11.stage (cfg0.slots t 11)
abbrev ms12 (t : Fin cfg0.N) : Memref sig .tc .vmem S256x1024 .f32 := win0_12.stage (cfg0.slots t 12)
abbrev ms13 (t : Fin cfg0.N) : Memref sig .tc .vmem S8x512x128 .f32 := win0_13.stage (cfg0.slots t 13)
abbrev ms14 (t : Fin cfg0.N) : Memref sig .tc .vmem S8x256x128 .f32 := win0_14.stage (cfg0.slots t 14)
abbrev ms15 (t : Fin cfg0.N) : Memref sig .tc .vmem S32x2816 .bf16 := win0_15.stage (cfg0.slots t 15)
abbrev ms16 (t : Fin cfg0.N) : Memref sig .tc .vmem S32x2816 .bf16 := win0_16.stage (cfg0.slots t 16)
abbrev ms17 (t : Fin cfg0.N) : Memref sig .tc .vmem S2816x128 .bf16 := win0_17.stage (cfg0.slots t 17)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 2000000 in
/-- The body at any point: at the first the run of case A, at a later one that of case B, where a buffer stored at the
    first point only is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 13 t = owns (c : Thread nD τ) (ms13 t) fullShare ((dats m 0 c).after 13 t) from by
    unfold Dat.leavesExact; rw [live13 t], after13]
  rw [show (dats m 0 c).leavesExact 15 t = owns (c : Thread nD τ) (ms15 t) fullShare ((dats m 0 c).after 15 t) from by
    unfold Dat.leavesExact; rw [live15 t], after15]
  rw [show (dats m 0 c).leavesExact 16 t = owns (c : Thread nD τ) (ms16 t) fullShare ((dats m 0 c).after 16 t) from by
    unfold Dat.leavesExact; rw [live16 t], after16]
  rw [show (dats m 0 c).leavesExact 17 t = owns (c : Thread nD τ) (ms17 t) fullShare ((dats m 0 c).after 17 t) from by
    unfold Dat.leavesExact; rw [live17 t], after17]
  by_cases h0 : t.val % 32 = 0
  · have ht : t = t0 := Fin.ext (by show t.val = 0; omega)
    rw [show (dats m 0 c).leavesExact 12 t = owns (c : Thread nD τ) (ms12 t) fullShare ((dats m 0 c).after 12 t) from by
      unfold Dat.leavesExact; rw [live12 t h0], after12, ← ht]
    rw [show (dats m 0 c).leavesExact 14 t = owns (c : Thread nD τ) (ms14 t) fullShare ((dats m 0 c).after 14 t) from by
      unfold Dat.leavesExact; rw [live14 t h0], after14, ← ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (sound_A c Set.univ (grid0.coords t) _ _ _ _ _ _ _ _ _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · have hl12 : ∀ d, owns (c : Thread nD τ) (ms12 t) fullShare ((dats m 0 c).before 12 t d) ⊢ (dats m 0 c).leavesExact 12 t := fun d => by
      cases hf : (cfg0.win 12).flush t with
      | false =>
        rw [(dats m 0 c).leavesExact_idle 12 t (idle12 t h0) hf]
        iintro H
        iexists d; iexact H
      | true =>
        rw [show (dats m 0 c).leavesExact 12 t = owns (c : Thread nD τ) (ms12 t) fullShare ((dats m 0 c).after 12 t) from by
          unfold Dat.leavesExact; rw [idle12 t h0, hf], after12, before12 m c t h0 d]

    have hl14 : ∀ d, owns (c : Thread nD τ) (ms14 t) fullShare ((dats m 0 c).before 14 t d) ⊢ (dats m 0 c).leavesExact 14 t := fun d => by
      cases hf : (cfg0.win 14).flush t with
      | false =>
        rw [(dats m 0 c).leavesExact_idle 14 t (idle14 t h0) hf]
        iintro H
        iexists d; iexact H
      | true =>
        rw [show (dats m 0 c).leavesExact 14 t = owns (c : Thread nD τ) (ms14 t) fullShare ((dats m 0 c).after 14 t) from by
          unfold Dat.leavesExact; rw [idle14 t h0, hf], after14, before14 m c t h0 d]

    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (sound_B c Set.univ (grid0.coords t) _ _ _ _ _ _ _ _ _ _ _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H13]; · iexists _; iexact H13
    isplitl [H15]; · iexists _; iexact H15
    isplitl [H16]; · iexists _; iexact H16
    isplitl [H17]; · iexists _; iexact H17
    iintro ⟨H0, H1, H2, H3, H4, H5, H6, H7, H8, H9, H10, H11, H13, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply hl12 d12; iexact H12
    isplitl [H13]; · iexact H13
    isplitl [H14]; · iapply hl14 d14; iexact H14
    isplitl [H15]; · iexact H15
    isplitl [H16]; · iexact H16
    iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The launch: every array at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: every argument unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

/-! ## The results after the run -/

/-- The run with each result named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 11 cfg0.N
      ∧ r.2.mem ((c.tc : Thread nD τ).loc main_v0_1) = (dats m 0 c).arrAt 12 cfg0.N
      ∧ r.2.mem ((c.tc : Thread nD τ).loc main_v0_2) = (dats m 0 c).arrAt 13 cfg0.N
      ∧ r.2.mem ((c.tc : Thread nD τ).loc main_v0_3) = (dats m 0 c).arrAt 14 cfg0.N
      ∧ r.2.mem ((c.tc : Thread nD τ).loc main_v0_4) = (dats m 0 c).arrAt 15 cfg0.N
      ∧ r.2.mem ((c.tc : Thread nD τ).loc main_v0_5) = (dats m 0 c).arrAt 16 cfg0.N
      ∧ r.2.mem ((c.tc : Thread nD τ).loc main_v0_6) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1 11,
      (h c).1 12,
      (h c).1 13,
      (h c).1 14,
      (h c).1 15,
      (h c).1 16,
      (h c).1 17,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩) (run_main m ρ)

end Cert.Kernel4Ideal.Run

end
-- ==== Proof.SlabsRows.lean ====
/- One row of each result of the slab stage's body, read off its operations: it is the layer's row function of the same
   row of the blocks it loads. -/
module

public import proofs.«01_k».proof.Proof.SlabsRun
public import proofs.«01_k».proof.Proof.Layer
public import Idealize.ShloMosaic.Lib.Pipeline.ValueKit
public import Idealize.ShloMosaic.Lib.Pipeline.ReadBack

@[expose] public section

set_option maxRecDepth 16384

noncomputable section

namespace Cert.Kernel4Ideal.Rows

open Cert.Kernel4Ideal Cert.Kernel4Ideal.Gen Cert.Layer Idealize.ShloMosaic

/-- The row projected into the next mixer: normalised with gains `g`, then multiplied by `w`. -/
abbrev projected (x g : Row) (w : Fin 1024 → Fin 1024 → EReal) (j : Fin 1024) : EReal := rowMul (rms x g) w j

/-! ## Blocks of 512 rows -/

/-- The normalised row the feed-forward step multiplies. -/
theorem normed512 (x0 : Vec Ideal S512x1024 .f32) (x2 : Vec Ideal S1x1x1x1024 .f32) (r : Fin 512) (j : Fin 1024) :
    Run.v27 x0 x2 (ix2 r j) = rms (fun k => x0 (ix2 r k)) (fun k => x2 (ix4 0 0 0 k)) j := by
  unfold Run.v27
  pointwise [k0_pay21]
  rfl

/-- The row after the feed-forward step, from the row it multiplies. -/
theorem step512 (x0 : Vec Ideal S512x1024 .f32) (u : FVec Ideal S512x1024 .bf16) (x3 x4 : Vec Ideal S1024x2816 .bf16) (x5 : Vec Ideal S2816x1024 .bf16) (g : Row) (r : Fin 512)
    (hu : ∀ j, u (ix2 r j) = rms (fun k => x0 (ix2 r k)) g j) (j : Fin 1024) :
    k0_pay22 (View.ld x0 Run.r4) u (View.ld x3 Run.r6) (View.ld x4 Run.r6) (View.ld x5 Run.r7) (View.ld x3 Run.r8) (View.ld x4 Run.r8) (View.ld x5 Run.r9) (ix2 r j)
      = ffn (fun k => x0 (ix2 r k)) g (mat x3) (mat x4) (mat x5) j := by
  pointwise [k0_pay22]
  simp only [hu]
  exact (congrArg (fun s => x0 (ix2 r j) + Ideal.ofBits FTy.f32 1056964608#32 * s)
    (sum_chunks fun k => hidden (rms (fun k => x0 (ix2 r k)) g) (mat x3) (mat x4) k * mat x5 k j)).symm

/-- The row after the feed-forward step. -/
theorem ffn512 (x0 : Vec Ideal S512x1024 .f32) (x2 : Vec Ideal S1x1x1x1024 .f32) (x3 x4 : Vec Ideal S1024x2816 .bf16) (x5 : Vec Ideal S2816x1024 .bf16) (r : Fin 512) (j : Fin 1024) :
    Run.v51 x0 x2 x3 x4 x5 (ix2 r j) = ffn (fun k => x0 (ix2 r k)) (fun k => x2 (ix4 0 0 0 k)) (mat x3) (mat x4) (mat x5) j :=
  step512 x0 _ x3 x4 x5 _ r (normed512 x0 x2 r) j

/-- A row of the stored block is the layer's row function of the same row of the loaded blocks. -/
theorem row512 (x0 : Vec Ideal S512x1024 .f32) (x2 : Vec Ideal S1x1x1x1024 .f32) (x3 x4 : Vec Ideal S1024x2816 .bf16) (x5 : Vec Ideal S2816x1024 .bf16) (r : Fin 512) (j : Fin 1024) :
    Run.out11 x0 x2 x3 x4 x5 (ix2 r j) = ffn (fun k => x0 (ix2 r k)) (fun k => x2 (ix4 0 0 0 k)) (mat x3) (mat x4) (mat x5) j := by
  unfold Run.out11
  rw [View.canon_unit_zero (by funext a; fin_cases a <;> rfl)]
  exact ffn512 x0 x2 x3 x4 x5 r j

/-- The mean of the squares of the row after the feed-forward step. -/
theorem mean512 (x0 : Vec Ideal S512x1024 .f32) (x2 : Vec Ideal S1x1x1x1024 .f32) (x3 x4 : Vec Ideal S1024x2816 .bf16) (x5 : Vec Ideal S2816x1024 .bf16) (r : Fin 512) (j : Fin 1) :
    Run.v59 x0 x2 x3 x4 x5 (ix2 r j) = Ideal.div (∑ k, Run.v51 x0 x2 x3 x4 x5 (ix2 r k) * Run.v51 x0 x2 x3 x4 x5 (ix2 r k)) (Ideal.ofBits FTy.f32 1149239296#32) := by
  unfold Run.v59 Run.v51
  pointwise [k0_pay24]

/-- The projected row, from the values it is built from. -/
theorem project512 (h : FVec Ideal S512x1024 .f32) (q : FVec Ideal S512x1 .f32) (x6 : Vec Ideal S1x1x1x1024 .f32) (x7 : Vec Ideal S1x1024x1024 .bf16) (a : Row) (r : Fin 512)
    (hh : ∀ j, h (ix2 r j) = a j) (hq : ∀ j, q (ix2 r j) = Ideal.div (∑ k, a k * a k) (Ideal.ofBits FTy.f32 1149239296#32)) (j : Fin 1024) :
    k0_pay25 h (Run.v54 x6) q (Scalar.ofBits .f32 0x358637BD#32) (View.ld x7 Run.r10) (ix2 r j)
      = projected a (fun k => x6 (ix4 0 0 0 k)) (fun k l => x7 (ix3 0 k l)) j := by
  unfold Run.v54
  pointwise [k0_pay25, k0_pay23]
  simp only [hh, hq]
  rfl

/-- The projected row. -/
theorem proj512 (x0 : Vec Ideal S512x1024 .f32) (x2 : Vec Ideal S1x1x1x1024 .f32) (x3 x4 : Vec Ideal S1024x2816 .bf16) (x5 : Vec Ideal S2816x1024 .bf16) (x6 : Vec Ideal S1x1x1x1024 .f32) (x7 : Vec Ideal S1x1024x1024 .bf16) (r : Fin 512) (j : Fin 1024) :
    Run.v70 x0 x2 x3 x4 x5 x6 x7 (ix2 r j) = projected (ffn (fun k => x0 (ix2 r k)) (fun k => x2 (ix4 0 0 0 k)) (mat x3) (mat x4) (mat x5)) (fun k => x6 (ix4 0 0 0 k)) (fun k l => x7 (ix3 0 k l)) j := by
  refine project512 _ _ x6 x7 _ r (ffn512 x0 x2 x3 x4 x5 r) (fun l => ?_) j
  simp only [mean512, ffn512]

/-- An element of the stored slabs is the element of the projected row at the slab's position. -/
theorem slab512 (x0 : Vec Ideal S512x1024 .f32) (x2 : Vec Ideal S1x1x1x1024 .f32) (x3 x4 : Vec Ideal S1024x2816 .bf16) (x5 : Vec Ideal S2816x1024 .bf16) (x6 : Vec Ideal S1x1x1x1024 .f32) (x7 : Vec Ideal S1x1024x1024 .bf16) (b : Fin 8) (r : Fin 512) (j : Fin 128) :
    Run.out13 x0 x2 x3 x4 x5 x6 x7 (ix3 b r j)
      = projected (ffn (fun k => x0 (ix2 r k)) (fun k => x2 (ix4 0 0 0 k)) (mat x3) (mat x4) (mat x5)) (fun k => x6 (ix4 0 0 0 k)) (fun k l => x7 (ix3 0 k l)) ⟨b.val * 128 + j.val, by omega⟩ := by
  rw [← proj512]
  unfold Run.out13
  refine View.canon_append_of_piecesOf (Val := Elt Ideal)
    (fun y => Run.v70 x0 x2 x3 x4 x5 x6 x7 (ix2 (y 1) ⟨(y 0).val * 128 + (y 2).val, by have h0 : (y 0).val < 8 := (y 0).isLt; have h2 : (y 2).val < 128 := (y 2).isLt; omega⟩))
    [] [_, _, _, _, _, _, _, _] ⟨?_, ?_, ?_, ?_, ?_, ?_, ?_, ?_, trivial⟩ (ix3 b r j) (Run.cover13 _ _ _ _ _ _ _ _ _)
  all_goals
    intro z
    idx_vars z
    unfold Run.v70
    pointwise [k0_pay1, k0_pay2, k0_pay3, k0_pay26, k0_pay27, k0_pay28, k0_pay29, k0_pay30, k0_pay31, Run.v91]
    refine congrArg (k0_pay25 _ _ _ _ _) ?_
    blk_ext [Run.r11, Run.r12, Run.r13, Run.r14, Run.r15, Run.r16, Run.r17, Run.r18]

/-! ## Blocks of 256 rows -/

/-- The part of the feed-forward step from the first 1536 positions of its hidden row. -/
theorem first256 (x1 : Vec Ideal S256x1024 .f32) (x2 : Vec Ideal S1x1x1x1024 .f32) (x3 x4 : Vec Ideal S1024x2816 .bf16) (x5 : Vec Ideal S2816x1024 .bf16) (r : Fin 256) (j : Fin 1024) :
    Run.v131 x1 x2 x3 x4 x5 (ix2 r j)
      = ∑ k : Fin 1536, hidden (rms (fun l => x1 (ix2 r l)) (fun l => x2 (ix4 0 0 0 l))) (mat x3) (mat x4) ⟨k.val, by omega⟩ * mat x5 ⟨k.val, by omega⟩ j := by
  unfold Run.v131
  pointwise [k0_pay11, k0_pay10]
  rfl

/-- The last 1280 positions of its hidden row. -/
theorem hid256 (x1 : Vec Ideal S256x1024 .f32) (x2 : Vec Ideal S1x1x1x1024 .f32) (x3 x4 : Vec Ideal S1024x2816 .bf16) (r : Fin 256) (k : Fin 1280) :
    Run.v139 x1 x2 x3 x4 (ix2 r k) = hidden (rms (fun l => x1 (ix2 r l)) (fun l => x2 (ix4 0 0 0 l))) (mat x3) (mat x4) ⟨1536 + k.val, by omega⟩ := by
  unfold Run.v139
  pointwise [k0_pay12, k0_pay10]
  rfl

/-- The row after the feed-forward step, from the two parts of its hidden row. -/
theorem step256 (x1 : Vec Ideal S256x1024 .f32) (f : FVec Ideal S256x1024 .f32) (u : FVec Ideal S256x1280 .bf16) (x3 x4 : Vec Ideal S1024x2816 .bf16) (x5 : Vec Ideal S2816x1024 .bf16) (g : Row) (r : Fin 256)
    (hf : ∀ j, f (ix2 r j) = ∑ k : Fin 1536, hidden (rms (fun l => x1 (ix2 r l)) g) (mat x3) (mat x4) ⟨k.val, by omega⟩ * mat x5 ⟨k.val, by omega⟩ j)
    (hu : ∀ k : Fin 1280, u (ix2 r k) = hidden (rms (fun l => x1 (ix2 r l)) g) (mat x3) (mat x4) ⟨1536 + k.val, by omega⟩) (j : Fin 1024) :
    k0_pay13 (View.ld x1 Run.r19) f u (View.ld x5 Run.r9) (ix2 r j) = ffn (fun k => x1 (ix2 r k)) g (mat x3) (mat x4) (mat x5) j := by
  pointwise [k0_pay13]
  simp only [hf, hu]
  exact (congrArg (fun s => x1 (ix2 r j) + Ideal.ofBits FTy.f32 1056964608#32 * s)
    (sum_chunks fun k => hidden (rms (fun k => x1 (ix2 r k)) g) (mat x3) (mat x4) k * mat x5 k j)).symm

/-- The row after the feed-forward step. -/
theorem ffn256 (x1 : Vec Ideal S256x1024 .f32) (x2 : Vec Ideal S1x1x1x1024 .f32) (x3 x4 : Vec Ideal S1024x2816 .bf16) (x5 : Vec Ideal S2816x1024 .bf16) (r : Fin 256) (j : Fin 1024) :
    k0_pay13 (View.ld x1 Run.r19) (Run.v131 x1 x2 x3 x4 x5) (Run.v139 x1 x2 x3 x4) (View.ld x5 Run.r9) (ix2 r j)
      = ffn (fun k => x1 (ix2 r k)) (fun k => x2 (ix4 0 0 0 k)) (mat x3) (mat x4) (mat x5) j :=
  step256 x1 _ _ x3 x4 x5 _ r (first256 x1 x2 x3 x4 x5 r) (hid256 x1 x2 x3 x4 r) j

/-- A row of the stored block is the layer's row function of the same row of the loaded blocks. -/
theorem row256 (x1 : Vec Ideal S256x1024 .f32) (x2 : Vec Ideal S1x1x1x1024 .f32) (x3 x4 : Vec Ideal S1024x2816 .bf16) (x5 : Vec Ideal S2816x1024 .bf16) (r : Fin 256) (j : Fin 1024) :
    Run.out12 x1 x2 x3 x4 x5 (ix2 r j) = ffn (fun k => x1 (ix2 r k)) (fun k => x2 (ix4 0 0 0 k)) (mat x3) (mat x4) (mat x5) j := by
  unfold Run.out12
  rw [View.canon_unit_zero (by funext a; fin_cases a <;> rfl)]
  exact ffn256 x1 x2 x3 x4 x5 r j

/-- The projected row. -/
theorem proj256 (x1 : Vec Ideal S256x1024 .f32) (x2 : Vec Ideal S1x1x1x1024 .f32) (x3 x4 : Vec Ideal S1024x2816 .bf16) (x5 : Vec Ideal S2816x1024 .bf16) (x6 : Vec Ideal S1x1x1x1024 .f32) (x7 : Vec Ideal S1x1024x1024 .bf16) (r : Fin 256) (j : Fin 1024) :
    Run.v164 x1 x2 x3 x4 x5 x6 x7 (ix2 r j) = projected (ffn (fun k => x1 (ix2 r k)) (fun k => x2 (ix4 0 0 0 k)) (mat x3) (mat x4) (mat x5)) (fun k => x6 (ix4 0 0 0 k)) (fun k l => x7 (ix3 0 k l)) j := by
  unfold Run.v164
  pointwise [k0_pay14]
  simp only [ffn256]
  rfl

/-- An element of the stored slabs is the element of the projected row at the slab's position. -/
theorem slab256 (x1 : Vec Ideal S256x1024 .f32) (x2 : Vec Ideal S1x1x1x1024 .f32) (x3 x4 : Vec Ideal S1024x2816 .bf16) (x5 : Vec Ideal S2816x1024 .bf16) (x6 : Vec Ideal S1x1x1x1024 .f32) (x7 : Vec Ideal S1x1024x1024 .bf16) (b : Fin 8) (r : Fin 256) (j : Fin 128) :
    Run.out14 x1 x2 x3 x4 x5 x6 x7 (ix3 b r j)
      = projected (ffn (fun k => x1 (ix2 r k)) (fun k => x2 (ix4 0 0 0 k)) (mat x3) (mat x4) (mat x5)) (fun k => x6 (ix4 0 0 0 k)) (fun k l => x7 (ix3 0 k l)) ⟨b.val * 128 + j.val, by omega⟩ := by
  rw [← proj256]
  unfold Run.out14
  refine View.canon_append_of_piecesOf (Val := Elt Ideal)
    (fun y => Run.v164 x1 x2 x3 x4 x5 x6 x7 (ix2 (y 1) ⟨(y 0).val * 128 + (y 2).val, by have h0 : (y 0).val < 8 := (y 0).isLt; have h2 : (y 2).val < 128 := (y 2).isLt; omega⟩))
    [] [_, _, _, _, _, _, _, _] ⟨?_, ?_, ?_, ?_, ?_, ?_, ?_, ?_, trivial⟩ (ix3 b r j) (Run.cover14 _ _ _ _ _ _ _ _ _)
  all_goals
    intro z
    idx_vars z
    unfold Run.v164
    pointwise [k0_pay4, k0_pay5, k0_pay6, k0_pay7, k0_pay8, k0_pay9, k0_pay15, k0_pay16, k0_pay17, Run.v173]
    refine congrArg (k0_pay14 _ _ _ _ _ _) ?_
    blk_ext [Run.r20, Run.r21, Run.r22, Run.r23, Run.r24, Run.r25, Run.r26, Run.r27]

/-! ## The next step's weights -/

/-- The gate weights handed on. -/
theorem gate (x : Vec Ideal S1x1x32x2816 .f32) (r : Fin 32) (j : Fin 2816) : Run.out15 x (ix2 r j) = x (ix4 0 0 r j) := by
  unfold Run.out15
  rw [View.canon_unit_zero (by funext a; fin_cases a <;> rfl)]
  pointwise [k0_pay18]

/-- The weights beside the gate handed on. -/
theorem up (x : Vec Ideal S1x1x32x2816 .f32) (r : Fin 32) (j : Fin 2816) : Run.out16 x (ix2 r j) = x (ix4 0 0 r j) := by
  unfold Run.out16
  rw [View.canon_unit_zero (by funext a; fin_cases a <;> rfl)]
  pointwise [k0_pay19]

/-- The down weights handed on. -/
theorem down (x : Vec Ideal S1x1x2816x128 .f32) (r : Fin 2816) (j : Fin 128) : Run.out17 x (ix2 r j) = x (ix4 0 0 r j) := by
  unfold Run.out17
  rw [View.canon_unit_zero (by funext a; fin_cases a <;> rfl)]
  pointwise [k0_pay20]

end Cert.Kernel4Ideal.Rows

end
-- ==== Proof.SlabsReference.lean ====
/- One row of each result of the slab stage's reference, read off its operations: it is the layer's row function of the
   same row of the arguments. -/
module

public import proofs.«01_k».proof.Proof.Gen.Reference4Ideal.Read
public import proofs.«01_k».proof.Proof.Layer

@[expose] public section

set_option maxRecDepth 16384

noncomputable section

namespace Cert.Reference4Ideal.Rows

open Cert.Reference4Ideal Cert.Reference4Ideal.Gen Cert.Reference4Ideal.Read Cert.Layer Idealize.ShloMosaic

/-! ## 16384 rows -/

/-- The normalised row the feed-forward step multiplies. -/
theorem normed16384 (x0 : Vec Ideal S16384x1024 .f32) (x2 : Vec Ideal S2x3x1x1024 .f32) (r : Fin 16384) (j : Fin 1024) :
    val_main_v19 (F := Ideal) x0 x2 (ix2 r j) = rms (fun k => x0 (ix2 r k)) (fun k => x2 (ix4 1 0 0 k)) j := by
  pointwise [val_main_v19, val_main_v18, val_main_v17, val_main_v6, val_main_v5, val_main_v16, val_main_v15, val_main_v14, val_main_v13, val_main_v12, val_main_cst_1, val_main_v11, val_main_v10, val_main_cst_0, val_main_v9, val_main_v8, val_main_cst, val_main_v7]
  rfl

/-- The hidden row of the feed-forward step. -/
theorem hid16384 (x0 : Vec Ideal S16384x1024 .f32) (x2 : Vec Ideal S2x3x1x1024 .f32) (x4 : Vec Ideal S1024x2816 .bf16) (x5 : Vec Ideal S1024x2816 .bf16) (r : Fin 16384) (j : Fin 2816) :
    val_main_v23 (F := Ideal) x0 x2 x4 x5 (ix2 r j) = hidden (fun k => val_main_v19 (F := Ideal) x0 x2 (ix2 r k)) (mat x4) (mat x5) j := by
  pointwise [val_main_v23, val_main_v22, val_main_v3, val_main_v21, val_main_call0_v5, val_main_call0_v3, val_main_call0_v1, val_main_call0_v0, val_main_v20, val_main_v2, val_main_call0_v2, val_main_call0_cst, val_main_call0_v4, val_main_call0_cst_0]
  rfl

/-- A row of the result is the layer's row function of the same row of the arguments. -/
theorem row16384 (x0 : Vec Ideal S16384x1024 .f32) (x2 : Vec Ideal S2x3x1x1024 .f32) (x4 : Vec Ideal S1024x2816 .bf16) (x5 : Vec Ideal S1024x2816 .bf16) (x6 : Vec Ideal S2816x1024 .bf16) (r : Fin 16384) (j : Fin 1024) :
    val_main_v27 (F := Ideal) x0 x2 x4 x5 x6 (ix2 r j) =
      ffn (fun k => x0 (ix2 r k)) (fun k => x2 (ix4 1 0 0 k)) (mat x4) (mat x5) (mat x6) j := by
  have hn : (fun k => val_main_v19 (F := Ideal) x0 x2 (ix2 r k)) = rms (fun k => x0 (ix2 r k)) (fun k => x2 (ix4 1 0 0 k)) := funext (normed16384 _ _ r)
  pointwise [val_main_v27, val_main_v26, val_main_v24, val_main_v4, val_main_v25, val_main_cst_2]
  simp only [hid16384, hn]
  rfl

/-- The normalised row that is projected. -/
theorem inner16384 (x0 : Vec Ideal S16384x1024 .f32) (x2 : Vec Ideal S2x3x1x1024 .f32) (x4 : Vec Ideal S1024x2816 .bf16) (x5 : Vec Ideal S1024x2816 .bf16) (x6 : Vec Ideal S2816x1024 .bf16) (r : Fin 16384) (j : Fin 1024) :
    val_main_v42 (F := Ideal) x0 x2 x4 x5 x6 (ix2 r j) = rms (ffn (fun k => x0 (ix2 r k)) (fun k => x2 (ix4 1 0 0 k)) (mat x4) (mat x5) (mat x6)) (fun k => x2 (ix4 1 1 0 k)) j := by
  pointwise [val_main_v42, val_main_v41, val_main_v40, val_main_v29, val_main_v28, val_main_v39, val_main_v38, val_main_v37, val_main_v36, val_main_v35, val_main_cst_5, val_main_v34, val_main_v33, val_main_cst_4, val_main_v32, val_main_v31, val_main_cst_3, val_main_v30]
  simp only [row16384]
  rfl

/-- The projected row. -/
theorem proj16384 (x0 : Vec Ideal S16384x1024 .f32) (x2 : Vec Ideal S2x3x1x1024 .f32) (x3 : Vec Ideal S1x1024x1024 .bf16) (x4 : Vec Ideal S1024x2816 .bf16) (x5 : Vec Ideal S1024x2816 .bf16) (x6 : Vec Ideal S2816x1024 .bf16) (r : Fin 16384) (j : Fin 1024) :
    val_main_v43 (F := Ideal) x0 x2 x3 x4 x5 x6 (ix2 r j) = rowMul (rms (ffn (fun k => x0 (ix2 r k)) (fun k => x2 (ix4 1 0 0 k)) (mat x4) (mat x5) (mat x6)) (fun k => x2 (ix4 1 1 0 k))) (fun k l => x3 (ix3 0 k l)) j := by
  pointwise [val_main_v43, val_main_v1, val_main_v0]
  simp only [inner16384]
  rfl

/-- An element of the slabs is the element of the projected row at the slab's position. -/
theorem slab16384 (x0 : Vec Ideal S16384x1024 .f32) (x2 : Vec Ideal S2x3x1x1024 .f32) (x3 : Vec Ideal S1x1024x1024 .bf16) (x4 : Vec Ideal S1024x2816 .bf16) (x5 : Vec Ideal S1024x2816 .bf16) (x6 : Vec Ideal S2816x1024 .bf16) (b : Fin 8) (r : Fin 16384) (j : Fin 128) :
    val_main_v45 (F := Ideal) x0 x2 x3 x4 x5 x6 (ix3 b r j) = rowMul (rms (ffn (fun k => x0 (ix2 r k)) (fun k => x2 (ix4 1 0 0 k)) (mat x4) (mat x5) (mat x6)) (fun k => x2 (ix4 1 1 0 k))) (fun k l => x3 (ix3 0 k l)) ⟨b.val * 128 + j.val, by omega⟩ := by
  rw [← proj16384]
  pointwise [val_main_v45, val_main_v44]

/-! ## 256 rows -/

/-- The normalised row the feed-forward step multiplies. -/
theorem normed256 (x1 : Vec Ideal S256x1024 .f32) (x2 : Vec Ideal S2x3x1x1024 .f32) (r : Fin 256) (j : Fin 1024) :
    val_main_v60 (F := Ideal) x1 x2 (ix2 r j) = rms (fun k => x1 (ix2 r k)) (fun k => x2 (ix4 1 0 0 k)) j := by
  pointwise [val_main_v60, val_main_v59, val_main_v58, val_main_v47, val_main_v46, val_main_v57, val_main_v56, val_main_v55, val_main_v54, val_main_v53, val_main_cst_8, val_main_v52, val_main_v51, val_main_cst_7, val_main_v50, val_main_v49, val_main_cst_6, val_main_v48]
  rfl

/-- The hidden row of the feed-forward step. -/
theorem hid256 (x1 : Vec Ideal S256x1024 .f32) (x2 : Vec Ideal S2x3x1x1024 .f32) (x4 : Vec Ideal S1024x2816 .bf16) (x5 : Vec Ideal S1024x2816 .bf16) (r : Fin 256) (j : Fin 2816) :
    val_main_v64 (F := Ideal) x1 x2 x4 x5 (ix2 r j) = hidden (fun k => val_main_v60 (F := Ideal) x1 x2 (ix2 r k)) (mat x4) (mat x5) j := by
  pointwise [val_main_v64, val_main_v63, val_main_v3, val_main_v62, val_main_call1_v5, val_main_call1_v3, val_main_call1_v1, val_main_call1_v0, val_main_v61, val_main_v2, val_main_call1_v2, val_main_call1_cst, val_main_call1_v4, val_main_call1_cst_0]
  rfl

/-- A row of the result is the layer's row function of the same row of the arguments. -/
theorem row256 (x1 : Vec Ideal S256x1024 .f32) (x2 : Vec Ideal S2x3x1x1024 .f32) (x4 : Vec Ideal S1024x2816 .bf16) (x5 : Vec Ideal S1024x2816 .bf16) (x6 : Vec Ideal S2816x1024 .bf16) (r : Fin 256) (j : Fin 1024) :
    val_main_v68 (F := Ideal) x1 x2 x4 x5 x6 (ix2 r j) =
      ffn (fun k => x1 (ix2 r k)) (fun k => x2 (ix4 1 0 0 k)) (mat x4) (mat x5) (mat x6) j := by
  have hn : (fun k => val_main_v60 (F := Ideal) x1 x2 (ix2 r k)) = rms (fun k => x1 (ix2 r k)) (fun k => x2 (ix4 1 0 0 k)) := funext (normed256 _ _ r)
  pointwise [val_main_v68, val_main_v67, val_main_v65, val_main_v4, val_main_v66, val_main_cst_9]
  simp only [hid256, hn]
  rfl

/-- The normalised row that is projected. -/
theorem inner256 (x1 : Vec Ideal S256x1024 .f32) (x2 : Vec Ideal S2x3x1x1024 .f32) (x4 : Vec Ideal S1024x2816 .bf16) (x5 : Vec Ideal S1024x2816 .bf16) (x6 : Vec Ideal S2816x1024 .bf16) (r : Fin 256) (j : Fin 1024) :
    val_main_v83 (F := Ideal) x1 x2 x4 x5 x6 (ix2 r j) = rms (ffn (fun k => x1 (ix2 r k)) (fun k => x2 (ix4 1 0 0 k)) (mat x4) (mat x5) (mat x6)) (fun k => x2 (ix4 1 1 0 k)) j := by
  pointwise [val_main_v83, val_main_v82, val_main_v81, val_main_v70, val_main_v69, val_main_v80, val_main_v79, val_main_v78, val_main_v77, val_main_v76, val_main_cst_12, val_main_v75, val_main_v74, val_main_cst_11, val_main_v73, val_main_v72, val_main_cst_10, val_main_v71]
  simp only [row256]
  rfl

/-- The projected row. -/
theorem proj256 (x1 : Vec Ideal S256x1024 .f32) (x2 : Vec Ideal S2x3x1x1024 .f32) (x3 : Vec Ideal S1x1024x1024 .bf16) (x4 : Vec Ideal S1024x2816 .bf16) (x5 : Vec Ideal S1024x2816 .bf16) (x6 : Vec Ideal S2816x1024 .bf16) (r : Fin 256) (j : Fin 1024) :
    val_main_v84 (F := Ideal) x1 x2 x3 x4 x5 x6 (ix2 r j) = rowMul (rms (ffn (fun k => x1 (ix2 r k)) (fun k => x2 (ix4 1 0 0 k)) (mat x4) (mat x5) (mat x6)) (fun k => x2 (ix4 1 1 0 k))) (fun k l => x3 (ix3 0 k l)) j := by
  pointwise [val_main_v84, val_main_v1, val_main_v0]
  simp only [inner256]
  rfl

/-- An element of the slabs is the element of the projected row at the slab's position. -/
theorem slab256 (x1 : Vec Ideal S256x1024 .f32) (x2 : Vec Ideal S2x3x1x1024 .f32) (x3 : Vec Ideal S1x1024x1024 .bf16) (x4 : Vec Ideal S1024x2816 .bf16) (x5 : Vec Ideal S1024x2816 .bf16) (x6 : Vec Ideal S2816x1024 .bf16) (b : Fin 8) (r : Fin 256) (j : Fin 128) :
    val_main_v86 (F := Ideal) x1 x2 x3 x4 x5 x6 (ix3 b r j) = rowMul (rms (ffn (fun k => x1 (ix2 r k)) (fun k => x2 (ix4 1 0 0 k)) (mat x4) (mat x5) (mat x6)) (fun k => x2 (ix4 1 1 0 k))) (fun k l => x3 (ix3 0 k l)) ⟨b.val * 128 + j.val, by omega⟩ := by
  rw [← proj256]
  pointwise [val_main_v86, val_main_v85]

/-! ## The next step's weights -/

/-- The gate weights handed on. -/
theorem gate (x7 : Vec Ideal S2x2x1024x2816 .f32) (r : Fin 1024) (j : Fin 2816) : val_main_v89 (F := Ideal) x7 (ix2 r j) = x7 (ix4 1 1 r j) := by
  pointwise [val_main_v89, val_main_v88, val_main_v87]

/-- The weights beside the gate handed on. -/
theorem up (x8 : Vec Ideal S2x2x1024x2816 .f32) (r : Fin 1024) (j : Fin 2816) : val_main_v92 (F := Ideal) x8 (ix2 r j) = x8 (ix4 1 1 r j) := by
  pointwise [val_main_v92, val_main_v91, val_main_v90]

/-- The down weights handed on. -/
theorem down (x9 : Vec Ideal S2x2x2816x1024 .f32) (r : Fin 2816) (j : Fin 1024) : val_main_v95 (F := Ideal) x9 (ix2 r j) = x9 (ix4 1 1 r j) := by
  pointwise [val_main_v95, val_main_v94, val_main_v93]

end Cert.Reference4Ideal.Rows

end
-- ==== Proof.SlabsStage.lean ====
/- The slab stage: its results are the reference's. Every block a point writes back is read at an index, where the
   body's value and the reference's are one function of the same arguments. -/
module

public import proofs.«01_k».proof.Proof.SlabsRows
public import proofs.«01_k».proof.Proof.SlabsReference
public import Idealize.ShloMosaic.Lib.Pipeline.ValueKit
public import Idealize.ShloMosaic.Lib.Claim

@[expose] public section

set_option maxRecDepth 16384

noncomputable section

namespace Cert.Kernel4Ideal.Stage

open Cert.Kernel4Ideal Cert.Kernel4Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block sits in its array at point `t`. -/
theorem idx (t : Fin cfg0.N) : win0_0.index t = ![t.val, 0]
    ∧ win0_1.index t = ![0, 0]
    ∧ win0_2.index t = ![1, 0, 0, 0]
    ∧ win0_3.index t = ![0, 0]
    ∧ win0_4.index t = ![0, 0]
    ∧ win0_5.index t = ![0, 0]
    ∧ win0_6.index t = ![1, 1, 0, 0]
    ∧ win0_7.index t = ![0, 0, 0]
    ∧ win0_8.index t = ![1, 1, t.val, 0]
    ∧ win0_9.index t = ![1, 1, t.val, 0]
    ∧ win0_10.index t = ![1, 1, 0, t.val / 4]
    ∧ win0_11.index t = ![t.val, 0]
    ∧ win0_12.index t = ![0, 0]
    ∧ win0_13.index t = ![0, t.val, 0]
    ∧ win0_14.index t = ![0, 0, 0]
    ∧ win0_15.index t = ![t.val, 0]
    ∧ win0_16.index t = ![t.val, 0]
    ∧ win0_17.index t = ![0, t.val / 4] :=
  (by decide +kernel : ∀ t : Fin grid0.N, win0_0.index t = ![t.val, 0]
    ∧ win0_1.index t = ![0, 0]
    ∧ win0_2.index t = ![1, 0, 0, 0]
    ∧ win0_3.index t = ![0, 0]
    ∧ win0_4.index t = ![0, 0]
    ∧ win0_5.index t = ![0, 0]
    ∧ win0_6.index t = ![1, 1, 0, 0]
    ∧ win0_7.index t = ![0, 0, 0]
    ∧ win0_8.index t = ![1, 1, t.val, 0]
    ∧ win0_9.index t = ![1, 1, t.val, 0]
    ∧ win0_10.index t = ![1, 1, 0, t.val / 4]
    ∧ win0_11.index t = ![t.val, 0]
    ∧ win0_12.index t = ![0, 0]
    ∧ win0_13.index t = ![0, t.val, 0]
    ∧ win0_14.index t = ![0, 0, 0]
    ∧ win0_15.index t = ![t.val, 0]
    ∧ win0_16.index t = ![t.val, 0]
    ∧ win0_17.index t = ![0, t.val / 4]) t

/-- The gains of the feed-forward step, as loaded. -/
theorem gains (c : Dev nD) (t : Fin cfg0.N) :
    (fun (k : Fin 1024) => iblk m c 2 t (ix4 0 0 0 k)) = fun k => m ((c.tc : Thread nD τ).loc main_arg2) (ix4 1 0 0 k) := by
  funext k
  blk_ext [iblk, V, idx t]

/-- The gains before the input projection, as loaded. -/
theorem gainsIn (c : Dev nD) (t : Fin cfg0.N) :
    (fun (k : Fin 1024) => iblk m c 6 t (ix4 0 0 0 k)) = fun k => m ((c.tc : Thread nD τ).loc main_arg2) (ix4 1 1 0 k) := by
  funext k
  blk_ext [iblk, V, idx t]

/-- The input projection, as loaded. -/
theorem wIn (c : Dev nD) (t : Fin cfg0.N) :
    (fun (k : Fin 1024) (l : Fin 1024) => iblk m c 7 t (ix3 0 k l)) = fun k l => m ((c.tc : Thread nD τ).loc main_arg3) (ix3 0 k l) := by
  funext k l
  blk_ext [iblk, V, idx t]

/-- The gate weights, as loaded. -/
theorem wGate (c : Dev nD) (t : Fin cfg0.N) : (mat (iblk m c 3 t) : Fin 1024 → Fin 2816 → EReal) = mat (m ((c.tc : Thread nD τ).loc main_arg4)) := by
  funext k l
  show iblk m c 3 t (ix2 k l) = m ((c.tc : Thread nD τ).loc main_arg4) (ix2 k l)
  blk_ext [iblk, V, idx t]

/-- The weights beside the gate, as loaded. -/
theorem wUp (c : Dev nD) (t : Fin cfg0.N) : (mat (iblk m c 4 t) : Fin 1024 → Fin 2816 → EReal) = mat (m ((c.tc : Thread nD τ).loc main_arg5)) := by
  funext k l
  show iblk m c 4 t (ix2 k l) = m ((c.tc : Thread nD τ).loc main_arg5) (ix2 k l)
  blk_ext [iblk, V, idx t]

/-- The down weights, as loaded. -/
theorem wDown (c : Dev nD) (t : Fin cfg0.N) : (mat (iblk m c 5 t) : Fin 2816 → Fin 1024 → EReal) = mat (m ((c.tc : Thread nD τ).loc main_arg6)) := by
  funext k l
  show iblk m c 5 t (ix2 k l) = m ((c.tc : Thread nD τ).loc main_arg6) (ix2 k l)
  blk_ext [iblk, V, idx t]

/-- Row `r` of the prompt stream's block at point `t`. -/
theorem xprompt (c : Dev nD) (t : Fin cfg0.N) (r : Fin 512) :
    (fun (k : Fin 1024) => iblk m c 0 t (ix2 r k)) = fun k => m ((c.tc : Thread nD τ).loc main_arg0) (ix2 ⟨t.val * 512 + r.val, by have h := t.isLt; change t.val < 32 at h; omega⟩ k) := by
  funext k
  blk_ext [iblk, V, idx t]

/-- Row `r` of the sample stream's block at point `t`. -/
theorem xsample (c : Dev nD) (t : Fin cfg0.N) (r : Fin 256) :
    (fun (k : Fin 1024) => iblk m c 1 t (ix2 r k)) = fun k => m ((c.tc : Thread nD τ).loc main_arg1) (ix2 r k) := by
  funext k
  blk_ext [iblk, V, idx t]

/-- A row of the next gate weights, as loaded. -/
theorem nextGate (c : Dev nD) (t : Fin cfg0.N) (r : Fin 32) :
    (fun (k : Fin 2816) => iblk m c 8 t (ix4 0 0 r k)) = fun k => m ((c.tc : Thread nD τ).loc main_arg7) (ix4 1 1 ⟨t.val * 32 + r.val, by have h := t.isLt; change t.val < 32 at h; omega⟩ k) := by
  funext k
  blk_ext [iblk, V, idx t]

/-- A row of the next weights beside the gate, as loaded. -/
theorem nextUp (c : Dev nD) (t : Fin cfg0.N) (r : Fin 32) :
    (fun (k : Fin 2816) => iblk m c 9 t (ix4 0 0 r k)) = fun k => m ((c.tc : Thread nD τ).loc main_arg8) (ix4 1 1 ⟨t.val * 32 + r.val, by have h := t.isLt; change t.val < 32 at h; omega⟩ k) := by
  funext k
  blk_ext [iblk, V, idx t]

/-- A row of the next down weights, as loaded. -/
theorem nextDown (c : Dev nD) (t : Fin cfg0.N) (r : Fin 2816) :
    (fun (k : Fin 128) => iblk m c 10 t (ix4 0 0 r k)) = fun k => m ((c.tc : Thread nD τ).loc main_arg9) (ix4 1 1 r ⟨t.val / 4 * 128 + k.val, by have h := t.isLt; change t.val < 32 at h; omega⟩) := by
  funext k
  blk_ext [iblk, V, idx t]

/-- The prompt stream's result is the reference's. -/
theorem prompt (c : Dev nD) : (Run.dats m 0 c).arrAt 11 cfg0.N
    = Cert.Reference4Ideal.Read.val_main_v27 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) := by
  refine (Run.dats m 0 c).arrAt_eq_of_covers 11 _ (by decide +kernel) fun t hf y => ?_
  blk_simp
  rw [Run.after11]
  idx_vars y
  have he : ((View.whole main_v0_0).slice (win0_11.rect t)).emb (ix2 y0 y1) = ix2 ⟨t.val * 512 + y0.val, by have h := t.isLt; change t.val < 32 at h; omega⟩ y1 := by
    blk_ext [iblk, V, idx t]
  rw [he, Rows.row512, Cert.Reference4Ideal.Rows.row16384, xprompt m c t y0, gains m c t, wGate m c t, wUp m c t, wDown m c t]

/-- The sample stream's result is the reference's. -/
theorem sample (c : Dev nD) : (Run.dats m 0 c).arrAt 12 cfg0.N
    = Cert.Reference4Ideal.Read.val_main_v68 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (Run.dats m 0 c).arrAt_eq_of_covers 12 _ (by decide +kernel) fun t hf y => ?_
  blk_simp
  rw [Run.after12]
  idx_vars y
  have he : ((View.whole main_v0_1).slice (win0_12.rect t)).emb (ix2 y0 y1) = ix2 y0 y1 := by
    blk_ext [iblk, V, idx t]
  rw [he, Rows.row256, Cert.Reference4Ideal.Rows.row256, xsample m c Run.t0 y0, gains m c Run.t0, wGate m c Run.t0, wUp m c Run.t0, wDown m c Run.t0]

/-- The prompt stream's slabs are the reference's. -/
theorem promptSlabs (c : Dev nD) : (Run.dats m 0 c).arrAt 13 cfg0.N
    = Cert.Reference4Ideal.Read.val_main_v45 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (Run.dats m 0 c).arrAt_eq_of_covers 13 _ (by decide +kernel) fun t hf y => ?_
  blk_simp
  rw [Run.after13]
  idx_vars y
  have he : ((View.whole main_v0_2).slice (win0_13.rect t)).emb (ix3 y0 y1 y2) = ix3 y0 ⟨t.val * 512 + y1.val, by have h := t.isLt; change t.val < 32 at h; omega⟩ y2 := by
    blk_ext [iblk, V, idx t]
  rw [he, Rows.slab512, Cert.Reference4Ideal.Rows.slab16384, xprompt m c t y1, gains m c t, wGate m c t, wUp m c t, wDown m c t, gainsIn m c t, wIn m c t]

/-- The sample stream's slabs are the reference's. -/
theorem sampleSlabs (c : Dev nD) : (Run.dats m 0 c).arrAt 14 cfg0.N
    = Cert.Reference4Ideal.Read.val_main_v86 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (Run.dats m 0 c).arrAt_eq_of_covers 14 _ (by decide +kernel) fun t hf y => ?_
  blk_simp
  rw [Run.after14]
  idx_vars y
  have he : ((View.whole main_v0_3).slice (win0_14.rect t)).emb (ix3 y0 y1 y2) = ix3 y0 y1 y2 := by
    blk_ext [iblk, V, idx t]
  rw [he, Rows.slab256, Cert.Reference4Ideal.Rows.slab256, xsample m c Run.t0 y1, gains m c Run.t0, wGate m c Run.t0, wUp m c Run.t0, wDown m c Run.t0, gainsIn m c Run.t0, wIn m c Run.t0]

/-- The gate weights handed on are the reference's. -/
theorem keptGate (c : Dev nD) : (Run.dats m 0 c).arrAt 15 cfg0.N
    = Cert.Reference4Ideal.Read.val_main_v89 (F := Ideal) (m ((c.tc : Thread nD τ).loc main_arg7)) := by
  refine (Run.dats m 0 c).arrAt_eq_of_covers 15 _ (by decide +kernel) fun t hf y => ?_
  blk_simp
  rw [Run.after15]
  idx_vars y
  have he : ((View.whole main_v0_4).slice (win0_15.rect t)).emb (ix2 y0 y1) = ix2 ⟨t.val * 32 + y0.val, by have h := t.isLt; change t.val < 32 at h; omega⟩ y1 := by
    blk_ext [iblk, V, idx t]
  rw [he, Rows.gate, Cert.Reference4Ideal.Rows.gate, congrFun (nextGate m c t y0) y1]

/-- The weights handed on beside the gate are the reference's. -/
theorem keptUp (c : Dev nD) : (Run.dats m 0 c).arrAt 16 cfg0.N
    = Cert.Reference4Ideal.Read.val_main_v92 (F := Ideal) (m ((c.tc : Thread nD τ).loc main_arg8)) := by
  refine (Run.dats m 0 c).arrAt_eq_of_covers 16 _ (by decide +kernel) fun t hf y => ?_
  blk_simp
  rw [Run.after16]
  idx_vars y
  have he : ((View.whole main_v0_5).slice (win0_16.rect t)).emb (ix2 y0 y1) = ix2 ⟨t.val * 32 + y0.val, by have h := t.isLt; change t.val < 32 at h; omega⟩ y1 := by
    blk_ext [iblk, V, idx t]
  rw [he, Rows.up, Cert.Reference4Ideal.Rows.up, congrFun (nextUp m c t y0) y1]

/-- The down weights handed on are the reference's. -/
theorem keptDown (c : Dev nD) : (Run.dats m 0 c).arrAt 17 cfg0.N
    = Cert.Reference4Ideal.Read.val_main_v95 (F := Ideal) (m ((c.tc : Thread nD τ).loc main_arg9)) := by
  refine (Run.dats m 0 c).arrAt_eq_of_covers 17 _ (by decide +kernel) fun t hf y => ?_
  blk_simp
  rw [Run.after17]
  idx_vars y
  have he : ((View.whole main_v0_6).slice (win0_17.rect t)).emb (ix2 y0 y1) = ix2 y0 ⟨t.val / 4 * 128 + y1.val, by have h := t.isLt; change t.val < 32 at h; omega⟩ := by
    blk_ext [iblk, V, idx t]
  rw [he, Rows.down, Cert.Reference4Ideal.Rows.down, congrFun (nextDown m c t y0) y1]

end Cert.Kernel4Ideal.Stage

end
-- ==== Proof.SlabsClaims.lean ====
module

public import proofs.«01_k».proof.Proof.SlabsStage
public import proofs.«01_k».proof.Proof.Gen.Reference4Ideal.Run
public import proofs.«01_k».proof.Proof.Gen.Reference4Ideal.Read
public import proofs.«01_k».proof.Defs
public import Idealize.ShloMosaic.Lib.Claim

@[expose] public section

set_option maxRecDepth 16384

noncomputable section

/-! The slab stage: the statements about the reference and about the pair. -/

namespace Cert.SlabsClaims

open Idealize.ShloMosaic Idealize.SL.Sem

instance : Cert.Kernel4Ideal.Facts := Cert.Kernel4Ideal.Gen.facts
instance : Cert.Reference4Ideal.Facts := Cert.Reference4Ideal.Gen.facts

section
open Cert.Reference4Ideal

/-- The reference ends with each result at its composed term of the arguments, which are unchanged. -/
theorem reference_run (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v27) = Cert.Reference4Ideal.Read.val_main_v27 (F := Ideal) (m' ((c.tc : Thread nD τ).loc main_arg0)) (m' ((c.tc : Thread nD τ).loc main_arg2)) (m' ((c.tc : Thread nD τ).loc main_arg4)) (m' ((c.tc : Thread nD τ).loc main_arg5)) (m' ((c.tc : Thread nD τ).loc main_arg6))
      ∧ r.2.mem ((c.tc : Thread nD τ).loc main_v68) = Cert.Reference4Ideal.Read.val_main_v68 (F := Ideal) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6))
      ∧ r.2.mem ((c.tc : Thread nD τ).loc main_v45) = Cert.Reference4Ideal.Read.val_main_v45 (F := Ideal) (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v86) = Cert.Reference4Ideal.Read.val_main_v86 (F := Ideal) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v89) = Cert.Reference4Ideal.Read.val_main_v89 (F := Ideal) (m' ((c.tc : Thread nD τ).loc main_arg7))
      ∧ r.2.mem ((c.tc : Thread nD τ).loc main_v92) = Cert.Reference4Ideal.Read.val_main_v92 (F := Ideal) (m' ((c.tc : Thread nD τ).loc main_arg8))
      ∧ r.2.mem ((c.tc : Thread nD τ).loc main_v95) = Cert.Reference4Ideal.Read.val_main_v95 (F := Ideal) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9) :=
  (θ_run defs _ _).mono (fun r h c => ⟨(h c).1.trans (Cert.Reference4Ideal.Read.val_main_v27_eq (m' ((c.tc : Thread nD τ).loc main_arg0)) (m' ((c.tc : Thread nD τ).loc main_arg2)) (m' ((c.tc : Thread nD τ).loc main_arg4)) (m' ((c.tc : Thread nD τ).loc main_arg5)) (m' ((c.tc : Thread nD τ).loc main_arg6))),
      (h c).2.1.trans (Cert.Reference4Ideal.Read.val_main_v68_eq (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6))),
      (h c).2.2.1.trans (Cert.Reference4Ideal.Read.val_main_v45_eq m' c),
      (h c).2.2.2.1.trans (Cert.Reference4Ideal.Read.val_main_v86_eq m' c),
      (h c).2.2.2.2.1.trans (Cert.Reference4Ideal.Read.val_main_v89_eq (m' ((c.tc : Thread nD τ).loc main_arg7))),
      (h c).2.2.2.2.2.1.trans (Cert.Reference4Ideal.Read.val_main_v92_eq (m' ((c.tc : Thread nD τ).loc main_arg8))),
      (h c).2.2.2.2.2.2.1.trans (Cert.Reference4Ideal.Read.val_main_v95_eq (m' ((c.tc : Thread nD τ).loc main_arg9))),
      (h c).2.2.2.2.2.2.2⟩)
    (Cert.Reference4Ideal.Value.run (F := Ideal) m' g')

end

/-- The reference ends, with its arguments unchanged and every counter at zero. -/
theorem reference_frame : quiescent_Reference4Ideal := fun m g _ =>
  (θ_run Cert.Reference4Ideal.defs _ _).mono (fun r h => ⟨fun c => (h c).2.2.2.2.2.2.2, sem_eq_zero_of_no_sems (by decide) r.2⟩)
    (reference_run m g)

/-- Every result of the stage is, over the extended reals, the reference's. -/
theorem pair : algebraic_Kernel4Ideal_Reference4Ideal := by
  pair_intro
  · run_from Cert.Kernel4Ideal.Run.run_blocks m g
  · run_from reference_run m' g'
    · rw [Cert.Kernel4Ideal.Stage.prompt m c]
    · rw [Cert.Kernel4Ideal.Stage.sample m c]
    · rw [Cert.Kernel4Ideal.Stage.promptSlabs m c]
    · rw [Cert.Kernel4Ideal.Stage.sampleSlabs m c]
    · rw [Cert.Kernel4Ideal.Stage.keptGate m c]
    · rw [Cert.Kernel4Ideal.Stage.keptUp m c]
    · rw [Cert.Kernel4Ideal.Stage.keptDown m c]

end Cert.SlabsClaims

end
-- ==== Proof.SlabsPrinted.lean ====
/- Kernel4 and Kernel4Ideal are one text, which is generic in its elements, printed under two names. So the two body
   tables agree at any elements, and the frame of the printed call at the machine's elements is the generic frame of
   SlabsRun. -/
module

public import proofs.«01_k».proof.Proof.SlabsRun
public import proofs.«01_k».proof.Proof.Gen.Kernel4.Skeleton
public import proofs.«01_k».proof.Defs

@[expose] public section

set_option maxRecDepth 16384

noncomputable section

namespace Cert.Kernel4.Run

open Idealize.ShloMosaic Idealize.SL.Sem

instance : Cert.Kernel4.Facts := Cert.Kernel4.Gen.facts

/-- The two bodies are the same program. -/
theorem body_eq : @Cert.Kernel4.cc0_stage_ffn_proj_slabs Bits _ _ = @Cert.Kernel4Ideal.cc0_stage_ffn_proj_slabs Bits _ _ := rfl

set_option maxHeartbeats 4000000 in
/-- The two tables of bodies agree, at the one label they have. -/
theorem defs₀_eq : Cert.Kernel4.defs₀ (F := Bits) = Cert.Kernel4Ideal.defs₀ (F := Bits) := by
  refine congrArg _ (funext fun l => funext fun a => ?_)
  match l, a with
  | 0, (_, _) =>
    dsimp only
    rw [body_eq]
    exact rfl
  | ⟨_ + 1, h⟩, _ => exact absurd h (Nat.not_lt.2 (Nat.le_add_left _ _))

/-- And so do the tables with the pipeline's labels added. -/
theorem defs_eq : Cert.Kernel4.defs (F := Bits) = Cert.Kernel4Ideal.defs (F := Bits) :=
  congrArg (Pipeline.defs Cert.Kernel4.pcfgs) defs₀_eq

/-- The printed call ends with its arguments unchanged and every counter at zero. -/
theorem frame : quiescent_Kernel4 := by
  intro m ρ _
  rw [defs_eq]
  exact Cert.Kernel4Ideal.Run.frame (F := Bits) m ρ

end Cert.Kernel4.Run

end
-- ==== Proof.QkvRun.lean ====
/- The run of Kernel5Ideal's one pipelined call, every returned result named: what each staging buffer holds after the
   body as a function of the input blocks, the body's triple in its four cases (the first grid point, which also stores
   the sample stream; the points that store no cache; those that store the longest window's tail; those that store all
   three), the proof data, the launch, and the frame. Of the sample attention's output, which is not returned, nothing
   is said. -/
module

public import proofs.«01_k».proof.Proof.Gen.Kernel5Ideal.Skeleton
public import proofs.«01_k».proof.Proof.Gen.Kernel5Ideal.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores -/

abbrev rx0 : Rect S512x1024 := Rect.unit (s := S512x1024) ![0, 0] S512x1024.size inb_S512x1024_S512x1024_0_0
abbrev rx1 : Rect S256x1024 := Rect.unit (s := S256x1024) ![0, 0] S256x1024.size inb_S256x1024_S256x1024_0_0
abbrev rnorm : Rect S1x1x1x1024 := Rect.unit (s := S1x1x1x1024) ![0, 0, 0, 0] S1x1x1x1024.size inb_S1x1x1x1024_S1x1x1x1024_0_0_0_0
abbrev rw : Rect S1x1024x2304 := Rect.unit (s := S1x1024x2304) ![0, 0, 0] S1x1024x2304.size inb_S1x1024x2304_S1x1024x2304_0_0_0
abbrev rc0 : Rect S1x512x128 := Rect.unit (s := S1x512x128) ![0, 0, 0] S1x512x128.size inb_S1x512x128_S1x512x128_0_0_0
abbrev rc1 : Rect S1x512x512 := Rect.unit (s := S1x512x512) ![0, 0, 0] S1x512x512.size inb_S1x512x512_S1x512x512_0_0_0
abbrev rc2 : Rect S1x512x2048 := Rect.unit (s := S1x512x2048) ![0, 0, 0] S1x512x2048.size inb_S1x512x2048_S1x512x2048_0_0_0
abbrev ro0 : Rect S512x2304 := Rect.unit (s := S512x2304) ![0, 0] S512x2304.size inb_S512x2304_S512x2304_0_0
abbrev ro1 : Rect S256x2304 := Rect.unit (s := S256x2304) ![0, 0] S256x2304.size inb_S256x2304_S256x2304_0_0
abbrev rs768 : Rect S8x2304 := Rect.unit (s := S8x2304) ![0, 768] S8x256.size inb_S8x2304_S8x256_0_768
abbrev rs1536 : Rect S8x2304 := Rect.unit (s := S8x2304) ![0, 1536] S8x256.size inb_S8x2304_S8x256_0_1536
abbrev rs1024 : Rect S8x2304 := Rect.unit (s := S8x2304) ![0, 1024] S8x256.size inb_S8x2304_S8x256_0_1024
abbrev rs1792 : Rect S8x2304 := Rect.unit (s := S8x2304) ![0, 1792] S8x256.size inb_S8x2304_S8x256_0_1792
abbrev rs1280 : Rect S8x2304 := Rect.unit (s := S8x2304) ![0, 1280] S8x256.size inb_S8x2304_S8x256_0_1280
abbrev rs2048 : Rect S8x2304 := Rect.unit (s := S8x2304) ![0, 2048] S8x256.size inb_S8x2304_S8x256_0_2048
abbrev rt0a : Rect S1x512x128 := Rect.unit (s := S1x512x128) ![0, 0, 0] S1x256x128.size inb_S1x512x128_S1x256x128_0_0_0
abbrev rt0b : Rect S1x512x128 := Rect.unit (s := S1x512x128) ![0, 256, 0] S1x256x128.size inb_S1x512x128_S1x256x128_0_256_0
abbrev rq768 : Rect S512x2304 := Rect.unit (s := S512x2304) ![384, 768] S128x256.size inb_S512x2304_S128x256_384_768
abbrev rq1536 : Rect S512x2304 := Rect.unit (s := S512x2304) ![384, 1536] S128x256.size inb_S512x2304_S128x256_384_1536
abbrev rt1a : Rect S1x512x512 := Rect.unit (s := S1x512x512) ![0, 0, 0] S1x256x512.size inb_S1x512x512_S1x256x512_0_0_0
abbrev rt1b : Rect S1x512x512 := Rect.unit (s := S1x512x512) ![0, 256, 0] S1x256x512.size inb_S1x512x512_S1x256x512_0_256_0
abbrev rq1024 : Rect S512x2304 := Rect.unit (s := S512x2304) ![0, 1024] S512x256.size inb_S512x2304_S512x256_0_1024
abbrev rq1792 : Rect S512x2304 := Rect.unit (s := S512x2304) ![0, 1792] S512x256.size inb_S512x2304_S512x256_0_1792
abbrev rq1280 : Rect S512x2304 := Rect.unit (s := S512x2304) ![0, 1280] S512x256.size inb_S512x2304_S512x256_0_1280
abbrev rq2048 : Rect S512x2304 := Rect.unit (s := S512x2304) ![0, 2048] S512x256.size inb_S512x2304_S512x256_0_2048

/-- The sample rows of grid point `i`, at the columns of a rectangle of the slice. -/
abbrev rows (i : grid0.Coords) (x : Vec F S256x2304 .f32) (r : Rect S8x2304) : r.shape.Idx → Elt F .f32 := fun j =>
  x (((Rect.unit (s := S256x2304) (k0_off1 i) S8x2304.size (k0_off1_inb i)).withinL r.toLoadRect (fun _ => rfl)).idx j)

/-! ## What the output buffers hold after the body -/

/-- What output window 7's buffer holds after the body: its stores, last first. -/
def out7 (x0 : Vec F S512x1024 .f32) (x2 : Vec F S1x1x1x1024 .f32) (x3 : Vec F S1x1024x2304 .bf16) : Vec F S512x2304 .f32 :=
  View.canon [⟨ro0, k0_pay2 (View.ld x0 rx0) (View.ld x2 rnorm) (View.ld x3 rw)⟩]

/-- Those stores cover the buffer. -/
theorem cover7 (p0 : Vec F S512x2304 .f32) (y : S512x2304.Idx) :
    ∃ pc ∈ ([⟨ro0, p0⟩] : List (View.Piece (Elt F) S512x2304 .f32)), y ∈ pc.1.set :=
  View.cover_of_tiled [⟨ro0, p0⟩] S512x2304.size (by rfl) y

/-- What output window 8's buffer holds after the body: its stores, last first. -/
def out8 (x1 : Vec F S256x1024 .f32) (x2 : Vec F S1x1x1x1024 .f32) (x3 : Vec F S1x1024x2304 .bf16) : Vec F S256x2304 .f32 :=
  View.canon [⟨ro1, k0_pay9 (View.ld x1 rx1) (View.ld x2 rnorm) (View.ld x3 rw)⟩]

/-- Those stores cover the buffer. -/
theorem cover8 (p0 : Vec F S256x2304 .f32) (y : S256x2304.Idx) :
    ∃ pc ∈ ([⟨ro1, p0⟩] : List (View.Piece (Elt F) S256x2304 .f32)), y ∈ pc.1.set :=
  View.cover_of_tiled [⟨ro1, p0⟩] S256x2304.size (by rfl) y

/-- What output window 10's buffer holds after the body: its stores, last first. -/
def out10 (i : grid0.Coords) (x8 : Vec F S256x2304 .f32) (x4 : Vec F S1x512x128 .f32) : Vec F S1x512x128 .f32 :=
  View.canon [⟨rc0, k0_pay58 (k0_pay57 (k0_pay16 (rows i x8 rs768) (rows i x8 rs1536)) (View.ld x4 rc0))⟩]

/-- Those stores cover the buffer. -/
theorem cover10 (p0 : Vec F S1x512x128 .f32) (y : S1x512x128.Idx) :
    ∃ pc ∈ ([⟨rc0, p0⟩] : List (View.Piece (Elt F) S1x512x128 .f32)), y ∈ pc.1.set :=
  View.cover_of_tiled [⟨rc0, p0⟩] S1x512x128.size (by rfl) y

/-- What output window 11's buffer holds after the body: its stores, last first. -/
def out11 (i : grid0.Coords) (x8 : Vec F S256x2304 .f32) (x5 : Vec F S1x512x512 .f32) : Vec F S1x512x512 .f32 :=
  View.canon [⟨rc1, k0_pay102 (k0_pay59 (rows i x8 rs1024) (rows i x8 rs1792)) (View.ld x5 rc1)⟩]

/-- Those stores cover the buffer. -/
theorem cover11 (p0 : Vec F S1x512x512 .f32) (y : S1x512x512.Idx) :
    ∃ pc ∈ ([⟨rc1, p0⟩] : List (View.Piece (Elt F) S1x512x512 .f32)), y ∈ pc.1.set :=
  View.cover_of_tiled [⟨rc1, p0⟩] S1x512x512.size (by rfl) y

/-- What output window 12's buffer holds after the body: its stores, last first. -/
def out12 (i : grid0.Coords) (x8 : Vec F S256x2304 .f32) (x6 : Vec F S1x512x2048 .f32) : Vec F S1x512x2048 .f32 :=
  View.canon [⟨rc2, k0_pay143 (k0_pay104 (k0_pay103 (rows i x8 rs1280) (rows i x8 rs2048))) (View.ld x6 rc2)⟩]

/-- Those stores cover the buffer. -/
theorem cover12 (p0 : Vec F S1x512x2048 .f32) (y : S1x512x2048.Idx) :
    ∃ pc ∈ ([⟨rc2, p0⟩] : List (View.Piece (Elt F) S1x512x2048 .f32)), y ∈ pc.1.set :=
  View.cover_of_tiled [⟨rc2, p0⟩] S1x512x2048.size (by rfl) y

/-- What output window 13's buffer holds after the body: its stores, last first. -/
def out13 (x0 : Vec F S512x1024 .f32) (x2 : Vec F S1x1x1x1024 .f32) (x3 : Vec F S1x1024x2304 .bf16) : Vec F S1x512x128 .f32 :=
  View.canon [⟨rt0b, k0_pay4 (View.ld (out7 x0 x2 x3) rq1536)⟩, ⟨rt0a, k0_pay3 (View.ld (out7 x0 x2 x3) rq768)⟩]

/-- Those stores cover the buffer. -/
theorem cover13 (p0 : Vec F S1x256x128 .f32) (p1 : Vec F S1x256x128 .f32) (y : S1x512x128.Idx) :
    ∃ pc ∈ ([⟨rt0b, p0⟩, ⟨rt0a, p1⟩] : List (View.Piece (Elt F) S1x512x128 .f32)), y ∈ pc.1.set :=
  View.cover_of_tiled [⟨rt0b, p0⟩, ⟨rt0a, p1⟩] S1x256x128.size (by rfl) y

/-- What output window 14's buffer holds after the body: its stores, last first. -/
def out14 (x0 : Vec F S512x1024 .f32) (x2 : Vec F S1x1x1x1024 .f32) (x3 : Vec F S1x1024x2304 .bf16) : Vec F S1x512x512 .f32 :=
  View.canon [⟨rt1b, k0_pay6 (View.ld (out7 x0 x2 x3) rq1792)⟩, ⟨rt1a, k0_pay5 (View.ld (out7 x0 x2 x3) rq1024)⟩]

/-- Those stores cover the buffer. -/
theorem cover14 (p0 : Vec F S1x256x512 .f32) (p1 : Vec F S1x256x512 .f32) (y : S1x512x512.Idx) :
    ∃ pc ∈ ([⟨rt1b, p0⟩, ⟨rt1a, p1⟩] : List (View.Piece (Elt F) S1x512x512 .f32)), y ∈ pc.1.set :=
  View.cover_of_tiled [⟨rt1b, p0⟩, ⟨rt1a, p1⟩] S1x256x512.size (by rfl) y

/-- What output window 15's buffer holds after the body: its stores, last first. -/
def out15 (x0 : Vec F S512x1024 .f32) (x2 : Vec F S1x1x1x1024 .f32) (x3 : Vec F S1x1024x2304 .bf16) : Vec F S1x512x512 .f32 :=
  View.canon [⟨rt1b, k0_pay8 (View.ld (out7 x0 x2 x3) rq2048)⟩, ⟨rt1a, k0_pay7 (View.ld (out7 x0 x2 x3) rq1280)⟩]

/-- Those stores cover the buffer. -/
theorem cover15 (p0 : Vec F S1x256x512 .f32) (p1 : Vec F S1x256x512 .f32) (y : S1x512x512.Idx) :
    ∃ pc ∈ ([⟨rt1b, p0⟩, ⟨rt1a, p1⟩] : List (View.Piece (Elt F) S1x512x512 .f32)), y ∈ pc.1.set :=
  View.cover_of_tiled [⟨rt1b, p0⟩, ⟨rt1a, p1⟩] S1x256x512.size (by rfl) y

/-! ## The conditions of the body -/

theorem hcond1 : ∀ t : Fin cfg0.N, k0_cond1 (grid0.coords t) = 1#1 ↔ t.val % 16 = 15 :=
  (by decide +kernel : ∀ t : Fin grid0.N, k0_cond1 (grid0.coords t) = 1#1 ↔ t.val % 16 = 15)
theorem hcond2 : ∀ t : Fin cfg0.N, k0_cond2 (grid0.coords t) = 1#1 ↔ t.val % 16 = 15 :=
  (by decide +kernel : ∀ t : Fin grid0.N, k0_cond2 (grid0.coords t) = 1#1 ↔ t.val % 16 = 15)
theorem hcond3 : ∀ t : Fin cfg0.N, k0_cond3 (grid0.coords t) = 1#1 ↔ 12 ≤ t.val % 16 :=
  (by decide +kernel : ∀ t : Fin grid0.N, k0_cond3 (grid0.coords t) = 1#1 ↔ 12 ≤ t.val % 16)
theorem hcond4 : ∀ t : Fin cfg0.N, k0_cond4 (grid0.coords t) = 1#1 ↔ t.val % 32 = 0 :=
  (by decide +kernel : ∀ t : Fin grid0.N, k0_cond4 (grid0.coords t) = 1#1 ↔ t.val % 32 = 0)

/-! ## The body's triples -/

set_option maxHeartbeats 4000000 in
/-- The body's triple at the first grid point. -/
theorem sound_A (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S1x1x1x1024 .f32) (harg3 : arg3.IsWhole) (arg4 : Memref sig .tc .vmem S1x1024x2304 .bf16) (harg4 : arg4.IsWhole) (arg5 : Memref sig .tc .vmem S1x512x128 .f32) (harg5 : arg5.IsWhole) (arg6 : Memref sig .tc .vmem S1x512x512 .f32) (harg6 : arg6.IsWhole) (arg7 : Memref sig .tc .vmem S1x512x2048 .f32) (harg7 : arg7.IsWhole) (arg8 : Memref sig .tc .vmem S512x2304 .f32) (harg8 : arg8.IsWhole) (arg9 : Memref sig .tc .vmem S256x2304 .f32) (harg9 : arg9.IsWhole) (arg10 : Memref sig .tc .vmem S8x768 .f32) (harg10 : arg10.IsWhole) (arg11 : Memref sig .tc .vmem S1x512x128 .f32) (harg11 : arg11.IsWhole) (arg12 : Memref sig .tc .vmem S1x512x512 .f32) (harg12 : arg12.IsWhole) (arg13 : Memref sig .tc .vmem S1x512x2048 .f32) (harg13 : arg13.IsWhole) (arg14 : Memref sig .tc .vmem S1x512x128 .f32) (harg14 : arg14.IsWhole) (arg15 : Memref sig .tc .vmem S1x512x512 .f32) (harg15 : arg15.IsWhole) (arg16 : Memref sig .tc .vmem S1x512x512 .f32) (harg16 : arg16.IsWhole) (hc1 : ¬k0_cond1 i = 1#1) (hc2 : ¬k0_cond2 i = 1#1) (hc3 : ¬k0_cond3 i = 1#1) (hc4 : k0_cond4 i = 1#1)
    (x0 : Vec F S512x1024 .f32) (x1 : Vec F S256x1024 .f32) (x2 : Vec F S1x1x1x1024 .f32) (x3 : Vec F S1x1024x2304 .bf16) (x4 : Vec F S1x512x128 .f32) (x5 : Vec F S1x512x512 .f32) (x6 : Vec F S1x512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x2 x3) ∗ owns (c : Thread nD τ) arg9 fullShare (out8 x1 x2 x3) ∗ (∃ d, owns (c : Thread nD τ) arg10 fullShare d) ∗ owns (c : Thread nD τ) arg11 fullShare (out10 i (out8 x1 x2 x3) x4) ∗ owns (c : Thread nD τ) arg12 fullShare (out11 i (out8 x1 x2 x3) x5) ∗ owns (c : Thread nD τ) arg13 fullShare (out12 i (out8 x1 x2 x3) x6)) -∗ K ⟨⟩))
      ⊢ wp frame (wpE (defs₀ (F := F)) Variants.none c none) E (cc0_qkv_proj_sample_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qkv_proj_sample_attn_eq_skeleton]; unfold cc0_qkv_proj_sample_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover7 _)).trans ?_
    rfl
  isplitl [H8]
  · iexists _; isplitr
    swap; · iexact H8
    ipureintro
    refine (View.read_writes_eq_canon _ _ _ (cover8 _)).trans ?_
    rfl
  isplitl [H9]
  · iexists _; iexists _; isplitr
    swap; · iexact H9
    ipureintro; rfl
  isplitl [H10]
  · iexists _; isplitr
    swap; · iexact H10
    ipureintro
    refine (View.read_writes_eq_canon _ _ _ (cover10 _)).trans ?_
    exact congrArg₂ (fun (a b : Vec F S8x256 .f32) => (View.canon [⟨rc0, k0_pay58 (k0_pay57 (k0_pay16 a b) (View.ld (View.read (Elt F) arg5.view f4) rc0))⟩] : Vec F S1x512x128 .f32)) (View.readCov_eq_canon' _ _ _) (View.readCov_eq_canon' _ _ _)
  isplitl [H11]
  · iexists _; isplitr
    swap; · iexact H11
    ipureintro
    refine (View.read_writes_eq_canon _ _ _ (cover11 _)).trans ?_
    exact congrArg₂ (fun (a b : Vec F S8x256 .f32) => (View.canon [⟨rc1, k0_pay102 (k0_pay59 a b) (View.ld (View.read (Elt F) arg6.view f5) rc1)⟩] : Vec F S1x512x512 .f32)) (View.readCov_eq_canon' _ _ _) (View.readCov_eq_canon' _ _ _)
  iexists _; isplitr
  swap; · iexact H12
  ipureintro
  refine (View.read_writes_eq_canon _ _ _ (cover12 _)).trans ?_
  exact congrArg₂ (fun (a b : Vec F S8x256 .f32) => (View.canon [⟨rc2, k0_pay143 (k0_pay104 (k0_pay103 a b)) (View.ld (View.read (Elt F) arg7.view f6) rc2)⟩] : Vec F S1x512x2048 .f32)) (View.readCov_eq_canon' _ _ _) (View.readCov_eq_canon' _ _ _)

set_option maxHeartbeats 4000000 in
/-- The body's triple at a point that stores no tail. -/
theorem sound_B (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S1x1x1x1024 .f32) (harg3 : arg3.IsWhole) (arg4 : Memref sig .tc .vmem S1x1024x2304 .bf16) (harg4 : arg4.IsWhole) (arg5 : Memref sig .tc .vmem S1x512x128 .f32) (harg5 : arg5.IsWhole) (arg6 : Memref sig .tc .vmem S1x512x512 .f32) (harg6 : arg6.IsWhole) (arg7 : Memref sig .tc .vmem S1x512x2048 .f32) (harg7 : arg7.IsWhole) (arg8 : Memref sig .tc .vmem S512x2304 .f32) (harg8 : arg8.IsWhole) (arg9 : Memref sig .tc .vmem S256x2304 .f32) (harg9 : arg9.IsWhole) (arg10 : Memref sig .tc .vmem S8x768 .f32) (harg10 : arg10.IsWhole) (arg11 : Memref sig .tc .vmem S1x512x128 .f32) (harg11 : arg11.IsWhole) (arg12 : Memref sig .tc .vmem S1x512x512 .f32) (harg12 : arg12.IsWhole) (arg13 : Memref sig .tc .vmem S1x512x2048 .f32) (harg13 : arg13.IsWhole) (arg14 : Memref sig .tc .vmem S1x512x128 .f32) (harg14 : arg14.IsWhole) (arg15 : Memref sig .tc .vmem S1x512x512 .f32) (harg15 : arg15.IsWhole) (arg16 : Memref sig .tc .vmem S1x512x512 .f32) (harg16 : arg16.IsWhole) (hc1 : ¬k0_cond1 i = 1#1) (hc2 : ¬k0_cond2 i = 1#1) (hc3 : ¬k0_cond3 i = 1#1) (hc4 : ¬k0_cond4 i = 1#1)
    (x0 : Vec F S512x1024 .f32) (x1 : Vec F S256x1024 .f32) (x2 : Vec F S1x1x1x1024 .f32) (x3 : Vec F S1x1024x2304 .bf16) (x4 : Vec F S1x512x128 .f32) (x5 : Vec F S1x512x512 .f32) (x6 : Vec F S1x512x2048 .f32) (x8 : Vec F S256x2304 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x8 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x8 ∗ owns (c : Thread nD τ) arg8 fullShare (out7 x0 x2 x3) ∗ (∃ d, owns (c : Thread nD τ) arg10 fullShare d) ∗ owns (c : Thread nD τ) arg11 fullShare (out10 i x8 x4) ∗ owns (c : Thread nD τ) arg12 fullShare (out11 i x8 x5) ∗ owns (c : Thread nD τ) arg13 fullShare (out12 i x8 x6)) -∗ K ⟨⟩))
      ⊢ wp frame (wpE (defs₀ (F := F)) Variants.none c none) E (cc0_qkv_proj_sample_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qkv_proj_sample_attn_eq_skeleton]; unfold cc0_qkv_proj_sample_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%d7, %f7, -, H7⟩, ⟨%d9, %f9, -, H9⟩, ⟨%d10, %f10, -, H10⟩, ⟨%d11, %f11, -, H11⟩, ⟨%d12, %f12, -, H12⟩, Hk⟩
  subst hf0 hf1 hf2 hf3 hf4 hf5 hf6 hf8
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists f8; isplitr; · ipureintro; rfl
    iexact H8
  isplitl [H7]
  · iexists _; isplitr
    swap; · iexact H7
    ipureintro
    refine (View.read_writes_eq_canon _ _ _ (cover7 _)).trans ?_
    rfl
  isplitl [H9]
  · iexists _; iexists _; isplitr
    swap; · iexact H9
    ipureintro; rfl
  isplitl [H10]
  · iexists _; isplitr
    swap; · iexact H10
    ipureintro
    refine (View.read_writes_eq_canon _ _ _ (cover10 _)).trans ?_
    rfl
  isplitl [H11]
  · iexists _; isplitr
    swap; · iexact H11
    ipureintro
    refine (View.read_writes_eq_canon _ _ _ (cover11 _)).trans ?_
    rfl
  iexists _; isplitr
  swap; · iexact H12
  ipureintro
  refine (View.read_writes_eq_canon _ _ _ (cover12 _)).trans ?_
  rfl

set_option maxHeartbeats 4000000 in
/-- The body's triple at a point that stores the longest window's tail only. -/
theorem sound_C (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S1x1x1x1024 .f32) (harg3 : arg3.IsWhole) (arg4 : Memref sig .tc .vmem S1x1024x2304 .bf16) (harg4 : arg4.IsWhole) (arg5 : Memref sig .tc .vmem S1x512x128 .f32) (harg5 : arg5.IsWhole) (arg6 : Memref sig .tc .vmem S1x512x512 .f32) (harg6 : arg6.IsWhole) (arg7 : Memref sig .tc .vmem S1x512x2048 .f32) (harg7 : arg7.IsWhole) (arg8 : Memref sig .tc .vmem S512x2304 .f32) (harg8 : arg8.IsWhole) (arg9 : Memref sig .tc .vmem S256x2304 .f32) (harg9 : arg9.IsWhole) (arg10 : Memref sig .tc .vmem S8x768 .f32) (harg10 : arg10.IsWhole) (arg11 : Memref sig .tc .vmem S1x512x128 .f32) (harg11 : arg11.IsWhole) (arg12 : Memref sig .tc .vmem S1x512x512 .f32) (harg12 : arg12.IsWhole) (arg13 : Memref sig .tc .vmem S1x512x2048 .f32) (harg13 : arg13.IsWhole) (arg14 : Memref sig .tc .vmem S1x512x128 .f32) (harg14 : arg14.IsWhole) (arg15 : Memref sig .tc .vmem S1x512x512 .f32) (harg15 : arg15.IsWhole) (arg16 : Memref sig .tc .vmem S1x512x512 .f32) (harg16 : arg16.IsWhole) (hc1 : ¬k0_cond1 i = 1#1) (hc2 : ¬k0_cond2 i = 1#1) (hc3 : k0_cond3 i = 1#1) (hc4 : ¬k0_cond4 i = 1#1)
    (x0 : Vec F S512x1024 .f32) (x1 : Vec F S256x1024 .f32) (x2 : Vec F S1x1x1x1024 .f32) (x3 : Vec F S1x1024x2304 .bf16) (x4 : Vec F S1x512x128 .f32) (x5 : Vec F S1x512x512 .f32) (x6 : Vec F S1x512x2048 .f32) (x8 : Vec F S256x2304 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x8 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x8 ∗ owns (c : Thread nD τ) arg8 fullShare (out7 x0 x2 x3) ∗ (∃ d, owns (c : Thread nD τ) arg10 fullShare d) ∗ owns (c : Thread nD τ) arg11 fullShare (out10 i x8 x4) ∗ owns (c : Thread nD τ) arg12 fullShare (out11 i x8 x5) ∗ owns (c : Thread nD τ) arg13 fullShare (out12 i x8 x6) ∗ owns (c : Thread nD τ) arg16 fullShare (out15 x0 x2 x3)) -∗ K ⟨⟩))
      ⊢ wp frame (wpE (defs₀ (F := F)) Variants.none c none) E (cc0_qkv_proj_sample_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qkv_proj_sample_attn_eq_skeleton]; unfold cc0_qkv_proj_sample_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%d7, %f7, -, H7⟩, ⟨%d9, %f9, -, H9⟩, ⟨%d10, %f10, -, H10⟩, ⟨%d11, %f11, -, H11⟩, ⟨%d12, %f12, -, H12⟩, ⟨%d15, %f15, -, H15⟩, Hk⟩
  subst hf0 hf1 hf2 hf3 hf4 hf5 hf6 hf8
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists f8; isplitr; · ipureintro; rfl
    iexact H8
  isplitl [H7]
  · iexists _; isplitr
    swap; · iexact H7
    ipureintro
    refine (View.read_writes_eq_canon _ _ _ (cover7 _)).trans ?_
    rfl
  isplitl [H9]
  · iexists _; iexists _; isplitr
    swap; · iexact H9
    ipureintro; rfl
  isplitl [H10]
  · iexists _; isplitr
    swap; · iexact H10
    ipureintro
    refine (View.read_writes_eq_canon _ _ _ (cover10 _)).trans ?_
    rfl
  isplitl [H11]
  · iexists _; isplitr
    swap; · iexact H11
    ipureintro
    refine (View.read_writes_eq_canon _ _ _ (cover11 _)).trans ?_
    rfl
  isplitl [H12]
  · iexists _; isplitr
    swap; · iexact H12
    ipureintro
    refine (View.read_writes_eq_canon _ _ _ (cover12 _)).trans ?_
    rfl
  iexists _; isplitr
  swap; · iexact H15
  ipureintro
  refine (View.read_writes_eq_canon _ _ _ (cover15 _ _)).trans ?_
  exact congrArg₂ (fun (a b : Vec F S512x256 .f32) => (View.canon [⟨rt1b, k0_pay8 a⟩, ⟨rt1a, k0_pay7 b⟩] : Vec F S1x512x512 .f32)) (View.readCov_eq_canon' _ _ _) (View.readCov_eq_canon' _ _ _)

set_option maxHeartbeats 4000000 in
/-- The body's triple at a point that stores all three tails. -/
theorem sound_D (c : Dev nD) (E : Set ℕ) (i : grid0.Coords) (arg1 : Memref sig .tc .vmem S512x1024 .f32) (harg1 : arg1.IsWhole) (arg2 : Memref sig .tc .vmem S256x1024 .f32) (harg2 : arg2.IsWhole) (arg3 : Memref sig .tc .vmem S1x1x1x1024 .f32) (harg3 : arg3.IsWhole) (arg4 : Memref sig .tc .vmem S1x1024x2304 .bf16) (harg4 : arg4.IsWhole) (arg5 : Memref sig .tc .vmem S1x512x128 .f32) (harg5 : arg5.IsWhole) (arg6 : Memref sig .tc .vmem S1x512x512 .f32) (harg6 : arg6.IsWhole) (arg7 : Memref sig .tc .vmem S1x512x2048 .f32) (harg7 : arg7.IsWhole) (arg8 : Memref sig .tc .vmem S512x2304 .f32) (harg8 : arg8.IsWhole) (arg9 : Memref sig .tc .vmem S256x2304 .f32) (harg9 : arg9.IsWhole) (arg10 : Memref sig .tc .vmem S8x768 .f32) (harg10 : arg10.IsWhole) (arg11 : Memref sig .tc .vmem S1x512x128 .f32) (harg11 : arg11.IsWhole) (arg12 : Memref sig .tc .vmem S1x512x512 .f32) (harg12 : arg12.IsWhole) (arg13 : Memref sig .tc .vmem S1x512x2048 .f32) (harg13 : arg13.IsWhole) (arg14 : Memref sig .tc .vmem S1x512x128 .f32) (harg14 : arg14.IsWhole) (arg15 : Memref sig .tc .vmem S1x512x512 .f32) (harg15 : arg15.IsWhole) (arg16 : Memref sig .tc .vmem S1x512x512 .f32) (harg16 : arg16.IsWhole) (hc1 : k0_cond1 i = 1#1) (hc2 : k0_cond2 i = 1#1) (hc3 : k0_cond3 i = 1#1) (hc4 : ¬k0_cond4 i = 1#1)
    (x0 : Vec F S512x1024 .f32) (x1 : Vec F S256x1024 .f32) (x2 : Vec F S1x1x1x1024 .f32) (x3 : Vec F S1x1024x2304 .bf16) (x4 : Vec F S1x512x128 .f32) (x5 : Vec F S1x512x512 .f32) (x6 : Vec F S1x512x2048 .f32) (x8 : Vec F S256x2304 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x8 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x8 ∗ owns (c : Thread nD τ) arg8 fullShare (out7 x0 x2 x3) ∗ (∃ d, owns (c : Thread nD τ) arg10 fullShare d) ∗ owns (c : Thread nD τ) arg11 fullShare (out10 i x8 x4) ∗ owns (c : Thread nD τ) arg12 fullShare (out11 i x8 x5) ∗ owns (c : Thread nD τ) arg13 fullShare (out12 i x8 x6) ∗ owns (c : Thread nD τ) arg14 fullShare (out13 x0 x2 x3) ∗ owns (c : Thread nD τ) arg15 fullShare (out14 x0 x2 x3) ∗ owns (c : Thread nD τ) arg16 fullShare (out15 x0 x2 x3)) -∗ K ⟨⟩))
      ⊢ wp frame (wpE (defs₀ (F := F)) Variants.none c none) E (cc0_qkv_proj_sample_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qkv_proj_sample_attn_eq_skeleton]; unfold cc0_qkv_proj_sample_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%d7, %f7, -, H7⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf8
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists f8; isplitr; · ipureintro; rfl
    iexact H8
  isplitl [H7]
  · iexists _; isplitr
    swap; · iexact H7
    ipureintro
    refine (View.read_writes_eq_canon _ _ _ (cover7 _)).trans ?_
    rfl
  isplitl [H9]
  · iexists _; iexists _; isplitr
    swap; · iexact H9
    ipureintro; rfl
  isplitl [H10]
  · iexists _; isplitr
    swap; · iexact H10
    ipureintro
    refine (View.read_writes_eq_canon _ _ _ (cover10 _)).trans ?_
    rfl
  isplitl [H11]
  · iexists _; isplitr
    swap; · iexact H11
    ipureintro
    refine (View.read_writes_eq_canon _ _ _ (cover11 _)).trans ?_
    rfl
  isplitl [H12]
  · iexists _; isplitr
    swap; · iexact H12
    ipureintro
    refine (View.read_writes_eq_canon _ _ _ (cover12 _)).trans ?_
    rfl
  isplitl [H13]
  · iexists _; isplitr
    swap; · iexact H13
    ipureintro
    refine (View.read_writes_eq_canon _ _ _ (cover13 _ _)).trans ?_
    exact congrArg₂ (fun (a b : Vec F S128x256 .f32) => (View.canon [⟨rt0b, k0_pay4 a⟩, ⟨rt0a, k0_pay3 b⟩] : Vec F S1x512x128 .f32)) (View.readCov_eq_canon' _ _ _) (View.readCov_eq_canon' _ _ _)
  isplitl [H14]
  · iexists _; isplitr
    swap; · iexact H14
    ipureintro
    refine (View.read_writes_eq_canon _ _ _ (cover14 _ _)).trans ?_
    exact congrArg₂ (fun (a b : Vec F S512x256 .f32) => (View.canon [⟨rt1b, k0_pay6 a⟩, ⟨rt1a, k0_pay5 b⟩] : Vec F S1x512x512 .f32)) (View.readCov_eq_canon' _ _ _) (View.readCov_eq_canon' _ _ _)
  iexists _; isplitr
  swap; · iexact H15
  ipureintro
  refine (View.read_writes_eq_canon _ _ _ (cover15 _ _)).trans ?_
  exact congrArg₂ (fun (a b : Vec F S512x256 .f32) => (View.canon [⟨rt1b, k0_pay8 a⟩, ⟨rt1a, k0_pay7 b⟩] : Vec F S1x512x512 .f32)) (View.readCov_eq_canon' _ _ _) (View.readCov_eq_canon' _ _ _)

/-! ## The proof data -/

/-- The first grid point. -/
def t0 : Fin cfg0.N := ⟨0, by rw [show cfg0.N = 32 from N_0]; decide⟩

/-- The one window nothing is said of: the sample attention's output. -/
def forgets0 : Fin 16 → Bool := fun w => w.val == 9

/-- The proof data on core `c`: each input's buffer keeps its block, each named output's holds `outK` of the blocks of
    the point, the sample stream's what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 2 t) (iblk m c 3 t)
    | ⟨8, _⟩ => out8 (iblk m c 1 t0) (iblk m c 2 t0) (iblk m c 3 t0)
    | ⟨9, h⟩ => Pipeline.Dat.unnamed (cfg := cfg0) ⟨9, h⟩ t
    | ⟨10, _⟩ => out10 (grid0.coords t) (out8 (iblk m c 1 t0) (iblk m c 2 t0) (iblk m c 3 t0)) (iblk m c 4 t)
    | ⟨11, _⟩ => out11 (grid0.coords t) (out8 (iblk m c 1 t0) (iblk m c 2 t0) (iblk m c 3 t0)) (iblk m c 5 t)
    | ⟨12, _⟩ => out12 (grid0.coords t) (out8 (iblk m c 1 t0) (iblk m c 2 t0) (iblk m c 3 t0)) (iblk m c 6 t)
    | ⟨13, _⟩ => out13 (iblk m c 0 t) (iblk m c 2 t) (iblk m c 3 t)
    | ⟨14, _⟩ => out14 (iblk m c 0 t) (iblk m c 2 t) (iblk m c 3 t)
    | ⟨15, _⟩ => out15 (iblk m c 0 t) (iblk m c 2 t) (iblk m c 3 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 2 t) (iblk m c 3 t) := by dsimp only [dats]
theorem after8 (c : Dev nD) (t : Fin cfg0.N) : (dats m 0 c).after 8 t = out8 (iblk m c 1 t0) (iblk m c 2 t0) (iblk m c 3 t0) := by dsimp only [dats]
theorem after10 (c : Dev nD) (t : Fin cfg0.N) : (dats m 0 c).after 10 t = out10 (grid0.coords t) (out8 (iblk m c 1 t0) (iblk m c 2 t0) (iblk m c 3 t0)) (iblk m c 4 t) := by dsimp only [dats]
theorem after11 (c : Dev nD) (t : Fin cfg0.N) : (dats m 0 c).after 11 t = out11 (grid0.coords t) (out8 (iblk m c 1 t0) (iblk m c 2 t0) (iblk m c 3 t0)) (iblk m c 5 t) := by dsimp only [dats]
theorem after12 (c : Dev nD) (t : Fin cfg0.N) : (dats m 0 c).after 12 t = out12 (grid0.coords t) (out8 (iblk m c 1 t0) (iblk m c 2 t0) (iblk m c 3 t0)) (iblk m c 6 t) := by dsimp only [dats]
theorem after13 (c : Dev nD) (t : Fin cfg0.N) : (dats m 0 c).after 13 t = out13 (iblk m c 0 t) (iblk m c 2 t) (iblk m c 3 t) := by dsimp only [dats]
theorem after14 (c : Dev nD) (t : Fin cfg0.N) : (dats m 0 c).after 14 t = out14 (iblk m c 0 t) (iblk m c 2 t) (iblk m c 3 t) := by dsimp only [dats]
theorem after15 (c : Dev nD) (t : Fin cfg0.N) : (dats m 0 c).after 15 t = out15 (iblk m c 0 t) (iblk m c 2 t) (iblk m c 3 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Output window 8 is stored exactly where its condition holds. -/
theorem idle8 (t : Fin cfg0.N) (h : ¬ t.val % 32 = 0) : cfg0.idle 8 (grid0.coords t) = true := by
  show (!(k0_cond4 (grid0.coords t) == 1#1)) = true
  rw [beq_false_of_ne (fun h' => h ((hcond4 t).mp h'))]; rfl
theorem live8 (t : Fin cfg0.N) (h : t.val % 32 = 0) : cfg0.idle 8 (grid0.coords t) = false := by
  show (!(k0_cond4 (grid0.coords t) == 1#1)) = false
  rw [show k0_cond4 (grid0.coords t) = 1#1 from (hcond4 t).mpr h]; rfl

/-- Output window 13 is stored exactly where its condition holds. -/
theorem idle13 (t : Fin cfg0.N) (h : ¬ t.val % 16 = 15) : cfg0.idle 13 (grid0.coords t) = true := by
  show (!(k0_cond1 (grid0.coords t) == 1#1)) = true
  rw [beq_false_of_ne (fun h' => h ((hcond1 t).mp h'))]; rfl
theorem live13 (t : Fin cfg0.N) (h : t.val % 16 = 15) : cfg0.idle 13 (grid0.coords t) = false := by
  show (!(k0_cond1 (grid0.coords t) == 1#1)) = false
  rw [show k0_cond1 (grid0.coords t) = 1#1 from (hcond1 t).mpr h]; rfl

/-- Output window 14 is stored exactly where its condition holds. -/
theorem idle14 (t : Fin cfg0.N) (h : ¬ t.val % 16 = 15) : cfg0.idle 14 (grid0.coords t) = true := by
  show (!(k0_cond2 (grid0.coords t) == 1#1)) = true
  rw [beq_false_of_ne (fun h' => h ((hcond2 t).mp h'))]; rfl
theorem live14 (t : Fin cfg0.N) (h : t.val % 16 = 15) : cfg0.idle 14 (grid0.coords t) = false := by
  show (!(k0_cond2 (grid0.coords t) == 1#1)) = false
  rw [show k0_cond2 (grid0.coords t) = 1#1 from (hcond2 t).mpr h]; rfl

/-- Output window 15 is stored exactly where its condition holds. -/
theorem idle15 (t : Fin cfg0.N) (h : ¬ 12 ≤ t.val % 16) : cfg0.idle 15 (grid0.coords t) = true := by
  show (!(k0_cond3 (grid0.coords t) == 1#1)) = true
  rw [beq_false_of_ne (fun h' => h ((hcond3 t).mp h'))]; rfl
theorem live15 (t : Fin cfg0.N) (h : 12 ≤ t.val % 16) : cfg0.idle 15 (grid0.coords t) = false := by
  show (!(k0_cond3 (grid0.coords t) == 1#1)) = false
  rw [show k0_cond3 (grid0.coords t) = 1#1 from (hcond3 t).mpr h]; rfl

theorem flush0_15 : ∀ t : Fin cfg0.N, (cfg0.win 15).flush t = true ↔ 12 ≤ t.val % 16 :=
  (by decide +kernel : ∀ t : Fin grid0.N, win0_15.flush t = true ↔ 12 ≤ t.val % 16)

/-- After the first point the sample stream's buffer is never fresh: the first point stored it and no point before the
    last writes it back. -/
theorem fresh8 : ∀ n : ℕ, 0 < n → n < 32 → cfg0.fresh 8 n = false
  | 0, h, _ => absurd h (lt_irrefl 0)
  | n + 1, _, h => by
    have hN : n < cfg0.N := by rw [show cfg0.N = 32 from N_0]; omega
    have hf : (cfg0.win 8).flush ⟨n, hN⟩ = false := by
      have := flush0_8 ⟨n, hN⟩
      have h2 : ¬ (n % 32 = 31) := by omega
      cases hb : (cfg0.win 8).flush ⟨n, hN⟩ with
      | false => rfl
      | true => exact absurd (this.mp hb) h2
    rw [cfg0.fresh_succ 8 n hN, hf]
    by_cases h0 : n = 0
    · subst h0
      have := live8 ⟨0, hN⟩ rfl
      rw [show cfg0.idle 8 (cfg0.grid.coords ⟨0, hN⟩) = false from this]; rfl
    · rw [fresh8 n (by omega) (by omega), Bool.and_false, Bool.or_false]

/-- So at a later point its buffer holds what the first point stored. -/
theorem before8 (c : Dev nD) (t : Fin cfg0.N) (h : ¬ t.val % 32 = 0) (d) : (dats m 0 c).before 8 t d = (out8 (iblk m c 1 t0) (iblk m c 2 t0) (iblk m c 3 t0)) := by
  have hN : t.val < 32 := lt_of_lt_of_eq t.isLt (show cfg0.N = 32 from N_0)
  rw [(dats m 0 c).before_out_traj 8 rfl (fun _ _ => rfl) (fun t _ _ _ => by rw [after8, after8]) t.val t rfl d,
    fresh8 t.val (by omega) hN, if_neg Bool.false_ne_true, after8]

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl

/-! ## The body obligation -/

abbrev ms0 (t : Fin cfg0.N) : Memref sig .tc .vmem S512x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S1x1x1x1024 .f32 := win0_2.stage (cfg0.slots t 2)
abbrev ms3 (t : Fin cfg0.N) : Memref sig .tc .vmem S1x1024x2304 .bf16 := win0_3.stage (cfg0.slots t 3)
abbrev ms4 (t : Fin cfg0.N) : Memref sig .tc .vmem S1x512x128 .f32 := win0_4.stage (cfg0.slots t 4)
abbrev ms5 (t : Fin cfg0.N) : Memref sig .tc .vmem S1x512x512 .f32 := win0_5.stage (cfg0.slots t 5)
abbrev ms6 (t : Fin cfg0.N) : Memref sig .tc .vmem S1x512x2048 .f32 := win0_6.stage (cfg0.slots t 6)
abbrev ms7 (t : Fin cfg0.N) : Memref sig .tc .vmem S512x2304 .f32 := win0_7.stage (cfg0.slots t 7)
abbrev ms8 (t : Fin cfg0.N) : Memref sig .tc .vmem S256x2304 .f32 := win0_8.stage (cfg0.slots t 8)
abbrev ms9 (t : Fin cfg0.N) : Memref sig .tc .vmem S8x768 .f32 := win0_9.stage (cfg0.slots t 9)
abbrev ms10 (t : Fin cfg0.N) : Memref sig .tc .vmem S1x512x128 .f32 := win0_10.stage (cfg0.slots t 10)
abbrev ms11 (t : Fin cfg0.N) : Memref sig .tc .vmem S1x512x512 .f32 := win0_11.stage (cfg0.slots t 11)
abbrev ms12 (t : Fin cfg0.N) : Memref sig .tc .vmem S1x512x2048 .f32 := win0_12.stage (cfg0.slots t 12)
abbrev ms13 (t : Fin cfg0.N) : Memref sig .tc .vmem S1x512x128 .f32 := win0_13.stage (cfg0.slots t 13)
abbrev ms14 (t : Fin cfg0.N) : Memref sig .tc .vmem S1x512x512 .f32 := win0_14.stage (cfg0.slots t 14)
abbrev ms15 (t : Fin cfg0.N) : Memref sig .tc .vmem S1x512x512 .f32 := win0_15.stage (cfg0.slots t 15)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ X, owns (c : Thread nD τ) (ms9 t) fullShare X)
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ X, owns (c : Thread nD τ) (ms9 t) fullShare X)
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

/-- A point that does not store output window 8 hands its buffer back as found. -/
theorem pass8 (c : Dev nD) (t : Fin cfg0.N) (h : ¬ t.val % 32 = 0) (d) :
    owns (c : Thread nD τ) (ms8 t) fullShare ((dats m 0 c).before 8 t d) ⊢ (dats m 0 c).leavesExact 8 t := by
  cases hf : (cfg0.win 8).flush t with
  | false =>
    rw [(dats m 0 c).leavesExact_idle 8 t (idle8 t h) hf]
    iintro H
    iexists d; iexact H
  | true =>
    rw [show (dats m 0 c).leavesExact 8 t = owns (c : Thread nD τ) (ms8 t) fullShare ((dats m 0 c).after 8 t) from by
      unfold Dat.leavesExact; rw [idle8 t h, hf], after8, before8 m c t h d]

/-- A point that does not store output window 13 hands its buffer back as found. -/
theorem pass13 (c : Dev nD) (t : Fin cfg0.N) (h : ¬ t.val % 16 = 15) (d) :
    owns (c : Thread nD τ) (ms13 t) fullShare ((dats m 0 c).before 13 t d) ⊢ (dats m 0 c).leavesExact 13 t := by
  cases hf : (cfg0.win 13).flush t with
  | false =>
    rw [(dats m 0 c).leavesExact_idle 13 t (idle13 t h) hf]
    iintro H
    iexists d; iexact H
  | true =>
    exact absurd ((flush0_13 t).mp hf) h

/-- A point that does not store output window 14 hands its buffer back as found. -/
theorem pass14 (c : Dev nD) (t : Fin cfg0.N) (h : ¬ t.val % 16 = 15) (d) :
    owns (c : Thread nD τ) (ms14 t) fullShare ((dats m 0 c).before 14 t d) ⊢ (dats m 0 c).leavesExact 14 t := by
  cases hf : (cfg0.win 14).flush t with
  | false =>
    rw [(dats m 0 c).leavesExact_idle 14 t (idle14 t h) hf]
    iintro H
    iexists d; iexact H
  | true =>
    exact absurd ((flush0_14 t).mp hf) h

/-- A point that does not store output window 15 hands its buffer back as found. -/
theorem pass15 (c : Dev nD) (t : Fin cfg0.N) (h : ¬ 12 ≤ t.val % 16) (d) :
    owns (c : Thread nD τ) (ms15 t) fullShare ((dats m 0 c).before 15 t d) ⊢ (dats m 0 c).leavesExact 15 t := by
  cases hf : (cfg0.win 15).flush t with
  | false =>
    rw [(dats m 0 c).leavesExact_idle 15 t (idle15 t h) hf]
    iintro H
    iexists d; iexact H
  | true =>
    exact absurd ((flush0_15 t).mp hf) h

set_option maxHeartbeats 4000000 in
/-- The body at any point: one of the four cases, where a buffer the point does not store is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  by_cases h0 : t.val % 32 = 0
  · rw [show (dats m 0 c).leavesExact 8 t = owns (c : Thread nD τ) (ms8 t) fullShare ((dats m 0 c).after 8 t) from by
      unfold Dat.leavesExact; rw [live8 t h0], after8]
    have ht : t = t0 := Fin.ext (by show t.val = 0; omega)
    subst ht
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_A c Set.univ (grid0.coords t0) _ _ _ _ _ _ _ _ _ _ _ _ _ _ _ _ _ _ _ _ _ _ _ _ _ _ _ _ _ _ _ _ (fun h => absurd ((hcond1 t0).mp h) (by omega)) (fun h => absurd ((hcond2 t0).mp h) (by omega)) (fun h => absurd ((hcond3 t0).mp h) (by omega)) ((hcond4 t0).mpr h0) (iblk m c 0 t0) (iblk m c 1 t0) (iblk m c 2 t0) (iblk m c 3 t0) (iblk m c 4 t0) (iblk m c 5 t0) (iblk m c 6 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply pass13 m c t0 (by decide) d13; iexact H13
    isplitl [H14]; · iapply pass14 m c t0 (by decide) d14; iexact H14
    iapply pass15 m c t0 (by decide) d15; iexact H15
  by_cases h15 : t.val % 16 = 15
  · have h12 : 12 ≤ t.val % 16 := by omega
    rw [show (dats m 0 c).leavesExact 13 t = owns (c : Thread nD τ) (ms13 t) fullShare ((dats m 0 c).after 13 t) from by
      unfold Dat.leavesExact; rw [live13 t h15], after13]
    rw [show (dats m 0 c).leavesExact 14 t = owns (c : Thread nD τ) (ms14 t) fullShare ((dats m 0 c).after 14 t) from by
      unfold Dat.leavesExact; rw [live14 t h15], after14]
    rw [show (dats m 0 c).leavesExact 15 t = owns (c : Thread nD τ) (ms15 t) fullShare ((dats m 0 c).after 15 t) from by
      unfold Dat.leavesExact; rw [live15 t h12], after15]
    simp only [before8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_D c Set.univ (grid0.coords t) _ _ _ _ _ _ _ _ _ _ _ _ _ _ _ _ _ _ _ _ _ _ _ _ _ _ _ _ _ _ _ _ ((hcond1 t).mpr h15) ((hcond2 t).mpr h15) ((hcond3 t).mpr h12) (fun h => h0 ((hcond4 t).mp h)) (iblk m c 0 t) (iblk m c 1 t) (iblk m c 2 t) (iblk m c 3 t) (iblk m c 4 t) (iblk m c 5 t) (iblk m c 6 t) (out8 (iblk m c 1 t0) (iblk m c 2 t0) (iblk m c 3 t0)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H7]; · iexists _; iexact H7
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H8, H7, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply pass8 m c t h0 d8; rw [before8 m c t h0]; iexact H8
    isplitl [H9]; · iexact H9
    isplitl [H10]; · iexact H10
    isplitl [H11]; · iexact H11
    isplitl [H12]; · iexact H12
    isplitl [H13]; · iexact H13
    isplitl [H14]; · iexact H14
    iexact H15
  by_cases h12 : 12 ≤ t.val % 16
  · rw [show (dats m 0 c).leavesExact 15 t = owns (c : Thread nD τ) (ms15 t) fullShare ((dats m 0 c).after 15 t) from by
      unfold Dat.leavesExact; rw [live15 t h12], after15]
    simp only [before8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_C c Set.univ (grid0.coords t) _ _ _ _ _ _ _ _ _ _ _ _ _ _ _ _ _ _ _ _ _ _ _ _ _ _ _ _ _ _ _ _ (fun h => h15 ((hcond1 t).mp h)) (fun h => h15 ((hcond2 t).mp h)) ((hcond3 t).mpr h12) (fun h => h0 ((hcond4 t).mp h)) (iblk m c 0 t) (iblk m c 1 t) (iblk m c 2 t) (iblk m c 3 t) (iblk m c 4 t) (iblk m c 5 t) (iblk m c 6 t) (out8 (iblk m c 1 t0) (iblk m c 2 t0) (iblk m c 3 t0)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H7]; · iexists _; iexact H7
    isplitl [H9]; · iexists _; iexact H9
    isplitl [H10]; · iexists _; iexact H10
    isplitl [H11]; · iexists _; iexact H11
    isplitl [H12]; · iexists _; iexact H12
    isplitl [H15]; · iexists _; iexact H15
    iintro ⟨H0, H1, H2, H3, H4, H5, H6, H8, H7, H9, H10, H11, H12, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply pass8 m c t h0 d8; rw [before8 m c t h0]; iexact H8
    isplitl [H9]; · iexact H9
    isplitl [H10]; · iexact H10
    isplitl [H11]; · iexact H11
    isplitl [H12]; · iexact H12
    isplitl [H13]; · iapply pass13 m c t h15 d13; iexact H13
    isplitl [H14]; · iapply pass14 m c t h15 d14; iexact H14
    iexact H15
  · simp only [before8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_B c Set.univ (grid0.coords t) _ _ _ _ _ _ _ _ _ _ _ _ _ _ _ _ _ _ _ _ _ _ _ _ _ _ _ _ _ _ _ _ (fun h => h15 ((hcond1 t).mp h)) (fun h => h15 ((hcond2 t).mp h)) (fun h => h12 ((hcond3 t).mp h)) (fun h => h0 ((hcond4 t).mp h)) (iblk m c 0 t) (iblk m c 1 t) (iblk m c 2 t) (iblk m c 3 t) (iblk m c 4 t) (iblk m c 5 t) (iblk m c 6 t) (out8 (iblk m c 1 t0) (iblk m c 2 t0) (iblk m c 3 t0)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H7]; · iexists _; iexact H7
    isplitl [H9]; · iexists _; iexact H9
    isplitl [H10]; · iexists _; iexact H10
    isplitl [H11]; · iexists _; iexact H11
    isplitl [H12]; · iexists _; iexact H12
    iintro ⟨H0, H1, H2, H3, H4, H5, H6, H8, H7, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply pass8 m c t h0 d8; rw [before8 m c t h0]; iexact H8
    isplitl [H9]; · iexact H9
    isplitl [H10]; · iexact H10
    isplitl [H11]; · iexact H11
    isplitl [H12]; · iexact H12
    isplitl [H13]; · iapply pass13 m c t h15 d13; iexact H13
    isplitl [H14]; · iapply pass14 m c t h15 d14; iexact H14
    iapply pass15 m c t h12 d15; iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch and the frame -/

/-- The final states: every array but the unnamed one at what the proof data says. -/
abbrev Final (r : PUnit × MemSt nD τ sig (Elt F)) : Prop :=
  Pipeline.RDat.FramePost (cfgs 0) (fun c => (dats m 0 c).toRForget forgets0) (V m) r

set_option backward.isDefEq.respectTransparency.types false in
set_option maxHeartbeats 800000 in
/-- The launch: the named arrays at what the proof data says, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Final m) :=
  (θ_run defs _ _).mono (fun _ h => h.1) (run_main_quiescent m ρ)

/-! ## The results after the run -/

/-- The run with each returned result named and the arguments unchanged. -/
theorem run_blocks : θ_run defs (onTc (τ := τ) (main (F := F))) ⟨m, fun _ => 0, ρ⟩ fun r => ∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_v0_3) = (dats m 0 c).arrAt 10 cfg0.N
      ∧ r.2.mem ((c.tc : Thread nD τ).loc main_v0_4) = (dats m 0 c).arrAt 11 cfg0.N
      ∧ r.2.mem ((c.tc : Thread nD τ).loc main_v0_5) = (dats m 0 c).arrAt 12 cfg0.N
      ∧ r.2.mem ((c.tc : Thread nD τ).loc main_v0_6) = (dats m 0 c).arrAt 13 cfg0.N
      ∧ r.2.mem ((c.tc : Thread nD τ).loc main_v0_7) = (dats m 0 c).arrAt 14 cfg0.N
      ∧ r.2.mem ((c.tc : Thread nD τ).loc main_v0_8) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(Pipeline.Dat.toRForget_arrAt_iff (dats m 0 c) (w := 7) rfl _ _).mp ((h c).1 7),
      (Pipeline.Dat.toRForget_arrAt_iff (dats m 0 c) (w := 8) rfl _ _).mp ((h c).1 8),
      (Pipeline.Dat.toRForget_arrAt_iff (dats m 0 c) (w := 10) rfl _ _).mp ((h c).1 10),
      (Pipeline.Dat.toRForget_arrAt_iff (dats m 0 c) (w := 11) rfl _ _).mp ((h c).1 11),
      (Pipeline.Dat.toRForget_arrAt_iff (dats m 0 c) (w := 12) rfl _ _).mp ((h c).1 12),
      (Pipeline.Dat.toRForget_arrAt_iff (dats m 0 c) (w := 13) rfl _ _).mp ((h c).1 13),
      (Pipeline.Dat.toRForget_arrAt_iff (dats m 0 c) (w := 14) rfl _ _).mp ((h c).1 14),
      (Pipeline.Dat.toRForget_arrAt_iff (dats m 0 c) (w := 15) rfl _ _).mp ((h c).1 15),
      ((Pipeline.Dat.toRForget_arrAt_iff (dats m 0 c) (w := 0) rfl _ _).mp ((h c).1 0)).trans (((dats m 0 c).arrAt_in 0 rfl _).trans ((A_eq m c 0).trans (V_main_arg0 m c))),
      ((Pipeline.Dat.toRForget_arrAt_iff (dats m 0 c) (w := 1) rfl _ _).mp ((h c).1 1)).trans (((dats m 0 c).arrAt_in 1 rfl _).trans ((A_eq m c 1).trans (V_main_arg1 m c))),
      ((Pipeline.Dat.toRForget_arrAt_iff (dats m 0 c) (w := 2) rfl _ _).mp ((h c).1 2)).trans (((dats m 0 c).arrAt_in 2 rfl _).trans ((A_eq m c 2).trans (V_main_arg2 m c))),
      ((Pipeline.Dat.toRForget_arrAt_iff (dats m 0 c) (w := 3) rfl _ _).mp ((h c).1 3)).trans (((dats m 0 c).arrAt_in 3 rfl _).trans ((A_eq m c 3).trans (V_main_arg3 m c))),
      ((Pipeline.Dat.toRForget_arrAt_iff (dats m 0 c) (w := 4) rfl _ _).mp ((h c).1 4)).trans (((dats m 0 c).arrAt_in 4 rfl _).trans ((A_eq m c 4).trans (V_main_arg4 m c))),
      ((Pipeline.Dat.toRForget_arrAt_iff (dats m 0 c) (w := 5) rfl _ _).mp ((h c).1 5)).trans (((dats m 0 c).arrAt_in 5 rfl _).trans ((A_eq m c 5).trans (V_main_arg5 m c))),
      ((Pipeline.Dat.toRForget_arrAt_iff (dats m 0 c) (w := 6) rfl _ _).mp ((h c).1 6)).trans (((dats m 0 c).arrAt_in 6 rfl _).trans ((A_eq m c 6).trans (V_main_arg6 m c)))⟩) (run_main m ρ)

/-- The frame claim: every argument unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun r h c => (h c).2.2.2.2.2.2.2.2) (run_blocks m ρ)) ((θ_run defs _ _).mono (fun _ h => h.2) (run_main_quiescent m ρ))

end Cert.Kernel5Ideal.Run

end
-- ==== Proof.QkvRows.lean ====
/- One element of each result of the projection's body, read off its operations: a row of the projection is the layer's
   row function of the same row of the blocks it loads, and a window's element is an element of those rows. -/
module

public import proofs.«01_k».proof.Proof.QkvRun
public import proofs.«01_k».proof.Proof.Layer
public import Idealize.ShloMosaic.Lib.Pipeline.ValueKit
public import Idealize.ShloMosaic.Lib.Pipeline.ReadBack

@[expose] public section

set_option maxRecDepth 16384

noncomputable section

namespace Cert.Kernel5Ideal.Rows

open Cert.Kernel5Ideal Cert.Kernel5Ideal.Gen Cert.Layer Idealize.ShloMosaic

/-! ## The projection -/

/-- A row of the projected block. -/
theorem row512 (x0 : Vec Ideal S512x1024 .f32) (x2 : Vec Ideal S1x1x1x1024 .f32) (x3 : Vec Ideal S1x1024x2304 .bf16) (r : Fin 512) (j : Fin 2304) :
    Run.out7 x0 x2 x3 (ix2 r j) = rowMul (rms (fun k => x0 (ix2 r k)) (fun k => x2 (ix4 0 0 0 k))) (fun k l => x3 (ix3 0 k l)) j := by
  unfold Run.out7
  rw [View.canon_unit_zero (by funext a; fin_cases a <;> rfl)]
  pointwise [k0_pay2]
  rfl

/-- A row of the projected block. -/
theorem row256 (x1 : Vec Ideal S256x1024 .f32) (x2 : Vec Ideal S1x1x1x1024 .f32) (x3 : Vec Ideal S1x1024x2304 .bf16) (r : Fin 256) (j : Fin 2304) :
    Run.out8 x1 x2 x3 (ix2 r j) = rowMul (rms (fun k => x1 (ix2 r k)) (fun k => x2 (ix4 0 0 0 k))) (fun k l => x3 (ix3 0 k l)) j := by
  unfold Run.out8
  rw [View.canon_unit_zero (by funext a; fin_cases a <;> rfl)]
  pointwise [k0_pay9]
  rfl

/-! ## The sample windows -/

/-- The sample rows of a grid point at 256 columns from 768. -/
theorem rows768 (i : grid0.Coords) (x : Vec Ideal S256x2304 .f32) (r : Fin 8) (d : Fin 256) :
    Run.rows i x Run.rs768 (ix2 r d) = x (ix2 ⟨(i 0).val * 8 + r.val, by have h := (i 0).isLt; change (i 0).val < 32 at h; omega⟩ ⟨768 + d.val, by omega⟩) := by
  refine congrArg x ?_
  rw [Rect.idx_withinL]
  blk_ext [k0_off1_eq]
  · show 8 * (i 0).val + (0 + 1 * r.val) = _
    omega
  · show 768 + 1 * d.val = _
    omega

/-- The sample rows of a grid point at 256 columns from 1536. -/
theorem rows1536 (i : grid0.Coords) (x : Vec Ideal S256x2304 .f32) (r : Fin 8) (d : Fin 256) :
    Run.rows i x Run.rs1536 (ix2 r d) = x (ix2 ⟨(i 0).val * 8 + r.val, by have h := (i 0).isLt; change (i 0).val < 32 at h; omega⟩ ⟨1536 + d.val, by omega⟩) := by
  refine congrArg x ?_
  rw [Rect.idx_withinL]
  blk_ext [k0_off1_eq]
  · show 8 * (i 0).val + (0 + 1 * r.val) = _
    omega
  · show 1536 + 1 * d.val = _
    omega

/-- The sample rows of a grid point at 256 columns from 1024. -/
theorem rows1024 (i : grid0.Coords) (x : Vec Ideal S256x2304 .f32) (r : Fin 8) (d : Fin 256) :
    Run.rows i x Run.rs1024 (ix2 r d) = x (ix2 ⟨(i 0).val * 8 + r.val, by have h := (i 0).isLt; change (i 0).val < 32 at h; omega⟩ ⟨1024 + d.val, by omega⟩) := by
  refine congrArg x ?_
  rw [Rect.idx_withinL]
  blk_ext [k0_off1_eq]
  · show 8 * (i 0).val + (0 + 1 * r.val) = _
    omega
  · show 1024 + 1 * d.val = _
    omega

/-- The sample rows of a grid point at 256 columns from 1792. -/
theorem rows1792 (i : grid0.Coords) (x : Vec Ideal S256x2304 .f32) (r : Fin 8) (d : Fin 256) :
    Run.rows i x Run.rs1792 (ix2 r d) = x (ix2 ⟨(i 0).val * 8 + r.val, by have h := (i 0).isLt; change (i 0).val < 32 at h; omega⟩ ⟨1792 + d.val, by omega⟩) := by
  refine congrArg x ?_
  rw [Rect.idx_withinL]
  blk_ext [k0_off1_eq]
  · show 8 * (i 0).val + (0 + 1 * r.val) = _
    omega
  · show 1792 + 1 * d.val = _
    omega

/-- The sample rows of a grid point at 256 columns from 1280. -/
theorem rows1280 (i : grid0.Coords) (x : Vec Ideal S256x2304 .f32) (r : Fin 8) (d : Fin 256) :
    Run.rows i x Run.rs1280 (ix2 r d) = x (ix2 ⟨(i 0).val * 8 + r.val, by have h := (i 0).isLt; change (i 0).val < 32 at h; omega⟩ ⟨1280 + d.val, by omega⟩) := by
  refine congrArg x ?_
  rw [Rect.idx_withinL]
  blk_ext [k0_off1_eq]
  · show 8 * (i 0).val + (0 + 1 * r.val) = _
    omega
  · show 1280 + 1 * d.val = _
    omega

/-- The sample rows of a grid point at 256 columns from 2048. -/
theorem rows2048 (i : grid0.Coords) (x : Vec Ideal S256x2304 .f32) (r : Fin 8) (d : Fin 256) :
    Run.rows i x Run.rs2048 (ix2 r d) = x (ix2 ⟨(i 0).val * 8 + r.val, by have h := (i 0).isLt; change (i 0).val < 32 at h; omega⟩ ⟨2048 + d.val, by omega⟩) := by
  refine congrArg x ?_
  rw [Rect.idx_withinL]
  blk_ext [k0_off1_eq]
  · show 8 * (i 0).val + (0 + 1 * r.val) = _
    omega
  · show 2048 + 1 * d.val = _
    omega

/-- The new keys and values beside the window of 128 positions: eight rows, transposed. -/
theorem new128 (a b : Vec Ideal S8x256 .f32) (d : Fin 512) (r : Fin 8) :
    k0_pay16 a b (ix2 d ⟨r.val, by omega⟩) = if h : d.val < 256 then a (ix2 r ⟨d.val, h⟩) else b (ix2 r ⟨d.val - 256, by omega⟩) := by
  pointwise [k0_pay16]

/-- The window of 128 positions followed by 128 new positions. -/
def joint128 (old : Vec Ideal S1x512x128 .f32) (new : FVec Ideal S512x128 .f32) : FVec Ideal S512x256 .f32 :=
  concatenate S512x256 1 [⟨S512x128, shapeCast S512x128 old shapeCasts_S1x512x128_S512x128⟩, ⟨S512x128, new⟩] concatenates_S512x128_S512x128_S512x256_d1

/-- The first 128 of those positions once they are rotated by eight. -/
def moved128 (old : Vec Ideal S1x512x128 .f32) (new : FVec Ideal S512x128 .f32) : FVec Ideal S512x128 .f32 :=
  extractStridedSlice S512x128 ![0, 0] (dynamicRotate 1 248#32 none (joint128 old new) rotates_S512x256_d1) slices_S512x256_o0_0_S512x128

/-- The rotation reads eight positions further on. -/
theorem rotated128 (x : FVec Ideal S512x256 .f32) (d : Fin 512) (j : Fin 128) :
    extractStridedSlice S512x128 ![0, 0] (dynamicRotate 1 248#32 none x rotates_S512x256_d1) slices_S512x256_o0_0_S512x128 (ix2 d j) = x (ix2 d ⟨8 + j.val, by omega⟩) := by
  refine (extractStridedSlice_apply _ _ _ _ (ix2 d ⟨j.val, by omega⟩) ?_).trans ?_
  · intro a
    fin_cases a
    · show d.val = 0 + d.val
      omega
    · show j.val = 0 + j.val
      omega
  rw [Pointwise.dynamicRotate_apply]
  refine congrArg x (funext fun b => Fin.ext ?_)
  fin_cases b
  · rfl
  · show (j.val + 256 - (248 + 0) % 256) % 256 = 8 + j.val
    omega

/-- The same of the window and the new positions. -/
theorem moved128_eq (old : Vec Ideal S1x512x128 .f32) (new : FVec Ideal S512x128 .f32) (d : Fin 512) (j : Fin 128) :
    moved128 old new (ix2 d j) = joint128 old new (ix2 d ⟨8 + j.val, by omega⟩) := rotated128 _ d j

/-- An element of the window of 128 positions: an old one moved on, or one of the new keys and values. -/
theorem cache128 (i : grid0.Coords) (x8 : Vec Ideal S256x2304 .f32) (x4 : Vec Ideal S1x512x128 .f32) (s : Fin 1) (d : Fin 512) (j : Fin 128) :
    Run.out10 i x8 x4 (ix3 s d j)
      = shifted (fun k => x4 (ix3 0 d k)) (fun r => joined 768 1536 (by decide) (by decide) (fun l => x8 (ix2 ⟨(i 0).val * 8 + r.val, by have h := (i 0).isLt; change (i 0).val < 32 at h; omega⟩ l)) d) j := by
  have e : ∀ (o : Vec Ideal S1x512x128 .f32) (n : FVec Ideal S512x128 .f32), k0_pay58 (k0_pay57 n o) = shapeCast S1x512x128 (moved128 o n) shapeCasts_S512x128_S1x512x128 := fun _ _ => rfl
  unfold Run.out10 shifted joined
  rw [View.canon_unit_zero (by funext a; fin_cases a <;> rfl), e]
  pointwise []
  rw [moved128_eq]
  pointwise [joint128]
  refine dite_congr rfl (fun h => rfl) fun h => ?_
  refine (new128 _ _ d ⟨8 + j.val - 128, by omega⟩).trans ?_
  exact dite_congr rfl (fun h => rows768 i x8 _ _) fun h => rows1536 i x8 _ _

/-- The new keys and values beside the window of 512 positions: eight rows, transposed. -/
theorem new512 (a b : Vec Ideal S8x256 .f32) (d : Fin 512) (r : Fin 8) :
    k0_pay59 a b (ix2 d ⟨r.val, by omega⟩) = if h : d.val < 256 then a (ix2 r ⟨d.val, h⟩) else b (ix2 r ⟨d.val - 256, by omega⟩) := by
  pointwise [k0_pay59]

/-- The window of 512 positions followed by 128 new positions. -/
def joint512 (old : Vec Ideal S1x512x512 .f32) (new : FVec Ideal S512x128 .f32) : FVec Ideal S512x640 .f32 :=
  concatenate S512x640 1 [⟨S512x512, shapeCast S512x512 old shapeCasts_S1x512x512_S512x512⟩, ⟨S512x128, new⟩] concatenates_S512x512_S512x128_S512x640_d1

/-- The first 512 of those positions once they are rotated by eight. -/
def moved512 (old : Vec Ideal S1x512x512 .f32) (new : FVec Ideal S512x128 .f32) : FVec Ideal S512x512 .f32 :=
  extractStridedSlice S512x512 ![0, 0] (dynamicRotate 1 632#32 none (joint512 old new) rotates_S512x640_d1) slices_S512x640_o0_0_S512x512

/-- The rotation reads eight positions further on. -/
theorem rotated512 (x : FVec Ideal S512x640 .f32) (d : Fin 512) (j : Fin 512) :
    extractStridedSlice S512x512 ![0, 0] (dynamicRotate 1 632#32 none x rotates_S512x640_d1) slices_S512x640_o0_0_S512x512 (ix2 d j) = x (ix2 d ⟨8 + j.val, by omega⟩) := by
  refine (extractStridedSlice_apply _ _ _ _ (ix2 d ⟨j.val, by omega⟩) ?_).trans ?_
  · intro a
    fin_cases a
    · show d.val = 0 + d.val
      omega
    · show j.val = 0 + j.val
      omega
  rw [Pointwise.dynamicRotate_apply]
  refine congrArg x (funext fun b => Fin.ext ?_)
  fin_cases b
  · rfl
  · show (j.val + 640 - (632 + 0) % 640) % 640 = 8 + j.val
    omega

/-- The same of the window and the new positions. -/
theorem moved512_eq (old : Vec Ideal S1x512x512 .f32) (new : FVec Ideal S512x128 .f32) (d : Fin 512) (j : Fin 512) :
    moved512 old new (ix2 d j) = joint512 old new (ix2 d ⟨8 + j.val, by omega⟩) := rotated512 _ d j

/-- An element of the window of 512 positions: an old one moved on, or one of the new keys and values. -/
theorem cache512 (i : grid0.Coords) (x8 : Vec Ideal S256x2304 .f32) (x5 : Vec Ideal S1x512x512 .f32) (s : Fin 1) (d : Fin 512) (j : Fin 512) :
    Run.out11 i x8 x5 (ix3 s d j)
      = shifted (fun k => x5 (ix3 0 d k)) (fun r => joined 1024 1792 (by decide) (by decide) (fun l => x8 (ix2 ⟨(i 0).val * 8 + r.val, by have h := (i 0).isLt; change (i 0).val < 32 at h; omega⟩ l)) d) j := by
  have e : ∀ (o : Vec Ideal S1x512x512 .f32) (n : FVec Ideal S512x128 .f32), k0_pay102 n o = shapeCast S1x512x512 (moved512 o n) shapeCasts_S512x512_S1x512x512 := fun _ _ => rfl
  unfold Run.out11 shifted joined
  rw [View.canon_unit_zero (by funext a; fin_cases a <;> rfl), e]
  pointwise []
  rw [moved512_eq]
  pointwise [joint512]
  refine dite_congr rfl (fun h => rfl) fun h => ?_
  refine (new512 _ _ d ⟨8 + j.val - 512, by omega⟩).trans ?_
  exact dite_congr rfl (fun h => rows1024 i x8 _ _) fun h => rows1792 i x8 _ _

/-- The new keys and values beside the window of 2048 positions: eight rows, transposed. -/
theorem new2048 (a b : Vec Ideal S8x256 .f32) (d : Fin 512) (r : Fin 8) :
    k0_pay104 (k0_pay103 a b) (ix2 d ⟨r.val, by omega⟩) = if h : d.val < 256 then a (ix2 r ⟨d.val, h⟩) else b (ix2 r ⟨d.val - 256, by omega⟩) := by
  pointwise [k0_pay104, k0_pay103]

/-- The window of 2048 positions followed by 128 new positions. -/
def joint2048 (old : Vec Ideal S1x512x2048 .f32) (new : FVec Ideal S512x128 .f32) : FVec Ideal S512x2176 .f32 :=
  concatenate S512x2176 1 [⟨S512x2048, shapeCast S512x2048 old shapeCasts_S1x512x2048_S512x2048⟩, ⟨S512x128, new⟩] concatenates_S512x2048_S512x128_S512x2176_d1

/-- The first 2048 of those positions once they are rotated by eight. -/
def moved2048 (old : Vec Ideal S1x512x2048 .f32) (new : FVec Ideal S512x128 .f32) : FVec Ideal S512x2048 .f32 :=
  extractStridedSlice S512x2048 ![0, 0] (dynamicRotate 1 2168#32 none (joint2048 old new) rotates_S512x2176_d1) slices_S512x2176_o0_0_S512x2048

/-- The rotation reads eight positions further on. -/
theorem rotated2048 (x : FVec Ideal S512x2176 .f32) (d : Fin 512) (j : Fin 2048) :
    extractStridedSlice S512x2048 ![0, 0] (dynamicRotate 1 2168#32 none x rotates_S512x2176_d1) slices_S512x2176_o0_0_S512x2048 (ix2 d j) = x (ix2 d ⟨8 + j.val, by omega⟩) := by
  refine (extractStridedSlice_apply _ _ _ _ (ix2 d ⟨j.val, by omega⟩) ?_).trans ?_
  · intro a
    fin_cases a
    · show d.val = 0 + d.val
      omega
    · show j.val = 0 + j.val
      omega
  rw [Pointwise.dynamicRotate_apply]
  refine congrArg x (funext fun b => Fin.ext ?_)
  fin_cases b
  · rfl
  · show (j.val + 2176 - (2168 + 0) % 2176) % 2176 = 8 + j.val
    omega

/-- The same of the window and the new positions. -/
theorem moved2048_eq (old : Vec Ideal S1x512x2048 .f32) (new : FVec Ideal S512x128 .f32) (d : Fin 512) (j : Fin 2048) :
    moved2048 old new (ix2 d j) = joint2048 old new (ix2 d ⟨8 + j.val, by omega⟩) := rotated2048 _ d j

/-- An element of the window of 2048 positions: an old one moved on, or one of the new keys and values. -/
theorem cache2048 (i : grid0.Coords) (x8 : Vec Ideal S256x2304 .f32) (x6 : Vec Ideal S1x512x2048 .f32) (s : Fin 1) (d : Fin 512) (j : Fin 2048) :
    Run.out12 i x8 x6 (ix3 s d j)
      = shifted (fun k => x6 (ix3 0 d k)) (fun r => joined 1280 2048 (by decide) (by decide) (fun l => x8 (ix2 ⟨(i 0).val * 8 + r.val, by have h := (i 0).isLt; change (i 0).val < 32 at h; omega⟩ l)) d) j := by
  have e : ∀ (o : Vec Ideal S1x512x2048 .f32) (n : FVec Ideal S512x128 .f32), k0_pay143 n o = shapeCast S1x512x2048 (moved2048 o n) shapeCasts_S512x2048_S1x512x2048 := fun _ _ => rfl
  unfold Run.out12 shifted joined
  rw [View.canon_unit_zero (by funext a; fin_cases a <;> rfl), e]
  pointwise []
  rw [moved2048_eq]
  pointwise [joint2048]
  refine dite_congr rfl (fun h => rfl) fun h => ?_
  refine (new2048 _ _ d ⟨8 + j.val - 2048, by omega⟩).trans ?_
  exact dite_congr rfl (fun h => rows1280 i x8 _ _) fun h => rows2048 i x8 _ _

/-! ## The prompt windows -/

/-- An element of the block of the last 128 positions of a prompt. -/
theorem tail128 (x0 : Vec Ideal S512x1024 .f32) (x2 : Vec Ideal S1x1x1x1024 .f32) (x3 : Vec Ideal S1x1024x2304 .bf16) (s : Fin 1) (d : Fin 512) (j : Fin 128) :
    Run.out13 x0 x2 x3 (ix3 s d j)
      = joined 768 1536 (by decide) (by decide) (fun l => Run.out7 x0 x2 x3 (ix2 ⟨384 + j.val, by omega⟩ l)) d := by
  unfold Run.out13
  refine View.canon_append_of_piecesOf (Val := Elt Ideal) (fun (z : S1x512x128.Idx) => joined 768 1536 (by decide) (by decide) (fun l => Run.out7 x0 x2 x3 (ix2 ⟨384 + (z 2).val, by have h := (z 2).isLt; change (z 2).val < 128 at h; omega⟩ l)) (z 1)) [] [_, _] ⟨?_, ?_, trivial⟩ (ix3 s d j) (Run.cover13 _ _ _)
  · intro z
    idx_vars z
    rw [show Run.rt0b.emb (ix3 z0 z1 z2) = ix3 0 ⟨256 + z1.val, by omega⟩ z2 from by blk_ext [Run.rt0b]]
    unfold joined
    pointwise [k0_pay4]
  · intro z
    idx_vars z
    rw [show Run.rt0a.emb (ix3 z0 z1 z2) = ix3 0 ⟨z1.val, by omega⟩ z2 from by blk_ext [Run.rt0a]]
    unfold joined
    pointwise [k0_pay3]

/-- An element of the block of the last 512 positions of a prompt. -/
theorem tail512 (x0 : Vec Ideal S512x1024 .f32) (x2 : Vec Ideal S1x1x1x1024 .f32) (x3 : Vec Ideal S1x1024x2304 .bf16) (s : Fin 1) (d : Fin 512) (j : Fin 512) :
    Run.out14 x0 x2 x3 (ix3 s d j)
      = joined 1024 1792 (by decide) (by decide) (fun l => Run.out7 x0 x2 x3 (ix2 ⟨0 + j.val, by omega⟩ l)) d := by
  unfold Run.out14
  refine View.canon_append_of_piecesOf (Val := Elt Ideal) (fun (z : S1x512x512.Idx) => joined 1024 1792 (by decide) (by decide) (fun l => Run.out7 x0 x2 x3 (ix2 ⟨0 + (z 2).val, by have h := (z 2).isLt; change (z 2).val < 512 at h; omega⟩ l)) (z 1)) [] [_, _] ⟨?_, ?_, trivial⟩ (ix3 s d j) (Run.cover14 _ _ _)
  · intro z
    idx_vars z
    rw [show Run.rt1b.emb (ix3 z0 z1 z2) = ix3 0 ⟨256 + z1.val, by omega⟩ z2 from by blk_ext [Run.rt1b]]
    unfold joined
    pointwise [k0_pay6]
  · intro z
    idx_vars z
    rw [show Run.rt1a.emb (ix3 z0 z1 z2) = ix3 0 ⟨z1.val, by omega⟩ z2 from by blk_ext [Run.rt1a]]
    unfold joined
    pointwise [k0_pay5]

/-- An element of the block of the last 2048 positions of a prompt. -/
theorem tail2048 (x0 : Vec Ideal S512x1024 .f32) (x2 : Vec Ideal S1x1x1x1024 .f32) (x3 : Vec Ideal S1x1024x2304 .bf16) (s : Fin 1) (d : Fin 512) (j : Fin 512) :
    Run.out15 x0 x2 x3 (ix3 s d j)
      = joined 1280 2048 (by decide) (by decide) (fun l => Run.out7 x0 x2 x3 (ix2 ⟨0 + j.val, by omega⟩ l)) d := by
  unfold Run.out15
  refine View.canon_append_of_piecesOf (Val := Elt Ideal) (fun (z : S1x512x512.Idx) => joined 1280 2048 (by decide) (by decide) (fun l => Run.out7 x0 x2 x3 (ix2 ⟨0 + (z 2).val, by have h := (z 2).isLt; change (z 2).val < 512 at h; omega⟩ l)) (z 1)) [] [_, _] ⟨?_, ?_, trivial⟩ (ix3 s d j) (Run.cover15 _ _ _)
  · intro z
    idx_vars z
    rw [show Run.rt1b.emb (ix3 z0 z1 z2) = ix3 0 ⟨256 + z1.val, by omega⟩ z2 from by blk_ext [Run.rt1b]]
    unfold joined
    pointwise [k0_pay8]
  · intro z
    idx_vars z
    rw [show Run.rt1a.emb (ix3 z0 z1 z2) = ix3 0 ⟨z1.val, by omega⟩ z2 from by blk_ext [Run.rt1a]]
    unfold joined
    pointwise [k0_pay7]

end Cert.Kernel5Ideal.Rows

end
-- ==== Proof.QkvReference.lean ====
/- One element of each result of the projection's reference, read off its operations: a row of the projection is the
   layer's row function of the same row of the arguments, and a window's element is an element of those rows. -/
module

public import proofs.«01_k».proof.Proof.Gen.Reference5Ideal.Read
public import proofs.«01_k».proof.Proof.Layer

@[expose] public section

set_option maxRecDepth 16384

noncomputable section

namespace Cert.Reference5Ideal.Rows

open Cert.Reference5Ideal Cert.Reference5Ideal.Gen Cert.Reference5Ideal.Read Cert.Layer Idealize.ShloMosaic

/-- The normalised row that is projected. -/
theorem normed16384 (x0 : Vec Ideal S16384x1024 .f32) (x2 : Vec Ideal S2x3x1x1024 .f32) (r : Fin 16384) (j : Fin 1024) :
    val_main_v16 (F := Ideal) x0 x2 (ix2 r j) = rms (fun k => x0 (ix2 r k)) (fun k => x2 (ix4 0 1 0 k)) j := by
  pointwise [val_main_v16, val_main_v15, val_main_v14, val_main_v3, val_main_v2, val_main_v13, val_main_v12, val_main_v11, val_main_v10, val_main_v9, val_main_cst_1, val_main_v8, val_main_v7, val_main_cst_0, val_main_v6, val_main_v5, val_main_cst, val_main_v4]
  rfl

/-- A row of the projection. -/
theorem row16384 (x0 : Vec Ideal S16384x1024 .f32) (x2 : Vec Ideal S2x3x1x1024 .f32) (x3 : Vec Ideal S1x1024x2304 .bf16) (r : Fin 16384) (j : Fin 2304) :
    val_main_v17 (F := Ideal) x0 x2 x3 (ix2 r j) = rowMul (rms (fun k => x0 (ix2 r k)) (fun k => x2 (ix4 0 1 0 k))) (fun k l => x3 (ix3 0 k l)) j := by
  pointwise [val_main_v17, val_main_v1, val_main_v0]
  simp only [normed16384]
  rfl

/-- The normalised row that is projected. -/
theorem normed256 (x1 : Vec Ideal S256x1024 .f32) (x2 : Vec Ideal S2x3x1x1024 .f32) (r : Fin 256) (j : Fin 1024) :
    val_main_v32 (F := Ideal) x1 x2 (ix2 r j) = rms (fun k => x1 (ix2 r k)) (fun k => x2 (ix4 0 1 0 k)) j := by
  pointwise [val_main_v32, val_main_v31, val_main_v30, val_main_v19, val_main_v18, val_main_v29, val_main_v28, val_main_v27, val_main_v26, val_main_v25, val_main_cst_4, val_main_v24, val_main_v23, val_main_cst_3, val_main_v22, val_main_v21, val_main_cst_2, val_main_v20]
  rfl

/-- A row of the projection. -/
theorem row256 (x1 : Vec Ideal S256x1024 .f32) (x2 : Vec Ideal S2x3x1x1024 .f32) (x3 : Vec Ideal S1x1024x2304 .bf16) (r : Fin 256) (j : Fin 2304) :
    val_main_v33 (F := Ideal) x1 x2 x3 (ix2 r j) = rowMul (rms (fun k => x1 (ix2 r k)) (fun k => x2 (ix4 0 1 0 k))) (fun k l => x3 (ix3 0 k l)) j := by
  pointwise [val_main_v33, val_main_v1, val_main_v0]
  simp only [normed256]
  rfl

/-- An element of the window of 128 positions: an old one moved on, or one of the new keys and values. -/
theorem cache128 (x1 : Vec Ideal S256x1024 .f32) (x2 : Vec Ideal S2x3x1x1024 .f32) (x3 : Vec Ideal S1x1024x2304 .bf16) (x4 : Vec Ideal S32x512x128 .f32) (s : Fin 32) (d : Fin 512) (j : Fin 128) :
    val_main_v40 (F := Ideal) x1 x2 x3 x4 (ix3 s d j)
      = shifted (fun k => x4 (ix3 s d k)) (fun r => joined 768 1536 (by decide) (by decide) (fun l => val_main_v33 (F := Ideal) x1 x2 x3 (ix2 ⟨s.val * 8 + r.val, by omega⟩ l)) d) j := by
  unfold shifted joined
  pointwise [val_main_v40, val_main_v39, val_main_v38, val_main_v37, val_main_v36, val_main_v34, val_main_v35]

/-- An element of the window of 512 positions: an old one moved on, or one of the new keys and values. -/
theorem cache512 (x1 : Vec Ideal S256x1024 .f32) (x2 : Vec Ideal S2x3x1x1024 .f32) (x3 : Vec Ideal S1x1024x2304 .bf16) (x5 : Vec Ideal S32x512x512 .f32) (s : Fin 32) (d : Fin 512) (j : Fin 512) :
    val_main_v47 (F := Ideal) x1 x2 x3 x5 (ix3 s d j)
      = shifted (fun k => x5 (ix3 s d k)) (fun r => joined 1024 1792 (by decide) (by decide) (fun l => val_main_v33 (F := Ideal) x1 x2 x3 (ix2 ⟨s.val * 8 + r.val, by omega⟩ l)) d) j := by
  unfold shifted joined
  pointwise [val_main_v47, val_main_v46, val_main_v45, val_main_v44, val_main_v43, val_main_v41, val_main_v42]

/-- An element of the window of 2048 positions: an old one moved on, or one of the new keys and values. -/
theorem cache2048 (x1 : Vec Ideal S256x1024 .f32) (x2 : Vec Ideal S2x3x1x1024 .f32) (x3 : Vec Ideal S1x1024x2304 .bf16) (x6 : Vec Ideal S32x512x2048 .f32) (s : Fin 32) (d : Fin 512) (j : Fin 2048) :
    val_main_v54 (F := Ideal) x1 x2 x3 x6 (ix3 s d j)
      = shifted (fun k => x6 (ix3 s d k)) (fun r => joined 1280 2048 (by decide) (by decide) (fun l => val_main_v33 (F := Ideal) x1 x2 x3 (ix2 ⟨s.val * 8 + r.val, by omega⟩ l)) d) j := by
  unfold shifted joined
  pointwise [val_main_v54, val_main_v53, val_main_v52, val_main_v51, val_main_v50, val_main_v48, val_main_v49]

/-- An element of the last 128 positions of a prompt. -/
theorem tail128 (x0 : Vec Ideal S16384x1024 .f32) (x2 : Vec Ideal S2x3x1x1024 .f32) (x3 : Vec Ideal S1x1024x2304 .bf16) (s : Fin 2) (d : Fin 512) (j : Fin 128) :
    val_main_v60 (F := Ideal) x0 x2 x3 (ix3 s d j)
      = joined 768 1536 (by decide) (by decide) (fun l => val_main_v17 (F := Ideal) x0 x2 x3 (ix2 ⟨s.val * 8192 + (8064 + j.val), by omega⟩ l)) d := by
  unfold joined
  pointwise [val_main_v60, val_main_v59, val_main_v58, val_main_v57, val_main_v55, val_main_v56]

/-- An element of the last 512 positions of a prompt. -/
theorem tail512 (x0 : Vec Ideal S16384x1024 .f32) (x2 : Vec Ideal S2x3x1x1024 .f32) (x3 : Vec Ideal S1x1024x2304 .bf16) (s : Fin 2) (d : Fin 512) (j : Fin 512) :
    val_main_v66 (F := Ideal) x0 x2 x3 (ix3 s d j)
      = joined 1024 1792 (by decide) (by decide) (fun l => val_main_v17 (F := Ideal) x0 x2 x3 (ix2 ⟨s.val * 8192 + (7680 + j.val), by omega⟩ l)) d := by
  unfold joined
  pointwise [val_main_v66, val_main_v65, val_main_v64, val_main_v63, val_main_v61, val_main_v62]

/-- An element of the last 2048 positions of a prompt. -/
theorem tail2048 (x0 : Vec Ideal S16384x1024 .f32) (x2 : Vec Ideal S2x3x1x1024 .f32) (x3 : Vec Ideal S1x1024x2304 .bf16) (s : Fin 2) (d : Fin 512) (j : Fin 2048) :
    val_main_v72 (F := Ideal) x0 x2 x3 (ix3 s d j)
      = joined 1280 2048 (by decide) (by decide) (fun l => val_main_v17 (F := Ideal) x0 x2 x3 (ix2 ⟨s.val * 8192 + (6144 + j.val), by omega⟩ l)) d := by
  unfold joined
  pointwise [val_main_v72, val_main_v71, val_main_v70, val_main_v69, val_main_v67, val_main_v68]

end Cert.Reference5Ideal.Rows

end
-- ==== Proof.QkvStage.lean ====
/- The projection: its results are the reference's. Every block a point writes back is read at an index, where the body's
   value and the reference's are one function of the same arguments. -/
module

public import proofs.«01_k».proof.Proof.QkvRows
public import proofs.«01_k».proof.Proof.QkvReference
public import Idealize.ShloMosaic.Lib.Pipeline.ValueKit
public import Idealize.ShloMosaic.Lib.Claim

@[expose] public section

set_option maxRecDepth 16384

noncomputable section

namespace Cert.Kernel5Ideal.Stage

open Cert.Kernel5Ideal Cert.Kernel5Ideal.Gen Cert.Layer Idealize.ShloMosaic Idealize.ShloMosaic.TcCoe Idealize.SL.Sem
open Idealize.ShloMosaic.Pipeline (Dat)

variable (m : (ℓ : Loc nD τ sig) → Buf (Elt Ideal) ℓ)

/-- Where each window's block sits in its array at point `t`. -/
theorem idx (t : Fin cfg0.N) : win0_0.index t = ![t.val, 0]
    ∧ win0_1.index t = ![0, 0]
    ∧ win0_2.index t = ![0, 1, 0, 0]
    ∧ win0_3.index t = ![0, 0, 0]
    ∧ win0_4.index t = ![t.val, 0, 0]
    ∧ win0_5.index t = ![t.val, 0, 0]
    ∧ win0_6.index t = ![t.val, 0, 0]
    ∧ win0_7.index t = ![t.val, 0]
    ∧ win0_8.index t = ![0, 0]
    ∧ win0_10.index t = ![t.val, 0, 0]
    ∧ win0_11.index t = ![t.val, 0, 0]
    ∧ win0_12.index t = ![t.val, 0, 0]
    ∧ win0_13.index t = ![t.val / 16, 0, 0]
    ∧ win0_14.index t = ![t.val / 16, 0, 0]
    ∧ win0_15.index t = ![t.val / 16, 0, t.val % 16 - 12] :=
  (by decide +kernel : ∀ t : Fin grid0.N, win0_0.index t = ![t.val, 0]
    ∧ win0_1.index t = ![0, 0]
    ∧ win0_2.index t = ![0, 1, 0, 0]
    ∧ win0_3.index t = ![0, 0, 0]
    ∧ win0_4.index t = ![t.val, 0, 0]
    ∧ win0_5.index t = ![t.val, 0, 0]
    ∧ win0_6.index t = ![t.val, 0, 0]
    ∧ win0_7.index t = ![t.val, 0]
    ∧ win0_8.index t = ![0, 0]
    ∧ win0_10.index t = ![t.val, 0, 0]
    ∧ win0_11.index t = ![t.val, 0, 0]
    ∧ win0_12.index t = ![t.val, 0, 0]
    ∧ win0_13.index t = ![t.val / 16, 0, 0]
    ∧ win0_14.index t = ![t.val / 16, 0, 0]
    ∧ win0_15.index t = ![t.val / 16, 0, t.val % 16 - 12]) t

/-- The grid's one coordinate is the point's number. -/
theorem coord (t : Fin cfg0.N) : (grid0.coords t 0).val = t.val :=
  (by decide +kernel : ∀ t : Fin grid0.N, (grid0.coords t 0).val = t.val) t

/-- The gains before the projection, as loaded. -/
theorem gains (c : Dev nD) (t : Fin cfg0.N) :
    (fun (k : Fin 1024) => iblk m c 2 t (ix4 0 0 0 k)) = fun k => m ((c.tc : Thread nD τ).loc main_arg2) (ix4 0 1 0 k) := by
  funext k
  blk_ext [iblk, V, idx t]

/-- The projection's weights, as loaded. -/
theorem weights (c : Dev nD) (t : Fin cfg0.N) :
    (fun (k : Fin 1024) (l : Fin 2304) => iblk m c 3 t (ix3 0 k l)) = fun k l => m ((c.tc : Thread nD τ).loc main_arg3) (ix3 0 k l) := by
  funext k l
  blk_ext [iblk, V, idx t]

/-- Row `r` of the prompt stream's block at point `t`. -/
theorem xprompt (c : Dev nD) (t : Fin cfg0.N) (r : Fin 512) :
    (fun (k : Fin 1024) => iblk m c 0 t (ix2 r k)) = fun k => m ((c.tc : Thread nD τ).loc main_arg0) (ix2 ⟨t.val * 512 + r.val, by have h := t.isLt; change t.val < 32 at h; omega⟩ k) := by
  funext k
  blk_ext [iblk, V, idx t]

/-- Row `r` of the sample stream's block at point `t`. -/
theorem xsample (c : Dev nD) (t : Fin cfg0.N) (r : Fin 256) :
    (fun (k : Fin 1024) => iblk m c 1 t (ix2 r k)) = fun k => m ((c.tc : Thread nD τ).loc main_arg1) (ix2 r k) := by
  funext k
  blk_ext [iblk, V, idx t]

/-- A row of the window of 128 positions, as loaded. -/
theorem old128 (c : Dev nD) (t : Fin cfg0.N) (d : Fin 512) :
    (fun (k : Fin 128) => iblk m c 4 t (ix3 0 d k)) = fun k => m ((c.tc : Thread nD τ).loc main_arg4) (ix3 ⟨t.val, by have h := t.isLt; change t.val < 32 at h; omega⟩ d k) := by
  funext k
  blk_ext [iblk, V, idx t]

/-- A row of the window of 512 positions, as loaded. -/
theorem old512 (c : Dev nD) (t : Fin cfg0.N) (d : Fin 512) :
    (fun (k : Fin 512) => iblk m c 5 t (ix3 0 d k)) = fun k => m ((c.tc : Thread nD τ).loc main_arg5) (ix3 ⟨t.val, by have h := t.isLt; change t.val < 32 at h; omega⟩ d k) := by
  funext k
  blk_ext [iblk, V, idx t]

/-- A row of the window of 2048 positions, as loaded. -/
theorem old2048 (c : Dev nD) (t : Fin cfg0.N) (d : Fin 512) :
    (fun (k : Fin 2048) => iblk m c 6 t (ix3 0 d k)) = fun k => m ((c.tc : Thread nD τ).loc main_arg6) (ix3 ⟨t.val, by have h := t.isLt; change t.val < 32 at h; omega⟩ d k) := by
  funext k
  blk_ext [iblk, V, idx t]

/-- A row of the prompt stream's block is the reference's row. -/
theorem promptRow (c : Dev nD) (t : Fin cfg0.N) (r : Fin 512) (l : Fin 2304) :
    Run.out7 (iblk m c 0 t) (iblk m c 2 t) (iblk m c 3 t) (ix2 r l)
      = Cert.Reference5Ideal.Read.val_main_v17 (F := Ideal) (m ((c.tc : Thread nD τ).loc main_arg0)) (m ((c.tc : Thread nD τ).loc main_arg2)) (m ((c.tc : Thread nD τ).loc main_arg3)) (ix2 ⟨t.val * 512 + r.val, by have h := t.isLt; change t.val < 32 at h; omega⟩ l) := by
  rw [Rows.row512, Cert.Reference5Ideal.Rows.row16384, xprompt m c t r, gains m c t, weights m c t]

/-- A row of the sample stream's block is the reference's row. -/
theorem sampleRow (c : Dev nD) (t : Fin cfg0.N) (r : Fin 256) (l : Fin 2304) :
    Run.out8 (iblk m c 1 t) (iblk m c 2 t) (iblk m c 3 t) (ix2 r l)
      = Cert.Reference5Ideal.Read.val_main_v33 (F := Ideal) (m ((c.tc : Thread nD τ).loc main_arg1)) (m ((c.tc : Thread nD τ).loc main_arg2)) (m ((c.tc : Thread nD τ).loc main_arg3)) (ix2 r l) := by
  rw [Rows.row256, Cert.Reference5Ideal.Rows.row256, xsample m c t r, gains m c t, weights m c t]

/-- The prompt stream's projection is the reference's. -/
theorem prompt (c : Dev nD) : (Run.dats m 0 c).arrAt 7 cfg0.N
    = Cert.Reference5Ideal.Read.val_main_v17 (F := Ideal) (m ((c.tc : Thread nD τ).loc main_arg0)) (m ((c.tc : Thread nD τ).loc main_arg2)) (m ((c.tc : Thread nD τ).loc main_arg3)) := by
  refine (Run.dats m 0 c).arrAt_eq_of_covers 7 _ (by decide +kernel) fun t hf y => ?_
  blk_simp
  rw [Run.after7]
  idx_vars y
  have he : ((View.whole main_v0_0).slice (win0_7.rect t)).emb (ix2 y0 y1) = ix2 ⟨t.val * 512 + y0.val, by have h := t.isLt; change t.val < 32 at h; omega⟩ y1 := by
    blk_ext [iblk, V, idx t]
  rw [he]
  exact promptRow m c t y0 y1

/-- The sample stream's projection is the reference's. -/
theorem sample (c : Dev nD) : (Run.dats m 0 c).arrAt 8 cfg0.N
    = Cert.Reference5Ideal.Read.val_main_v33 (F := Ideal) (m ((c.tc : Thread nD τ).loc main_arg1)) (m ((c.tc : Thread nD τ).loc main_arg2)) (m ((c.tc : Thread nD τ).loc main_arg3)) := by
  refine (Run.dats m 0 c).arrAt_eq_of_covers 8 _ (by decide +kernel) fun t hf y => ?_
  blk_simp
  rw [Run.after8]
  idx_vars y
  have he : ((View.whole main_v0_1).slice (win0_8.rect t)).emb (ix2 y0 y1) = ix2 y0 y1 := by
    blk_ext [iblk, V, idx t]
  rw [he]
  exact sampleRow m c Run.t0 y0 y1

/-- The window of 128 positions is the reference's. -/
theorem cache128 (c : Dev nD) : (Run.dats m 0 c).arrAt 10 cfg0.N
    = Cert.Reference5Ideal.Read.val_main_v40 (F := Ideal) (m ((c.tc : Thread nD τ).loc main_arg1)) (m ((c.tc : Thread nD τ).loc main_arg2)) (m ((c.tc : Thread nD τ).loc main_arg3)) (m ((c.tc : Thread nD τ).loc main_arg4)) := by
  refine (Run.dats m 0 c).arrAt_eq_of_covers 10 _ (by decide +kernel) fun t hf y => ?_
  blk_simp
  rw [Run.after10]
  idx_vars y
  have he : ((View.whole main_v0_3).slice (win0_10.rect t)).emb (ix3 y0 y1 y2) = ix3 ⟨t.val, by have h := t.isLt; change t.val < 32 at h; omega⟩ y1 y2 := by
    blk_ext [iblk, V, idx t]
  rw [he, Rows.cache128, Cert.Reference5Ideal.Rows.cache128, old128 m c t y1]
  refine congrArg (fun n => shifted _ n y2) (funext fun r => congrArg (fun q => joined 768 1536 _ _ q y1) (funext fun l => ?_))
  rw [sampleRow m c Run.t0]
  refine congrArg (fun s => Cert.Reference5Ideal.Read.val_main_v33 (F := Ideal) _ _ _ (ix2 s l)) (Fin.ext ?_)
  show (grid0.coords t 0).val * 8 + r.val = t.val * 8 + r.val
  rw [coord t]

/-- The window of 512 positions is the reference's. -/
theorem cache512 (c : Dev nD) : (Run.dats m 0 c).arrAt 11 cfg0.N
    = Cert.Reference5Ideal.Read.val_main_v47 (F := Ideal) (m ((c.tc : Thread nD τ).loc main_arg1)) (m ((c.tc : Thread nD τ).loc main_arg2)) (m ((c.tc : Thread nD τ).loc main_arg3)) (m ((c.tc : Thread nD τ).loc main_arg5)) := by
  refine (Run.dats m 0 c).arrAt_eq_of_covers 11 _ (by decide +kernel) fun t hf y => ?_
  blk_simp
  rw [Run.after11]
  idx_vars y
  have he : ((View.whole main_v0_4).slice (win0_11.rect t)).emb (ix3 y0 y1 y2) = ix3 ⟨t.val, by have h := t.isLt; change t.val < 32 at h; omega⟩ y1 y2 := by
    blk_ext [iblk, V, idx t]
  rw [he, Rows.cache512, Cert.Reference5Ideal.Rows.cache512, old512 m c t y1]
  refine congrArg (fun n => shifted _ n y2) (funext fun r => congrArg (fun q => joined 1024 1792 _ _ q y1) (funext fun l => ?_))
  rw [sampleRow m c Run.t0]
  refine congrArg (fun s => Cert.Reference5Ideal.Read.val_main_v33 (F := Ideal) _ _ _ (ix2 s l)) (Fin.ext ?_)
  show (grid0.coords t 0).val * 8 + r.val = t.val * 8 + r.val
  rw [coord t]

/-- The window of 2048 positions is the reference's. -/
theorem cache2048 (c : Dev nD) : (Run.dats m 0 c).arrAt 12 cfg0.N
    = Cert.Reference5Ideal.Read.val_main_v54 (F := Ideal) (m ((c.tc : Thread nD τ).loc main_arg1)) (m ((c.tc : Thread nD τ).loc main_arg2)) (m ((c.tc : Thread nD τ).loc main_arg3)) (m ((c.tc : Thread nD τ).loc main_arg6)) := by
  refine (Run.dats m 0 c).arrAt_eq_of_covers 12 _ (by decide +kernel) fun t hf y => ?_
  blk_simp
  rw [Run.after12]
  idx_vars y
  have he : ((View.whole main_v0_5).slice (win0_12.rect t)).emb (ix3 y0 y1 y2) = ix3 ⟨t.val, by have h := t.isLt; change t.val < 32 at h; omega⟩ y1 y2 := by
    blk_ext [iblk, V, idx t]
  rw [he, Rows.cache2048, Cert.Reference5Ideal.Rows.cache2048, old2048 m c t y1]
  refine congrArg (fun n => shifted _ n y2) (funext fun r => congrArg (fun q => joined 1280 2048 _ _ q y1) (funext fun l => ?_))
  rw [sampleRow m c Run.t0]
  refine congrArg (fun s => Cert.Reference5Ideal.Read.val_main_v33 (F := Ideal) _ _ _ (ix2 s l)) (Fin.ext ?_)
  show (grid0.coords t 0).val * 8 + r.val = t.val * 8 + r.val
  rw [coord t]

/-- The last 128 positions of the prompts are the reference's. -/
theorem tail128 (c : Dev nD) : (Run.dats m 0 c).arrAt 13 cfg0.N
    = Cert.Reference5Ideal.Read.val_main_v60 (F := Ideal) (m ((c.tc : Thread nD τ).loc main_arg0)) (m ((c.tc : Thread nD τ).loc main_arg2)) (m ((c.tc : Thread nD τ).loc main_arg3)) := by
  refine (Run.dats m 0 c).arrAt_eq_of_covers 13 _ (by decide +kernel) fun t hf y => ?_
  have ht : t.val % 16 = 15 := (flush0_13 t).mp hf
  blk_simp
  rw [Run.after13]
  idx_vars y
  have he : ((View.whole main_v0_6).slice (win0_13.rect t)).emb (ix3 y0 y1 y2) = ix3 ⟨t.val / 16, by have h := t.isLt; change t.val < 32 at h; omega⟩ y1 y2 := by
    blk_ext [iblk, V, idx t]
  rw [he, Rows.tail128, Cert.Reference5Ideal.Rows.tail128]
  refine congrArg (fun q => joined 768 1536 _ _ q y1) (funext fun l => ?_)
  rw [promptRow m c t]
  refine congrArg (fun s => Cert.Reference5Ideal.Read.val_main_v17 (F := Ideal) _ _ _ (ix2 s l)) (Fin.ext ?_)
  show t.val * 512 + (384 + y2.val) = t.val / 16 * 8192 + (8064 + y2.val)
  omega

/-- The last 512 positions of the prompts are the reference's. -/
theorem tail512 (c : Dev nD) : (Run.dats m 0 c).arrAt 14 cfg0.N
    = Cert.Reference5Ideal.Read.val_main_v66 (F := Ideal) (m ((c.tc : Thread nD τ).loc main_arg0)) (m ((c.tc : Thread nD τ).loc main_arg2)) (m ((c.tc : Thread nD τ).loc main_arg3)) := by
  refine (Run.dats m 0 c).arrAt_eq_of_covers 14 _ (by decide +kernel) fun t hf y => ?_
  have ht : t.val % 16 = 15 := (flush0_14 t).mp hf
  blk_simp
  rw [Run.after14]
  idx_vars y
  have he : ((View.whole main_v0_7).slice (win0_14.rect t)).emb (ix3 y0 y1 y2) = ix3 ⟨t.val / 16, by have h := t.isLt; change t.val < 32 at h; omega⟩ y1 y2 := by
    blk_ext [iblk, V, idx t]
  rw [he, Rows.tail512, Cert.Reference5Ideal.Rows.tail512]
  refine congrArg (fun q => joined 1024 1792 _ _ q y1) (funext fun l => ?_)
  rw [promptRow m c t]
  refine congrArg (fun s => Cert.Reference5Ideal.Read.val_main_v17 (F := Ideal) _ _ _ (ix2 s l)) (Fin.ext ?_)
  show t.val * 512 + (0 + y2.val) = t.val / 16 * 8192 + (7680 + y2.val)
  omega

/-- The last 2048 positions of the prompts are the reference's. -/
theorem tail2048 (c : Dev nD) : (Run.dats m 0 c).arrAt 15 cfg0.N
    = Cert.Reference5Ideal.Read.val_main_v72 (F := Ideal) (m ((c.tc : Thread nD τ).loc main_arg0)) (m ((c.tc : Thread nD τ).loc main_arg2)) (m ((c.tc : Thread nD τ).loc main_arg3)) := by
  refine (Run.dats m 0 c).arrAt_eq_of_covers 15 _ (by decide +kernel) fun t hf y => ?_
  have ht : 12 ≤ t.val % 16 := (Run.flush0_15 t).mp hf
  blk_simp
  rw [Run.after15]
  idx_vars y
  have he : ((View.whole main_v0_8).slice (win0_15.rect t)).emb (ix3 y0 y1 y2) = ix3 ⟨t.val / 16, by have h := t.isLt; change t.val < 32 at h; omega⟩ y1 ⟨(t.val % 16 - 12) * 512 + y2.val, by have h := t.isLt; change t.val < 32 at h; omega⟩ := by
    blk_ext [iblk, V, idx t]
  rw [he, Rows.tail2048, Cert.Reference5Ideal.Rows.tail2048]
  refine congrArg (fun q => joined 1280 2048 _ _ q y1) (funext fun l => ?_)
  rw [promptRow m c t]
  refine congrArg (fun s => Cert.Reference5Ideal.Read.val_main_v17 (F := Ideal) _ _ _ (ix2 s l)) (Fin.ext ?_)
  show t.val * 512 + (0 + y2.val) = t.val / 16 * 8192 + (6144 + ((t.val % 16 - 12) * 512 + y2.val))
  omega

end Cert.Kernel5Ideal.Stage

end
-- ==== Proof.QkvClaims.lean ====
module

public import proofs.«01_k».proof.Proof.QkvStage
public import proofs.«01_k».proof.Proof.Gen.Reference5Ideal.Run
public import proofs.«01_k».proof.Proof.Gen.Reference5Ideal.Read
public import proofs.«01_k».proof.Defs
public import Idealize.ShloMosaic.Lib.Claim

@[expose] public section

set_option maxRecDepth 16384

noncomputable section

/-! The projection: the statements about the reference and about the pair. -/

namespace Cert.QkvClaims

open Idealize.ShloMosaic Idealize.SL.Sem

instance : Cert.Kernel5Ideal.Facts := Cert.Kernel5Ideal.Gen.facts
instance : Cert.Reference5Ideal.Facts := Cert.Reference5Ideal.Gen.facts

section
open Cert.Reference5Ideal

/-- The reference ends with each result at its composed term of the arguments, which are unchanged. -/
theorem reference_run (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v17) = Cert.Reference5Ideal.Read.val_main_v17 (F := Ideal) (m' ((c.tc : Thread nD τ).loc main_arg0)) (m' ((c.tc : Thread nD τ).loc main_arg2)) (m' ((c.tc : Thread nD τ).loc main_arg3))
      ∧ r.2.mem ((c.tc : Thread nD τ).loc main_v33) = Cert.Reference5Ideal.Read.val_main_v33 (F := Ideal) (m' ((c.tc : Thread nD τ).loc main_arg1)) (m' ((c.tc : Thread nD τ).loc main_arg2)) (m' ((c.tc : Thread nD τ).loc main_arg3))
      ∧ r.2.mem ((c.tc : Thread nD τ).loc main_v40) = Cert.Reference5Ideal.Read.val_main_v40 (F := Ideal) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v47) = Cert.Reference5Ideal.Read.val_main_v47 (F := Ideal) (m' ((c.tc : Thread nD τ).loc main_arg1)) (m' ((c.tc : Thread nD τ).loc main_arg2)) (m' ((c.tc : Thread nD τ).loc main_arg3)) (m' ((c.tc : Thread nD τ).loc main_arg5))
      ∧ r.2.mem ((c.tc : Thread nD τ).loc main_v54) = Cert.Reference5Ideal.Read.val_main_v54 (F := Ideal) (m' ((c.tc : Thread nD τ).loc main_arg1)) (m' ((c.tc : Thread nD τ).loc main_arg2)) (m' ((c.tc : Thread nD τ).loc main_arg3)) (m' ((c.tc : Thread nD τ).loc main_arg6))
      ∧ r.2.mem ((c.tc : Thread nD τ).loc main_v60) = Cert.Reference5Ideal.Read.val_main_v60 (F := Ideal) (m' ((c.tc : Thread nD τ).loc main_arg0)) (m' ((c.tc : Thread nD τ).loc main_arg2)) (m' ((c.tc : Thread nD τ).loc main_arg3))
      ∧ r.2.mem ((c.tc : Thread nD τ).loc main_v66) = Cert.Reference5Ideal.Read.val_main_v66 (F := Ideal) (m' ((c.tc : Thread nD τ).loc main_arg0)) (m' ((c.tc : Thread nD τ).loc main_arg2)) (m' ((c.tc : Thread nD τ).loc main_arg3))
      ∧ r.2.mem ((c.tc : Thread nD τ).loc main_v72) = Cert.Reference5Ideal.Read.val_main_v72 (F := Ideal) (m' ((c.tc : Thread nD τ).loc main_arg0)) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono (fun r h c => ⟨(h c).1.trans (Cert.Reference5Ideal.Read.val_main_v17_eq (m' ((c.tc : Thread nD τ).loc main_arg0)) (m' ((c.tc : Thread nD τ).loc main_arg2)) (m' ((c.tc : Thread nD τ).loc main_arg3))),
      (h c).2.1.trans (Cert.Reference5Ideal.Read.val_main_v33_eq (m' ((c.tc : Thread nD τ).loc main_arg1)) (m' ((c.tc : Thread nD τ).loc main_arg2)) (m' ((c.tc : Thread nD τ).loc main_arg3))),
      (h c).2.2.1.trans (Cert.Reference5Ideal.Read.val_main_v40_eq (m' ((c.tc : Thread nD τ).loc main_arg1)) (m' ((c.tc : Thread nD τ).loc main_arg2)) (m' ((c.tc : Thread nD τ).loc main_arg3)) (m' ((c.tc : Thread nD τ).loc main_arg4))),
      (h c).2.2.2.1.trans (Cert.Reference5Ideal.Read.val_main_v47_eq (m' ((c.tc : Thread nD τ).loc main_arg1)) (m' ((c.tc : Thread nD τ).loc main_arg2)) (m' ((c.tc : Thread nD τ).loc main_arg3)) (m' ((c.tc : Thread nD τ).loc main_arg5))),
      (h c).2.2.2.2.1.trans (Cert.Reference5Ideal.Read.val_main_v54_eq (m' ((c.tc : Thread nD τ).loc main_arg1)) (m' ((c.tc : Thread nD τ).loc main_arg2)) (m' ((c.tc : Thread nD τ).loc main_arg3)) (m' ((c.tc : Thread nD τ).loc main_arg6))),
      (h c).2.2.2.2.2.1.trans (Cert.Reference5Ideal.Read.val_main_v60_eq (m' ((c.tc : Thread nD τ).loc main_arg0)) (m' ((c.tc : Thread nD τ).loc main_arg2)) (m' ((c.tc : Thread nD τ).loc main_arg3))),
      (h c).2.2.2.2.2.2.1.trans (Cert.Reference5Ideal.Read.val_main_v66_eq (m' ((c.tc : Thread nD τ).loc main_arg0)) (m' ((c.tc : Thread nD τ).loc main_arg2)) (m' ((c.tc : Thread nD τ).loc main_arg3))),
      (h c).2.2.2.2.2.2.2.1.trans (Cert.Reference5Ideal.Read.val_main_v72_eq (m' ((c.tc : Thread nD τ).loc main_arg0)) (m' ((c.tc : Thread nD τ).loc main_arg2)) (m' ((c.tc : Thread nD τ).loc main_arg3))),
      (h c).2.2.2.2.2.2.2.2⟩)
    (Cert.Reference5Ideal.Value.run (F := Ideal) m' g')

end

/-- The reference ends, with its arguments unchanged and every counter at zero. -/
theorem reference_frame : quiescent_Reference5Ideal := fun m g _ =>
  (θ_run Cert.Reference5Ideal.defs _ _).mono (fun r h => ⟨fun c => (h c).2.2.2.2.2.2.2.2, sem_eq_zero_of_no_sems (by decide) r.2⟩)
    (reference_run m g)

/-- Every result of the stage is, over the extended reals, the reference's. -/
theorem pair : algebraic_Kernel5Ideal_Reference5Ideal := by
  pair_intro
  · run_from Cert.Kernel5Ideal.Run.run_blocks m g
  · run_from reference_run m' g'
    · rw [Cert.Kernel5Ideal.Stage.prompt m c]
    · rw [Cert.Kernel5Ideal.Stage.sample m c]
    · rw [Cert.Kernel5Ideal.Stage.cache128 m c]
    · rw [Cert.Kernel5Ideal.Stage.cache512 m c]
    · rw [Cert.Kernel5Ideal.Stage.cache2048 m c]
    · rw [Cert.Kernel5Ideal.Stage.tail128 m c]
    · rw [Cert.Kernel5Ideal.Stage.tail512 m c]
    · rw [Cert.Kernel5Ideal.Stage.tail2048 m c]

end Cert.QkvClaims

end
-- ==== Proof.QkvPrinted.lean ====
/- Kernel5 and Kernel5Ideal are one text, which is generic in its elements, printed under two names. So the two body
   tables agree at any elements, and the frame of the printed call at the machine's elements is the generic frame of
   QkvRun. -/
module

public import proofs.«01_k».proof.Proof.QkvRun
public import proofs.«01_k».proof.Proof.Gen.Kernel5.Skeleton
public import proofs.«01_k».proof.Defs

@[expose] public section

set_option maxRecDepth 16384

noncomputable section

namespace Cert.Kernel5.Run

open Idealize.ShloMosaic Idealize.SL.Sem

instance : Cert.Kernel5.Facts := Cert.Kernel5.Gen.facts

/-- The two bodies are the same program. -/
theorem body_eq : @Cert.Kernel5.cc0_qkv_proj_sample_attn Bits _ _ = @Cert.Kernel5Ideal.cc0_qkv_proj_sample_attn Bits _ _ := rfl

set_option maxHeartbeats 4000000 in
/-- The two tables of bodies agree, at the one label they have. -/
theorem defs₀_eq : Cert.Kernel5.defs₀ (F := Bits) = Cert.Kernel5Ideal.defs₀ (F := Bits) := by
  refine congrArg _ (funext fun l => funext fun a => ?_)
  match l, a with
  | 0, (_, _) =>
    dsimp only
    rw [body_eq]
    exact rfl
  | ⟨_ + 1, h⟩, _ => exact absurd h (Nat.not_lt.2 (Nat.le_add_left _ _))

/-- And so do the tables with the pipeline's labels added. -/
theorem defs_eq : Cert.Kernel5.defs (F := Bits) = Cert.Kernel5Ideal.defs (F := Bits) :=
  congrArg (Pipeline.defs Cert.Kernel5.pcfgs) defs₀_eq

/-- The printed call ends with its arguments unchanged and every counter at zero. -/
theorem frame : quiescent_Kernel5 := by
  intro m ρ _
  rw [defs_eq]
  exact Cert.Kernel5Ideal.Run.frame (F := Bits) m ρ

end Cert.Kernel5.Run

end
-- ==== Proof.ScanRun.lean ====
module

public import proofs.«01_k».proof.Proof.Gen.Kernel6Ideal.Skeleton
public import proofs.«01_k».proof.Proof.Gen.Kernel6Ideal.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- The body's run at a point, the staged blocks at the raw contents `f0` … `f5`: its stores to the final states'
    buffer, last first, found by the run, and its triple. -/
def kernelRun (c : Dev nD) (arg1 : Memref sig .tc .vmem S4x256x128 .f32) (harg1 : arg1.IsWhole) (arg2 : Memref sig .tc .vmem S4x16x1024 .f32) (harg2 : arg2.IsWhole) (arg3 : Memref sig .tc .vmem S4x16x1024 .f32) (harg3 : arg3.IsWhole) (arg4 : Memref sig .tc .vmem S4x34x512 .f32) (harg4 : arg4.IsWhole) (arg5 : Memref sig .tc .vmem S4x1x128 .f32) (harg5 : arg5.IsWhole) (arg6 : Memref sig .tc .vmem S4x32x1024 .f32) (harg6 : arg6.IsWhole) (arg7 : Memref sig .tc .vmem S4x256x128 .f32) (harg7 : arg7.IsWhole) (arg8 : Memref sig .tc .vmem S4x32x1024 .f32) (harg8 : arg8.IsWhole) (arg9 : Memref sig .tc .vmem S4x256x1024 .f32) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S4x256x128 .bf16) (harg12 : arg12.IsWhole) (f0 : Buf (Elt F) (arg1.view.loc (c : Thread nD τ))) (f1 : Buf (Elt F) (arg2.view.loc (c : Thread nD τ))) (f2 : Buf (Elt F) (arg3.view.loc (c : Thread nD τ))) (f3 : Buf (Elt F) (arg4.view.loc (c : Thread nD τ))) (f4 : Buf (Elt F) (arg5.view.loc (c : Thread nD τ))) (f5 : Buf (Elt F) (arg6.view.loc (c : Thread nD τ))) :
    { L : List (View.Piece (Elt F) S4x32x1024 .f32) // ∀ (f7 : Buf (Elt F) (arg8.view.loc (c : Thread nD τ))) (E : Set ℕ) (i : grid0.Coords) (K : PUnit → sProp 𝕄),
      iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (∃ g, (arg7.view.loc (c : Thread nD τ) ↦[arg7.view.set]{fullShare} g)) ∗ (arg8.view.loc (c : Thread nD τ) ↦[arg8.view.set]{fullShare} f7) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))
        ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (∃ g, (arg7.view.loc (c : Thread nD τ) ↦[arg7.view.set]{fullShare} g)) ∗ (arg8.view.loc (c : Thread nD τ) ↦[arg8.view.set]{fullShare} (arg8.view.writes (Elt F) f7 L)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) -∗ K ⟨⟩))
      ⊢ wp frame (wpE (defs₀ (F := F)) Variants.none c none) E (cc0_ssm_scan_rows i arg1 harg1 arg2 harg2 arg3 harg3 arg4 harg4 arg5 harg5 arg6 harg6 arg7 harg7 arg8 harg8 arg9 harg9 arg10 harg10 arg11 harg11 arg12 harg12) K } := by
  refine ⟨?_, fun f7 E i K => ?run⟩
  case run =>
    simp only [cc0_ssm_scan_rows_eq_skeleton]; unfold cc0_ssm_scan_rows_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    simp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel]
    iintro ⟨H0, H1, H2, H3, H4, H5, ⟨%f6, H6⟩, H7, ⟨%f8, H8⟩, ⟨%f9, H9⟩, ⟨%f10, H10⟩, ⟨%f11, H11⟩, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [H10]; · iexists _; iexact H10
    iexists _; iexact H11

end Cert.Kernel6Ideal.Run

end
-- ==== Proof.ScanTable.lean ====
/- One block of the sample scan's drive: the rows of a block multiplied by its input table, which the body spreads over
   the block's eight groups. At an index it is the sum over the sixteen channels of the index's own group. -/
module

public import proofs.«01_k».proof.Proof.Gen.Kernel6Ideal.Skeleton
public import Idealize.ShloMosaic.Lib.Pipeline.ValueKit
public import Idealize.ShloMosaic.Lib.Pipeline.Value

@[expose] public section

set_option maxRecDepth 16384

noncomputable section

namespace Cert.Kernel6Ideal.Table

open Cert.Kernel6Ideal Cert.Kernel6Ideal.Gen Idealize.ShloMosaic

variable {F : FTy → Type} [FloatOps F]

/-- A word vector divided by `d`, rounded down. -/
def floorDiv (v : IVec S128x512 32) (d : BitVec 32) : IVec S128x512 32 :=
  select (andi (cmpi .ne (subi (extui 32 (cmpi .sgt v (broadcast S128x512 0#32)) natLt_1_32) (extui 32 (cmpi .slt v (broadcast S128x512 0#32)) natLt_1_32))
      (broadcast S128x512 (Scalar.subi (Scalar.extui (Scalar.cmpi .sgt d 0#32)) (Scalar.extui (Scalar.cmpi .slt d 0#32)))))
    (cmpi .ne (remsi v (broadcast S128x512 d)) (broadcast S128x512 0#32)))
    (subi (divsi v (broadcast S128x512 d)) (broadcast S128x512 1#32)) (divsi v (broadcast S128x512 d))

/-- A table of sixteen channels spread over the block's eight groups: zero off the index's own group. -/
def spread (x : Vec F S16x512 .f32) : FVec F S128x512 .f32 :=
  select (cmpi .eq (floorDiv (iota .tc S128x512 32 [0] iota_S128x512_d0_w32) 16#32) (floorDiv (iota .tc S128x512 32 [1] iota_S128x512_d1_w32) 64#32))
    (concatenate S128x512 0 [⟨S16x512, x⟩, ⟨S16x512, x⟩, ⟨S16x512, x⟩, ⟨S16x512, x⟩, ⟨S16x512, x⟩, ⟨S16x512, x⟩, ⟨S16x512, x⟩, ⟨S16x512, x⟩] concatenates_S16x512_S16x512_S16x512_S16x512_S16x512_S16x512_S16x512_S16x512_S128x512_d0)
    (broadcast S128x512 (Scalar.ofBits .f32 0x00000000#32))

/-- The drive of one block. -/
def drive (ud : Vec F S1x256x128 .bf16) (re im : Vec F S16x512 .f32) : FVec F S1x256x1024 .f32 :=
  shapeCast S1x256x1024 (matmul dot_S256x128_S128x1024_S256x1024_1_0_0_1_n_n none (shapeCast S256x128 ud shapeCasts_S1x256x128_S256x128)
    (truncf .bf16 (concatenate S128x1024 1 [⟨S128x512, spread re⟩, ⟨S128x512, spread im⟩] concatenates_S128x512_S128x512_S128x1024_d1) bitsLt_bf16_f32)
    (constant S256x1024 .f32 0x00000000#32)) shapeCasts_S256x1024_S1x256x1024

/-- The row's group. -/
theorem rowGroup (l : Fin 128) (n : Fin 512) :
    floorDiv (iota .tc S128x512 32 [0] iota_S128x512_d0_w32) 16#32 (ix2 l n) = BitVec.ofNat 32 (l.val / 16) := by
  have h : ∀ l : Fin 128, floorDiv (iota .tc S128x512 32 [0] iota_S128x512_d0_w32) 16#32 (ix2 l 0) = BitVec.ofNat 32 (l.val / 16) := by decide +kernel
  exact h l

/-- The lane's group. -/
theorem laneGroup (l : Fin 128) (n : Fin 512) :
    floorDiv (iota .tc S128x512 32 [1] iota_S128x512_d1_w32) 64#32 (ix2 l n) = BitVec.ofNat 32 (n.val / 64) := by
  have h : ∀ n : Fin 512, floorDiv (iota .tc S128x512 32 [1] iota_S128x512_d1_w32) 64#32 (ix2 0 n) = BitVec.ofNat 32 (n.val / 64) := by decide +kernel
  exact h n

/-- An element of the spread table. -/
theorem spread_apply (x : Vec Ideal S16x512 .f32) (l : Fin 128) (n : Fin 512) :
    spread (F := Ideal) x (ix2 l n) = if l.val / 16 = n.val / 64 then x (ix2 ⟨l.val % 16, by omega⟩ n) else (0 : EReal) := by
  have hc : concatenate S128x512 0 [⟨S16x512, x⟩, ⟨S16x512, x⟩, ⟨S16x512, x⟩, ⟨S16x512, x⟩, ⟨S16x512, x⟩, ⟨S16x512, x⟩, ⟨S16x512, x⟩, ⟨S16x512, x⟩] concatenates_S16x512_S16x512_S16x512_S16x512_S16x512_S16x512_S16x512_S16x512_S128x512_d0 (ix2 l n)
      = x (ix2 ⟨l.val % 16, by omega⟩ n) :=
    concatenate_replicate_apply (t := S128x512) (s₁ := S16x512) 0 8 x _ rfl (ix2 l n) (ix2 ⟨l.val % 16, by omega⟩ n) rfl (fun b hb => by
      match b with
      | ⟨0, _⟩ => exact absurd rfl hb
      | ⟨1, _⟩ => rfl)
  have hm : (cmpi .eq (floorDiv (iota .tc S128x512 32 [0] iota_S128x512_d0_w32) 16#32) (floorDiv (iota .tc S128x512 32 [1] iota_S128x512_d1_w32) 64#32) (ix2 l n) = 1#1) ↔ l.val / 16 = n.val / 64 := by
    show (IntOp.cmpi .eq (floorDiv (iota .tc S128x512 32 [0] iota_S128x512_d0_w32) 16#32 (ix2 l n)) (floorDiv (iota .tc S128x512 32 [1] iota_S128x512_d1_w32) 64#32 (ix2 l n)) = 1#1) ↔ _
    rw [rowGroup, laneGroup]
    have h : ∀ a b : Fin 8, (IntOp.cmpi .eq (BitVec.ofNat 32 a.val) (BitVec.ofNat 32 b.val) = 1#1) ↔ a.val = b.val := by decide
    exact h ⟨l.val / 16, by omega⟩ ⟨n.val / 64, by omega⟩
  have hz : broadcast S128x512 (Scalar.ofBits (F := Ideal) .f32 0x00000000#32) (ix2 l n) = (0 : EReal) := by pointwise
  have hs : ∀ (c : BitVec 1) (a b : EReal), (c = 1#1 ↔ l.val / 16 = n.val / 64) → Scalar.select c a b = if l.val / 16 = n.val / 64 then a else b := by
    intro c a b h
    by_cases hp : l.val / 16 = n.val / 64
    · rw [if_pos hp]; exact if_pos (h.mpr hp)
    · rw [if_neg hp]; exact if_neg (fun e => hp (h.mp e))
  refine (hs _ _ _ hm).trans ?_
  rw [hc, hz]

/-- A sum over the lanes that vanishes off one group is the sum over that group's sixteen channels. -/
theorem sum_group (f : Fin 128 → EReal) (x : Fin 16 → EReal) (g : Fin 8) :
    ∑ l : Fin 128, f l * (if l.val / 16 = g.val then x ⟨l.val % 16, by omega⟩ else 0)
      = ∑ k : Fin 16, f ⟨g.val * 16 + k.val, by omega⟩ * x k := by
  rw [← Equiv.sum_comp (finProdFinEquiv (m := 8) (n := 16)), Fintype.sum_prod_type, Finset.sum_eq_single g]
  · refine Finset.sum_congr rfl fun k _ => ?_
    have h : (finProdFinEquiv (m := 8) (n := 16) (g, k)).val = k.val + 16 * g.val := rfl
    have h1 : (finProdFinEquiv (m := 8) (n := 16) (g, k)).val / 16 = g.val := by omega
    have h2 : (⟨(finProdFinEquiv (m := 8) (n := 16) (g, k)).val % 16, by omega⟩ : Fin 16) = k := Fin.ext (by show _ % 16 = _; omega)
    have h3 : (finProdFinEquiv (m := 8) (n := 16) (g, k) : Fin 128) = ⟨g.val * 16 + k.val, by omega⟩ := Fin.ext (by show _ = g.val * 16 + k.val; omega)
    rw [if_pos h1, h2, h3]
  · intro b _ hb
    refine Finset.sum_eq_zero fun k _ => ?_
    have h : (finProdFinEquiv (m := 8) (n := 16) (b, k)).val = k.val + 16 * b.val := rfl
    rw [if_neg (fun e => hb (Fin.ext (by omega))), mul_zero]
  · simp

/-- An element of one block's drive. -/
theorem drive_apply (ud : Vec Ideal S1x256x128 .bf16) (re im : Vec Ideal S16x512 .f32) (r : Fin 256) (n : Fin 1024) :
    drive (F := Ideal) ud re im (ix3 0 r n) = ∑ k : Fin 16, ud (ix3 0 r ⟨n.val % 512 / 64 * 16 + k.val, by omega⟩)
      * (if n.val < 512 then re (ix2 k ⟨n.val % 512, by omega⟩) else im (ix2 k ⟨n.val % 512, by omega⟩)) := by
  pointwise [drive]
  by_cases h : n.val < 512
  · have e : n.val % 512 = n.val := by omega
    simp only [h, dif_pos, if_pos, spread_apply, e]
    exact sum_group (fun l => ud (ix3 0 r l)) (fun k => re (ix2 k ⟨n.val, h⟩)) ⟨n.val / 64, by omega⟩
  · have e : n.val % 512 = n.val - 512 := by omega
    simp only [h, dif_neg, if_neg, not_false_eq_true, spread_apply, e]
    exact sum_group (fun l => ud (ix3 0 r l)) (fun k => im (ix2 k ⟨n.val - 512, by omega⟩)) ⟨(n.val - 512) / 64, by omega⟩

end Cert.Kernel6Ideal.Table

end
-- ==== Proof.ScanStores.lean ====
/- What the sample scan's body leaves as the final states: its stores, read one by one, are eight steps of the plain
   recurrence from the states it loads. -/
module

public import proofs.«01_k».proof.Proof.ScanRun
public import proofs.«01_k».proof.Proof.ScanTable
public import Idealize.ShloMosaic.Lib.Exec.Geometry
public import Idealize.ShloMosaic.Lib.Pipeline.ValueKit
public import Idealize.ShloMosaic.Lib.Pipeline.Value
public import Idealize.ShloMosaic.Lib.Pipeline.FrameBody

@[expose] public section

set_option maxRecDepth 16384

noncomputable section

namespace Cert.Kernel6Ideal.Stores

open Cert.Kernel6Ideal Cert.Kernel6Ideal.Gen Cert.Kernel6Ideal.Table Cert.Kernel6Ideal.Run
open Idealize.ShloMosaic Idealize.ShloMosaic.TcCoe Idealize.SL.Sem

/-! ## The recurrence -/

/-- One step of a state's real and imaginary part. -/
def step (l li : EReal) (p b : EReal × EReal) : EReal × EReal :=
  (l * p.1 - li * p.2 + b.1, l * p.2 + li * p.1 + b.2)

/-- The same step of thirty-two sequences' states, by the body's operations. -/
def stepV (l li : Vec Ideal S32x512 .f32) (p b : Vec Ideal S32x512 .f32 × Vec Ideal S32x512 .f32) : Vec Ideal S32x512 .f32 × Vec Ideal S32x512 .f32 :=
  (addf (F := Ideal) (φ := .f32) (subf (F := Ideal) (φ := .f32) (mulf (F := Ideal) (φ := .f32) l p.1) (mulf (F := Ideal) (φ := .f32) li p.2)) b.1,
    addf (F := Ideal) (φ := .f32) (addf (F := Ideal) (φ := .f32) (mulf (F := Ideal) (φ := .f32) l p.2) (mulf (F := Ideal) (φ := .f32) li p.1)) b.2)

/-- The rows in the order of the scan: time first, then sequence. -/
def rowsOf (x0 : Vec Ideal S4x256x128 .f32) : Vec Ideal S4x256x128 .bf16 := fun y =>
  x0 (ix3 (y 0) ⟨(y 1).val % 32 * 8 + (y 1).val / 32, by have h : (y 1).val < 256 := (y 1).isLt; omega⟩ (y 2))

/-- The drive of every block. -/
def driveOf (x0 : Vec Ideal S4x256x128 .f32) (x1 : Vec Ideal S4x16x1024 .f32) : Vec Ideal S4x256x1024 .f32 := fun y =>
  ∑ k : Fin 16, rowsOf x0 (ix3 (y 0) (y 1) ⟨(y 2).val % 512 / 64 * 16 + k.val, by omega⟩) * x1 (ix3 (y 0) k (y 2))

/-- The drive of one state at step `t`. -/
def driveAt (x0 : Vec Ideal S4x256x128 .f32) (x1 : Vec Ideal S4x16x1024 .f32) (k : Fin 4) (s : Fin 32) (m : Fin 512) (t : Fin 8) : EReal × EReal :=
  (driveOf x0 x1 (ix3 k ⟨32 * t.val + s.val, by omega⟩ ⟨m.val, by omega⟩), driveOf x0 x1 (ix3 k ⟨32 * t.val + s.val, by omega⟩ ⟨512 + m.val, by omega⟩))

/-- One state after `t` steps. -/
def part (x0 : Vec Ideal S4x256x128 .f32) (x1 : Vec Ideal S4x16x1024 .f32) (x3 : Vec Ideal S4x34x512 .f32) (x5 : Vec Ideal S4x32x1024 .f32)
    (k : Fin 4) (s : Fin 32) (m : Fin 512) : ℕ → EReal × EReal
  | 0 => (x5 (ix3 k s ⟨m.val, by omega⟩), x5 (ix3 k s ⟨512 + m.val, by omega⟩))
  | t + 1 => step (x3 (ix3 k 1 m)) (x3 (ix3 k 18 m)) (part x0 x1 x3 x5 k s m t) (if h : t < 8 then driveAt x0 x1 k s m ⟨t, h⟩ else (0, 0))

/-- The final states: the real parts in the first half of the lanes, the imaginary parts in the second. -/
def statesOf (x0 : Vec Ideal S4x256x128 .f32) (x1 : Vec Ideal S4x16x1024 .f32) (x3 : Vec Ideal S4x34x512 .f32) (x5 : Vec Ideal S4x32x1024 .f32) :
    Vec Ideal S4x32x1024 .f32 := fun y =>
  if (y 2).val < 512 then (part x0 x1 x3 x5 (y 0) (y 1) ⟨(y 2).val % 512, by omega⟩ 8).1 else (part x0 x1 x3 x5 (y 0) (y 1) ⟨(y 2).val % 512, by omega⟩ 8).2

/-! ## Loads and stores through one block of a buffer -/

/-- A load through one block of a buffer reads the buffer at the block's number and the load's own place. -/
theorem load_idx {D A B : Nat} {V : Type} (k : Nat) (p) (lr : LoadRect ⟨2, ![A, B]⟩) (h0 hs q) (hR)
    (g : (⟨3, ![D, A, B]⟩ : Shape).Idx → V) (x : lr.shape.Idx) (i : (⟨3, ![D, A, B]⟩ : Shape).Idx)
    (hi0 : (i 0).val = k) (hi1 : (i 1).val = lr.off 0 + lr.stride 0 * (x 0).val) (hi2 : (i 2).val = lr.off 1 + lr.stride 1 * (x 1).val) :
    LoadRect.valAlong (lr := lr) hR (fun j => g (((Rect.unit (s := ⟨3, ![D, A, B]⟩) ![k, 0, 0] ![1, A, B] p).withinL (lr.consLift ![1, A, B] h0 hs) q).idx j)) x = g i := by
  show g _ = g i
  congr 1
  have hx : Shape.reshapeEquiv hR x = Fin.cons ⟨0, Nat.one_pos⟩ x := Shape.reshapeEquiv_cons_one (d := lr.size) _ _
  rw [hx]
  funext a
  apply Fin.ext
  match a with
  | ⟨0, _⟩ => show k + 0 + 1 * 0 = (i 0).val; omega
  | ⟨1, _⟩ => show 0 + lr.off 0 + lr.stride 0 * (x 0).val = (i 1).val; omega
  | ⟨2, _⟩ => show 0 + lr.off 1 + lr.stride 1 * (x 1).val = (i 2).val; omega

/-- A store through one block of a buffer holds a vector that is the block's part of one function of the buffer. -/
theorem store_idx {D A B : Nat} {V : Type} (k : Nat) (p) (r : Rect ⟨2, ![A, B]⟩) (h0 hs q) (hR)
    (g : (⟨3, ![D, A, B]⟩ : Shape).Idx → V) (w : r.shape.Idx → V)
    (hw : ∀ x : r.shape.Idx, ∀ i : (⟨3, ![D, A, B]⟩ : Shape).Idx, (i 0).val = k → (i 1).val = r.off 0 + r.stride 0 * (x 0).val →
      (i 2).val = r.off 1 + r.stride 1 * (x 1).val → w x = g i) (y) :
    Rect.payAlong (r := r) (R := (Rect.unit (s := ⟨3, ![D, A, B]⟩) ![k, 0, 0] ![1, A, B] p).within (r.consLift ![1, A, B] h0 hs) q) hR w y
      = g (((Rect.unit (s := ⟨3, ![D, A, B]⟩) ![k, 0, 0] ![1, A, B] p).within (r.consLift ![1, A, B] h0 hs) q).emb y) := by
  have e : Shape.reshapeEquiv hR.symm (Shape.reshapeEquiv hR y) = y := by
    rw [← Shape.reshapeEquiv_symm]; exact (Shape.reshapeEquiv hR).symm_apply_apply y
  have h : y = Fin.cons ⟨0, Nat.one_pos⟩ (Shape.reshapeEquiv hR y) :=
    e.symm.trans (Shape.reshapeEquiv_cons_one (d := r.size) hR.symm (Shape.reshapeEquiv hR y))
  refine hw _ _ ?_ ?_ ?_
  · have h : (y 0).val < 1 := (y 0).isLt
    show k + 0 + 1 * (y 0).val = k; omega
  · have h : (y 1).val = ((Shape.reshapeEquiv hR y) 0).val := congrArg (fun y => (y 1).val) h
    show 0 + r.off 0 + r.stride 0 * (y 1).val = r.off 0 + r.stride 0 * _
    rw [h]; omega
  · have h : (y 2).val = ((Shape.reshapeEquiv hR y) 1).val := congrArg (fun y => (y 2).val) h
    show 0 + r.off 1 + r.stride 1 * (y 2).val = r.off 1 + r.stride 1 * _
    rw [h]; omega

/-! ## The rows -/

/-- The cast a group of rows is stored with. -/
def rowCast (v : Vec Ideal S32x128 .f32) : Vec Ideal S1x32x128 .bf16 :=
  shapeCast S1x32x128 (shapeCast S32x128 (truncf (F := Ideal) (φ := .f32) .bf16 v bitsLt_bf16_f32) shapeCasts_S32x128_S32x128) shapeCasts_S32x128_S1x32x128

theorem rowCast_apply (v : Vec Ideal S32x128 .f32) (s : Fin 32) (l : Fin 128) : rowCast v (ix3 0 s l) = v (ix2 s l) := by
  pointwise [rowCast]

section
variable {c : Dev nD} {arg1 : Memref sig .tc .vmem S4x256x128 .f32} {arg2 : Memref sig .tc .vmem S4x16x1024 .f32}
  {arg4 : Memref sig .tc .vmem S4x34x512 .f32} {arg6 : Memref sig .tc .vmem S4x32x1024 .f32} {arg9 : Memref sig .tc .vmem S4x256x1024 .f32}
  {arg12 : Memref sig .tc .vmem S4x256x128 .bf16}
  {f0 : Buf (Elt Ideal) (arg1.view.loc (c : Thread nD τ))} {f1 : Buf (Elt Ideal) (arg2.view.loc (c : Thread nD τ))}
  {f3 : Buf (Elt Ideal) (arg4.view.loc (c : Thread nD τ))} {f5 : Buf (Elt Ideal) (arg6.view.loc (c : Thread nD τ))}

/-- The rows of step `j` of block `k`, as they are stored. -/
theorem row_piece (k j : ℕ) (hj : j < 8) (inb p q' h0 hs q hR) :
    ∀ x : (Rect.unit (s := S4x256x128) ![k, 32 * j, 0] S1x32x128.size inb).shape.Idx,
      rowCast (LoadRect.valAlong (lr := (⟨![j, 0], S32x128.size, ![8, 1], q'⟩ : LoadRect S256x128)) hR
        (View.readAt (Elt Ideal) arg1.view ((Rect.unit (s := S4x256x128) ![k, 0, 0] S1x256x128.size p).withinL
          ((⟨![j, 0], S32x128.size, ![8, 1], q'⟩ : LoadRect S256x128).consLift ![1, 256, 128] h0 hs) q) f0)) x
        = rowsOf (arg1.view.read (Elt Ideal) f0) ((Rect.unit (s := S4x256x128) ![k, 32 * j, 0] S1x32x128.size inb).emb x) := by
  intro x
  obtain ⟨a, s, l, rfl⟩ : ∃ (a : Fin 1) (s : Fin 32) (l : Fin 128), x = ix3 a s l := ⟨x 0, x 1, x 2, by funext i; fin_cases i <;> rfl⟩
  obtain rfl : a = 0 := Subsingleton.elim _ _
  have hk : k < 4 := by have h := p 0; change k + 1 ≤ 4 at h; omega
  refine (rowCast_apply _ s l).trans ?_
  refine (load_idx (D := 4) (A := 256) (B := 128) k p _ h0 hs q hR (arg1.view.read (Elt Ideal) f0) _
    (ix3 ⟨k, hk⟩ ⟨s.val * 8 + j, by omega⟩ l) rfl ?_ ?_).trans ?_
  · show s.val * 8 + j = j + 8 * s.val; omega
  · show l.val = 0 + 1 * l.val; omega
  · refine congrArg (arg1.view.read (Elt Ideal) f0) ?_
    have h1 : (32 * j + 1 * s.val) % 32 * 8 + (32 * j + 1 * s.val) / 32 = s.val * 8 + j := by omega
    funext i
    apply Fin.ext
    match i with
    | ⟨0, _⟩ => show k = k + 1 * 0; omega
    | ⟨1, _⟩ => show s.val * 8 + j = (32 * j + 1 * s.val) % 32 * 8 + (32 * j + 1 * s.val) / 32; omega
    | ⟨2, _⟩ => show l.val = 0 + 1 * l.val; omega

/-- The rows stored by the end of block 0. -/
theorem rows0 : ∀ p ∈ kernelRun.sl.H11_8 (F := Ideal) c arg1 f0, ∀ x : p.1.shape.Idx, p.2 x = rowsOf (arg1.view.read (Elt Ideal) f0) (p.1.emb x) :=
  List.forall_mem_cons.mpr ⟨row_piece 0 7 (by omega) (by decide) _ _ _ _ _ _, List.forall_mem_cons.mpr ⟨row_piece 0 6 (by omega) (by decide) _ _ _ _ _ _, List.forall_mem_cons.mpr ⟨row_piece 0 5 (by omega) (by decide) _ _ _ _ _ _, List.forall_mem_cons.mpr ⟨row_piece 0 4 (by omega) (by decide) _ _ _ _ _ _, List.forall_mem_cons.mpr ⟨row_piece 0 3 (by omega) (by decide) _ _ _ _ _ _, List.forall_mem_cons.mpr ⟨row_piece 0 2 (by omega) (by decide) _ _ _ _ _ _, List.forall_mem_cons.mpr ⟨row_piece 0 1 (by omega) (by decide) _ _ _ _ _ _, List.forall_mem_cons.mpr ⟨row_piece 0 0 (by omega) (by decide) _ _ _ _ _ _, fun p hp => absurd hp List.not_mem_nil⟩⟩⟩⟩⟩⟩⟩⟩

/-- The rows stored by the end of block 1. -/
theorem rows1 : ∀ p ∈ kernelRun.sl.H11_16 (F := Ideal) c arg1 f0, ∀ x : p.1.shape.Idx, p.2 x = rowsOf (arg1.view.read (Elt Ideal) f0) (p.1.emb x) :=
  List.forall_mem_cons.mpr ⟨row_piece 1 7 (by omega) (by decide) _ _ _ _ _ _, List.forall_mem_cons.mpr ⟨row_piece 1 6 (by omega) (by decide) _ _ _ _ _ _, List.forall_mem_cons.mpr ⟨row_piece 1 5 (by omega) (by decide) _ _ _ _ _ _, List.forall_mem_cons.mpr ⟨row_piece 1 4 (by omega) (by decide) _ _ _ _ _ _, List.forall_mem_cons.mpr ⟨row_piece 1 3 (by omega) (by decide) _ _ _ _ _ _, List.forall_mem_cons.mpr ⟨row_piece 1 2 (by omega) (by decide) _ _ _ _ _ _, List.forall_mem_cons.mpr ⟨row_piece 1 1 (by omega) (by decide) _ _ _ _ _ _, List.forall_mem_cons.mpr ⟨row_piece 1 0 (by omega) (by decide) _ _ _ _ _ _, rows0⟩⟩⟩⟩⟩⟩⟩⟩

/-- The rows stored by the end of block 2. -/
theorem rows2 : ∀ p ∈ kernelRun.sl.H11_24 (F := Ideal) c arg1 f0, ∀ x : p.1.shape.Idx, p.2 x = rowsOf (arg1.view.read (Elt Ideal) f0) (p.1.emb x) :=
  List.forall_mem_cons.mpr ⟨row_piece 2 7 (by omega) (by decide) _ _ _ _ _ _, List.forall_mem_cons.mpr ⟨row_piece 2 6 (by omega) (by decide) _ _ _ _ _ _, List.forall_mem_cons.mpr ⟨row_piece 2 5 (by omega) (by decide) _ _ _ _ _ _, List.forall_mem_cons.mpr ⟨row_piece 2 4 (by omega) (by decide) _ _ _ _ _ _, List.forall_mem_cons.mpr ⟨row_piece 2 3 (by omega) (by decide) _ _ _ _ _ _, List.forall_mem_cons.mpr ⟨row_piece 2 2 (by omega) (by decide) _ _ _ _ _ _, List.forall_mem_cons.mpr ⟨row_piece 2 1 (by omega) (by decide) _ _ _ _ _ _, List.forall_mem_cons.mpr ⟨row_piece 2 0 (by omega) (by decide) _ _ _ _ _ _, rows1⟩⟩⟩⟩⟩⟩⟩⟩

/-- The rows stored by the end of block 3. -/
theorem rows3 : ∀ p ∈ kernelRun.sl.H11_32 (F := Ideal) c arg1 f0, ∀ x : p.1.shape.Idx, p.2 x = rowsOf (arg1.view.read (Elt Ideal) f0) (p.1.emb x) :=
  List.forall_mem_cons.mpr ⟨row_piece 3 7 (by omega) (by decide) _ _ _ _ _ _, List.forall_mem_cons.mpr ⟨row_piece 3 6 (by omega) (by decide) _ _ _ _ _ _, List.forall_mem_cons.mpr ⟨row_piece 3 5 (by omega) (by decide) _ _ _ _ _ _, List.forall_mem_cons.mpr ⟨row_piece 3 4 (by omega) (by decide) _ _ _ _ _ _, List.forall_mem_cons.mpr ⟨row_piece 3 3 (by omega) (by decide) _ _ _ _ _ _, List.forall_mem_cons.mpr ⟨row_piece 3 2 (by omega) (by decide) _ _ _ _ _ _, List.forall_mem_cons.mpr ⟨row_piece 3 1 (by omega) (by decide) _ _ _ _ _ _, List.forall_mem_cons.mpr ⟨row_piece 3 0 (by omega) (by decide) _ _ _ _ _ _, rows2⟩⟩⟩⟩⟩⟩⟩⟩

/-- A whole block's index. -/
theorem blockIdx {B A : ℕ} (k : Fin 4) (inb) (r : Fin A) (l : Fin B) :
    (Rect.unit (s := ⟨3, ![4, A, B]⟩) ![k.val, 0, 0] ![1, A, B] inb).toLoadRect.idx (ix3 0 r l) = ix3 k r l := by
  funext i
  apply Fin.ext
  match i with
  | ⟨0, _⟩ => show k.val + 1 * 0 = k.val; omega
  | ⟨1, _⟩ => show 0 + 1 * r.val = r.val; omega
  | ⟨2, _⟩ => show 0 + 1 * l.val = l.val; omega

/-- A store of rows holds the indices of its block and step. -/
theorem row_mem (k j : ℕ) (inb) (y : S4x256x128.Idx) (h0 : (y 0).val = k) (h1 : (y 1).val / 32 = j) :
    y ∈ (Rect.unit (s := S4x256x128) ![k, 32 * j, 0] S1x32x128.size inb).set := by
  refine Rect.mem_set_unit.mpr fun a => ?_
  have h2 : (y 2).val < 128 := (y 2).isLt
  match a with
  | ⟨0, _⟩ => show k ≤ (y 0).val ∧ (y 0).val < k + 1; omega
  | ⟨1, _⟩ => show 32 * j ≤ (y 1).val ∧ (y 1).val < 32 * j + 32; omega
  | ⟨2, _⟩ => show 0 ≤ (y 2).val ∧ (y 2).val < 0 + 128; omega

/-- The rows stored by the end of block 0 hold the block. -/
theorem rowsCover0 (y : S4x256x128.Idx) (h0 : (y 0).val = 0) : ∃ p ∈ kernelRun.sl.H11_8 (F := Ideal) c arg1 f0, y ∈ p.1.set := by
  have h1 : (y 1).val < 256 := (y 1).isLt
  have h : (y 1).val / 32 = 7 ∨ (y 1).val / 32 = 6 ∨ (y 1).val / 32 = 5 ∨ (y 1).val / 32 = 4 ∨ (y 1).val / 32 = 3 ∨ (y 1).val / 32 = 2 ∨ (y 1).val / 32 = 1 ∨ (y 1).val / 32 = 0 := by omega
  rcases h with h | h | h | h | h | h | h | h
  · exact ⟨_, List.mem_cons_self, row_mem 0 7 (by decide) y h0 h⟩
  · exact ⟨_, (List.mem_cons_of_mem _ List.mem_cons_self), row_mem 0 6 (by decide) y h0 h⟩
  · exact ⟨_, (List.mem_cons_of_mem _ (List.mem_cons_of_mem _ List.mem_cons_self)), row_mem 0 5 (by decide) y h0 h⟩
  · exact ⟨_, (List.mem_cons_of_mem _ (List.mem_cons_of_mem _ (List.mem_cons_of_mem _ List.mem_cons_self))), row_mem 0 4 (by decide) y h0 h⟩
  · exact ⟨_, (List.mem_cons_of_mem _ (List.mem_cons_of_mem _ (List.mem_cons_of_mem _ (List.mem_cons_of_mem _ List.mem_cons_self)))), row_mem 0 3 (by decide) y h0 h⟩
  · exact ⟨_, (List.mem_cons_of_mem _ (List.mem_cons_of_mem _ (List.mem_cons_of_mem _ (List.mem_cons_of_mem _ (List.mem_cons_of_mem _ List.mem_cons_self))))), row_mem 0 2 (by decide) y h0 h⟩
  · exact ⟨_, (List.mem_cons_of_mem _ (List.mem_cons_of_mem _ (List.mem_cons_of_mem _ (List.mem_cons_of_mem _ (List.mem_cons_of_mem _ (List.mem_cons_of_mem _ List.mem_cons_self)))))), row_mem 0 1 (by decide) y h0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem 0 0 (by decide) y h0 h⟩

/-- The rows of block 0, as the drive's product loads them. -/
theorem rowLoad0 (inb) (r : Fin 256) (l : Fin 128) :
    arg12.view.readCov (kernelRun.sl.H11_8 (F := Ideal) c arg1 f0) (Rect.unit (s := S4x256x128) ![0, 0, 0] S1x256x128.size inb).toLoadRect (ix3 0 r l)
      = rowsOf (arg1.view.read (Elt Ideal) f0) (ix3 0 r l) :=
  (congrFun (View.readCov_eq_canon' _ _ _) _).trans ((View.canon_apply_of_pieces (rowsOf (arg1.view.read (Elt Ideal) f0)) _ rows0 _ (rowsCover0 _ rfl)).trans
    (congrArg (rowsOf (arg1.view.read (Elt Ideal) f0)) (blockIdx 0 inb r l)))

/-- The rows stored by the end of block 1 hold the block. -/
theorem rowsCover1 (y : S4x256x128.Idx) (h0 : (y 0).val = 1) : ∃ p ∈ kernelRun.sl.H11_16 (F := Ideal) c arg1 f0, y ∈ p.1.set := by
  have h1 : (y 1).val < 256 := (y 1).isLt
  have h : (y 1).val / 32 = 7 ∨ (y 1).val / 32 = 6 ∨ (y 1).val / 32 = 5 ∨ (y 1).val / 32 = 4 ∨ (y 1).val / 32 = 3 ∨ (y 1).val / 32 = 2 ∨ (y 1).val / 32 = 1 ∨ (y 1).val / 32 = 0 := by omega
  rcases h with h | h | h | h | h | h | h | h
  · exact ⟨_, List.mem_cons_self, row_mem 1 7 (by decide) y h0 h⟩
  · exact ⟨_, (List.mem_cons_of_mem _ List.mem_cons_self), row_mem 1 6 (by decide) y h0 h⟩
  · exact ⟨_, (List.mem_cons_of_mem _ (List.mem_cons_of_mem _ List.mem_cons_self)), row_mem 1 5 (by decide) y h0 h⟩
  · exact ⟨_, (List.mem_cons_of_mem _ (List.mem_cons_of_mem _ (List.mem_cons_of_mem _ List.mem_cons_self))), row_mem 1 4 (by decide) y h0 h⟩
  · exact ⟨_, (List.mem_cons_of_mem _ (List.mem_cons_of_mem _ (List.mem_cons_of_mem _ (List.mem_cons_of_mem _ List.mem_cons_self)))), row_mem 1 3 (by decide) y h0 h⟩
  · exact ⟨_, (List.mem_cons_of_mem _ (List.mem_cons_of_mem _ (List.mem_cons_of_mem _ (List.mem_cons_of_mem _ (List.mem_cons_of_mem _ List.mem_cons_self))))), row_mem 1 2 (by decide) y h0 h⟩
  · exact ⟨_, (List.mem_cons_of_mem _ (List.mem_cons_of_mem _ (List.mem_cons_of_mem _ (List.mem_cons_of_mem _ (List.mem_cons_of_mem _ (List.mem_cons_of_mem _ List.mem_cons_self)))))), row_mem 1 1 (by decide) y h0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem 1 0 (by decide) y h0 h⟩

/-- The rows of block 1, as the drive's product loads them. -/
theorem rowLoad1 (inb) (r : Fin 256) (l : Fin 128) :
    arg12.view.readCov (kernelRun.sl.H11_16 (F := Ideal) c arg1 f0) (Rect.unit (s := S4x256x128) ![1, 0, 0] S1x256x128.size inb).toLoadRect (ix3 0 r l)
      = rowsOf (arg1.view.read (Elt Ideal) f0) (ix3 1 r l) :=
  (congrFun (View.readCov_eq_canon' _ _ _) _).trans ((View.canon_apply_of_pieces (rowsOf (arg1.view.read (Elt Ideal) f0)) _ rows1 _ (rowsCover1 _ rfl)).trans
    (congrArg (rowsOf (arg1.view.read (Elt Ideal) f0)) (blockIdx 1 inb r l)))

/-- The rows stored by the end of block 2 hold the block. -/
theorem rowsCover2 (y : S4x256x128.Idx) (h0 : (y 0).val = 2) : ∃ p ∈ kernelRun.sl.H11_24 (F := Ideal) c arg1 f0, y ∈ p.1.set := by
  have h1 : (y 1).val < 256 := (y 1).isLt
  have h : (y 1).val / 32 = 7 ∨ (y 1).val / 32 = 6 ∨ (y 1).val / 32 = 5 ∨ (y 1).val / 32 = 4 ∨ (y 1).val / 32 = 3 ∨ (y 1).val / 32 = 2 ∨ (y 1).val / 32 = 1 ∨ (y 1).val / 32 = 0 := by omega
  rcases h with h | h | h | h | h | h | h | h
  · exact ⟨_, List.mem_cons_self, row_mem 2 7 (by decide) y h0 h⟩
  · exact ⟨_, (List.mem_cons_of_mem _ List.mem_cons_self), row_mem 2 6 (by decide) y h0 h⟩
  · exact ⟨_, (List.mem_cons_of_mem _ (List.mem_cons_of_mem _ List.mem_cons_self)), row_mem 2 5 (by decide) y h0 h⟩
  · exact ⟨_, (List.mem_cons_of_mem _ (List.mem_cons_of_mem _ (List.mem_cons_of_mem _ List.mem_cons_self))), row_mem 2 4 (by decide) y h0 h⟩
  · exact ⟨_, (List.mem_cons_of_mem _ (List.mem_cons_of_mem _ (List.mem_cons_of_mem _ (List.mem_cons_of_mem _ List.mem_cons_self)))), row_mem 2 3 (by decide) y h0 h⟩
  · exact ⟨_, (List.mem_cons_of_mem _ (List.mem_cons_of_mem _ (List.mem_cons_of_mem _ (List.mem_cons_of_mem _ (List.mem_cons_of_mem _ List.mem_cons_self))))), row_mem 2 2 (by decide) y h0 h⟩
  · exact ⟨_, (List.mem_cons_of_mem _ (List.mem_cons_of_mem _ (List.mem_cons_of_mem _ (List.mem_cons_of_mem _ (List.mem_cons_of_mem _ (List.mem_cons_of_mem _ List.mem_cons_self)))))), row_mem 2 1 (by decide) y h0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem 2 0 (by decide) y h0 h⟩

/-- The rows of block 2, as the drive's product loads them. -/
theorem rowLoad2 (inb) (r : Fin 256) (l : Fin 128) :
    arg12.view.readCov (kernelRun.sl.H11_24 (F := Ideal) c arg1 f0) (Rect.unit (s := S4x256x128) ![2, 0, 0] S1x256x128.size inb).toLoadRect (ix3 0 r l)
      = rowsOf (arg1.view.read (Elt Ideal) f0) (ix3 2 r l) :=
  (congrFun (View.readCov_eq_canon' _ _ _) _).trans ((View.canon_apply_of_pieces (rowsOf (arg1.view.read (Elt Ideal) f0)) _ rows2 _ (rowsCover2 _ rfl)).trans
    (congrArg (rowsOf (arg1.view.read (Elt Ideal) f0)) (blockIdx 2 inb r l)))

/-- The rows stored by the end of block 3 hold the block. -/
theorem rowsCover3 (y : S4x256x128.Idx) (h0 : (y 0).val = 3) : ∃ p ∈ kernelRun.sl.H11_32 (F := Ideal) c arg1 f0, y ∈ p.1.set := by
  have h1 : (y 1).val < 256 := (y 1).isLt
  have h : (y 1).val / 32 = 7 ∨ (y 1).val / 32 = 6 ∨ (y 1).val / 32 = 5 ∨ (y 1).val / 32 = 4 ∨ (y 1).val / 32 = 3 ∨ (y 1).val / 32 = 2 ∨ (y 1).val / 32 = 1 ∨ (y 1).val / 32 = 0 := by omega
  rcases h with h | h | h | h | h | h | h | h
  · exact ⟨_, List.mem_cons_self, row_mem 3 7 (by decide) y h0 h⟩
  · exact ⟨_, (List.mem_cons_of_mem _ List.mem_cons_self), row_mem 3 6 (by decide) y h0 h⟩
  · exact ⟨_, (List.mem_cons_of_mem _ (List.mem_cons_of_mem _ List.mem_cons_self)), row_mem 3 5 (by decide) y h0 h⟩
  · exact ⟨_, (List.mem_cons_of_mem _ (List.mem_cons_of_mem _ (List.mem_cons_of_mem _ List.mem_cons_self))), row_mem 3 4 (by decide) y h0 h⟩
  · exact ⟨_, (List.mem_cons_of_mem _ (List.mem_cons_of_mem _ (List.mem_cons_of_mem _ (List.mem_cons_of_mem _ List.mem_cons_self)))), row_mem 3 3 (by decide) y h0 h⟩
  · exact ⟨_, (List.mem_cons_of_mem _ (List.mem_cons_of_mem _ (List.mem_cons_of_mem _ (List.mem_cons_of_mem _ (List.mem_cons_of_mem _ List.mem_cons_self))))), row_mem 3 2 (by decide) y h0 h⟩
  · exact ⟨_, (List.mem_cons_of_mem _ (List.mem_cons_of_mem _ (List.mem_cons_of_mem _ (List.mem_cons_of_mem _ (List.mem_cons_of_mem _ (List.mem_cons_of_mem _ List.mem_cons_self)))))), row_mem 3 1 (by decide) y h0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem 3 0 (by decide) y h0 h⟩

/-- The rows of block 3, as the drive's product loads them. -/
theorem rowLoad3 (inb) (r : Fin 256) (l : Fin 128) :
    arg12.view.readCov (kernelRun.sl.H11_32 (F := Ideal) c arg1 f0) (Rect.unit (s := S4x256x128) ![3, 0, 0] S1x256x128.size inb).toLoadRect (ix3 0 r l)
      = rowsOf (arg1.view.read (Elt Ideal) f0) (ix3 3 r l) :=
  (congrFun (View.readCov_eq_canon' _ _ _) _).trans ((View.canon_apply_of_pieces (rowsOf (arg1.view.read (Elt Ideal) f0)) _ rows3 _ (rowsCover3 _ rfl)).trans
    (congrArg (rowsOf (arg1.view.read (Elt Ideal) f0)) (blockIdx 3 inb r l)))

/-! ## The drive -/

/-- A half of a block's table, as it is loaded. -/
theorem tableLoad (k o : ℕ) (hk : k < 4) (ho : o + 512 ≤ 1024) (p q' h0 hs q hR) (i : Fin 16) (n : Fin 512) :
    LoadRect.valAlong (lr := (Rect.unit (s := S16x1024) ![0, o] S16x512.size q').toLoadRect) hR
      (View.readAt (Elt Ideal) arg2.view ((Rect.unit (s := S4x16x1024) ![k, 0, 0] S1x16x1024.size p).withinL
        ((Rect.unit (s := S16x1024) ![0, o] S16x512.size q').toLoadRect.consLift ![1, 16, 1024] h0 hs) q) f1) (ix2 i n)
      = arg2.view.read (Elt Ideal) f1 (ix3 ⟨k, hk⟩ i ⟨o + n.val, by omega⟩) := by
  refine load_idx (D := 4) (A := 16) (B := 1024) k p _ h0 hs q hR (arg2.view.read (Elt Ideal) f1) _ _ rfl ?_ ?_
  · show i.val = 0 + 1 * i.val; omega
  · show o + n.val = o + 1 * n.val; omega

/-- One block's drive, as it is stored. -/
theorem drive_piece (k : Fin 4) (inb) (x0 : Vec Ideal S4x256x128 .f32) (x1 : Vec Ideal S4x16x1024 .f32)
    (ud : Vec Ideal S1x256x128 .bf16) (re im : Vec Ideal S16x512 .f32)
    (hud : ∀ r l, ud (ix3 0 r l) = rowsOf x0 (ix3 k r l)) (hre : ∀ i n, re (ix2 i n) = x1 (ix3 k i ⟨0 + n.val, by omega⟩))
    (him : ∀ i n, im (ix2 i n) = x1 (ix3 k i ⟨512 + n.val, by omega⟩)) :
    ∀ x : (Rect.unit (s := S4x256x1024) ![k.val, 0, 0] S1x256x1024.size inb).shape.Idx,
      drive (F := Ideal) ud re im x = driveOf x0 x1 ((Rect.unit (s := S4x256x1024) ![k.val, 0, 0] S1x256x1024.size inb).emb x) := by
  intro x
  obtain ⟨a, r, n, rfl⟩ : ∃ (a : Fin 1) (r : Fin 256) (n : Fin 1024), x = ix3 a r n := ⟨x 0, x 1, x 2, by funext i; fin_cases i <;> rfl⟩
  obtain rfl : a = 0 := Subsingleton.elim _ _
  have he : (Rect.unit (s := S4x256x1024) ![k.val, 0, 0] S1x256x1024.size inb).emb (ix3 0 r n) = ix3 k r n := blockIdx k inb r n
  rw [he]
  refine (drive_apply ud re im r n).trans ?_
  refine Finset.sum_congr rfl fun i _ => ?_
  rw [hud]
  refine congrArg (_ * ·) ?_
  by_cases h : n.val < 512
  · rw [if_pos h, hre]
    exact congrArg (fun j => x1 (ix3 k i j)) (Fin.ext (by show 0 + n.val % 512 = n.val; omega))
  · rw [if_neg h, him]
    exact congrArg (fun j => x1 (ix3 k i j)) (Fin.ext (by show 512 + n.val % 512 = n.val; omega))

/-- The drive stored by the end of block 0. -/
theorem drives0 : ∀ p ∈ kernelRun.sl.H8_1 (F := Ideal) c arg1 arg2 arg12 f0 f1, ∀ x : p.1.shape.Idx,
    p.2 x = driveOf (arg1.view.read (Elt Ideal) f0) (arg2.view.read (Elt Ideal) f1) (p.1.emb x) :=
  List.forall_mem_cons.mpr ⟨drive_piece 0 (by decide) _ _ _ _ _ (rowLoad0 (by decide)) (tableLoad 0 0 (by omega) (by omega) _ _ _ _ _ _)
    (tableLoad 0 512 (by omega) (by omega) _ _ _ _ _ _), fun p hp => absurd hp List.not_mem_nil⟩

/-- The drive stored by the end of block 1. -/
theorem drives1 : ∀ p ∈ kernelRun.sl.H8_2 (F := Ideal) c arg1 arg2 arg12 f0 f1, ∀ x : p.1.shape.Idx,
    p.2 x = driveOf (arg1.view.read (Elt Ideal) f0) (arg2.view.read (Elt Ideal) f1) (p.1.emb x) :=
  List.forall_mem_cons.mpr ⟨drive_piece 1 (by decide) _ _ _ _ _ (rowLoad1 (by decide)) (tableLoad 1 0 (by omega) (by omega) _ _ _ _ _ _)
    (tableLoad 1 512 (by omega) (by omega) _ _ _ _ _ _), drives0⟩

/-- The drive stored by the end of block 2. -/
theorem drives2 : ∀ p ∈ kernelRun.sl.H8_3 (F := Ideal) c arg1 arg2 arg12 f0 f1, ∀ x : p.1.shape.Idx,
    p.2 x = driveOf (arg1.view.read (Elt Ideal) f0) (arg2.view.read (Elt Ideal) f1) (p.1.emb x) :=
  List.forall_mem_cons.mpr ⟨drive_piece 2 (by decide) _ _ _ _ _ (rowLoad2 (by decide)) (tableLoad 2 0 (by omega) (by omega) _ _ _ _ _ _)
    (tableLoad 2 512 (by omega) (by omega) _ _ _ _ _ _), drives1⟩

/-- The drive stored by the end of block 3. -/
theorem drives3 : ∀ p ∈ kernelRun.sl.H8_4 (F := Ideal) c arg1 arg2 arg12 f0 f1, ∀ x : p.1.shape.Idx,
    p.2 x = driveOf (arg1.view.read (Elt Ideal) f0) (arg2.view.read (Elt Ideal) f1) (p.1.emb x) :=
  List.forall_mem_cons.mpr ⟨drive_piece 3 (by decide) _ _ _ _ _ (rowLoad3 (by decide)) (tableLoad 3 0 (by omega) (by omega) _ _ _ _ _ _)
    (tableLoad 3 512 (by omega) (by omega) _ _ _ _ _ _), drives2⟩

/-! ## The states -/

/-- Both parts at an index. -/
def both (p : Vec Ideal S32x512 .f32 × Vec Ideal S32x512 .f32) (i : S32x512.Idx) : EReal × EReal := (p.1 i, p.2 i)

theorem both_stepV (l li : Vec Ideal S32x512 .f32) (p b : Vec Ideal S32x512 .f32 × Vec Ideal S32x512 .f32) (i : S32x512.Idx) :
    both (stepV l li p b) i = step (l i) (li i) (both p i) (both b i) := rfl

/-- One step of a block's states, from what it loads, is one step of the recurrence of every one of them. -/
theorem part_succ (k : Fin 4) (t : Fin 8) {x0 : Vec Ideal S4x256x128 .f32} {x1 : Vec Ideal S4x16x1024 .f32} {x3 : Vec Ideal S4x34x512 .f32} {x5 : Vec Ideal S4x32x1024 .f32}
    {s : Fin 32} {m : Fin 512} (l li : Vec Ideal S32x512 .f32) (p : Vec Ideal S32x512 .f32 × Vec Ideal S32x512 .f32) (b c : Vec Ideal S32x512 .f32)
    (hl : l (ix2 s m) = x3 (ix3 k 1 m)) (hli : li (ix2 s m) = x3 (ix3 k 18 m)) (hp : both p (ix2 s m) = part x0 x1 x3 x5 k s m t.val)
    (hb : b (ix2 s m) = driveOf x0 x1 (ix3 k ⟨32 * t.val + s.val, by omega⟩ ⟨0 + m.val, by omega⟩))
    (hc : c (ix2 s m) = driveOf x0 x1 (ix3 k ⟨32 * t.val + s.val, by omega⟩ ⟨512 + m.val, by omega⟩)) :
    both (stepV l li p (b, c)) (ix2 s m) = part x0 x1 x3 x5 k s m (t.val + 1) := by
  have hd : both (b, c) (ix2 s m) = driveAt x0 x1 k s m t := by
    have h2 : (⟨0 + m.val, by omega⟩ : Fin 1024) = ⟨m.val, by omega⟩ := Fin.ext (Nat.zero_add _)
    show (b (ix2 s m), c (ix2 s m)) = _
    rw [hb, hc, h2]
    rfl
  rw [both_stepV, hl, hli, hp, hd, part, dif_pos t.isLt]

/-- Before the first step: what is loaded. -/
theorem part_zero (k : Fin 4) {x0 : Vec Ideal S4x256x128 .f32} {x1 : Vec Ideal S4x16x1024 .f32} {x3 : Vec Ideal S4x34x512 .f32} {x5 : Vec Ideal S4x32x1024 .f32}
    {s : Fin 32} {m : Fin 512} (h hi : Vec Ideal S32x512 .f32) (hh : h (ix2 s m) = x5 (ix3 k s ⟨0 + m.val, by omega⟩)) (hhi : hi (ix2 s m) = x5 (ix3 k s ⟨512 + m.val, by omega⟩)) :
    both (h, hi) (ix2 s m) = part x0 x1 x3 x5 k s m 0 := by
  have h2 : (⟨0 + m.val, by omega⟩ : Fin 1024) = ⟨m.val, by omega⟩ := Fin.ext (Nat.zero_add _)
  show (h (ix2 s m), hi (ix2 s m)) = _
  rw [hh, hhi, h2]
  rfl

/-- A row of a block's powers, spread over the sequences. -/
theorem lamLoad (k o : ℕ) (hk : k < 4) (ho : o < 34) (p q' h0 hs q hR e1 e2) (s : Fin 32) (m : Fin 512) :
    broadcastTo S32x512 (shapeCast S1x512 (LoadRect.valAlong (lr := (Rect.unit (s := S34x512) ![o, 0] S1x512.size q').toLoadRect) hR
      (View.readAt (Elt Ideal) arg4.view ((Rect.unit (s := S4x34x512) ![k, 0, 0] S1x34x512.size p).withinL
        ((Rect.unit (s := S34x512) ![o, 0] S1x512.size q').toLoadRect.consLift ![1, 34, 512] h0 hs) q) f3)) e1) e2 (ix2 s m)
      = arg4.view.read (Elt Ideal) f3 (ix3 ⟨k, hk⟩ ⟨o, ho⟩ m) := by
  have hb : ∀ v : Vec Ideal S1x512 .f32, broadcastTo S32x512 (shapeCast S1x512 v e1) e2 (ix2 s m) = v (ix2 0 m) := by
    intro v; pointwise
  refine (hb _).trans (load_idx (D := 4) (A := 34) (B := 512) k p _ h0 hs q hR (arg4.view.read (Elt Ideal) f3) _ _ rfl ?_ ?_)
  · show o = o + 1 * 0; omega
  · show m.val = 0 + 1 * m.val; omega

/-- A half of a block's first states, as it is loaded. -/
theorem startLoad (k o : ℕ) (hk : k < 4) (ho : o + 512 ≤ 1024) (p q' h0 hs q hR) (s : Fin 32) (m : Fin 512) :
    LoadRect.valAlong (lr := (Rect.unit (s := S32x1024) ![0, o] S32x512.size q').toLoadRect) hR
      (View.readAt (Elt Ideal) arg6.view ((Rect.unit (s := S4x32x1024) ![k, 0, 0] S1x32x1024.size p).withinL
        ((Rect.unit (s := S32x1024) ![0, o] S32x512.size q').toLoadRect.consLift ![1, 32, 1024] h0 hs) q) f5) (ix2 s m)
      = arg6.view.read (Elt Ideal) f5 (ix3 ⟨k, hk⟩ s ⟨o + m.val, by omega⟩) := by
  refine load_idx (D := 4) (A := 32) (B := 1024) k p _ h0 hs q hR (arg6.view.read (Elt Ideal) f5) _ _ rfl ?_ ?_
  · show s.val = 0 + 1 * s.val; omega
  · show o + m.val = o + 1 * m.val; omega

/-- A part of a block's drive, as a step loads it from what was stored before. -/
theorem driveLoad (x0 : Vec Ideal S4x256x128 .f32) (x1 : Vec Ideal S4x16x1024 .f32) (L : List (View.Piece (Elt Ideal) S4x256x1024 .f32))
    (k : Fin 4) (hL : ∀ p ∈ L, ∀ x : p.1.shape.Idx, p.2 x = driveOf x0 x1 (p.1.emb x)) (hc : ∀ y : S4x256x1024.Idx, (y 0).val = k.val → ∃ p ∈ L, y ∈ p.1.set)
    (o o' : ℕ) (ho : o + 32 ≤ 256) (ho' : o' + 512 ≤ 1024) (p q' h0 hs q hR) (s : Fin 32) (m : Fin 512) :
    LoadRect.valAlong (lr := (Rect.unit (s := S256x1024) ![o, o'] S32x512.size q').toLoadRect) hR
      (arg9.view.readCov L ((Rect.unit (s := S4x256x1024) ![k.val, 0, 0] S1x256x1024.size p).withinL
        ((Rect.unit (s := S256x1024) ![o, o'] S32x512.size q').toLoadRect.consLift ![1, 256, 1024] h0 hs) q)) (ix2 s m)
      = driveOf x0 x1 (ix3 k ⟨o + s.val, by omega⟩ ⟨o' + m.val, by omega⟩) := by
  rw [View.readCov_eq_canon']
  refine (load_idx (D := 4) (A := 256) (B := 1024) k.val p _ h0 hs q hR (View.canon L) _
    (ix3 k ⟨o + s.val, by omega⟩ ⟨o' + m.val, by omega⟩) rfl ?_ ?_).trans (View.canon_apply_of_pieces _ L hL _ (hc _ rfl))
  · show o + s.val = o + 1 * s.val; omega
  · show o' + m.val = o' + 1 * m.val; omega

/-- A store of a block's drive holds the block. -/
theorem drive_mem (k : ℕ) (inb) (y : S4x256x1024.Idx) (h0 : (y 0).val = k) :
    y ∈ (Rect.unit (s := S4x256x1024) ![k, 0, 0] S1x256x1024.size inb).set := by
  refine Rect.mem_set_unit.mpr fun a => ?_
  have h1 : (y 1).val < 256 := (y 1).isLt
  have h2 : (y 2).val < 1024 := (y 2).isLt
  match a with
  | ⟨0, _⟩ => show k ≤ (y 0).val ∧ (y 0).val < k + 1; omega
  | ⟨1, _⟩ => show 0 ≤ (y 1).val ∧ (y 1).val < 0 + 256; omega
  | ⟨2, _⟩ => show 0 ≤ (y 2).val ∧ (y 2).val < 0 + 1024; omega

end

end Cert.Kernel6Ideal.Stores

end
-- ==== Proof.ScanBlock0.lean ====
/- The sample scan's states, step by step: what the body computes for every block is the plain recurrence. -/
module

public import proofs.«01_k».proof.Proof.ScanRun
public import proofs.«01_k».proof.Proof.ScanStores
public import Idealize.ShloMosaic.Lib.Exec.Geometry
public import Idealize.ShloMosaic.Lib.Pipeline.ValueKit
public import Idealize.ShloMosaic.Lib.Pipeline.Value
public import Idealize.ShloMosaic.Lib.Pipeline.FrameBody

@[expose] public section

set_option maxRecDepth 16384

noncomputable section

namespace Cert.Kernel6Ideal.Stores

open Cert.Kernel6Ideal Cert.Kernel6Ideal.Gen Cert.Kernel6Ideal.Table Cert.Kernel6Ideal.Run
open Idealize.ShloMosaic Idealize.ShloMosaic.TcCoe Idealize.SL.Sem

section
variable {c : Dev nD} {arg1 : Memref sig .tc .vmem S4x256x128 .f32} {arg2 : Memref sig .tc .vmem S4x16x1024 .f32}
  {arg4 : Memref sig .tc .vmem S4x34x512 .f32} {arg6 : Memref sig .tc .vmem S4x32x1024 .f32} {arg9 : Memref sig .tc .vmem S4x256x1024 .f32}
  {arg12 : Memref sig .tc .vmem S4x256x128 .bf16}
  {f0 : Buf (Elt Ideal) (arg1.view.loc (c : Thread nD τ))} {f1 : Buf (Elt Ideal) (arg2.view.loc (c : Thread nD τ))}
  {f3 : Buf (Elt Ideal) (arg4.view.loc (c : Thread nD τ))} {f5 : Buf (Elt Ideal) (arg6.view.loc (c : Thread nD τ))}

/-- The drive stored by the end of block 0 holds the block. -/
theorem drivesCover0 (y : S4x256x1024.Idx) (h0 : (y 0).val = 0) : ∃ p ∈ kernelRun.sl.H8_1 (F := Ideal) c arg1 arg2 arg12 f0 f1, y ∈ p.1.set :=
  ⟨_, List.mem_cons_self, drive_mem 0 (by decide) y h0⟩

theorem lamRe0 (s : Fin 32) (m : Fin 512) : kernelRun.sl.r_6 (F := Ideal) c arg4 f3 (ix2 s m) = arg4.view.read (Elt Ideal) f3 (ix3 0 1 m) :=
  lamLoad 0 1 (by omega) (by omega) (by decide) (by decide) _ _ _ _ shapeCasts_S1x512_S1x512 broadcasts_S1x512_S32x512 s m

theorem lamIm0 (s : Fin 32) (m : Fin 512) : kernelRun.sl.r_7 (F := Ideal) c arg4 f3 (ix2 s m) = arg4.view.read (Elt Ideal) f3 (ix3 0 18 m) :=
  lamLoad 0 18 (by omega) (by omega) (by decide) (by decide) _ _ _ _ shapeCasts_S1x512_S1x512 broadcasts_S1x512_S32x512 s m

theorem at0_0 (s : Fin 32) (m : Fin 512) : both (LoadRect.valAlong (lr := (Rect.unit (s := S32x1024) ![0, 0] S32x512.size inb_S32x1024_S32x512_0_0).toLoadRect) (by decide) (kernelRun.sl.v206 (F := Ideal) c arg6 f5), LoadRect.valAlong (lr := (Rect.unit (s := S32x1024) ![0, 512] S32x512.size inb_S32x1024_S32x512_0_512).toLoadRect) (by decide) (kernelRun.sl.v209 (F := Ideal) c arg6 f5)) (ix2 s m)
    = part (arg1.view.read (Elt Ideal) f0) (arg2.view.read (Elt Ideal) f1) (arg4.view.read (Elt Ideal) f3) (arg6.view.read (Elt Ideal) f5) 0 s m 0 := by
  refine part_zero 0 _ _ ?_ ?_
  · exact startLoad 0 0 (by omega) (by omega) (by decide) (by decide) _ _ _ _ s m
  · exact startLoad 0 512 (by omega) (by omega) (by decide) (by decide) _ _ _ _ s m

theorem at0_1 (s : Fin 32) (m : Fin 512) : both (kernelRun.sl.r_8 (F := Ideal) c arg1 arg2 arg4 arg6 arg9 arg12 f0 f1 f3 f5, kernelRun.sl.r_9 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 1 := by
  refine part_succ 0 0 (kernelRun.sl.r_6 (F := Ideal) c arg4 f3) (kernelRun.sl.r_7 (F := Ideal) c arg4 f3) (LoadRect.valAlong (lr := (Rect.unit (s := S32x1024) ![0, 0] S32x512.size inb_S32x1024_S32x512_0_0).toLoadRect) (by decide) (kernelRun.sl.v206 (F := Ideal) c arg6 f5), LoadRect.valAlong (lr := (Rect.unit (s := S32x1024) ![0, 512] S32x512.size inb_S32x1024_S32x512_0_512).toLoadRect) (by decide) (kernelRun.sl.v209 (F := Ideal) c arg6 f5)) _ _ (lamRe0 s m) (lamIm0 s m) (at0_0 s m) ?_ ?_
  · exact driveLoad _ _ _ 0 drives0 drivesCover0 0 0 (by omega) (by omega) (by decide) (by decide) _ _ _ _ s m
  · exact driveLoad _ _ _ 0 drives0 drivesCover0 0 512 (by omega) (by omega) (by decide) (by decide) _ _ _ _ s m

theorem at0_2 (s : Fin 32) (m : Fin 512) : both (kernelRun.sl.r_11 (F := Ideal) c arg1 arg2 arg4 arg6 arg9 arg12 f0 f1 f3 f5, kernelRun.sl.r_12 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 2 := by
  refine part_succ 0 1 (kernelRun.sl.r_6 (F := Ideal) c arg4 f3) (kernelRun.sl.r_7 (F := Ideal) c arg4 f3) (kernelRun.sl.r_8 (F := Ideal) c arg1 arg2 arg4 arg6 arg9 arg12 f0 f1 f3 f5, kernelRun.sl.r_9 (F := Ideal) c arg1 arg2 arg4 arg6 arg9 arg12 f0 f1 f3 f5) _ _ (lamRe0 s m) (lamIm0 s m) (at0_1 s m) ?_ ?_
  · exact driveLoad _ _ _ 0 drives0 drivesCover0 32 0 (by omega) (by omega) (by decide) (by decide) _ _ _ _ s m
  · exact driveLoad _ _ _ 0 drives0 drivesCover0 32 512 (by omega) (by omega) (by decide) (by decide) _ _ _ _ s m

theorem at0_3 (s : Fin 32) (m : Fin 512) : both (kernelRun.sl.r_13 (F := Ideal) c arg1 arg2 arg4 arg6 arg9 arg12 f0 f1 f3 f5, kernelRun.sl.r_14 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 3 := by
  refine part_succ 0 2 (kernelRun.sl.r_6 (F := Ideal) c arg4 f3) (kernelRun.sl.r_7 (F := Ideal) c arg4 f3) (kernelRun.sl.r_11 (F := Ideal) c arg1 arg2 arg4 arg6 arg9 arg12 f0 f1 f3 f5, kernelRun.sl.r_12 (F := Ideal) c arg1 arg2 arg4 arg6 arg9 arg12 f0 f1 f3 f5) _ _ (lamRe0 s m) (lamIm0 s m) (at0_2 s m) ?_ ?_
  · exact driveLoad _ _ _ 0 drives0 drivesCover0 64 0 (by omega) (by omega) (by decide) (by decide) _ _ _ _ s m
  · exact driveLoad _ _ _ 0 drives0 drivesCover0 64 512 (by omega) (by omega) (by decide) (by decide) _ _ _ _ s m

theorem at0_5 (s : Fin 32) (m : Fin 512) : both (kernelRun.sl.r_16 (F := Ideal) c arg1 arg2 arg4 arg6 arg9 arg12 f0 f1 f3 f5, kernelRun.sl.r_17 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 5 := by
  refine part_succ 0 4 (kernelRun.sl.r_6 (F := Ideal) c arg4 f3) (kernelRun.sl.r_7 (F := Ideal) c arg4 f3) (stepV (kernelRun.sl.r_6 (F := Ideal) c arg4 f3) (kernelRun.sl.r_7 (F := Ideal) c arg4 f3) (kernelRun.sl.r_13 (F := Ideal) c arg1 arg2 arg4 arg6 arg9 arg12 f0 f1 f3 f5, kernelRun.sl.r_14 (F := Ideal) c arg1 arg2 arg4 arg6 arg9 arg12 f0 f1 f3 f5) (_, _)) _ _ (lamRe0 s m) (lamIm0 s m) (part_succ 0 3 (kernelRun.sl.r_6 (F := Ideal) c arg4 f3) (kernelRun.sl.r_7 (F := Ideal) c arg4 f3) (kernelRun.sl.r_13 (F := Ideal) c arg1 arg2 arg4 arg6 arg9 arg12 f0 f1 f3 f5, kernelRun.sl.r_14 (F := Ideal) c arg1 arg2 arg4 arg6 arg9 arg12 f0 f1 f3 f5) _ _ (lamRe0 s m) (lamIm0 s m) (at0_3 s m) ?_ ?_) ?_ ?_
  · exact driveLoad _ _ _ 0 drives0 drivesCover0 96 0 (by omega) (by omega) (by decide) (by decide) _ _ _ _ s m
  · exact driveLoad _ _ _ 0 drives0 drivesCover0 96 512 (by omega) (by omega) (by decide) (by decide) _ _ _ _ s m
  · exact driveLoad _ _ _ 0 drives0 drivesCover0 128 0 (by omega) (by omega) (by decide) (by decide) _ _ _ _ s m
  · exact driveLoad _ _ _ 0 drives0 drivesCover0 128 512 (by omega) (by omega) (by decide) (by decide) _ _ _ _ s m

theorem at0_6 (s : Fin 32) (m : Fin 512) : both (kernelRun.sl.r_19 (F := Ideal) c arg1 arg2 arg4 arg6 arg9 arg12 f0 f1 f3 f5, kernelRun.sl.r_20 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 6 := by
  refine part_succ 0 5 (kernelRun.sl.r_6 (F := Ideal) c arg4 f3) (kernelRun.sl.r_7 (F := Ideal) c arg4 f3) (kernelRun.sl.r_16 (F := Ideal) c arg1 arg2 arg4 arg6 arg9 arg12 f0 f1 f3 f5, kernelRun.sl.r_17 (F := Ideal) c arg1 arg2 arg4 arg6 arg9 arg12 f0 f1 f3 f5) _ _ (lamRe0 s m) (lamIm0 s m) (at0_5 s m) ?_ ?_
  · exact driveLoad _ _ _ 0 drives0 drivesCover0 160 0 (by omega) (by omega) (by decide) (by decide) _ _ _ _ s m
  · exact driveLoad _ _ _ 0 drives0 drivesCover0 160 512 (by omega) (by omega) (by decide) (by decide) _ _ _ _ s m

theorem at0_7 (s : Fin 32) (m : Fin 512) : both (kernelRun.sl.r_22 (F := Ideal) c arg1 arg2 arg4 arg6 arg9 arg12 f0 f1 f3 f5, kernelRun.sl.r_23 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 7 := by
  refine part_succ 0 6 (kernelRun.sl.r_6 (F := Ideal) c arg4 f3) (kernelRun.sl.r_7 (F := Ideal) c arg4 f3) (kernelRun.sl.r_19 (F := Ideal) c arg1 arg2 arg4 arg6 arg9 arg12 f0 f1 f3 f5, kernelRun.sl.r_20 (F := Ideal) c arg1 arg2 arg4 arg6 arg9 arg12 f0 f1 f3 f5) _ _ (lamRe0 s m) (lamIm0 s m) (at0_6 s m) ?_ ?_
  · exact driveLoad _ _ _ 0 drives0 drivesCover0 192 0 (by omega) (by omega) (by decide) (by decide) _ _ _ _ s m
  · exact driveLoad _ _ _ 0 drives0 drivesCover0 192 512 (by omega) (by omega) (by decide) (by decide) _ _ _ _ s m

theorem at0_8 (s : Fin 32) (m : Fin 512) : both (k0_pay56 (F := Ideal) (kernelRun.sl.r_6 (F := Ideal) c arg4 f3) (kernelRun.sl.r_7 (F := Ideal) c arg4 f3) (kernelRun.sl.r_22 (F := Ideal) c arg1 arg2 arg4 arg6 arg9 arg12 f0 f1 f3 f5) (kernelRun.sl.r_23 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v394 (F := Ideal) c arg1 arg2 arg9 arg12 f0 f1)), kernelRun.sl.r_26 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 0 s m 8 := by
  refine part_succ 0 7 (kernelRun.sl.r_6 (F := Ideal) c arg4 f3) (kernelRun.sl.r_7 (F := Ideal) c arg4 f3) (kernelRun.sl.r_22 (F := Ideal) c arg1 arg2 arg4 arg6 arg9 arg12 f0 f1 f3 f5, kernelRun.sl.r_23 (F := Ideal) c arg1 arg2 arg4 arg6 arg9 arg12 f0 f1 f3 f5) _ _ (lamRe0 s m) (lamIm0 s m) (at0_7 s m) ?_ ?_
  · exact driveLoad _ _ _ 0 drives0 drivesCover0 224 0 (by omega) (by omega) (by decide) (by decide) _ _ _ _ s m
  · exact driveLoad _ _ _ 0 drives0 drivesCover0 224 512 (by omega) (by omega) (by decide) (by decide) _ _ _ _ s m

end

end Cert.Kernel6Ideal.Stores

end
-- ==== Proof.ScanBlock1.lean ====
/- The sample scan's states, step by step: what the body computes for every block is the plain recurrence. -/
module

public import proofs.«01_k».proof.Proof.ScanRun
public import proofs.«01_k».proof.Proof.ScanStores
public import Idealize.ShloMosaic.Lib.Exec.Geometry
public import Idealize.ShloMosaic.Lib.Pipeline.ValueKit
public import Idealize.ShloMosaic.Lib.Pipeline.Value
public import Idealize.ShloMosaic.Lib.Pipeline.FrameBody

@[expose] public section

set_option maxRecDepth 16384

noncomputable section

namespace Cert.Kernel6Ideal.Stores

open Cert.Kernel6Ideal Cert.Kernel6Ideal.Gen Cert.Kernel6Ideal.Table Cert.Kernel6Ideal.Run
open Idealize.ShloMosaic Idealize.ShloMosaic.TcCoe Idealize.SL.Sem

section
variable {c : Dev nD} {arg1 : Memref sig .tc .vmem S4x256x128 .f32} {arg2 : Memref sig .tc .vmem S4x16x1024 .f32}
  {arg4 : Memref sig .tc .vmem S4x34x512 .f32} {arg6 : Memref sig .tc .vmem S4x32x1024 .f32} {arg9 : Memref sig .tc .vmem S4x256x1024 .f32}
  {arg12 : Memref sig .tc .vmem S4x256x128 .bf16}
  {f0 : Buf (Elt Ideal) (arg1.view.loc (c : Thread nD τ))} {f1 : Buf (Elt Ideal) (arg2.view.loc (c : Thread nD τ))}
  {f3 : Buf (Elt Ideal) (arg4.view.loc (c : Thread nD τ))} {f5 : Buf (Elt Ideal) (arg6.view.loc (c : Thread nD τ))}

/-- The drive stored by the end of block 1 holds the block. -/
theorem drivesCover1 (y : S4x256x1024.Idx) (h0 : (y 0).val = 1) : ∃ p ∈ kernelRun.sl.H8_2 (F := Ideal) c arg1 arg2 arg12 f0 f1, y ∈ p.1.set :=
  ⟨_, List.mem_cons_self, drive_mem 1 (by decide) y h0⟩

theorem lamRe1 (s : Fin 32) (m : Fin 512) : kernelRun.sl.r_39 (F := Ideal) c arg4 f3 (ix2 s m) = arg4.view.read (Elt Ideal) f3 (ix3 1 1 m) :=
  lamLoad 1 1 (by omega) (by omega) (by decide) (by decide) _ _ _ _ shapeCasts_S1x512_S1x512 broadcasts_S1x512_S32x512 s m

theorem lamIm1 (s : Fin 32) (m : Fin 512) : kernelRun.sl.r_40 (F := Ideal) c arg4 f3 (ix2 s m) = arg4.view.read (Elt Ideal) f3 (ix3 1 18 m) :=
  lamLoad 1 18 (by omega) (by omega) (by decide) (by decide) _ _ _ _ shapeCasts_S1x512_S1x512 broadcasts_S1x512_S32x512 s m

theorem at1_0 (s : Fin 32) (m : Fin 512) : both (LoadRect.valAlong (lr := (Rect.unit (s := S32x1024) ![0, 0] S32x512.size inb_S32x1024_S32x512_0_0).toLoadRect) (by decide) (kernelRun.sl.v835 (F := Ideal) c arg6 f5), LoadRect.valAlong (lr := (Rect.unit (s := S32x1024) ![0, 512] S32x512.size inb_S32x1024_S32x512_0_512).toLoadRect) (by decide) (kernelRun.sl.v838 (F := Ideal) c arg6 f5)) (ix2 s m)
    = part (arg1.view.read (Elt Ideal) f0) (arg2.view.read (Elt Ideal) f1) (arg4.view.read (Elt Ideal) f3) (arg6.view.read (Elt Ideal) f5) 1 s m 0 := by
  refine part_zero 1 _ _ ?_ ?_
  · exact startLoad 1 0 (by omega) (by omega) (by decide) (by decide) _ _ _ _ s m
  · exact startLoad 1 512 (by omega) (by omega) (by decide) (by decide) _ _ _ _ s m

theorem at1_1 (s : Fin 32) (m : Fin 512) : both (kernelRun.sl.r_41 (F := Ideal) c arg1 arg2 arg4 arg6 arg9 arg12 f0 f1 f3 f5, kernelRun.sl.r_42 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 1 := by
  refine part_succ 1 0 (kernelRun.sl.r_39 (F := Ideal) c arg4 f3) (kernelRun.sl.r_40 (F := Ideal) c arg4 f3) (LoadRect.valAlong (lr := (Rect.unit (s := S32x1024) ![0, 0] S32x512.size inb_S32x1024_S32x512_0_0).toLoadRect) (by decide) (kernelRun.sl.v835 (F := Ideal) c arg6 f5), LoadRect.valAlong (lr := (Rect.unit (s := S32x1024) ![0, 512] S32x512.size inb_S32x1024_S32x512_0_512).toLoadRect) (by decide) (kernelRun.sl.v838 (F := Ideal) c arg6 f5)) _ _ (lamRe1 s m) (lamIm1 s m) (at1_0 s m) ?_ ?_
  · exact driveLoad _ _ _ 1 drives1 drivesCover1 0 0 (by omega) (by omega) (by decide) (by decide) _ _ _ _ s m
  · exact driveLoad _ _ _ 1 drives1 drivesCover1 0 512 (by omega) (by omega) (by decide) (by decide) _ _ _ _ s m

theorem at1_2 (s : Fin 32) (m : Fin 512) : both (kernelRun.sl.r_44 (F := Ideal) c arg1 arg2 arg4 arg6 arg9 arg12 f0 f1 f3 f5, kernelRun.sl.r_45 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 2 := by
  refine part_succ 1 1 (kernelRun.sl.r_39 (F := Ideal) c arg4 f3) (kernelRun.sl.r_40 (F := Ideal) c arg4 f3) (kernelRun.sl.r_41 (F := Ideal) c arg1 arg2 arg4 arg6 arg9 arg12 f0 f1 f3 f5, kernelRun.sl.r_42 (F := Ideal) c arg1 arg2 arg4 arg6 arg9 arg12 f0 f1 f3 f5) _ _ (lamRe1 s m) (lamIm1 s m) (at1_1 s m) ?_ ?_
  · exact driveLoad _ _ _ 1 drives1 drivesCover1 32 0 (by omega) (by omega) (by decide) (by decide) _ _ _ _ s m
  · exact driveLoad _ _ _ 1 drives1 drivesCover1 32 512 (by omega) (by omega) (by decide) (by decide) _ _ _ _ s m

theorem at1_3 (s : Fin 32) (m : Fin 512) : both (kernelRun.sl.r_47 (F := Ideal) c arg1 arg2 arg4 arg6 arg9 arg12 f0 f1 f3 f5, kernelRun.sl.r_48 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 3 := by
  refine part_succ 1 2 (kernelRun.sl.r_39 (F := Ideal) c arg4 f3) (kernelRun.sl.r_40 (F := Ideal) c arg4 f3) (kernelRun.sl.r_44 (F := Ideal) c arg1 arg2 arg4 arg6 arg9 arg12 f0 f1 f3 f5, kernelRun.sl.r_45 (F := Ideal) c arg1 arg2 arg4 arg6 arg9 arg12 f0 f1 f3 f5) _ _ (lamRe1 s m) (lamIm1 s m) (at1_2 s m) ?_ ?_
  · exact driveLoad _ _ _ 1 drives1 drivesCover1 64 0 (by omega) (by omega) (by decide) (by decide) _ _ _ _ s m
  · exact driveLoad _ _ _ 1 drives1 drivesCover1 64 512 (by omega) (by omega) (by decide) (by decide) _ _ _ _ s m

theorem at1_5 (s : Fin 32) (m : Fin 512) : both (kernelRun.sl.r_52 (F := Ideal) c arg1 arg2 arg4 arg6 arg9 arg12 f0 f1 f3 f5, kernelRun.sl.r_53 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 5 := by
  refine part_succ 1 4 (kernelRun.sl.r_39 (F := Ideal) c arg4 f3) (kernelRun.sl.r_40 (F := Ideal) c arg4 f3) (stepV (kernelRun.sl.r_39 (F := Ideal) c arg4 f3) (kernelRun.sl.r_40 (F := Ideal) c arg4 f3) (kernelRun.sl.r_47 (F := Ideal) c arg1 arg2 arg4 arg6 arg9 arg12 f0 f1 f3 f5, kernelRun.sl.r_48 (F := Ideal) c arg1 arg2 arg4 arg6 arg9 arg12 f0 f1 f3 f5) (_, _)) _ _ (lamRe1 s m) (lamIm1 s m) (part_succ 1 3 (kernelRun.sl.r_39 (F := Ideal) c arg4 f3) (kernelRun.sl.r_40 (F := Ideal) c arg4 f3) (kernelRun.sl.r_47 (F := Ideal) c arg1 arg2 arg4 arg6 arg9 arg12 f0 f1 f3 f5, kernelRun.sl.r_48 (F := Ideal) c arg1 arg2 arg4 arg6 arg9 arg12 f0 f1 f3 f5) _ _ (lamRe1 s m) (lamIm1 s m) (at1_3 s m) ?_ ?_) ?_ ?_
  · exact driveLoad _ _ _ 1 drives1 drivesCover1 96 0 (by omega) (by omega) (by decide) (by decide) _ _ _ _ s m
  · exact driveLoad _ _ _ 1 drives1 drivesCover1 96 512 (by omega) (by omega) (by decide) (by decide) _ _ _ _ s m
  · exact driveLoad _ _ _ 1 drives1 drivesCover1 128 0 (by omega) (by omega) (by decide) (by decide) _ _ _ _ s m
  · exact driveLoad _ _ _ 1 drives1 drivesCover1 128 512 (by omega) (by omega) (by decide) (by decide) _ _ _ _ s m

theorem at1_6 (s : Fin 32) (m : Fin 512) : both (kernelRun.sl.r_55 (F := Ideal) c arg1 arg2 arg4 arg6 arg9 arg12 f0 f1 f3 f5, kernelRun.sl.r_56 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 6 := by
  refine part_succ 1 5 (kernelRun.sl.r_39 (F := Ideal) c arg4 f3) (kernelRun.sl.r_40 (F := Ideal) c arg4 f3) (kernelRun.sl.r_52 (F := Ideal) c arg1 arg2 arg4 arg6 arg9 arg12 f0 f1 f3 f5, kernelRun.sl.r_53 (F := Ideal) c arg1 arg2 arg4 arg6 arg9 arg12 f0 f1 f3 f5) _ _ (lamRe1 s m) (lamIm1 s m) (at1_5 s m) ?_ ?_
  · exact driveLoad _ _ _ 1 drives1 drivesCover1 160 0 (by omega) (by omega) (by decide) (by decide) _ _ _ _ s m
  · exact driveLoad _ _ _ 1 drives1 drivesCover1 160 512 (by omega) (by omega) (by decide) (by decide) _ _ _ _ s m

theorem at1_7 (s : Fin 32) (m : Fin 512) : both (kernelRun.sl.r_58 (F := Ideal) c arg1 arg2 arg4 arg6 arg9 arg12 f0 f1 f3 f5, kernelRun.sl.r_59 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 7 := by
  refine part_succ 1 6 (kernelRun.sl.r_39 (F := Ideal) c arg4 f3) (kernelRun.sl.r_40 (F := Ideal) c arg4 f3) (kernelRun.sl.r_55 (F := Ideal) c arg1 arg2 arg4 arg6 arg9 arg12 f0 f1 f3 f5, kernelRun.sl.r_56 (F := Ideal) c arg1 arg2 arg4 arg6 arg9 arg12 f0 f1 f3 f5) _ _ (lamRe1 s m) (lamIm1 s m) (at1_6 s m) ?_ ?_
  · exact driveLoad _ _ _ 1 drives1 drivesCover1 192 0 (by omega) (by omega) (by decide) (by decide) _ _ _ _ s m
  · exact driveLoad _ _ _ 1 drives1 drivesCover1 192 512 (by omega) (by omega) (by decide) (by decide) _ _ _ _ s m

theorem at1_8 (s : Fin 32) (m : Fin 512) : both (k0_pay134 (F := Ideal) (kernelRun.sl.r_39 (F := Ideal) c arg4 f3) (kernelRun.sl.r_40 (F := Ideal) c arg4 f3) (kernelRun.sl.r_58 (F := Ideal) c arg1 arg2 arg4 arg6 arg9 arg12 f0 f1 f3 f5) (kernelRun.sl.r_59 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v1023 (F := Ideal) c arg1 arg2 arg9 arg12 f0 f1)), kernelRun.sl.r_61 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 1 s m 8 := by
  refine part_succ 1 7 (kernelRun.sl.r_39 (F := Ideal) c arg4 f3) (kernelRun.sl.r_40 (F := Ideal) c arg4 f3) (kernelRun.sl.r_58 (F := Ideal) c arg1 arg2 arg4 arg6 arg9 arg12 f0 f1 f3 f5, kernelRun.sl.r_59 (F := Ideal) c arg1 arg2 arg4 arg6 arg9 arg12 f0 f1 f3 f5) _ _ (lamRe1 s m) (lamIm1 s m) (at1_7 s m) ?_ ?_
  · exact driveLoad _ _ _ 1 drives1 drivesCover1 224 0 (by omega) (by omega) (by decide) (by decide) _ _ _ _ s m
  · exact driveLoad _ _ _ 1 drives1 drivesCover1 224 512 (by omega) (by omega) (by decide) (by decide) _ _ _ _ s m

end

end Cert.Kernel6Ideal.Stores

end
-- ==== Proof.ScanBlock2.lean ====
/- The sample scan's states, step by step: what the body computes for every block is the plain recurrence. -/
module

public import proofs.«01_k».proof.Proof.ScanRun
public import proofs.«01_k».proof.Proof.ScanStores
public import Idealize.ShloMosaic.Lib.Exec.Geometry
public import Idealize.ShloMosaic.Lib.Pipeline.ValueKit
public import Idealize.ShloMosaic.Lib.Pipeline.Value
public import Idealize.ShloMosaic.Lib.Pipeline.FrameBody

@[expose] public section

set_option maxRecDepth 16384

noncomputable section

namespace Cert.Kernel6Ideal.Stores

open Cert.Kernel6Ideal Cert.Kernel6Ideal.Gen Cert.Kernel6Ideal.Table Cert.Kernel6Ideal.Run
open Idealize.ShloMosaic Idealize.ShloMosaic.TcCoe Idealize.SL.Sem

section
variable {c : Dev nD} {arg1 : Memref sig .tc .vmem S4x256x128 .f32} {arg2 : Memref sig .tc .vmem S4x16x1024 .f32}
  {arg4 : Memref sig .tc .vmem S4x34x512 .f32} {arg6 : Memref sig .tc .vmem S4x32x1024 .f32} {arg9 : Memref sig .tc .vmem S4x256x1024 .f32}
  {arg12 : Memref sig .tc .vmem S4x256x128 .bf16}
  {f0 : Buf (Elt Ideal) (arg1.view.loc (c : Thread nD τ))} {f1 : Buf (Elt Ideal) (arg2.view.loc (c : Thread nD τ))}
  {f3 : Buf (Elt Ideal) (arg4.view.loc (c : Thread nD τ))} {f5 : Buf (Elt Ideal) (arg6.view.loc (c : Thread nD τ))}

/-- The drive stored by the end of block 2 holds the block. -/
theorem drivesCover2 (y : S4x256x1024.Idx) (h0 : (y 0).val = 2) : ∃ p ∈ kernelRun.sl.H8_3 (F := Ideal) c arg1 arg2 arg12 f0 f1, y ∈ p.1.set :=
  ⟨_, List.mem_cons_self, drive_mem 2 (by decide) y h0⟩

theorem lamRe2 (s : Fin 32) (m : Fin 512) : kernelRun.sl.r_72 (F := Ideal) c arg4 f3 (ix2 s m) = arg4.view.read (Elt Ideal) f3 (ix3 2 1 m) :=
  lamLoad 2 1 (by omega) (by omega) (by decide) (by decide) _ _ _ _ shapeCasts_S1x512_S1x512 broadcasts_S1x512_S32x512 s m

theorem lamIm2 (s : Fin 32) (m : Fin 512) : kernelRun.sl.r_73 (F := Ideal) c arg4 f3 (ix2 s m) = arg4.view.read (Elt Ideal) f3 (ix3 2 18 m) :=
  lamLoad 2 18 (by omega) (by omega) (by decide) (by decide) _ _ _ _ shapeCasts_S1x512_S1x512 broadcasts_S1x512_S32x512 s m

theorem at2_0 (s : Fin 32) (m : Fin 512) : both (LoadRect.valAlong (lr := (Rect.unit (s := S32x1024) ![0, 0] S32x512.size inb_S32x1024_S32x512_0_0).toLoadRect) (by decide) (kernelRun.sl.v1464 (F := Ideal) c arg6 f5), LoadRect.valAlong (lr := (Rect.unit (s := S32x1024) ![0, 512] S32x512.size inb_S32x1024_S32x512_0_512).toLoadRect) (by decide) (kernelRun.sl.v1467 (F := Ideal) c arg6 f5)) (ix2 s m)
    = part (arg1.view.read (Elt Ideal) f0) (arg2.view.read (Elt Ideal) f1) (arg4.view.read (Elt Ideal) f3) (arg6.view.read (Elt Ideal) f5) 2 s m 0 := by
  refine part_zero 2 _ _ ?_ ?_
  · exact startLoad 2 0 (by omega) (by omega) (by decide) (by decide) _ _ _ _ s m
  · exact startLoad 2 512 (by omega) (by omega) (by decide) (by decide) _ _ _ _ s m

theorem at2_1 (s : Fin 32) (m : Fin 512) : both (kernelRun.sl.r_75 (F := Ideal) c arg1 arg2 arg4 arg6 arg9 arg12 f0 f1 f3 f5, kernelRun.sl.r_76 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 2 s m 1 := by
  refine part_succ 2 0 (kernelRun.sl.r_72 (F := Ideal) c arg4 f3) (kernelRun.sl.r_73 (F := Ideal) c arg4 f3) (LoadRect.valAlong (lr := (Rect.unit (s := S32x1024) ![0, 0] S32x512.size inb_S32x1024_S32x512_0_0).toLoadRect) (by decide) (kernelRun.sl.v1464 (F := Ideal) c arg6 f5), LoadRect.valAlong (lr := (Rect.unit (s := S32x1024) ![0, 512] S32x512.size inb_S32x1024_S32x512_0_512).toLoadRect) (by decide) (kernelRun.sl.v1467 (F := Ideal) c arg6 f5)) _ _ (lamRe2 s m) (lamIm2 s m) (at2_0 s m) ?_ ?_
  · exact driveLoad _ _ _ 2 drives2 drivesCover2 0 0 (by omega) (by omega) (by decide) (by decide) _ _ _ _ s m
  · exact driveLoad _ _ _ 2 drives2 drivesCover2 0 512 (by omega) (by omega) (by decide) (by decide) _ _ _ _ s m

theorem at2_2 (s : Fin 32) (m : Fin 512) : both (kernelRun.sl.r_77 (F := Ideal) c arg1 arg2 arg4 arg6 arg9 arg12 f0 f1 f3 f5, kernelRun.sl.r_78 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 2 s m 2 := by
  refine part_succ 2 1 (kernelRun.sl.r_72 (F := Ideal) c arg4 f3) (kernelRun.sl.r_73 (F := Ideal) c arg4 f3) (kernelRun.sl.r_75 (F := Ideal) c arg1 arg2 arg4 arg6 arg9 arg12 f0 f1 f3 f5, kernelRun.sl.r_76 (F := Ideal) c arg1 arg2 arg4 arg6 arg9 arg12 f0 f1 f3 f5) _ _ (lamRe2 s m) (lamIm2 s m) (at2_1 s m) ?_ ?_
  · exact driveLoad _ _ _ 2 drives2 drivesCover2 32 0 (by omega) (by omega) (by decide) (by decide) _ _ _ _ s m
  · exact driveLoad _ _ _ 2 drives2 drivesCover2 32 512 (by omega) (by omega) (by decide) (by decide) _ _ _ _ s m

theorem at2_5 (s : Fin 32) (m : Fin 512) : both (kernelRun.sl.r_83 (F := Ideal) c arg1 arg2 arg4 arg6 arg9 arg12 f0 f1 f3 f5, kernelRun.sl.r_84 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 2 s m 5 := by
  refine part_succ 2 4 (kernelRun.sl.r_72 (F := Ideal) c arg4 f3) (kernelRun.sl.r_73 (F := Ideal) c arg4 f3) (stepV (kernelRun.sl.r_72 (F := Ideal) c arg4 f3) (kernelRun.sl.r_73 (F := Ideal) c arg4 f3) (stepV (kernelRun.sl.r_72 (F := Ideal) c arg4 f3) (kernelRun.sl.r_73 (F := Ideal) c arg4 f3) (kernelRun.sl.r_77 (F := Ideal) c arg1 arg2 arg4 arg6 arg9 arg12 f0 f1 f3 f5, kernelRun.sl.r_78 (F := Ideal) c arg1 arg2 arg4 arg6 arg9 arg12 f0 f1 f3 f5) (_, _)) (_, _)) _ _ (lamRe2 s m) (lamIm2 s m) (part_succ 2 3 (kernelRun.sl.r_72 (F := Ideal) c arg4 f3) (kernelRun.sl.r_73 (F := Ideal) c arg4 f3) (stepV (kernelRun.sl.r_72 (F := Ideal) c arg4 f3) (kernelRun.sl.r_73 (F := Ideal) c arg4 f3) (kernelRun.sl.r_77 (F := Ideal) c arg1 arg2 arg4 arg6 arg9 arg12 f0 f1 f3 f5, kernelRun.sl.r_78 (F := Ideal) c arg1 arg2 arg4 arg6 arg9 arg12 f0 f1 f3 f5) (_, _)) _ _ (lamRe2 s m) (lamIm2 s m) (part_succ 2 2 (kernelRun.sl.r_72 (F := Ideal) c arg4 f3) (kernelRun.sl.r_73 (F := Ideal) c arg4 f3) (kernelRun.sl.r_77 (F := Ideal) c arg1 arg2 arg4 arg6 arg9 arg12 f0 f1 f3 f5, kernelRun.sl.r_78 (F := Ideal) c arg1 arg2 arg4 arg6 arg9 arg12 f0 f1 f3 f5) _ _ (lamRe2 s m) (lamIm2 s m) (at2_2 s m) ?_ ?_) ?_ ?_) ?_ ?_
  · exact driveLoad _ _ _ 2 drives2 drivesCover2 64 0 (by omega) (by omega) (by decide) (by decide) _ _ _ _ s m
  · exact driveLoad _ _ _ 2 drives2 drivesCover2 64 512 (by omega) (by omega) (by decide) (by decide) _ _ _ _ s m
  · exact driveLoad _ _ _ 2 drives2 drivesCover2 96 0 (by omega) (by omega) (by decide) (by decide) _ _ _ _ s m
  · exact driveLoad _ _ _ 2 drives2 drivesCover2 96 512 (by omega) (by omega) (by decide) (by decide) _ _ _ _ s m
  · exact driveLoad _ _ _ 2 drives2 drivesCover2 128 0 (by omega) (by omega) (by decide) (by decide) _ _ _ _ s m
  · exact driveLoad _ _ _ 2 drives2 drivesCover2 128 512 (by omega) (by omega) (by decide) (by decide) _ _ _ _ s m

theorem at2_6 (s : Fin 32) (m : Fin 512) : both (kernelRun.sl.r_87 (F := Ideal) c arg1 arg2 arg4 arg6 arg9 arg12 f0 f1 f3 f5, kernelRun.sl.r_88 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 2 s m 6 := by
  refine part_succ 2 5 (kernelRun.sl.r_72 (F := Ideal) c arg4 f3) (kernelRun.sl.r_73 (F := Ideal) c arg4 f3) (kernelRun.sl.r_83 (F := Ideal) c arg1 arg2 arg4 arg6 arg9 arg12 f0 f1 f3 f5, kernelRun.sl.r_84 (F := Ideal) c arg1 arg2 arg4 arg6 arg9 arg12 f0 f1 f3 f5) _ _ (lamRe2 s m) (lamIm2 s m) (at2_5 s m) ?_ ?_
  · exact driveLoad _ _ _ 2 drives2 drivesCover2 160 0 (by omega) (by omega) (by decide) (by decide) _ _ _ _ s m
  · exact driveLoad _ _ _ 2 drives2 drivesCover2 160 512 (by omega) (by omega) (by decide) (by decide) _ _ _ _ s m

theorem at2_7 (s : Fin 32) (m : Fin 512) : both (kernelRun.sl.r_90 (F := Ideal) c arg1 arg2 arg4 arg6 arg9 arg12 f0 f1 f3 f5, kernelRun.sl.r_91 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 2 s m 7 := by
  refine part_succ 2 6 (kernelRun.sl.r_72 (F := Ideal) c arg4 f3) (kernelRun.sl.r_73 (F := Ideal) c arg4 f3) (kernelRun.sl.r_87 (F := Ideal) c arg1 arg2 arg4 arg6 arg9 arg12 f0 f1 f3 f5, kernelRun.sl.r_88 (F := Ideal) c arg1 arg2 arg4 arg6 arg9 arg12 f0 f1 f3 f5) _ _ (lamRe2 s m) (lamIm2 s m) (at2_6 s m) ?_ ?_
  · exact driveLoad _ _ _ 2 drives2 drivesCover2 192 0 (by omega) (by omega) (by decide) (by decide) _ _ _ _ s m
  · exact driveLoad _ _ _ 2 drives2 drivesCover2 192 512 (by omega) (by omega) (by decide) (by decide) _ _ _ _ s m

theorem at2_8 (s : Fin 32) (m : Fin 512) : both (k0_pay212 (F := Ideal) (kernelRun.sl.r_72 (F := Ideal) c arg4 f3) (kernelRun.sl.r_73 (F := Ideal) c arg4 f3) (kernelRun.sl.r_90 (F := Ideal) c arg1 arg2 arg4 arg6 arg9 arg12 f0 f1 f3 f5) (kernelRun.sl.r_91 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v1652 (F := Ideal) c arg1 arg2 arg9 arg12 f0 f1)), kernelRun.sl.r_92 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 2 s m 8 := by
  refine part_succ 2 7 (kernelRun.sl.r_72 (F := Ideal) c arg4 f3) (kernelRun.sl.r_73 (F := Ideal) c arg4 f3) (kernelRun.sl.r_90 (F := Ideal) c arg1 arg2 arg4 arg6 arg9 arg12 f0 f1 f3 f5, kernelRun.sl.r_91 (F := Ideal) c arg1 arg2 arg4 arg6 arg9 arg12 f0 f1 f3 f5) _ _ (lamRe2 s m) (lamIm2 s m) (at2_7 s m) ?_ ?_
  · exact driveLoad _ _ _ 2 drives2 drivesCover2 224 0 (by omega) (by omega) (by decide) (by decide) _ _ _ _ s m
  · exact driveLoad _ _ _ 2 drives2 drivesCover2 224 512 (by omega) (by omega) (by decide) (by decide) _ _ _ _ s m

end

end Cert.Kernel6Ideal.Stores

end
-- ==== Proof.ScanBlock3.lean ====
/- The sample scan's states, step by step: what the body computes for every block is the plain recurrence. -/
module

public import proofs.«01_k».proof.Proof.ScanRun
public import proofs.«01_k».proof.Proof.ScanStores
public import Idealize.ShloMosaic.Lib.Exec.Geometry
public import Idealize.ShloMosaic.Lib.Pipeline.ValueKit
public import Idealize.ShloMosaic.Lib.Pipeline.Value
public import Idealize.ShloMosaic.Lib.Pipeline.FrameBody

@[expose] public section

set_option maxRecDepth 16384

noncomputable section

namespace Cert.Kernel6Ideal.Stores

open Cert.Kernel6Ideal Cert.Kernel6Ideal.Gen Cert.Kernel6Ideal.Table Cert.Kernel6Ideal.Run
open Idealize.ShloMosaic Idealize.ShloMosaic.TcCoe Idealize.SL.Sem

section
variable {c : Dev nD} {arg1 : Memref sig .tc .vmem S4x256x128 .f32} {arg2 : Memref sig .tc .vmem S4x16x1024 .f32}
  {arg4 : Memref sig .tc .vmem S4x34x512 .f32} {arg6 : Memref sig .tc .vmem S4x32x1024 .f32} {arg9 : Memref sig .tc .vmem S4x256x1024 .f32}
  {arg12 : Memref sig .tc .vmem S4x256x128 .bf16}
  {f0 : Buf (Elt Ideal) (arg1.view.loc (c : Thread nD τ))} {f1 : Buf (Elt Ideal) (arg2.view.loc (c : Thread nD τ))}
  {f3 : Buf (Elt Ideal) (arg4.view.loc (c : Thread nD τ))} {f5 : Buf (Elt Ideal) (arg6.view.loc (c : Thread nD τ))}

/-- The drive stored by the end of block 3 holds the block. -/
theorem drivesCover3 (y : S4x256x1024.Idx) (h0 : (y 0).val = 3) : ∃ p ∈ kernelRun.sl.H8_4 (F := Ideal) c arg1 arg2 arg12 f0 f1, y ∈ p.1.set :=
  ⟨_, List.mem_cons_self, drive_mem 3 (by decide) y h0⟩

theorem lamRe3 (s : Fin 32) (m : Fin 512) : kernelRun.sl.r_104 (F := Ideal) c arg4 f3 (ix2 s m) = arg4.view.read (Elt Ideal) f3 (ix3 3 1 m) :=
  lamLoad 3 1 (by omega) (by omega) (by decide) (by decide) _ _ _ _ shapeCasts_S1x512_S1x512 broadcasts_S1x512_S32x512 s m

theorem lamIm3 (s : Fin 32) (m : Fin 512) : kernelRun.sl.r_105 (F := Ideal) c arg4 f3 (ix2 s m) = arg4.view.read (Elt Ideal) f3 (ix3 3 18 m) :=
  lamLoad 3 18 (by omega) (by omega) (by decide) (by decide) _ _ _ _ shapeCasts_S1x512_S1x512 broadcasts_S1x512_S32x512 s m

theorem at3_0 (s : Fin 32) (m : Fin 512) : both (LoadRect.valAlong (lr := (Rect.unit (s := S32x1024) ![0, 0] S32x512.size inb_S32x1024_S32x512_0_0).toLoadRect) (by decide) (kernelRun.sl.v2093 (F := Ideal) c arg6 f5), LoadRect.valAlong (lr := (Rect.unit (s := S32x1024) ![0, 512] S32x512.size inb_S32x1024_S32x512_0_512).toLoadRect) (by decide) (kernelRun.sl.v2096 (F := Ideal) c arg6 f5)) (ix2 s m)
    = part (arg1.view.read (Elt Ideal) f0) (arg2.view.read (Elt Ideal) f1) (arg4.view.read (Elt Ideal) f3) (arg6.view.read (Elt Ideal) f5) 3 s m 0 := by
  refine part_zero 3 _ _ ?_ ?_
  · exact startLoad 3 0 (by omega) (by omega) (by decide) (by decide) _ _ _ _ s m
  · exact startLoad 3 512 (by omega) (by omega) (by decide) (by decide) _ _ _ _ s m

theorem at3_1 (s : Fin 32) (m : Fin 512) : both (kernelRun.sl.r_107 (F := Ideal) c arg1 arg2 arg4 arg6 arg9 arg12 f0 f1 f3 f5, kernelRun.sl.r_108 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 1 := by
  refine part_succ 3 0 (kernelRun.sl.r_104 (F := Ideal) c arg4 f3) (kernelRun.sl.r_105 (F := Ideal) c arg4 f3) (LoadRect.valAlong (lr := (Rect.unit (s := S32x1024) ![0, 0] S32x512.size inb_S32x1024_S32x512_0_0).toLoadRect) (by decide) (kernelRun.sl.v2093 (F := Ideal) c arg6 f5), LoadRect.valAlong (lr := (Rect.unit (s := S32x1024) ![0, 512] S32x512.size inb_S32x1024_S32x512_0_512).toLoadRect) (by decide) (kernelRun.sl.v2096 (F := Ideal) c arg6 f5)) _ _ (lamRe3 s m) (lamIm3 s m) (at3_0 s m) ?_ ?_
  · exact driveLoad _ _ _ 3 drives3 drivesCover3 0 0 (by omega) (by omega) (by decide) (by decide) _ _ _ _ s m
  · exact driveLoad _ _ _ 3 drives3 drivesCover3 0 512 (by omega) (by omega) (by decide) (by decide) _ _ _ _ s m

theorem at3_2 (s : Fin 32) (m : Fin 512) : both (kernelRun.sl.r_109 (F := Ideal) c arg1 arg2 arg4 arg6 arg9 arg12 f0 f1 f3 f5, kernelRun.sl.r_110 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 2 := by
  refine part_succ 3 1 (kernelRun.sl.r_104 (F := Ideal) c arg4 f3) (kernelRun.sl.r_105 (F := Ideal) c arg4 f3) (kernelRun.sl.r_107 (F := Ideal) c arg1 arg2 arg4 arg6 arg9 arg12 f0 f1 f3 f5, kernelRun.sl.r_108 (F := Ideal) c arg1 arg2 arg4 arg6 arg9 arg12 f0 f1 f3 f5) _ _ (lamRe3 s m) (lamIm3 s m) (at3_1 s m) ?_ ?_
  · exact driveLoad _ _ _ 3 drives3 drivesCover3 32 0 (by omega) (by omega) (by decide) (by decide) _ _ _ _ s m
  · exact driveLoad _ _ _ 3 drives3 drivesCover3 32 512 (by omega) (by omega) (by decide) (by decide) _ _ _ _ s m

theorem at3_4 (s : Fin 32) (m : Fin 512) : both (kernelRun.sl.r_114 (F := Ideal) c arg1 arg2 arg4 arg6 arg9 arg12 f0 f1 f3 f5, kernelRun.sl.r_115 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 4 := by
  refine part_succ 3 3 (kernelRun.sl.r_104 (F := Ideal) c arg4 f3) (kernelRun.sl.r_105 (F := Ideal) c arg4 f3) (stepV (kernelRun.sl.r_104 (F := Ideal) c arg4 f3) (kernelRun.sl.r_105 (F := Ideal) c arg4 f3) (kernelRun.sl.r_109 (F := Ideal) c arg1 arg2 arg4 arg6 arg9 arg12 f0 f1 f3 f5, kernelRun.sl.r_110 (F := Ideal) c arg1 arg2 arg4 arg6 arg9 arg12 f0 f1 f3 f5) (_, _)) _ _ (lamRe3 s m) (lamIm3 s m) (part_succ 3 2 (kernelRun.sl.r_104 (F := Ideal) c arg4 f3) (kernelRun.sl.r_105 (F := Ideal) c arg4 f3) (kernelRun.sl.r_109 (F := Ideal) c arg1 arg2 arg4 arg6 arg9 arg12 f0 f1 f3 f5, kernelRun.sl.r_110 (F := Ideal) c arg1 arg2 arg4 arg6 arg9 arg12 f0 f1 f3 f5) _ _ (lamRe3 s m) (lamIm3 s m) (at3_2 s m) ?_ ?_) ?_ ?_
  · exact driveLoad _ _ _ 3 drives3 drivesCover3 64 0 (by omega) (by omega) (by decide) (by decide) _ _ _ _ s m
  · exact driveLoad _ _ _ 3 drives3 drivesCover3 64 512 (by omega) (by omega) (by decide) (by decide) _ _ _ _ s m
  · exact driveLoad _ _ _ 3 drives3 drivesCover3 96 0 (by omega) (by omega) (by decide) (by decide) _ _ _ _ s m
  · exact driveLoad _ _ _ 3 drives3 drivesCover3 96 512 (by omega) (by omega) (by decide) (by decide) _ _ _ _ s m

theorem at3_5 (s : Fin 32) (m : Fin 512) : both (kernelRun.sl.r_117 (F := Ideal) c arg1 arg2 arg4 arg6 arg9 arg12 f0 f1 f3 f5, kernelRun.sl.r_118 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 5 := by
  refine part_succ 3 4 (kernelRun.sl.r_104 (F := Ideal) c arg4 f3) (kernelRun.sl.r_105 (F := Ideal) c arg4 f3) (kernelRun.sl.r_114 (F := Ideal) c arg1 arg2 arg4 arg6 arg9 arg12 f0 f1 f3 f5, kernelRun.sl.r_115 (F := Ideal) c arg1 arg2 arg4 arg6 arg9 arg12 f0 f1 f3 f5) _ _ (lamRe3 s m) (lamIm3 s m) (at3_4 s m) ?_ ?_
  · exact driveLoad _ _ _ 3 drives3 drivesCover3 128 0 (by omega) (by omega) (by decide) (by decide) _ _ _ _ s m
  · exact driveLoad _ _ _ 3 drives3 drivesCover3 128 512 (by omega) (by omega) (by decide) (by decide) _ _ _ _ s m

theorem at3_6 (s : Fin 32) (m : Fin 512) : both (kernelRun.sl.r_119 (F := Ideal) c arg1 arg2 arg4 arg6 arg9 arg12 f0 f1 f3 f5, kernelRun.sl.r_120 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 6 := by
  refine part_succ 3 5 (kernelRun.sl.r_104 (F := Ideal) c arg4 f3) (kernelRun.sl.r_105 (F := Ideal) c arg4 f3) (kernelRun.sl.r_117 (F := Ideal) c arg1 arg2 arg4 arg6 arg9 arg12 f0 f1 f3 f5, kernelRun.sl.r_118 (F := Ideal) c arg1 arg2 arg4 arg6 arg9 arg12 f0 f1 f3 f5) _ _ (lamRe3 s m) (lamIm3 s m) (at3_5 s m) ?_ ?_
  · exact driveLoad _ _ _ 3 drives3 drivesCover3 160 0 (by omega) (by omega) (by decide) (by decide) _ _ _ _ s m
  · exact driveLoad _ _ _ 3 drives3 drivesCover3 160 512 (by omega) (by omega) (by decide) (by decide) _ _ _ _ s m

theorem at3_7 (s : Fin 32) (m : Fin 512) : both (kernelRun.sl.r_122 (F := Ideal) c arg1 arg2 arg4 arg6 arg9 arg12 f0 f1 f3 f5, kernelRun.sl.r_123 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 7 := by
  refine part_succ 3 6 (kernelRun.sl.r_104 (F := Ideal) c arg4 f3) (kernelRun.sl.r_105 (F := Ideal) c arg4 f3) (kernelRun.sl.r_119 (F := Ideal) c arg1 arg2 arg4 arg6 arg9 arg12 f0 f1 f3 f5, kernelRun.sl.r_120 (F := Ideal) c arg1 arg2 arg4 arg6 arg9 arg12 f0 f1 f3 f5) _ _ (lamRe3 s m) (lamIm3 s m) (at3_6 s m) ?_ ?_
  · exact driveLoad _ _ _ 3 drives3 drivesCover3 192 0 (by omega) (by omega) (by decide) (by decide) _ _ _ _ s m
  · exact driveLoad _ _ _ 3 drives3 drivesCover3 192 512 (by omega) (by omega) (by decide) (by decide) _ _ _ _ s m

theorem at3_8 (s : Fin 32) (m : Fin 512) : both (k0_pay286 (F := Ideal) (kernelRun.sl.r_104 (F := Ideal) c arg4 f3) (kernelRun.sl.r_105 (F := Ideal) c arg4 f3) (kernelRun.sl.r_122 (F := Ideal) c arg1 arg2 arg4 arg6 arg9 arg12 f0 f1 f3 f5) (kernelRun.sl.r_123 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v2281 (F := Ideal) c arg1 arg2 arg9 arg12 f0 f1)), kernelRun.sl.r_124 (F := Ideal) c arg1 arg2 arg4 arg6 arg9 arg12 f0 f1 f3 f5) (ix2 s m)
    = part (arg1.view.read (Elt Ideal) f0) (arg2.view.read (Elt Ideal) f1) (arg4.view.read (Elt Ideal) f3) (arg6.view.read (Elt Ideal) f5) 3 s m 8 := by
  refine part_succ 3 7 (kernelRun.sl.r_104 (F := Ideal) c arg4 f3) (kernelRun.sl.r_105 (F := Ideal) c arg4 f3) (kernelRun.sl.r_122 (F := Ideal) c arg1 arg2 arg4 arg6 arg9 arg12 f0 f1 f3 f5, kernelRun.sl.r_123 (F := Ideal) c arg1 arg2 arg4 arg6 arg9 arg12 f0 f1 f3 f5) _ _ (lamRe3 s m) (lamIm3 s m) (at3_7 s m) ?_ ?_
  · exact driveLoad _ _ _ 3 drives3 drivesCover3 224 0 (by omega) (by omega) (by decide) (by decide) _ _ _ _ s m
  · exact driveLoad _ _ _ 3 drives3 drivesCover3 224 512 (by omega) (by omega) (by decide) (by decide) _ _ _ _ s m

end

end Cert.Kernel6Ideal.Stores

end
-- ==== Proof.ScanFinal.lean ====
/- The sample scan's stores are the states the recurrence ends at. -/
module

public import proofs.«01_k».proof.Proof.ScanBlock0
public import proofs.«01_k».proof.Proof.ScanBlock1
public import proofs.«01_k».proof.Proof.ScanBlock2
public import proofs.«01_k».proof.Proof.ScanBlock3

@[expose] public section

set_option maxRecDepth 16384

noncomputable section

namespace Cert.Kernel6Ideal.Stores

open Cert.Kernel6Ideal Cert.Kernel6Ideal.Gen Cert.Kernel6Ideal.Table Cert.Kernel6Ideal.Run
open Idealize.ShloMosaic Idealize.ShloMosaic.TcCoe Idealize.SL.Sem

/-- What the two stores of a block put down is the recurrence's real and imaginary half of that block. -/
theorem half_re (x0 : Vec Ideal S4x256x128 .f32) (x1 : Vec Ideal S4x16x1024 .f32) (x3 : Vec Ideal S4x34x512 .f32) (x5 : Vec Ideal S4x32x1024 .f32)
    (k : ℕ) (hk : k < 4) (w : Vec Ideal S32x512 .f32) (p q' h0 hs q hR)
    (hw : ∀ (s : Fin 32) (m : Fin 512), w (ix2 s m) = (part x0 x1 x3 x5 ⟨k, hk⟩ s m 8).1) (y) :
    Rect.payAlong (r := Rect.unit (s := S32x1024) ![0, 0] S32x512.size q') (R := (Rect.unit (s := S4x32x1024) ![k, 0, 0] S1x32x1024.size p).within
      ((Rect.unit (s := S32x1024) ![0, 0] S32x512.size q').consLift ![1, 32, 1024] h0 hs) q) hR w y
      = statesOf x0 x1 x3 x5 (((Rect.unit (s := S4x32x1024) ![k, 0, 0] S1x32x1024.size p).within
          ((Rect.unit (s := S32x1024) ![0, 0] S32x512.size q').consLift ![1, 32, 1024] h0 hs) q).emb y) := by
  refine store_idx (D := 4) (A := 32) (B := 1024) k p _ h0 hs q hR (statesOf x0 x1 x3 x5) w (fun x i e0 e1 e2 => ?_) y
  have hx : (x 1).val < 512 := (x 1).isLt
  have e1' : (i 1).val = (x 0).val := e1.trans (by show 0 + 1 * (x 0).val = _; omega)
  have e2' : (i 2).val = (x 1).val := e2.trans (by show 0 + 1 * (x 1).val = _; omega)
  have a0 : (⟨k, hk⟩ : Fin 4) = i 0 := Fin.ext e0.symm
  have a1 : (x 0 : Fin 32) = i 1 := Fin.ext e1'.symm
  have a2 : (x 1 : Fin 512) = ⟨(i 2).val % 512, by omega⟩ := Fin.ext (by show (x 1).val = (i 2).val % 512; omega)
  have hxi : x = ix2 (i 1 : Fin 32) (⟨(i 2).val % 512, by omega⟩ : Fin 512) := by
    funext a; exact match a with
      | ⟨0, _⟩ => a1
      | ⟨1, _⟩ => a2
  refine ((congrArg w hxi).trans (hw _ _)).trans ?_
  unfold statesOf
  rw [if_pos (e2'.trans_lt hx)]
  exact congrArg (fun z => (part x0 x1 x3 x5 z (i 1) ⟨(i 2).val % 512, by omega⟩ 8).1) a0

theorem half_im (x0 : Vec Ideal S4x256x128 .f32) (x1 : Vec Ideal S4x16x1024 .f32) (x3 : Vec Ideal S4x34x512 .f32) (x5 : Vec Ideal S4x32x1024 .f32)
    (k : ℕ) (hk : k < 4) (w : Vec Ideal S32x512 .f32) (p q' h0 hs q hR)
    (hw : ∀ (s : Fin 32) (m : Fin 512), w (ix2 s m) = (part x0 x1 x3 x5 ⟨k, hk⟩ s m 8).2) (y) :
    Rect.payAlong (r := Rect.unit (s := S32x1024) ![0, 512] S32x512.size q') (R := (Rect.unit (s := S4x32x1024) ![k, 0, 0] S1x32x1024.size p).within
      ((Rect.unit (s := S32x1024) ![0, 512] S32x512.size q').consLift ![1, 32, 1024] h0 hs) q) hR w y
      = statesOf x0 x1 x3 x5 (((Rect.unit (s := S4x32x1024) ![k, 0, 0] S1x32x1024.size p).within
          ((Rect.unit (s := S32x1024) ![0, 512] S32x512.size q').consLift ![1, 32, 1024] h0 hs) q).emb y) := by
  refine store_idx (D := 4) (A := 32) (B := 1024) k p _ h0 hs q hR (statesOf x0 x1 x3 x5) w (fun x i e0 e1 e2 => ?_) y
  have hx : (x 1).val < 512 := (x 1).isLt
  have e1' : (i 1).val = (x 0).val := e1.trans (by show 0 + 1 * (x 0).val = _; omega)
  have e2' : (i 2).val = 512 + (x 1).val := e2.trans (by show 512 + 1 * (x 1).val = _; omega)
  have a0 : (⟨k, hk⟩ : Fin 4) = i 0 := Fin.ext e0.symm
  have a1 : (x 0 : Fin 32) = i 1 := Fin.ext e1'.symm
  have a2 : (x 1 : Fin 512) = ⟨(i 2).val % 512, by omega⟩ := Fin.ext (by show (x 1).val = (i 2).val % 512; omega)
  have hxi : x = ix2 (i 1 : Fin 32) (⟨(i 2).val % 512, by omega⟩ : Fin 512) := by
    funext a; exact match a with
      | ⟨0, _⟩ => a1
      | ⟨1, _⟩ => a2
  refine ((congrArg w hxi).trans (hw _ _)).trans ?_
  unfold statesOf
  rw [if_neg (by omega)]
  exact congrArg (fun z => (part x0 x1 x3 x5 z (i 1) ⟨(i 2).val % 512, by omega⟩ 8).2) a0

section
variable (c : Dev nD) (arg1 : Memref sig .tc .vmem S4x256x128 .f32) (harg1 : arg1.IsWhole) (arg2 : Memref sig .tc .vmem S4x16x1024 .f32) (harg2 : arg2.IsWhole) (arg3 : Memref sig .tc .vmem S4x16x1024 .f32) (harg3 : arg3.IsWhole) (arg4 : Memref sig .tc .vmem S4x34x512 .f32) (harg4 : arg4.IsWhole) (arg5 : Memref sig .tc .vmem S4x1x128 .f32) (harg5 : arg5.IsWhole) (arg6 : Memref sig .tc .vmem S4x32x1024 .f32) (harg6 : arg6.IsWhole) (arg7 : Memref sig .tc .vmem S4x256x128 .f32) (harg7 : arg7.IsWhole) (arg8 : Memref sig .tc .vmem S4x32x1024 .f32) (harg8 : arg8.IsWhole) (arg9 : Memref sig .tc .vmem S4x256x1024 .f32) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S4x256x128 .bf16) (harg12 : arg12.IsWhole) (f0 : Buf (Elt Ideal) (arg1.view.loc (c : Thread nD τ))) (f1 : Buf (Elt Ideal) (arg2.view.loc (c : Thread nD τ))) (f2 : Buf (Elt Ideal) (arg3.view.loc (c : Thread nD τ))) (f3 : Buf (Elt Ideal) (arg4.view.loc (c : Thread nD τ))) (f4 : Buf (Elt Ideal) (arg5.view.loc (c : Thread nD τ))) (f5 : Buf (Elt Ideal) (arg6.view.loc (c : Thread nD τ)))

/-- Every piece the body stores to the states' buffer is the recurrence's end, read at the piece's place. -/
theorem stored : ∀ p ∈ (kernelRun (F := Ideal) c arg1 harg1 arg2 harg2 arg3 harg3 arg4 harg4 arg5 harg5 arg6 harg6 arg7 harg7 arg8 harg8 arg9 harg9 arg10 harg10 arg11 harg11 arg12 harg12 f0 f1 f2 f3 f4 f5).1, ∀ y, p.2 y = statesOf (arg1.view.read (Elt Ideal) f0) (arg2.view.read (Elt Ideal) f1) (arg4.view.read (Elt Ideal) f3) (arg6.view.read (Elt Ideal) f5) (p.1.emb y) := by
  refine List.forall_mem_cons.mpr ⟨half_im (arg1.view.read (Elt Ideal) f0) (arg2.view.read (Elt Ideal) f1) (arg4.view.read (Elt Ideal) f3) (arg6.view.read (Elt Ideal) f5) 3 (by decide) (kernelRun.sl.r_124 (F := Ideal) c arg1 arg2 arg4 arg6 arg9 arg12 f0 f1 f3 f5) _ _ _ _ (fun _ => rfl) _ (fun s m => congrArg Prod.snd (at3_8 s m)), ?_⟩
  refine List.forall_mem_cons.mpr ⟨half_re (arg1.view.read (Elt Ideal) f0) (arg2.view.read (Elt Ideal) f1) (arg4.view.read (Elt Ideal) f3) (arg6.view.read (Elt Ideal) f5) 3 (by decide) (k0_pay286 (F := Ideal) (kernelRun.sl.r_104 (F := Ideal) c arg4 f3) (kernelRun.sl.r_105 (F := Ideal) c arg4 f3) (kernelRun.sl.r_122 (F := Ideal) c arg1 arg2 arg4 arg6 arg9 arg12 f0 f1 f3 f5) (kernelRun.sl.r_123 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v2281 (F := Ideal) c arg1 arg2 arg9 arg12 f0 f1))) _ _ _ _ (fun _ => rfl) _ (fun s m => congrArg Prod.fst (at3_8 s m)), ?_⟩
  refine List.forall_mem_cons.mpr ⟨half_im (arg1.view.read (Elt Ideal) f0) (arg2.view.read (Elt Ideal) f1) (arg4.view.read (Elt Ideal) f3) (arg6.view.read (Elt Ideal) f5) 2 (by decide) (kernelRun.sl.r_92 (F := Ideal) c arg1 arg2 arg4 arg6 arg9 arg12 f0 f1 f3 f5) _ _ _ _ (fun _ => rfl) _ (fun s m => congrArg Prod.snd (at2_8 s m)), ?_⟩
  refine List.forall_mem_cons.mpr ⟨half_re (arg1.view.read (Elt Ideal) f0) (arg2.view.read (Elt Ideal) f1) (arg4.view.read (Elt Ideal) f3) (arg6.view.read (Elt Ideal) f5) 2 (by decide) (k0_pay212 (F := Ideal) (kernelRun.sl.r_72 (F := Ideal) c arg4 f3) (kernelRun.sl.r_73 (F := Ideal) c arg4 f3) (kernelRun.sl.r_90 (F := Ideal) c arg1 arg2 arg4 arg6 arg9 arg12 f0 f1 f3 f5) (kernelRun.sl.r_91 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v1652 (F := Ideal) c arg1 arg2 arg9 arg12 f0 f1))) _ _ _ _ (fun _ => rfl) _ (fun s m => congrArg Prod.fst (at2_8 s m)), ?_⟩
  refine List.forall_mem_cons.mpr ⟨half_im (arg1.view.read (Elt Ideal) f0) (arg2.view.read (Elt Ideal) f1) (arg4.view.read (Elt Ideal) f3) (arg6.view.read (Elt Ideal) f5) 1 (by decide) (kernelRun.sl.r_61 (F := Ideal) c arg1 arg2 arg4 arg6 arg9 arg12 f0 f1 f3 f5) _ _ _ _ (fun _ => rfl) _ (fun s m => congrArg Prod.snd (at1_8 s m)), ?_⟩
  refine List.forall_mem_cons.mpr ⟨half_re (arg1.view.read (Elt Ideal) f0) (arg2.view.read (Elt Ideal) f1) (arg4.view.read (Elt Ideal) f3) (arg6.view.read (Elt Ideal) f5) 1 (by decide) (k0_pay134 (F := Ideal) (kernelRun.sl.r_39 (F := Ideal) c arg4 f3) (kernelRun.sl.r_40 (F := Ideal) c arg4 f3) (kernelRun.sl.r_58 (F := Ideal) c arg1 arg2 arg4 arg6 arg9 arg12 f0 f1 f3 f5) (kernelRun.sl.r_59 (F := Ideal) c arg1 arg2 arg4 arg6 arg9 arg12 f0 f1 f3 f5) (LoadRect.valAlong (lr := (Rect.unit (s := S256x1024) ![224, 0] S32x512.size inb_S256x1024_S32x512_224_0).toLoadRect) (by decide) (kernelRun.sl.v1023 (F := Ideal) c arg1 arg2 arg9 arg12 f0 f1))) _ _ _ _ (fun _ => rfl) _ (fun s m => congrArg Prod.fst (at1_8 s m)), ?_⟩
  refine List.forall_mem_cons.mpr ⟨half_im (arg1.view.read (Elt Ideal) f0) (arg2.view.read (Elt Ideal) f1) (arg4.view.read (Elt Ideal) f3) (arg6.view.read (Elt Ideal) f5) 0 (by decide) (kernelRun.sl.r_26 (F := Ideal) c arg1 arg2 arg4 arg6 arg9 arg12 f0 f1 f3 f5) _ _ _ _ (fun _ => rfl) _ (fun s m => congrArg Prod.snd (at0_8 s m)), ?_⟩
  refine List.forall_mem_cons.mpr ⟨half_re (arg1.view.read (Elt Ideal) f0) (arg2.view.read (Elt Ideal) f1) (arg4.view.read (Elt Ideal) f3) (arg6.view.read (Elt Ideal) f5) 0 (by decide) (kernelRun.sl.r_25 (F := Ideal) c arg1 arg2 arg4 arg6 arg9 arg12 f0 f1 f3 f5) _ _ _ _ (fun _ => rfl) _ (fun s m => congrArg Prod.fst (at0_8 s m)), ?_⟩
  exact fun p hp => absurd hp (List.not_mem_nil)

theorem stored_cover (y : S4x32x1024.Idx) : ∃ p ∈ (kernelRun (F := Ideal) c arg1 harg1 arg2 harg2 arg3 harg3 arg4 harg4 arg5 harg5 arg6 harg6 arg7 harg7 arg8 harg8 arg9 harg9 arg10 harg10 arg11 harg11 arg12 harg12 f0 f1 f2 f3 f4 f5).1, y ∈ p.1.set :=
  View.cover_of_tiled _ ![1, 32, 512] (by rfl) y

/-- The states' buffer after the body. -/
theorem states_read (f7 : Buf (Elt Ideal) (arg8.view.loc (c : Thread nD τ))) :
    arg8.view.read (Elt Ideal) (arg8.view.writes (Elt Ideal) f7 (kernelRun (F := Ideal) c arg1 harg1 arg2 harg2 arg3 harg3 arg4 harg4 arg5 harg5 arg6 harg6 arg7 harg7 arg8 harg8 arg9 harg9 arg10 harg10 arg11 harg11 arg12 harg12 f0 f1 f2 f3 f4 f5).1) = statesOf (arg1.view.read (Elt Ideal) f0) (arg2.view.read (Elt Ideal) f1) (arg4.view.read (Elt Ideal) f3) (arg6.view.read (Elt Ideal) f5) := by
  refine (View.read_writes_eq_canon _ _ _ (stored_cover c arg1 harg1 arg2 harg2 arg3 harg3 arg4 harg4 arg5 harg5 arg6 harg6 arg7 harg7 arg8 harg8 arg9 harg9 arg10 harg10 arg11 harg11 arg12 harg12 f0 f1 f2 f3 f4 f5)).trans ?_
  funext y
  exact View.canon_apply_of_pieces _ _ (stored c arg1 harg1 arg2 harg2 arg3 harg3 arg4 harg4 arg5 harg5 arg6 harg6 arg7 harg7 arg8 harg8 arg9 harg9 arg10 harg10 arg11 harg11 arg12 harg12 f0 f1 f2 f3 f4 f5) y (stored_cover c arg1 harg1 arg2 harg2 arg3 harg3 arg4 harg4 arg5 harg5 arg6 harg6 arg7 harg7 arg8 harg8 arg9 harg9 arg10 harg10 arg11 harg11 arg12 harg12 f0 f1 f2 f3 f4 f5 y)

end

end Cert.Kernel6Ideal.Stores

end
-- ==== Proof.ScanLaunch.lean ====
/- The launch of Kernel6Ideal's one pipelined call: the final states named, nothing said of the scan's other output. -/
module

public import proofs.«01_k».proof.Proof.ScanFinal
public import proofs.«01_k».proof.Proof.Gen.Kernel6Ideal.Skeleton
public import proofs.«01_k».proof.Proof.Gen.Kernel6Ideal.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Cert.Kernel6Ideal.Stores
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The window nothing is said of: the scan's own output. -/
def forgets0 : Fin 8 → Bool := fun w => w.val == 6

/-- The proof data on core `c`: each input's buffer keeps its block, the final states' holds where the recurrence over the block ends. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => statesOf (iblk m c 0 t) (iblk m c 1 t) (iblk m c 3 t) (iblk m c 5 t)
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after7 (c : Dev nD) (t : Fin cfg0.N) : (dats m 0 c).after 7 t = statesOf (iblk m c 0 t) (iblk m c 1 t) (iblk m c 3 t) (iblk m c 5 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live7 : ∀ t : Fin cfg0.N, cfg0.idle 7 (grid0.coords t) = false := fun _ => rfl

/-- Window 0's staging memref at point `t`. -/
abbrev ms0 (t : Fin cfg0.N) := win0_0.stage (cfg0.slots t 0)
/-- Window 1's staging memref at point `t`. -/
abbrev ms1 (t : Fin cfg0.N) := win0_1.stage (cfg0.slots t 1)
/-- Window 2's staging memref at point `t`. -/
abbrev ms2 (t : Fin cfg0.N) := win0_2.stage (cfg0.slots t 2)
/-- Window 3's staging memref at point `t`. -/
abbrev ms3 (t : Fin cfg0.N) := win0_3.stage (cfg0.slots t 3)
/-- Window 4's staging memref at point `t`. -/
abbrev ms4 (t : Fin cfg0.N) := win0_4.stage (cfg0.slots t 4)
/-- Window 5's staging memref at point `t`. -/
abbrev ms5 (t : Fin cfg0.N) := win0_5.stage (cfg0.slots t 5)
/-- Window 6's staging memref at point `t`. -/
abbrev ms6 (t : Fin cfg0.N) := win0_6.stage (cfg0.slots t 6)
/-- Window 7's staging memref at point `t`. -/
abbrev ms7 (t : Fin cfg0.N) := win0_7.stage (cfg0.slots t 7)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ X, owns (c : Thread nD τ) (ms6 t) fullShare X)
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, owns (c : Thread nD τ) (ms6 t) fullShare X)
    ∗ (dats m 0 c).leavesExact 7 t)

set_option maxHeartbeats 1000000 in
/-- The body run on any staged blocks `x0` … `x5` and any scratch. -/
theorem sound (c : Dev nD) (E : Set ℕ) (i : grid0.Coords) (arg1 : Memref sig .tc .vmem S4x256x128 .f32) (harg1 : arg1.IsWhole) (arg2 : Memref sig .tc .vmem S4x16x1024 .f32) (harg2 : arg2.IsWhole) (arg3 : Memref sig .tc .vmem S4x16x1024 .f32) (harg3 : arg3.IsWhole) (arg4 : Memref sig .tc .vmem S4x34x512 .f32) (harg4 : arg4.IsWhole) (arg5 : Memref sig .tc .vmem S4x1x128 .f32) (harg5 : arg5.IsWhole) (arg6 : Memref sig .tc .vmem S4x32x1024 .f32) (harg6 : arg6.IsWhole) (arg7 : Memref sig .tc .vmem S4x256x128 .f32) (harg7 : arg7.IsWhole) (arg8 : Memref sig .tc .vmem S4x32x1024 .f32) (harg8 : arg8.IsWhole) (arg9 : Memref sig .tc .vmem S4x256x1024 .f32) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S4x256x128 .bf16) (harg12 : arg12.IsWhole)
    (x0 : Vec Ideal S4x256x128 .f32) (x1 : Vec Ideal S4x16x1024 .f32) (x2 : Vec Ideal S4x16x1024 .f32) (x3 : Vec Ideal S4x34x512 .f32) (x4 : Vec Ideal S4x1x128 .f32) (x5 : Vec Ideal S4x32x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (statesOf x0 x1 x3 x5)
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) E (cc0_ssm_scan_rows i arg1 harg1 arg2 harg2 arg3 harg3 arg4 harg4 arg5 harg5 arg6 harg6 arg7 harg7 arg8 harg8 arg9 harg9 arg10 harg10 arg11 harg11 arg12 harg12) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  iapply ((kernelRun (F := Ideal) c arg1 harg1 arg2 harg2 arg3 harg3 arg4 harg4 arg5 harg5 arg6 harg6 arg7 harg7 arg8 harg8 arg9 harg9 arg10 harg10 arg11 harg11 arg12 harg12 f0 f1 f2 f3 f4 f5).2 f7 E i K)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, ⟨%g6, H6⟩, H7, ⟨%g8, H8⟩, ⟨%g9, H9⟩, ⟨%g10, H10⟩, ⟨%g11, H11⟩⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists _; isplitr
    swap; · iexact H6
    ipureintro; rfl
  isplitl [H7]
  · iexists _; isplitr
    swap; · iexact H7
    ipureintro; exact states_read c arg1 harg1 arg2 harg2 arg3 harg3 arg4 harg4 arg5 harg5 arg6 harg6 arg7 harg7 arg8 harg8 arg9 harg9 arg10 harg10 arg11 harg11 arg12 harg12 f0 f1 f2 f3 f4 f5 f7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

set_option maxHeartbeats 1000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  simp only [← owns_whole]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 7 t = owns (c : Thread nD τ) (ms7 t) fullShare ((dats m 0 c).after 7 t) from by
    unfold Dat.leavesExact; rw [live7 t], after7]
  iintro ⟨⟨⟨H8, H9, H10, H11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [H8 H9 H10 H11 Hp]
  · isplitl [H8 H9 H10 H11]
    · isplitl [H8]; · iexact H8
      isplitl [H9]; · iexact H9
      isplitl [H10]; · iexact H10
      iexact H11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The launch and the frame -/

/-- The final states: every array but the unnamed ones at what the proof data says. -/
abbrev Final (r : PUnit × MemSt nD τ sig (Elt Ideal)) : Prop :=
  Pipeline.RDat.FramePost (cfgs 0) (fun c => (dats m 0 c).toRForget forgets0) (V m) r

set_option backward.isDefEq.respectTransparency.types false in
set_option maxHeartbeats 800000 in
/-- The launch: the named arrays at what the proof data says, every semaphore counter at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Final m) :=
  (θ_run defs _ _).mono (fun _ h => h.1) (run_main_quiescent m ρ)

/-- The run with the returned states named and the arguments unchanged. -/
theorem run_blocks : θ_run defs (onTc (τ := τ) (main (F := Ideal))) ⟨m, fun _ => 0, ρ⟩ fun r => ∀ c : Dev nD,
      r.2.mem ((c.tc : Thread nD τ).loc main_v0_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(Pipeline.Dat.toRForget_arrAt_iff (dats m 0 c) (w := 7) rfl _ _).mp ((h c).1 7),
      ((Pipeline.Dat.toRForget_arrAt_iff (dats m 0 c) (w := 0) rfl _ _).mp ((h c).1 0)).trans (((dats m 0 c).arrAt_in 0 rfl _).trans ((A_eq m c 0).trans (V_main_arg0 m c))),
      ((Pipeline.Dat.toRForget_arrAt_iff (dats m 0 c) (w := 1) rfl _ _).mp ((h c).1 1)).trans (((dats m 0 c).arrAt_in 1 rfl _).trans ((A_eq m c 1).trans (V_main_arg1 m c))),
      ((Pipeline.Dat.toRForget_arrAt_iff (dats m 0 c) (w := 2) rfl _ _).mp ((h c).1 2)).trans (((dats m 0 c).arrAt_in 2 rfl _).trans ((A_eq m c 2).trans (V_main_arg2 m c))),
      ((Pipeline.Dat.toRForget_arrAt_iff (dats m 0 c) (w := 3) rfl _ _).mp ((h c).1 3)).trans (((dats m 0 c).arrAt_in 3 rfl _).trans ((A_eq m c 3).trans (V_main_arg3 m c))),
      ((Pipeline.Dat.toRForget_arrAt_iff (dats m 0 c) (w := 4) rfl _ _).mp ((h c).1 4)).trans (((dats m 0 c).arrAt_in 4 rfl _).trans ((A_eq m c 4).trans (V_main_arg4 m c))),
      ((Pipeline.Dat.toRForget_arrAt_iff (dats m 0 c) (w := 5) rfl _ _).mp ((h c).1 5)).trans (((dats m 0 c).arrAt_in 5 rfl _).trans ((A_eq m c 5).trans (V_main_arg5 m c)))⟩) (run_main m ρ)

/-- The frame claim: every argument unchanged, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun r h c => (h c).2) (run_blocks m ρ)) ((θ_run defs _ _).mono (fun _ h => h.2) (run_main_quiescent m ρ))

end Cert.Kernel6Ideal.Run

end
-- ==== Proof.ScanReference.lean ====
/- The reference's recurrence, element by element: its states after each step are the plain recurrence over the block
   the element lies in. -/
module

public import proofs.«01_k».proof.Proof.ScanStores
public import proofs.«01_k».proof.Proof.Gen.Reference6Ideal.Read
public import Idealize.ShloMosaic.Lib.Pipeline.ValueKit

@[expose] public section

set_option maxRecDepth 16384

noncomputable section

namespace Cert.Reference6Ideal.Rows

open Cert.Reference6Ideal Cert.Reference6Ideal.Gen Cert.Reference6Ideal.Read Idealize.ShloMosaic
open Cert.Kernel6Ideal.Stores (step driveAt driveOf rowsOf part statesOf)

/-- An operand of the reference and the block of it that holds its slab `K`, as the block's slab `k`. -/
structure Blocks (X0 : Vec Ideal S8x256x128 .f32) (X1 : Vec Ideal S8x16x1024 .f32) (X3 : Vec Ideal S8x34x512 .f32) (X5 : Vec Ideal S8x32x1024 .f32)
    (x0 : Vec Ideal Cert.Kernel6Ideal.S4x256x128 .f32) (x1 : Vec Ideal Cert.Kernel6Ideal.S4x16x1024 .f32) (x3 : Vec Ideal Cert.Kernel6Ideal.S4x34x512 .f32)
    (x5 : Vec Ideal Cert.Kernel6Ideal.S4x32x1024 .f32) (K : Fin 8) (k : Fin 4) : Prop where
  h0 : ∀ r j, X0 (ix3 K r j) = x0 (ix3 k r j)
  h1 : ∀ r j, X1 (ix3 K r j) = x1 (ix3 k r j)
  h3 : ∀ r j, X3 (ix3 K r j) = x3 (ix3 k r j)
  h5 : ∀ r j, X5 (ix3 K r j) = x5 (ix3 k r j)

/-- Lane `n` of group `g`. -/
abbrev lane (g : Fin 8) (n : Fin 64) : Fin 512 := ⟨g.val * 64 + n.val, by omega⟩

section
variable {X0 : Vec Ideal S8x256x128 .f32} {X1 : Vec Ideal S8x16x1024 .f32} {X3 : Vec Ideal S8x34x512 .f32} {X5 : Vec Ideal S8x32x1024 .f32}
  {x0 : Vec Ideal Cert.Kernel6Ideal.S4x256x128 .f32} {x1 : Vec Ideal Cert.Kernel6Ideal.S4x16x1024 .f32} {x3 : Vec Ideal Cert.Kernel6Ideal.S4x34x512 .f32}
  {x5 : Vec Ideal Cert.Kernel6Ideal.S4x32x1024 .f32} {K : Fin 8} {k : Fin 4} (B : Blocks X0 X1 X3 X5 x0 x1 x3 x5 K k)

/-- A drive's sum, written over the whole operands, is the block's drive. -/
theorem drive_sum (B : Blocks X0 X1 X3 X5 x0 x1 x3 x5 K k) (t : Fin 8) (s : Fin 32) (g : Fin 8) (n : Fin 64) (o : ℕ) (ho : o + 512 ≤ 1024) (hd : 512 ∣ o) (f : Fin 16 → EReal)
    (hf : ∀ j : Fin 16, f j = X1 (ix3 K j ⟨o + (g.val * 64 + n.val), by omega⟩) * X0 (ix3 K ⟨s.val * 8 + t.val, by omega⟩ ⟨g.val * 16 + j.val, by omega⟩)) :
    ∑ j : Fin 16, f j = driveOf x0 x1 (ix3 k ⟨32 * t.val + s.val, by omega⟩ ⟨o + (lane g n).val, by have := (lane g n).isLt; omega⟩) := by
  unfold driveOf
  refine Finset.sum_congr rfl fun j _ => ?_
  rw [hf, mul_comm, B.h0, B.h1]
  obtain ⟨d, rfl⟩ := hd
  refine congrArg₂ (· * ·) (congrArg x0 ?_) rfl
  have e1 : s.val * 8 + t.val = (32 * t.val + s.val) % 32 * 8 + (32 * t.val + s.val) / 32 := by omega
  have e2 : g.val * 16 + j.val = (512 * d + (g.val * 64 + n.val)) % 512 / 64 * 16 + j.val := by omega
  funext a
  exact match a with
    | ⟨0, _⟩ => rfl
    | ⟨1, _⟩ => Fin.ext e1
    | ⟨2, _⟩ => Fin.ext e2

/-- One step of the reference is one step of the recurrence. -/
theorem step_of (B : Blocks X0 X1 X3 X5 x0 x1 x3 x5 K k) (t : Fin 8) (s : Fin 32) (g : Fin 8) (n : Fin 64) (re im re' im' dr di : EReal)
    (hp : (re, im) = part x0 x1 x3 x5 k s (lane g n) t.val)
    (hd : (dr, di) = driveAt x0 x1 k s (lane g n) t)
    (hr : re' = X3 (ix3 K 1 (lane g n)) * re - X3 (ix3 K 18 (lane g n)) * im + dr)
    (hi : im' = X3 (ix3 K 1 (lane g n)) * im + X3 (ix3 K 18 (lane g n)) * re + di) :
    (re', im') = part x0 x1 x3 x5 k s (lane g n) (t.val + 1) := by
  rw [part, dif_pos t.isLt, ← hp, ← hd, hr, hi, B.h3, B.h3]
  rfl

theorem lamRe (s : Fin 32) (g : Fin 8) (n : Fin 64) : val_main_v27 (F := Ideal) X3 (ix4 K s g n) = X3 (ix3 K 1 (lane g n)) := by
  pointwise [val_main_v27, val_main_v4, val_main_v3, val_main_v2, val_main_v1]

theorem lamIm (s : Fin 32) (g : Fin 8) (n : Fin 64) : val_main_v29 (F := Ideal) X3 (ix4 K s g n) = X3 (ix3 K 18 (lane g n)) := by
  pointwise [val_main_v29, val_main_v8, val_main_v7, val_main_v6, val_main_v5]

theorem at0 (B : Blocks X0 X1 X3 X5 x0 x1 x3 x5 K k) (s : Fin 32) (g : Fin 8) (n : Fin 64) :
    (val_main_v12 (F := Ideal) X5 (ix4 K s g n), val_main_v14 (F := Ideal) X5 (ix4 K s g n)) = part x0 x1 x3 x5 k s (lane g n) 0 := by
  have hr : val_main_v12 (F := Ideal) X5 (ix4 K s g n) = X5 (ix3 K s ⟨(lane g n).val, by have := (lane g n).isLt; omega⟩) := by
    pointwise [val_main_v12, val_main_v11, val_main_v10]
  have hi : val_main_v14 (F := Ideal) X5 (ix4 K s g n) = X5 (ix3 K s ⟨512 + (lane g n).val, by have := (lane g n).isLt; omega⟩) := by
    pointwise [val_main_v14, val_main_v13, val_main_v10]
    exact congrArg (fun z => X5 (ix3 K s z)) (Fin.ext (Nat.add_assoc _ _ _))
  rw [hr, hi, B.h5, B.h5]
  rfl

theorem drive0 (B : Blocks X0 X1 X3 X5 x0 x1 x3 x5 K k) (s : Fin 32) (g : Fin 8) (n : Fin 64) :
    (val_main_v20 (F := Ideal) X0 X1 (ix4 K s g n), val_main_v26 (F := Ideal) X0 X1 (ix4 K s g n)) = driveAt x0 x1 k s (lane g n) 0 := by
  refine Prod.ext ?_ ?_
  · refine (val_main_v20_apply _ _ _).trans ((val_main_v19_apply _ _ _).trans ((drive_sum B 0 s g n 0 (by decide) (by decide) _ fun j => ?_).trans ?_))
    · refine congrArg₂ (· * ·) ?_ ?_
      · pointwise [val_main_v18, val_main_v17, val_main_v0]
      · pointwise [val_main_v16, val_main_v15, val_main_v9]
    · exact congrArg (fun z => driveOf x0 x1 (ix3 k _ z)) (Fin.ext (Nat.zero_add _))
  · refine (val_main_v26_apply _ _ _).trans ((val_main_v25_apply _ _ _).trans (drive_sum B 0 s g n 512 (by decide) (by decide) _ fun j => ?_))
    refine congrArg₂ (· * ·) ?_ ?_
    · pointwise [val_main_v24, val_main_v23, val_main_v0]
      exact congrArg (fun z => X1 (ix3 K j z)) (Fin.ext (Nat.add_assoc _ _ _))
    · pointwise [val_main_v22, val_main_v21, val_main_v9]

theorem at1 (B : Blocks X0 X1 X3 X5 x0 x1 x3 x5 K k) (s : Fin 32) (g : Fin 8) (n : Fin 64) :
    (val_main_v32 (F := Ideal) X0 X1 X3 X5 (ix4 K s g n), val_main_v38 (F := Ideal) X0 X1 X3 X5 (ix4 K s g n)) = part x0 x1 x3 x5 k s (lane g n) 1 :=
  step_of B 0 s g n _ _ _ _ _ _ (at0 B s g n) (drive0 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive1 (B : Blocks X0 X1 X3 X5 x0 x1 x3 x5 K k) (s : Fin 32) (g : Fin 8) (n : Fin 64) :
    (val_main_v44 (F := Ideal) X0 X1 (ix4 K s g n), val_main_v50 (F := Ideal) X0 X1 (ix4 K s g n)) = driveAt x0 x1 k s (lane g n) 1 := by
  refine Prod.ext ?_ ?_
  · refine (val_main_v44_apply _ _ _).trans ((val_main_v43_apply _ _ _).trans ((drive_sum B 1 s g n 0 (by decide) (by decide) _ fun j => ?_).trans ?_))
    · refine congrArg₂ (· * ·) ?_ ?_
      · pointwise [val_main_v42, val_main_v41, val_main_v0]
      · pointwise [val_main_v40, val_main_v39, val_main_v9]
    · exact congrArg (fun z => driveOf x0 x1 (ix3 k _ z)) (Fin.ext (Nat.zero_add _))
  · refine (val_main_v50_apply _ _ _).trans ((val_main_v49_apply _ _ _).trans (drive_sum B 1 s g n 512 (by decide) (by decide) _ fun j => ?_))
    refine congrArg₂ (· * ·) ?_ ?_
    · pointwise [val_main_v48, val_main_v47, val_main_v0]
      exact congrArg (fun z => X1 (ix3 K j z)) (Fin.ext (Nat.add_assoc _ _ _))
    · pointwise [val_main_v46, val_main_v45, val_main_v9]

theorem at2 (B : Blocks X0 X1 X3 X5 x0 x1 x3 x5 K k) (s : Fin 32) (g : Fin 8) (n : Fin 64) :
    (val_main_v56 (F := Ideal) X0 X1 X3 X5 (ix4 K s g n), val_main_v62 (F := Ideal) X0 X1 X3 X5 (ix4 K s g n)) = part x0 x1 x3 x5 k s (lane g n) 2 :=
  step_of B 1 s g n _ _ _ _ _ _ (at1 B s g n) (drive1 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive2 (B : Blocks X0 X1 X3 X5 x0 x1 x3 x5 K k) (s : Fin 32) (g : Fin 8) (n : Fin 64) :
    (val_main_v68 (F := Ideal) X0 X1 (ix4 K s g n), val_main_v74 (F := Ideal) X0 X1 (ix4 K s g n)) = driveAt x0 x1 k s (lane g n) 2 := by
  refine Prod.ext ?_ ?_
  · refine (val_main_v68_apply _ _ _).trans ((val_main_v67_apply _ _ _).trans ((drive_sum B 2 s g n 0 (by decide) (by decide) _ fun j => ?_).trans ?_))
    · refine congrArg₂ (· * ·) ?_ ?_
      · pointwise [val_main_v66, val_main_v65, val_main_v0]
      · pointwise [val_main_v64, val_main_v63, val_main_v9]
    · exact congrArg (fun z => driveOf x0 x1 (ix3 k _ z)) (Fin.ext (Nat.zero_add _))
  · refine (val_main_v74_apply _ _ _).trans ((val_main_v73_apply _ _ _).trans (drive_sum B 2 s g n 512 (by decide) (by decide) _ fun j => ?_))
    refine congrArg₂ (· * ·) ?_ ?_
    · pointwise [val_main_v72, val_main_v71, val_main_v0]
      exact congrArg (fun z => X1 (ix3 K j z)) (Fin.ext (Nat.add_assoc _ _ _))
    · pointwise [val_main_v70, val_main_v69, val_main_v9]

theorem at3 (B : Blocks X0 X1 X3 X5 x0 x1 x3 x5 K k) (s : Fin 32) (g : Fin 8) (n : Fin 64) :
    (val_main_v80 (F := Ideal) X0 X1 X3 X5 (ix4 K s g n), val_main_v86 (F := Ideal) X0 X1 X3 X5 (ix4 K s g n)) = part x0 x1 x3 x5 k s (lane g n) 3 :=
  step_of B 2 s g n _ _ _ _ _ _ (at2 B s g n) (drive2 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive3 (B : Blocks X0 X1 X3 X5 x0 x1 x3 x5 K k) (s : Fin 32) (g : Fin 8) (n : Fin 64) :
    (val_main_v92 (F := Ideal) X0 X1 (ix4 K s g n), val_main_v98 (F := Ideal) X0 X1 (ix4 K s g n)) = driveAt x0 x1 k s (lane g n) 3 := by
  refine Prod.ext ?_ ?_
  · refine (val_main_v92_apply _ _ _).trans ((val_main_v91_apply _ _ _).trans ((drive_sum B 3 s g n 0 (by decide) (by decide) _ fun j => ?_).trans ?_))
    · refine congrArg₂ (· * ·) ?_ ?_
      · pointwise [val_main_v90, val_main_v89, val_main_v0]
      · pointwise [val_main_v88, val_main_v87, val_main_v9]
    · exact congrArg (fun z => driveOf x0 x1 (ix3 k _ z)) (Fin.ext (Nat.zero_add _))
  · refine (val_main_v98_apply _ _ _).trans ((val_main_v97_apply _ _ _).trans (drive_sum B 3 s g n 512 (by decide) (by decide) _ fun j => ?_))
    refine congrArg₂ (· * ·) ?_ ?_
    · pointwise [val_main_v96, val_main_v95, val_main_v0]
      exact congrArg (fun z => X1 (ix3 K j z)) (Fin.ext (Nat.add_assoc _ _ _))
    · pointwise [val_main_v94, val_main_v93, val_main_v9]

theorem at4 (B : Blocks X0 X1 X3 X5 x0 x1 x3 x5 K k) (s : Fin 32) (g : Fin 8) (n : Fin 64) :
    (val_main_v104 (F := Ideal) X0 X1 X3 X5 (ix4 K s g n), val_main_v110 (F := Ideal) X0 X1 X3 X5 (ix4 K s g n)) = part x0 x1 x3 x5 k s (lane g n) 4 :=
  step_of B 3 s g n _ _ _ _ _ _ (at3 B s g n) (drive3 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive4 (B : Blocks X0 X1 X3 X5 x0 x1 x3 x5 K k) (s : Fin 32) (g : Fin 8) (n : Fin 64) :
    (val_main_v116 (F := Ideal) X0 X1 (ix4 K s g n), val_main_v122 (F := Ideal) X0 X1 (ix4 K s g n)) = driveAt x0 x1 k s (lane g n) 4 := by
  refine Prod.ext ?_ ?_
  · refine (val_main_v116_apply _ _ _).trans ((val_main_v115_apply _ _ _).trans ((drive_sum B 4 s g n 0 (by decide) (by decide) _ fun j => ?_).trans ?_))
    · refine congrArg₂ (· * ·) ?_ ?_
      · pointwise [val_main_v114, val_main_v113, val_main_v0]
      · pointwise [val_main_v112, val_main_v111, val_main_v9]
    · exact congrArg (fun z => driveOf x0 x1 (ix3 k _ z)) (Fin.ext (Nat.zero_add _))
  · refine (val_main_v122_apply _ _ _).trans ((val_main_v121_apply _ _ _).trans (drive_sum B 4 s g n 512 (by decide) (by decide) _ fun j => ?_))
    refine congrArg₂ (· * ·) ?_ ?_
    · pointwise [val_main_v120, val_main_v119, val_main_v0]
      exact congrArg (fun z => X1 (ix3 K j z)) (Fin.ext (Nat.add_assoc _ _ _))
    · pointwise [val_main_v118, val_main_v117, val_main_v9]

theorem at5 (B : Blocks X0 X1 X3 X5 x0 x1 x3 x5 K k) (s : Fin 32) (g : Fin 8) (n : Fin 64) :
    (val_main_v128 (F := Ideal) X0 X1 X3 X5 (ix4 K s g n), val_main_v134 (F := Ideal) X0 X1 X3 X5 (ix4 K s g n)) = part x0 x1 x3 x5 k s (lane g n) 5 :=
  step_of B 4 s g n _ _ _ _ _ _ (at4 B s g n) (drive4 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive5 (B : Blocks X0 X1 X3 X5 x0 x1 x3 x5 K k) (s : Fin 32) (g : Fin 8) (n : Fin 64) :
    (val_main_v140 (F := Ideal) X0 X1 (ix4 K s g n), val_main_v146 (F := Ideal) X0 X1 (ix4 K s g n)) = driveAt x0 x1 k s (lane g n) 5 := by
  refine Prod.ext ?_ ?_
  · refine (val_main_v140_apply _ _ _).trans ((val_main_v139_apply _ _ _).trans ((drive_sum B 5 s g n 0 (by decide) (by decide) _ fun j => ?_).trans ?_))
    · refine congrArg₂ (· * ·) ?_ ?_
      · pointwise [val_main_v138, val_main_v137, val_main_v0]
      · pointwise [val_main_v136, val_main_v135, val_main_v9]
    · exact congrArg (fun z => driveOf x0 x1 (ix3 k _ z)) (Fin.ext (Nat.zero_add _))
  · refine (val_main_v146_apply _ _ _).trans ((val_main_v145_apply _ _ _).trans (drive_sum B 5 s g n 512 (by decide) (by decide) _ fun j => ?_))
    refine congrArg₂ (· * ·) ?_ ?_
    · pointwise [val_main_v144, val_main_v143, val_main_v0]
      exact congrArg (fun z => X1 (ix3 K j z)) (Fin.ext (Nat.add_assoc _ _ _))
    · pointwise [val_main_v142, val_main_v141, val_main_v9]

theorem at6 (B : Blocks X0 X1 X3 X5 x0 x1 x3 x5 K k) (s : Fin 32) (g : Fin 8) (n : Fin 64) :
    (val_main_v152 (F := Ideal) X0 X1 X3 X5 (ix4 K s g n), val_main_v158 (F := Ideal) X0 X1 X3 X5 (ix4 K s g n)) = part x0 x1 x3 x5 k s (lane g n) 6 :=
  step_of B 5 s g n _ _ _ _ _ _ (at5 B s g n) (drive5 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive6 (B : Blocks X0 X1 X3 X5 x0 x1 x3 x5 K k) (s : Fin 32) (g : Fin 8) (n : Fin 64) :
    (val_main_v164 (F := Ideal) X0 X1 (ix4 K s g n), val_main_v170 (F := Ideal) X0 X1 (ix4 K s g n)) = driveAt x0 x1 k s (lane g n) 6 := by
  refine Prod.ext ?_ ?_
  · refine (val_main_v164_apply _ _ _).trans ((val_main_v163_apply _ _ _).trans ((drive_sum B 6 s g n 0 (by decide) (by decide) _ fun j => ?_).trans ?_))
    · refine congrArg₂ (· * ·) ?_ ?_
      · pointwise [val_main_v162, val_main_v161, val_main_v0]
      · pointwise [val_main_v160, val_main_v159, val_main_v9]
    · exact congrArg (fun z => driveOf x0 x1 (ix3 k _ z)) (Fin.ext (Nat.zero_add _))
  · refine (val_main_v170_apply _ _ _).trans ((val_main_v169_apply _ _ _).trans (drive_sum B 6 s g n 512 (by decide) (by decide) _ fun j => ?_))
    refine congrArg₂ (· * ·) ?_ ?_
    · pointwise [val_main_v168, val_main_v167, val_main_v0]
      exact congrArg (fun z => X1 (ix3 K j z)) (Fin.ext (Nat.add_assoc _ _ _))
    · pointwise [val_main_v166, val_main_v165, val_main_v9]

theorem at7 (B : Blocks X0 X1 X3 X5 x0 x1 x3 x5 K k) (s : Fin 32) (g : Fin 8) (n : Fin 64) :
    (val_main_v176 (F := Ideal) X0 X1 X3 X5 (ix4 K s g n), val_main_v182 (F := Ideal) X0 X1 X3 X5 (ix4 K s g n)) = part x0 x1 x3 x5 k s (lane g n) 7 :=
  step_of B 6 s g n _ _ _ _ _ _ (at6 B s g n) (drive6 B s g n)
    (by rw [← lamRe (X3 := X3) (K := K) s g n, ← lamIm (X3 := X3) (K := K) s g n]; rfl)
    (by rw [← lamRe (X3 := X3) (K := K) s g n, ← lamIm (X3 := X3) (K := K) s g n]; rfl)

theorem drive7 (B : Blocks X0 X1 X3 X5 x0 x1 x3 x5 K k) (s : Fin 32) (g : Fin 8) (n : Fin 64) :
    (val_main_v188 (F := Ideal) X0 X1 (ix4 K s g n), val_main_v194 (F := Ideal) X0 X1 (ix4 K s g n)) = driveAt x0 x1 k s (lane g n) 7 := by
  refine Prod.ext ?_ ?_
  · refine (val_main_v188_apply _ _ _).trans ((val_main_v187_apply _ _ _).trans ((drive_sum B 7 s g n 0 (by decide) (by decide) _ fun j => ?_).trans ?_))
    · refine congrArg₂ (· * ·) ?_ ?_
      · pointwise [val_main_v186, val_main_v185, val_main_v0]
      · pointwise [val_main_v184, val_main_v183, val_main_v9]
    · exact congrArg (fun z => driveOf x0 x1 (ix3 k _ z)) (Fin.ext (Nat.zero_add _))
  · refine (val_main_v194_apply _ _ _).trans ((val_main_v193_apply _ _ _).trans (drive_sum B 7 s g n 512 (by decide) (by decide) _ fun j => ?_))
    refine congrArg₂ (· * ·) ?_ ?_
    · pointwise [val_main_v192, val_main_v191, val_main_v0]
      exact congrArg (fun z => X1 (ix3 K j z)) (Fin.ext (Nat.add_assoc _ _ _))
    · pointwise [val_main_v190, val_main_v189, val_main_v9]

theorem at8 (B : Blocks X0 X1 X3 X5 x0 x1 x3 x5 K k) (s : Fin 32) (g : Fin 8) (n : Fin 64) :
    (val_main_v200 (F := Ideal) X0 X1 X3 X5 (ix4 K s g n), val_main_v206 (F := Ideal) X0 X1 X3 X5 (ix4 K s g n)) = part x0 x1 x3 x5 k s (lane g n) 8 :=
  step_of B 7 s g n _ _ _ _ _ _ (at7 B s g n) (drive7 B s g n)
    (by rw [← lamRe (X3 := X3) (K := K) s g n, ← lamIm (X3 := X3) (K := K) s g n]; rfl)
    (by rw [← lamRe (X3 := X3) (K := K) s g n, ← lamIm (X3 := X3) (K := K) s g n]; rfl)

/-- The reference's result is the recurrence's end. -/
theorem result (B : Blocks X0 X1 X3 X5 x0 x1 x3 x5 K k) (s : Fin 32) (l : Fin 1024) :
    val_main_v210 (F := Ideal) X0 X1 X3 X5 (ix3 K s l) = statesOf x0 x1 x3 x5 (ix3 k s l) := by
  have hg : l.val % 512 / 64 < 8 := by omega
  have hl : (⟨l.val % 512, by omega⟩ : Fin 512) = lane ⟨l.val % 512 / 64, hg⟩ ⟨l.val % 64, by omega⟩ := Fin.ext (by show l.val % 512 = l.val % 512 / 64 * 64 + l.val % 64; omega)
  have h := at8 B s ⟨l.val % 512 / 64, hg⟩ ⟨l.val % 64, by omega⟩
  unfold statesOf
  show _ = if l.val < 512 then (part x0 x1 x3 x5 k s ⟨l.val % 512, _⟩ 8).1 else (part x0 x1 x3 x5 k s ⟨l.val % 512, _⟩ 8).2
  rw [hl, ← h]
  pointwise [val_main_v210, val_main_v209, val_main_v208, val_main_v207]
  have e : (⟨l.val / 64 % 8, by omega⟩ : Fin 8) = ⟨l.val % 512 / 64, hg⟩ := Fin.ext (by show l.val / 64 % 8 = l.val % 512 / 64; omega)
  by_cases hlt : l.val < 512
  · exact ((dif_pos (by omega)).trans (congrArg (fun z => val_main_v200 (F := Ideal) X0 X1 X3 X5 (ix4 K s z ⟨l.val % 64, by omega⟩)) e)).trans (if_pos hlt).symm
  · exact ((dif_neg (by omega)).trans (congrArg (fun z => val_main_v206 (F := Ideal) X0 X1 X3 X5 (ix4 K s z ⟨l.val % 64, by omega⟩)) e)).trans (if_neg hlt).symm

end

end Cert.Reference6Ideal.Rows

end
-- ==== Proof.ScanStage.lean ====
/- The sample scan's final states: what the call leaves is, over the extended reals, the reference's result. -/
module

public import proofs.«01_k».proof.Proof.ScanLaunch
public import proofs.«01_k».proof.Proof.ScanReference
public import Idealize.ShloMosaic.Lib.Pipeline.ValueKit
public import Idealize.ShloMosaic.Lib.Pipeline.Value

@[expose] public section

set_option maxRecDepth 16384

noncomputable section

namespace Cert.Kernel6Ideal.Stage

open Cert.Kernel6Ideal Cert.Kernel6Ideal.Gen Cert.Kernel6Ideal.Run Cert.Kernel6Ideal.Stores
open Idealize.ShloMosaic Idealize.ShloMosaic.TcCoe Idealize.SL.Sem

variable (m : (ℓ : Loc nD τ sig) → Buf (Elt Ideal) ℓ)

/-- Where each window's block sits in its array at point `t`. -/
theorem idx (t : Fin cfg0.N) : win0_0.index t = ![t.val, 0, 0]
    ∧ win0_1.index t = ![t.val, 0, 0]
    ∧ win0_3.index t = ![t.val, 0, 0]
    ∧ win0_5.index t = ![t.val, 0, 0]
    ∧ win0_7.index t = ![t.val, 0, 0] :=
  (by decide +kernel : ∀ t : Fin grid0.N, win0_0.index t = ![t.val, 0, 0]
    ∧ win0_1.index t = ![t.val, 0, 0]
    ∧ win0_3.index t = ![t.val, 0, 0]
    ∧ win0_5.index t = ![t.val, 0, 0]
    ∧ win0_7.index t = ![t.val, 0, 0]) t

/-- The slab of the whole operands that is slab `k` of point `t`'s blocks. -/
abbrev slab (t : Fin cfg0.N) (k : Fin 4) : Fin 8 := ⟨t.val * 4 + k.val, by have h := t.isLt; change t.val < 2 at h; omega⟩

theorem blocks (c : Dev nD) (t : Fin cfg0.N) (k : Fin 4) :
    Cert.Reference6Ideal.Rows.Blocks (m ((c.tc : Thread nD τ).loc main_arg0)) (m ((c.tc : Thread nD τ).loc main_arg1)) (m ((c.tc : Thread nD τ).loc main_arg3)) (m ((c.tc : Thread nD τ).loc main_arg5))
      (iblk m c 0 t) (iblk m c 1 t) (iblk m c 3 t) (iblk m c 5 t) (slab t k) k where
  h0 r j := by blk_ext [iblk, V, idx t]
  h1 r j := by blk_ext [iblk, V, idx t]
  h3 r j := by blk_ext [iblk, V, idx t]
  h5 r j := by blk_ext [iblk, V, idx t]

/-- The final states are the reference's. -/
theorem states (c : Dev nD) : (Run.dats m 0 c).arrAt 7 cfg0.N
    = Cert.Reference6Ideal.Read.val_main_v210 (F := Ideal) (m ((c.tc : Thread nD τ).loc main_arg0)) (m ((c.tc : Thread nD τ).loc main_arg1)) (m ((c.tc : Thread nD τ).loc main_arg3)) (m ((c.tc : Thread nD τ).loc main_arg5)) := by
  refine (Run.dats m 0 c).arrAt_eq_of_covers 7 _ (by decide +kernel) fun t hf y => ?_
  blk_simp
  rw [Run.after7]
  idx_vars y
  have he : ((View.whole main_v0_1).slice (win0_7.rect t)).emb (ix3 y0 y1 y2) = ix3 (slab t y0) y1 y2 := by
    blk_ext [iblk, V, idx t]
  rw [he]
  exact (Cert.Reference6Ideal.Rows.result (blocks m c t y0) y1 y2).symm

end Cert.Kernel6Ideal.Stage

end
-- ==== Proof.ScanClaims.lean ====
module

public import proofs.«01_k».proof.Proof.ScanStage
public import proofs.«01_k».proof.Proof.Gen.Reference6Ideal.Run
public import proofs.«01_k».proof.Proof.Gen.Reference6Ideal.Read
public import proofs.«01_k».proof.Defs
public import Idealize.ShloMosaic.Lib.Claim

@[expose] public section

set_option maxRecDepth 16384

noncomputable section

/-! The sample scan's final states: the statements about the reference and about the pair. -/

namespace Cert.ScanClaims

open Idealize.ShloMosaic Idealize.SL.Sem

instance : Cert.Kernel6Ideal.Facts := Cert.Kernel6Ideal.Gen.facts
instance : Cert.Reference6Ideal.Facts := Cert.Reference6Ideal.Gen.facts

section
open Cert.Reference6Ideal

/-- The reference ends with its result at its composed term of the arguments, which are unchanged. -/
theorem reference_run (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v210) = Cert.Reference6Ideal.Read.val_main_v210 (F := Ideal) (m' ((c.tc : Thread nD τ).loc main_arg0)) (m' ((c.tc : Thread nD τ).loc main_arg1)) (m' ((c.tc : Thread nD τ).loc main_arg3)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono (fun r h c => ⟨(h c).1.trans (Cert.Reference6Ideal.Read.val_main_v210_eq _),
      (h c).2⟩)
    (Cert.Reference6Ideal.Value.run (F := Ideal) m' g')

end

/-- The reference ends, with its arguments unchanged and every counter at zero. -/
theorem reference_frame : quiescent_Reference6Ideal := fun m g _ =>
  (θ_run Cert.Reference6Ideal.defs _ _).mono (fun r h => ⟨fun c => (h c).2, sem_eq_zero_of_no_sems (by decide) r.2⟩)
    (reference_run m g)

/-- The final states are, over the extended reals, the reference's. -/
theorem pair : algebraic_Kernel6Ideal_Reference6Ideal := by
  pair_intro
  · run_from Cert.Kernel6Ideal.Run.run_blocks m g
  · run_from reference_run m' g'
    · rw [Cert.Kernel6Ideal.Stage.states m c]

end Cert.ScanClaims

end
-- ==== Proof.ScanPrinted.lean ====
/- The run and the frame of the sample scan as printed: its arguments unchanged, every counter at zero. -/
module

public import proofs.«01_k».proof.Proof.Gen.Kernel6.Skeleton
public import proofs.«01_k».proof.Proof.Gen.Kernel6.Frame
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel6.Run

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- The body's run at a point, the staged blocks at the raw contents `f0` … `f5`: its stores to the final states'
    buffer, last first, found by the run, and its triple. -/
def kernelRun (c : Dev nD) (arg1 : Memref sig .tc .vmem S4x256x128 .f32) (harg1 : arg1.IsWhole) (arg2 : Memref sig .tc .vmem S4x16x1024 .f32) (harg2 : arg2.IsWhole) (arg3 : Memref sig .tc .vmem S4x16x1024 .f32) (harg3 : arg3.IsWhole) (arg4 : Memref sig .tc .vmem S4x34x512 .f32) (harg4 : arg4.IsWhole) (arg5 : Memref sig .tc .vmem S4x1x128 .f32) (harg5 : arg5.IsWhole) (arg6 : Memref sig .tc .vmem S4x32x1024 .f32) (harg6 : arg6.IsWhole) (arg7 : Memref sig .tc .vmem S4x256x128 .f32) (harg7 : arg7.IsWhole) (arg8 : Memref sig .tc .vmem S4x32x1024 .f32) (harg8 : arg8.IsWhole) (arg9 : Memref sig .tc .vmem S4x256x1024 .f32) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S4x256x128 .bf16) (harg12 : arg12.IsWhole) (f0 : Buf (Elt F) (arg1.view.loc (c : Thread nD τ))) (f1 : Buf (Elt F) (arg2.view.loc (c : Thread nD τ))) (f2 : Buf (Elt F) (arg3.view.loc (c : Thread nD τ))) (f3 : Buf (Elt F) (arg4.view.loc (c : Thread nD τ))) (f4 : Buf (Elt F) (arg5.view.loc (c : Thread nD τ))) (f5 : Buf (Elt F) (arg6.view.loc (c : Thread nD τ))) :
    { L : List (View.Piece (Elt F) S4x32x1024 .f32) // ∀ (f7 : Buf (Elt F) (arg8.view.loc (c : Thread nD τ))) (E : Set ℕ) (i : grid0.Coords) (K : PUnit → sProp 𝕄),
      iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (∃ g, (arg7.view.loc (c : Thread nD τ) ↦[arg7.view.set]{fullShare} g)) ∗ (arg8.view.loc (c : Thread nD τ) ↦[arg8.view.set]{fullShare} f7) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))
        ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (∃ g, (arg7.view.loc (c : Thread nD τ) ↦[arg7.view.set]{fullShare} g)) ∗ (arg8.view.loc (c : Thread nD τ) ↦[arg8.view.set]{fullShare} (arg8.view.writes (Elt F) f7 L)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) -∗ K ⟨⟩))
      ⊢ wp frame (wpE (defs₀ (F := F)) Variants.none c none) E (cc0_ssm_scan_rows i arg1 harg1 arg2 harg2 arg3 harg3 arg4 harg4 arg5 harg5 arg6 harg6 arg7 harg7 arg8 harg8 arg9 harg9 arg10 harg10 arg11 harg11 arg12 harg12) K } := by
  refine ⟨?_, fun f7 E i K => ?run⟩
  case run =>
    simp only [cc0_ssm_scan_rows_eq_skeleton]; unfold cc0_ssm_scan_rows_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    simp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel]
    iintro ⟨H0, H1, H2, H3, H4, H5, ⟨%f6, H6⟩, H7, ⟨%f8, H8⟩, ⟨%f9, H9⟩, ⟨%f10, H10⟩, ⟨%f11, H11⟩, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [H10]; · iexists _; iexact H10
    iexists _; iexact H11

variable (m : (ℓ : Loc nD τ sig) → Buf (Elt F) ℓ) (ρ : Dev nD → PrngReg)

/-- The windows nothing is said of: the two outputs. -/
def forgets0 : Fin 8 → Bool := fun w => 6 ≤ w.val

/-- The proof data on core `c`: each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

/-- Window 0's staging memref at point `t`. -/
abbrev ms0 (t : Fin cfg0.N) := win0_0.stage (cfg0.slots t 0)
/-- Window 1's staging memref at point `t`. -/
abbrev ms1 (t : Fin cfg0.N) := win0_1.stage (cfg0.slots t 1)
/-- Window 2's staging memref at point `t`. -/
abbrev ms2 (t : Fin cfg0.N) := win0_2.stage (cfg0.slots t 2)
/-- Window 3's staging memref at point `t`. -/
abbrev ms3 (t : Fin cfg0.N) := win0_3.stage (cfg0.slots t 3)
/-- Window 4's staging memref at point `t`. -/
abbrev ms4 (t : Fin cfg0.N) := win0_4.stage (cfg0.slots t 4)
/-- Window 5's staging memref at point `t`. -/
abbrev ms5 (t : Fin cfg0.N) := win0_5.stage (cfg0.slots t 5)
/-- Window 6's staging memref at point `t`. -/
abbrev ms6 (t : Fin cfg0.N) := win0_6.stage (cfg0.slots t 6)
/-- Window 7's staging memref at point `t`. -/
abbrev ms7 (t : Fin cfg0.N) := win0_7.stage (cfg0.slots t 7)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ X, owns (c : Thread nD τ) (ms6 t) fullShare X)
    ∗ (∃ X, owns (c : Thread nD τ) (ms7 t) fullShare X))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, owns (c : Thread nD τ) (ms6 t) fullShare X)
    ∗ (∃ X, owns (c : Thread nD τ) (ms7 t) fullShare X))

set_option maxHeartbeats 1000000 in
/-- The body run on any staged blocks `x0` … `x5` and any scratch. -/
theorem sound (c : Dev nD) (E : Set ℕ) (i : grid0.Coords) (arg1 : Memref sig .tc .vmem S4x256x128 .f32) (harg1 : arg1.IsWhole) (arg2 : Memref sig .tc .vmem S4x16x1024 .f32) (harg2 : arg2.IsWhole) (arg3 : Memref sig .tc .vmem S4x16x1024 .f32) (harg3 : arg3.IsWhole) (arg4 : Memref sig .tc .vmem S4x34x512 .f32) (harg4 : arg4.IsWhole) (arg5 : Memref sig .tc .vmem S4x1x128 .f32) (harg5 : arg5.IsWhole) (arg6 : Memref sig .tc .vmem S4x32x1024 .f32) (harg6 : arg6.IsWhole) (arg7 : Memref sig .tc .vmem S4x256x128 .f32) (harg7 : arg7.IsWhole) (arg8 : Memref sig .tc .vmem S4x32x1024 .f32) (harg8 : arg8.IsWhole) (arg9 : Memref sig .tc .vmem S4x256x1024 .f32) (harg9 : arg9.IsWhole) (arg10 : Memref sig .tc .vmem S4x256x512 .bf16) (harg10 : arg10.IsWhole) (arg11 : Memref sig .tc .vmem S4x256x512 .bf16) (harg11 : arg11.IsWhole) (arg12 : Memref sig .tc .vmem S4x256x128 .bf16) (harg12 : arg12.IsWhole)
    (x0 : Vec F S4x256x128 .f32) (x1 : Vec F S4x16x1024 .f32) (x2 : Vec F S4x16x1024 .f32) (x3 : Vec F S4x34x512 .f32) (x4 : Vec F S4x1x128 .f32) (x5 : Vec F S4x32x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ssm_scan_rows i arg1 harg1 arg2 harg2 arg3 harg3 arg4 harg4 arg5 harg5 arg6 harg6 arg7 harg7 arg8 harg8 arg9 harg9 arg10 harg10 arg11 harg11 arg12 harg12) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  iapply ((kernelRun (F := F) c arg1 harg1 arg2 harg2 arg3 harg3 arg4 harg4 arg5 harg5 arg6 harg6 arg7 harg7 arg8 harg8 arg9 harg9 arg10 harg10 arg11 harg11 arg12 harg12 f0 f1 f2 f3 f4 f5).2 f7 E i K)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, ⟨%g6, H6⟩, H7, ⟨%g8, H8⟩, ⟨%g9, H9⟩, ⟨%g10, H10⟩, ⟨%g11, H11⟩⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  simp only [← owns_whole]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  iintro ⟨⟨⟨H8, H9, H10, H11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [H8 H9 H10 H11 Hp]
  · isplitl [H8 H9 H10 H11]
    · isplitl [H8]; · iexact H8
      isplitl [H9]; · iexact H9
      isplitl [H10]; · iexact H10
      iexact H11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch and the frame -/

/-- The final states: every array but the unnamed ones at what the proof data says. -/
abbrev Final (r : PUnit × MemSt nD τ sig (Elt F)) : Prop :=
  Pipeline.RDat.FramePost (cfgs 0) (fun c => (dats m 0 c).toRForget forgets0) (V m) r

set_option backward.isDefEq.respectTransparency.types false in
set_option maxHeartbeats 800000 in
/-- The launch: the named arrays at what the proof data says, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Final m) :=
  (θ_run defs _ _).mono (fun _ h => h.1) (run_main_quiescent m ρ)

/-- The run leaves the arguments unchanged. -/
theorem run_blocks : θ_run defs (onTc (τ := τ) (main (F := F))) ⟨m, fun _ => 0, ρ⟩ fun r => ∀ c : Dev nD,
      True
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨trivial,
      ((Pipeline.Dat.toRForget_arrAt_iff (dats m 0 c) (w := 0) rfl _ _).mp ((h c).1 0)).trans (((dats m 0 c).arrAt_in 0 rfl _).trans ((A_eq m c 0).trans (V_main_arg0 m c))),
      ((Pipeline.Dat.toRForget_arrAt_iff (dats m 0 c) (w := 1) rfl _ _).mp ((h c).1 1)).trans (((dats m 0 c).arrAt_in 1 rfl _).trans ((A_eq m c 1).trans (V_main_arg1 m c))),
      ((Pipeline.Dat.toRForget_arrAt_iff (dats m 0 c) (w := 2) rfl _ _).mp ((h c).1 2)).trans (((dats m 0 c).arrAt_in 2 rfl _).trans ((A_eq m c 2).trans (V_main_arg2 m c))),
      ((Pipeline.Dat.toRForget_arrAt_iff (dats m 0 c) (w := 3) rfl _ _).mp ((h c).1 3)).trans (((dats m 0 c).arrAt_in 3 rfl _).trans ((A_eq m c 3).trans (V_main_arg3 m c))),
      ((Pipeline.Dat.toRForget_arrAt_iff (dats m 0 c) (w := 4) rfl _ _).mp ((h c).1 4)).trans (((dats m 0 c).arrAt_in 4 rfl _).trans ((A_eq m c 4).trans (V_main_arg4 m c))),
      ((Pipeline.Dat.toRForget_arrAt_iff (dats m 0 c) (w := 5) rfl _ _).mp ((h c).1 5)).trans (((dats m 0 c).arrAt_in 5 rfl _).trans ((A_eq m c 5).trans (V_main_arg5 m c)))⟩) (run_main m ρ)

/-- The frame claim: every argument unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun r h c => (h c).2) (run_blocks m ρ)) ((θ_run defs _ _).mono (fun _ h => h.2) (run_main_quiescent m ρ))

end Cert.Kernel6.Run

end
-- ==== Proof.lean ====
/- The certificate: for each call of the kernel taken, that the printed call, its reading over the extended reals and the
   reference end with their arguments unchanged and every counter at zero, and that the call and the reference leave the
   same results over the extended reals. -/
module

public import proofs.«01_k».proof.Defs
public import proofs.«01_k».proof.Proof.FinalClaims
public import proofs.«01_k».proof.Proof.FinalPrinted
public import proofs.«01_k».proof.Proof.MiddleClaims
public import proofs.«01_k».proof.Proof.MiddlePrinted
public import proofs.«01_k».proof.Proof.SlabsClaims
public import proofs.«01_k».proof.Proof.SlabsPrinted
public import proofs.«01_k».proof.Proof.QkvClaims
public import proofs.«01_k».proof.Proof.QkvPrinted
public import proofs.«01_k».proof.Proof.ScanClaims
public import proofs.«01_k».proof.Proof.ScanPrinted

@[expose] public section

noncomputable section

namespace Cert.Proof

open Idealize.ShloMosaic Idealize.SL.Sem

/-- Every claim of the certificate. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel2.Run.frame, fun m ρ _ => Cert.Kernel2Ideal.Run.frame m ρ, Cert.FinalClaims.reference_frame,
    Cert.Kernel3.Run.frame, fun m ρ _ => Cert.Kernel3Ideal.Run.frame m ρ, Cert.MiddleClaims.reference_frame,
    Cert.Kernel4.Run.frame, fun m ρ _ => Cert.Kernel4Ideal.Run.frame m ρ, Cert.SlabsClaims.reference_frame,
    Cert.Kernel5.Run.frame, fun m ρ _ => Cert.Kernel5Ideal.Run.frame m ρ, Cert.QkvClaims.reference_frame,
    fun m ρ _ => Cert.Kernel6.Run.frame m ρ, fun m ρ _ => Cert.Kernel6Ideal.Run.frame m ρ, Cert.ScanClaims.reference_frame,
    trivial, Cert.FinalClaims.pair,
    trivial, Cert.MiddleClaims.pair,
    trivial, Cert.SlabsClaims.pair,
    trivial, Cert.QkvClaims.pair,
    trivial, Cert.ScanClaims.pair⟩

end Cert.Proof

end
